-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v21) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v3)) (v1 : (c : Dev Cert.Kernel19Ideal.nD) → Buf (Elt Ideal) ((c.tc : Thread Cert.Kernel19Ideal.nD Cert.Kernel19Ideal.τ).loc Cert.Kernel19Ideal.main_v0_0)) (v2 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_v0_0) = v1 c
          ∧ r.2.mem ((c.tc : Thread Cert.Kernel19Ideal.nD Cert.Kernel19Ideal.τ).loc Cert.Kernel19Ideal.main_v0_1) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_v21) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v13) = v2 c
          ∧ r.2.mem ((c.tc : Thread Cert.Reference22Ideal.nD Cert.Reference22Ideal.τ).loc Cert.Reference22Ideal.main_v19) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v57) = v0 c
          ∧ r.2.mem ((c.tc : Thread Cert.Reference32Ideal.nD Cert.Reference32Ideal.τ).loc Cert.Reference32Ideal.main_v58) = v1 c
          ∧ r.2.mem ((c.tc : Thread Cert.Reference32Ideal.nD Cert.Reference32Ideal.τ).loc Cert.Reference32Ideal.main_v39) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v12) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v12) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v22) = v0 c
          ∧ r.2.mem ((c.tc : Thread Cert.Reference35Ideal.nD Cert.Reference35Ideal.τ).loc Cert.Reference35Ideal.main_v23) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v57) = v0 c
          ∧ r.2.mem ((c.tc : Thread Cert.Reference37Ideal.nD Cert.Reference37Ideal.τ).loc Cert.Reference37Ideal.main_v58) = v1 c
          ∧ r.2.mem ((c.tc : Thread Cert.Reference37Ideal.nD Cert.Reference37Ideal.τ).loc Cert.Reference37Ideal.main_v39) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v8) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v2) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v18) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v0) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_finite.lean ====
abbrev S4224x3200 : Shape := ⟨2, ![4224, 3200]⟩
abbrev S4224x512 : Shape := ⟨2, ![4224, 512]⟩
abbrev S4224x1024 : Shape := ⟨2, ![4224, 1024]⟩
abbrev S4224x2048 : Shape := ⟨2, ![4224, 2048]⟩
abbrev S_ : Shape := ⟨0, ![]⟩

class Facts : Prop where
  slices_S4224x3200_S4224x2048_0_0 : S4224x3200.Slices ![0, 0] S4224x2048
  bcast_S_S4224x2048 : S_.BroadcastsInDim S4224x2048 (![] : Fin 0 → Fin S4224x2048.rank)
  bcast_S_S4224x512 : S_.BroadcastsInDim S4224x512 (![] : Fin 0 → Fin S4224x512.rank)
  bcast_S_S4224x1024 : S_.BroadcastsInDim S4224x1024 (![] : Fin 0 → Fin S4224x1024.rank)

variable [Facts]

def fn {F : FTy → Type} [FloatOps F] (main_arg0 : FVec F S4224x3200 .f32) (main_arg1 : FVec F S4224x512 .f32) (main_arg2 : FVec F S4224x1024 .f32) : IVec S4224x2048 1 × IVec S4224x512 1 × IVec S4224x1024 1 :=
  let main_v0 : FVec F S4224x2048 .f32 := (extractStridedSlice S4224x2048 ![0, 0] · slices_S4224x3200_S4224x2048_0_0) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S4224x512 .f32 := Host.absf main_arg1
  let main_cst_0 : FVec F S_ .f32 := constant S_ .f32 0x7F800000#32
  let main_v5 : FVec F S4224x512 .f32 := broadcastInDim S4224x512 ![] bcast_S_S4224x512 main_cst_0
  let main_v6 : IVec S4224x512 1 := cmpf .olt main_v4 main_v5
  let main_v7 : FVec F S4224x1024 .f32 := Host.absf main_arg2
  let main_cst_1 : FVec F S_ .f32 := constant S_ .f32 0x7F800000#32
  let main_v8 : FVec F S4224x1024 .f32 := broadcastInDim S4224x1024 ![] bcast_S_S4224x1024 main_cst_1
  let main_v9 : IVec S4224x1024 1 := cmpf .olt main_v7 main_v8
  (main_v3, main_v6, main_v9)
-- ==== Pre_finite2.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

class Facts : Prop where
  bcast_S_S4224x1024 : S_.BroadcastsInDim S4224x1024 (![] : Fin 0 → Fin S4224x1024.rank)
  bitsLt_bf16_f32 : FTy.bits .bf16 < FTy.bits .f32
  bcast_S_S2816x1024 : S_.BroadcastsInDim S2816x1024 (![] : Fin 0 → Fin S2816x1024.rank)
  bcast_S_S4224x2816 : S_.BroadcastsInDim S4224x2816 (![] : Fin 0 → Fin S4224x2816.rank)

variable [Facts]

def fn {F : FTy → Type} [FloatOps F] (main_arg0 : FVec F S4224x1024 .f32) (main_arg1 : FVec F S2816x1024 .bf16) (main_arg2 : FVec F S4224x2816 .bf16) (main_arg3 : FVec F S4224x2816 .bf16) : IVec S4224x1024 1 × IVec S2816x1024 1 × IVec S4224x2816 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4224x2816 .f32 := (extf .f32 · bitsLt_bf16_f32) main_arg3
  let main_v8 : FVec F S4224x2816 .f32 := Host.absf main_v7
  let main_cst_1 : FVec F S_ .f32 := constant S_ .f32 0x7F800000#32
  let main_v9 : FVec F S4224x2816 .f32 := broadcastInDim S4224x2816 ![] bcast_S_S4224x2816 main_cst_1
  let main_v10 : IVec S4224x2816 1 := cmpf .olt main_v8 main_v9
  (main_v2, main_v6, main_v10)
-- ==== Kernel.lean ====
abbrev S4224x3200 : Shape := ⟨2, ![4224, 3200]⟩
abbrev S4224x512 : Shape := ⟨2, ![4224, 512]⟩
abbrev S4224x1024 : Shape := ⟨2, ![4224, 1024]⟩
abbrev S_ : Shape := ⟨0, ![]⟩
abbrev S4224 : Shape := ⟨1, ![4224]⟩
abbrev S1x4224 : Shape := ⟨2, ![1, 4224]⟩
abbrev S66 : Shape := ⟨1, ![66]⟩
abbrev S66x1 : Shape := ⟨2, ![66, 1]⟩
abbrev S66x4224 : Shape := ⟨2, ![66, 4224]⟩
abbrev S66x512 : Shape := ⟨2, ![66, 512]⟩
abbrev S66x1x512 : Shape := ⟨3, ![66, 1, 512]⟩
abbrev S1x4224x512 : Shape := ⟨3, ![1, 4224, 512]⟩
abbrev S66x4224x512 : Shape := ⟨3, ![66, 4224, 512]⟩
abbrev S66x4224x1 : Shape := ⟨3, ![66, 4224, 1]⟩
abbrev S66x4224x4x128 : Shape := ⟨4, ![66, 4224, 4, 128]⟩
abbrev S4224x4x256 : Shape := ⟨3, ![4224, 4, 256]⟩
abbrev S4x256x66x128 : Shape := ⟨4, ![4, 256, 66, 128]⟩
abbrev S4x66x256x128 : Shape := ⟨4, ![4, 66, 256, 128]⟩
abbrev S64x512 : Shape := ⟨2, ![64, 512]⟩
abbrev S64x1024 : Shape := ⟨2, ![64, 1024]⟩
abbrev S4x1x256x128 : Shape := ⟨4, ![4, 1, 256, 128]⟩
abbrev S4x256x128 : Shape := ⟨3, ![4, 256, 128]⟩
abbrev S64x128 : Shape := ⟨2, ![64, 128]⟩
abbrev S64x256 : Shape := ⟨2, ![64, 256]⟩
abbrev S1x1x256x128 : Shape := ⟨4, ![1, 1, 256, 128]⟩
abbrev S256x128 : Shape := ⟨2, ![256, 128]⟩
abbrev S64x64 : Shape := ⟨2, ![64, 64]⟩
abbrev S128 : Shape := ⟨1, ![128]⟩
abbrev S1x128 : Shape := ⟨2, ![1, 128]⟩
abbrev S1x256x128 : Shape := ⟨3, ![1, 256, 128]⟩
abbrev S128x64 : Shape := ⟨2, ![128, 64]⟩

abbrev nBuf : Space → Nat
  | .hbm => 43
  | .vmem => 21
  | .smem => 0
  | _ => 0

abbrev bufTy : (tb : Table) → Fin (tcTables nBuf tb) → BufTy
  | .hbm, ⟨0, _⟩ => ⟨S4224x3200, .f32⟩
  | .hbm, ⟨1, _⟩ => ⟨S4224x512, .f32⟩
  | .hbm, ⟨2, _⟩ => ⟨S4224x1024, .f32⟩
  | .hbm, ⟨3, _⟩ => ⟨S4224x512, .f32⟩
  | .hbm, ⟨4, _⟩ => ⟨S4224x1024, .f32⟩
  | .hbm, ⟨5, _⟩ => ⟨S_, .f32⟩
  | .hbm, ⟨6, _⟩ => ⟨S_, .f32⟩
  | .hbm, ⟨7, _⟩ => ⟨S4224x512, .f32⟩
  | .hbm, ⟨8, _⟩ => ⟨S4224, .i32⟩
  | .hbm, ⟨9, _⟩ => ⟨S1x4224, .i32⟩
  | .hbm, ⟨10, _⟩ => ⟨S66, .i32⟩
  | .hbm, ⟨11, _⟩ => ⟨S66x1, .i32⟩
  | .hbm, ⟨12, _⟩ => ⟨S_, .i32⟩
  | .hbm, ⟨13, _⟩ => ⟨S66x1, .i32⟩
  | .hbm, ⟨14, _⟩ => ⟨S66x1, .i32⟩
  | .hbm, ⟨15, _⟩ => ⟨S66x4224, .i32⟩
  | .hbm, ⟨16, _⟩ => ⟨S66x4224, .i32⟩
  | .hbm, ⟨17, _⟩ => ⟨S66x4224, .i1⟩
  | .hbm, ⟨18, _⟩ => ⟨S66x4224, .f32⟩
  | .hbm, ⟨19, _⟩ => ⟨S66x512, .f32⟩
  | .hbm, ⟨20, _⟩ => ⟨S66x1x512, .f32⟩
  | .hbm, ⟨21, _⟩ => ⟨S1x4224x512, .f32⟩
  | .hbm, ⟨22, _⟩ => ⟨S66x4224x512, .f32⟩
  | .hbm, ⟨23, _⟩ => ⟨S66x4224x512, .f32⟩
  | .hbm, ⟨24, _⟩ => ⟨S66x4224x512, .f32⟩
  | .hbm, ⟨25, _⟩ => ⟨S66x4224x1, .i1⟩
  | .hbm, ⟨26, _⟩ => ⟨S_, .f32⟩
  | .hbm, ⟨27, _⟩ => ⟨S_, .f32⟩
  | .hbm, ⟨28, _⟩ => ⟨S66x4224x512, .i1⟩
  | .hbm, ⟨29, _⟩ => ⟨S66x4224x512, .f32⟩
  | .hbm, ⟨30, _⟩ => ⟨S66x4224x512, .f32⟩
  | .hbm, ⟨31, _⟩ => ⟨S66x4224x512, .f32⟩
  | .hbm, ⟨32, _⟩ => ⟨S1x4224x512, .f32⟩
  | .hbm, ⟨33, _⟩ => ⟨S66x4224x512, .f32⟩
  | .hbm, ⟨34, _⟩ => ⟨S66x4224x512, .f32⟩
  | .hbm, ⟨35, _⟩ => ⟨S66x4224x4x128, .f32⟩
  | .hbm, ⟨36, _⟩ => ⟨S4224x4x256, .f32⟩
  | .hbm, ⟨37, _⟩ => ⟨S4x256x66x128, .f32⟩
  | .hbm, ⟨38, _⟩ => ⟨S4x66x256x128, .f32⟩
  | .hbm, ⟨39, _⟩ => ⟨S4224x512, .bf16⟩
  | .hbm, ⟨40, _⟩ => ⟨S4224x512, .bf16⟩
  | .hbm, ⟨41, _⟩ => ⟨S4224x1024, .bf16⟩
  | .hbm, ⟨42, _⟩ => ⟨S4224x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S4x1x256x128, .f32⟩
  | .local _ .vmem, ⟨9, _⟩ => ⟨S4x1x256x128, .f32⟩
  | .local _ .vmem, ⟨10, _⟩ => ⟨S64x1024, .f32⟩
  | .local _ .vmem, ⟨11, _⟩ => ⟨S64x1024, .f32⟩
  | .local _ .vmem, ⟨12, _⟩ => ⟨S64x512, .bf16⟩
  | .local _ .vmem, ⟨13, _⟩ => ⟨S64x512, .bf16⟩
  | .local _ .vmem, ⟨14, _⟩ => ⟨S64x512, .bf16⟩
  | .local _ .vmem, ⟨15, _⟩ => ⟨S64x512, .bf16⟩
  | .local _ .vmem, ⟨16, _⟩ => ⟨S64x1024, .bf16⟩
  | .local _ .vmem, ⟨17, _⟩ => ⟨S64x1024, .bf16⟩
  | .local _ .vmem, ⟨18, _⟩ => ⟨S64x512, .f32⟩
  | .local _ .vmem, ⟨19, _⟩ => ⟨S64x512, .f32⟩
  | .local _ .vmem, ⟨20, _⟩ => ⟨S4x256x128, .f32⟩
  | _, _ => ⟨S4224x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c65_i32 : BitVec 32 := 65#32
  let v0 : BitVec 32 := Scalar.subi c65_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c65_i32 : BitVec 32 := 65#32
  let v0 : BitVec 32 := Scalar.subi c65_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  ![v0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4224x3200 : Shape := ⟨2, ![4224, 3200]⟩
abbrev S4224x512 : Shape := ⟨2, ![4224, 512]⟩
abbrev S4224x1024 : Shape := ⟨2, ![4224, 1024]⟩
abbrev S4224x1152 : Shape := ⟨2, ![4224, 1152]⟩
abbrev S4224x4x128 : Shape := ⟨3, ![4224, 4, 128]⟩
abbrev S_ : Shape := ⟨0, ![]⟩
abbrev S4224x4x256 : Shape := ⟨3, ![4224, 4, 256]⟩
abbrev S4224x4224 : Shape := ⟨2, ![4224, 4224]⟩
abbrev S4224x1x4x128 : Shape := ⟨4, ![4224, 1, 4, 128]⟩
abbrev S1x4224x4x128 : Shape := ⟨4, ![1, 4224, 4, 128]⟩
abbrev S4224x4224x4x128 : Shape := ⟨4, ![4224, 4224, 4, 128]⟩
abbrev S4224x4224x1x1 : Shape := ⟨4, ![4224, 4224, 1, 1]⟩
abbrev S4224x4224x4 : Shape := ⟨3, ![4224, 4224, 4]⟩
abbrev S4x256x4224 : Shape := ⟨3, ![4, 256, 4224]⟩
abbrev S4x4224x4224 : Shape := ⟨3, ![4, 4224, 4224]⟩

abbrev nBuf : Space → Nat
  | .hbm => 105
  | .vmem => 0
  | .smem => 0
  | _ => 0

abbrev bufTy : (tb : Table) → Fin (tcTables nBuf tb) → BufTy
  | .hbm, ⟨0, _⟩ => ⟨S4224x3200, .f32⟩
  | .hbm, ⟨1, _⟩ => ⟨S4224x512, .f32⟩
  | .hbm, ⟨2, _⟩ => ⟨S4224x1024, .f32⟩
  | .hbm, ⟨3, _⟩ => ⟨S4224x512, .f32⟩
  | .hbm, ⟨4, _⟩ => ⟨S4224x512, .f32⟩
  | .hbm, ⟨5, _⟩ => ⟨S4224x1024, .f32⟩
  | .hbm, ⟨6, _⟩ => ⟨S4224x1152, .f32⟩
  | .hbm, ⟨7, _⟩ => ⟨S4224x4x128, .f32⟩
  | .hbm, ⟨8, _⟩ => ⟨S_, .f32⟩
  | .hbm, ⟨9, _⟩ => ⟨S4224x4x128, .f32⟩
  | .hbm, ⟨10, _⟩ => ⟨S4224x4x128, .f32⟩
  | .hbm, ⟨11, _⟩ => ⟨S4224x4x128, .f32⟩
  | .hbm, ⟨12, _⟩ => ⟨S4224x4x256, .f32⟩
  | .hbm, ⟨13, _⟩ => ⟨S4224x4x128, .f32⟩
  | .hbm, ⟨14, _⟩ => ⟨S_, .f32⟩
  | .hbm, ⟨15, _⟩ => ⟨S_, .f32⟩
  | .hbm, ⟨16, _⟩ => ⟨S4224x4x128, .f32⟩
  | .hbm, ⟨17, _⟩ => ⟨S_, .i1⟩
  | .hbm, ⟨18, _⟩ => ⟨S4224x4224, .i1⟩
  | .hbm, ⟨19, _⟩ => ⟨S4224x4224, .i32⟩
  | .hbm, ⟨20, _⟩ => ⟨S_, .i32⟩
  | .hbm, ⟨21, _⟩ => ⟨S4224x4224, .i32⟩
  | .hbm, ⟨22, _⟩ => ⟨S4224x4224, .i32⟩
  | .hbm, ⟨23, _⟩ => ⟨S4224x4224, .i32⟩
  | .hbm, ⟨24, _⟩ => ⟨S4224x4224, .i1⟩
  | .hbm, ⟨25, _⟩ => ⟨S_, .i1⟩
  | .hbm, ⟨26, _⟩ => ⟨S4224x4224, .i1⟩
  | .hbm, ⟨27, _⟩ => ⟨S4224x4224, .i1⟩
  | .hbm, ⟨28, _⟩ => ⟨S4224x1x4x128, .f32⟩
  | .hbm, ⟨29, _⟩ => ⟨S1x4224x4x128, .f32⟩
  | .hbm, ⟨30, _⟩ => ⟨S4224x4224x4x128, .f32⟩
  | .hbm, ⟨31, _⟩ => ⟨S4224x4224x4x128, .f32⟩
  | .hbm, ⟨32, _⟩ => ⟨S4224x4224x4x128, .f32⟩
  | .hbm, ⟨33, _⟩ => ⟨S4224x4224x1x1, .i1⟩
  | .hbm, ⟨34, _⟩ => ⟨S_, .f32⟩
  | .hbm, ⟨35, _⟩ => ⟨S_, .f32⟩
  | .hbm, ⟨36, _⟩ => ⟨S4224x4224x4x128, .i1⟩
  | .hbm, ⟨37, _⟩ => ⟨S4224x4224x4x128, .f32⟩
  | .hbm, ⟨38, _⟩ => ⟨S4224x4224x4x128, .f32⟩
  | .hbm, ⟨39, _⟩ => ⟨S_, .f32⟩
  | .hbm, ⟨40, _⟩ => ⟨S4224x4224x4x128, .f32⟩
  | .hbm, ⟨41, _⟩ => ⟨S4224x4224x4x128, .f32⟩
  | .hbm, ⟨42, _⟩ => ⟨S4224x1x4x128, .f32⟩
  | .hbm, ⟨43, _⟩ => ⟨S1x4224x4x128, .f32⟩
  | .hbm, ⟨44, _⟩ => ⟨S4224x4224x4x128, .f32⟩
  | .hbm, ⟨45, _⟩ => ⟨S4224x4224x4x128, .f32⟩
  | .hbm, ⟨46, _⟩ => ⟨S4224x4224x4x128, .f32⟩
  | .hbm, ⟨47, _⟩ => ⟨S4224x4224x4x128, .f32⟩
  | .hbm, ⟨48, _⟩ => ⟨S_, .f32⟩
  | .hbm, ⟨49, _⟩ => ⟨S4224x4224x4, .f32⟩
  | .hbm, ⟨50, _⟩ => ⟨S4x256x4224, .f32⟩
  | .hbm, ⟨51, _⟩ => ⟨S4224x4x256, .f32⟩
  | .hbm, ⟨52, _⟩ => ⟨S4224x1024, .f32⟩
  | .hbm, ⟨53, _⟩ => ⟨S4224x4x256, .f32⟩
  | .hbm, ⟨54, _⟩ => ⟨S4x256x4224, .f32⟩
  | .hbm, ⟨55, _⟩ => ⟨S4x4224x4224, .f32⟩
  | .hbm, ⟨56, _⟩ => ⟨S4224x4224x4, .f32⟩
  | .hbm, ⟨57, _⟩ => ⟨S4x256x4224, .f32⟩
  | .hbm, ⟨58, _⟩ => ⟨S4224x4x256, .f32⟩
  | .hbm, ⟨59, _⟩ => ⟨S4224x4224x4x128, .f32⟩
  | .hbm, ⟨60, _⟩ => ⟨S4224x4224x4x128, .f32⟩
  | .hbm, ⟨61, _⟩ => ⟨S4224x4224x4x128, .f32⟩
  | .hbm, ⟨62, _⟩ => ⟨S4224x4224x4x128, .f32⟩
  | .hbm, ⟨63, _⟩ => ⟨S4224x4224x4x128, .f32⟩
  | .hbm, ⟨64, _⟩ => ⟨S_, .f32⟩
  | .hbm, ⟨65, _⟩ => ⟨S4224x4x128, .f32⟩
  | .hbm, ⟨66, _⟩ => ⟨S1x4224x4x128, .f32⟩
  | .hbm, ⟨67, _⟩ => ⟨S4224x4224x4x128, .f32⟩
  | .hbm, ⟨68, _⟩ => ⟨S4224x4224x4x128, .f32⟩
  | .hbm, ⟨69, _⟩ => ⟨S_, .f32⟩
  | .hbm, ⟨70, _⟩ => ⟨S4224x4x128, .f32⟩
  | .hbm, ⟨71, _⟩ => ⟨S4224x1x4x128, .f32⟩
  | .hbm, ⟨72, _⟩ => ⟨S_, .f32⟩
  | .hbm, ⟨73, _⟩ => ⟨S4224x4x128, .f32⟩
  | .hbm, ⟨74, _⟩ => ⟨S_, .f32⟩
  | .hbm, ⟨75, _⟩ => ⟨S4224x4x128, .f32⟩
  | .hbm, ⟨76, _⟩ => ⟨S4224x4224x4x128, .f32⟩
  | .hbm, ⟨77, _⟩ => ⟨S_, .f32⟩
  | .hbm, ⟨78, _⟩ => ⟨S4224x4224x4x128, .f32⟩
  | .hbm, ⟨79, _⟩ => ⟨S4224x4224x4x128, .f32⟩
  | .hbm, ⟨80, _⟩ => ⟨S_, .f32⟩
  | .hbm, ⟨81, _⟩ => ⟨S4224x4x128, .f32⟩
  | .hbm, ⟨82, _⟩ => ⟨S4224x1x4x128, .f32⟩
  | .hbm, ⟨83, _⟩ => ⟨S4224x4224x4x128, .f32⟩
  | .hbm, ⟨84, _⟩ => ⟨S_, .f32⟩
  | .hbm, ⟨85, _⟩ => ⟨S4224x4x128, .f32⟩
  | .hbm, ⟨86, _⟩ => ⟨S1x4224x4x128, .f32⟩
  | .hbm, ⟨87, _⟩ => ⟨S_, .f32⟩
  | .hbm, ⟨88, _⟩ => ⟨S4224x4x128, .f32⟩
  | .hbm, ⟨89, _⟩ => ⟨S_, .f32⟩
  | .hbm, ⟨90, _⟩ => ⟨S4224x4x128, .f32⟩
  | .hbm, ⟨91, _⟩ => ⟨S4224x4x128, .f32⟩
  | .hbm, ⟨92, _⟩ => ⟨S_, .f32⟩
  | .hbm, ⟨93, _⟩ => ⟨S_, .f32⟩
  | .hbm, ⟨94, _⟩ => ⟨S4224x4x128, .f32⟩
  | .hbm, ⟨95, _⟩ => ⟨S4224x512, .f32⟩
  | .hbm, ⟨96, _⟩ => ⟨S4224x1024, .f32⟩
  | .hbm, ⟨97, _⟩ => ⟨S4224x512, .f32⟩
  | .hbm, ⟨98, _⟩ => ⟨S_, .f32⟩
  | .hbm, ⟨99, _⟩ => ⟨S4224x4x128, .f32⟩
  | .hbm, ⟨100, _⟩ => ⟨S4224x4x128, .f32⟩
  | .hbm, ⟨101, _⟩ => ⟨S4224x512, .f32⟩
  | .hbm, ⟨102, _⟩ => ⟨S4224x512, .bf16⟩
  | .hbm, ⟨103, _⟩ => ⟨S4224x512, .bf16⟩
  | .hbm, ⟨104, _⟩ => ⟨S4224x1024, .bf16⟩
  | _, _ => ⟨S4224x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_call0_cst : Ref sig .tc := ⟨.hbm, 14, rfl⟩
abbrev main_call0_call0_v0 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_0 : Ref sig .tc := ⟨.hbm, 25, rfl⟩
abbrev main_call1_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_call2_v0 : Ref sig .tc := ⟨.hbm, 35, rfl⟩
abbrev main_v19_1 : Ref sig .tc := ⟨.hbm, 36, rfl⟩
abbrev main_call2_v2 : Ref sig .tc := ⟨.hbm, 37, rfl⟩
abbrev main_v19_0 : Ref sig .tc := ⟨.hbm, 38, rfl⟩
abbrev main_call2_cst : Ref sig .tc := ⟨.hbm, 39, rfl⟩
abbrev main_v19_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_call3_cst : Ref sig .tc := ⟨.hbm, 77, rfl⟩
abbrev main_call3_v0 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_call4_call0_cst : Ref sig .tc := ⟨.hbm, 92, rfl⟩
abbrev main_call4_call0_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Kernel2.lean ====
abbrev S4224x1024 : Shape := ⟨2, ![4224, 1024]⟩
abbrev S2816x1024 : Shape := ⟨2, ![2816, 1024]⟩
abbrev S4224x2816 : Shape := ⟨2, ![4224, 2816]⟩
abbrev S1408x1024 : Shape := ⟨2, ![1408, 1024]⟩
abbrev S256x1024 : Shape := ⟨2, ![256, 1024]⟩
abbrev S1408x256 : Shape := ⟨2, ![1408, 256]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .hbm, ⟨5, _⟩ => ⟨S4224x2816, .bf16⟩
  | .local _ .vmem, ⟨0, _⟩ => ⟨S1408x1024, .f32⟩
  | .local _ .vmem, ⟨1, _⟩ => ⟨S1408x1024, .f32⟩
  | .local _ .vmem, ⟨2, _⟩ => ⟨S256x1024, .bf16⟩
  | .local _ .vmem, ⟨3, _⟩ => ⟨S256x1024, .bf16⟩
  | .local _ .vmem, ⟨4, _⟩ => ⟨S1408x256, .bf16⟩
  | .local _ .vmem, ⟨5, _⟩ => ⟨S1408x256, .bf16⟩
  | .local _ .vmem, ⟨6, _⟩ => ⟨S1408x256, .bf16⟩
  | .local _ .vmem, ⟨7, _⟩ => ⟨S1408x256, .bf16⟩
  | .local _ .vmem, ⟨8, _⟩ => ⟨S1408x256, .bf16⟩
  | .local _ .vmem, ⟨9, _⟩ => ⟨S1408x256, .bf16⟩
  | .local _ .vmem, ⟨10, _⟩ => ⟨S1408x256, .bf16⟩
  | .local _ .vmem, ⟨11, _⟩ => ⟨S1408x256, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x2816, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S_, .f32⟩
  | .hbm, ⟨12, _⟩ => ⟨S4224x2816, .f32⟩
  | .hbm, ⟨13, _⟩ => ⟨S4224x2816, .f32⟩
  | .hbm, ⟨14, _⟩ => ⟨S_, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S2816x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x2816, .bf16⟩
  | .hbm, ⟨30, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S4224x1024 : Shape := ⟨2, ![4224, 1024]⟩
abbrev S4224x2816 : Shape := ⟨2, ![4224, 2816]⟩
abbrev S1024x2816 : Shape := ⟨2, ![1024, 2816]⟩
abbrev S4224x256 : Shape := ⟨2, ![4224, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S1024x2816, .f32⟩
  | .local _ .vmem, ⟨0, _⟩ => ⟨S4224x1024, .bf16⟩
  | .local _ .vmem, ⟨1, _⟩ => ⟨S4224x256, .bf16⟩
  | .local _ .vmem, ⟨2, _⟩ => ⟨S4224x256, .bf16⟩
  | .local _ .vmem, ⟨3, _⟩ => ⟨S1024x256, .f32⟩
  | .local _ .vmem, ⟨4, _⟩ => ⟨S1024x256, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4224x1024 : Shape := ⟨2, ![4224, 1024]⟩
abbrev S4224x2816 : Shape := ⟨2, ![4224, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S_, .f32⟩
  | .hbm, ⟨3, _⟩ => ⟨S1024x2816, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4224x2816 : Shape := ⟨2, ![4224, 2816]⟩
abbrev S4224x1024 : Shape := ⟨2, ![4224, 1024]⟩
abbrev S2816x1024 : Shape := ⟨2, ![2816, 1024]⟩
abbrev S4224x256 : Shape := ⟨2, ![4224, 256]⟩
abbrev S4224x512 : Shape := ⟨2, ![4224, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .f32⟩
  | .local _ .vmem, ⟨0, _⟩ => ⟨S4224x256, .bf16⟩
  | .local _ .vmem, ⟨1, _⟩ => ⟨S4224x256, .bf16⟩
  | .local _ .vmem, ⟨2, _⟩ => ⟨S4224x512, .f32⟩
  | .local _ .vmem, ⟨3, _⟩ => ⟨S4224x512, .f32⟩
  | .local _ .vmem, ⟨4, _⟩ => ⟨S256x512, .f32⟩
  | .local _ .vmem, ⟨5, _⟩ => ⟨S256x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S4224x1024, .f32⟩
  | .hbm, ⟨6, _⟩ => ⟨S1024x2816, .f32⟩
  | .hbm, ⟨7, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4224x2816 : Shape := ⟨2, ![4224, 2816]⟩
abbrev S1024x5632 : Shape := ⟨2, ![1024, 5632]⟩
abbrev S4224x1024 : Shape := ⟨2, ![4224, 1024]⟩
abbrev S1408x2816 : Shape := ⟨2, ![1408, 2816]⟩
abbrev S512x2816 : Shape := ⟨2, ![512, 2816]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S4224x1024, .f32⟩
  | .local _ .vmem, ⟨0, _⟩ => ⟨S1408x2816, .bf16⟩
  | .local _ .vmem, ⟨1, _⟩ => ⟨S1408x2816, .bf16⟩
  | .local _ .vmem, ⟨2, _⟩ => ⟨S512x2816, .bf16⟩
  | .local _ .vmem, ⟨3, _⟩ => ⟨S512x2816, .bf16⟩
  | .local _ .vmem, ⟨4, _⟩ => ⟨S1408x512, .f32⟩
  | .local _ .vmem, ⟨5, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4224x2816 : Shape := ⟨2, ![4224, 2816]⟩
abbrev S1024x5632 : Shape := ⟨2, ![1024, 5632]⟩
abbrev S1024x2816 : Shape := ⟨2, ![1024, 2816]⟩
abbrev S_ : Shape := ⟨0, ![]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S1024x2816, .bf16⟩
  | .hbm, ⟨3, _⟩ => ⟨S1024x2816, .f32⟩
  | .hbm, ⟨4, _⟩ => ⟨S_, .f32⟩
  | .hbm, ⟨5, _⟩ => ⟨S4224x1024, .f32⟩
  | .hbm, ⟨6, _⟩ => ⟨S4224x2816, .f32⟩
  | .hbm, ⟨7, _⟩ => ⟨S4224x2816, .f32⟩
  | .hbm, ⟨8, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4224x2816 : Shape := ⟨2, ![4224, 2816]⟩
abbrev S1024x5632 : Shape := ⟨2, ![1024, 5632]⟩
abbrev S4224x1024 : Shape := ⟨2, ![4224, 1024]⟩
abbrev S1x1024 : Shape := ⟨2, ![1, 1024]⟩
abbrev S384x2816 : Shape := ⟨2, ![384, 2816]⟩
abbrev S1024x2816 : Shape := ⟨2, ![1024, 2816]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S1024x2816, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4224x2816 : Shape := ⟨2, ![4224, 2816]⟩
abbrev S1024x5632 : Shape := ⟨2, ![1024, 5632]⟩
abbrev S4224x1024 : Shape := ⟨2, ![4224, 1024]⟩
abbrev S1x1024 : Shape := ⟨2, ![1, 1024]⟩
abbrev S1024x2816 : Shape := ⟨2, ![1024, 2816]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S1024x5632, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S1024x2816, .bf16⟩
  | .hbm, ⟨7, _⟩ => ⟨S1024x2816, .f32⟩
  | .hbm, ⟨8, _⟩ => ⟨S4224x1024, .f32⟩
  | .hbm, ⟨9, _⟩ => ⟨S_, .f32⟩
  | .hbm, ⟨10, _⟩ => ⟨S4224, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S4224x2816, .f32⟩
  | .hbm, ⟨28, _⟩ => ⟨S4224x2816, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S_, .f32⟩
  | .hbm, ⟨39, _⟩ => ⟨S4224, .f32⟩
  | .hbm, ⟨40, _⟩ => ⟨S4224x1, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1, .f32⟩
  | .hbm, ⟨45, _⟩ => ⟨S_, .f32⟩
  | .hbm, ⟨46, _⟩ => ⟨S4224x1, .f32⟩
  | .hbm, ⟨47, _⟩ => ⟨S4224x1, .f32⟩
  | .hbm, ⟨48, _⟩ => ⟨S_, .f32⟩
  | .hbm, ⟨49, _⟩ => ⟨S4224, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel7.lean ====
abbrev S4224x1024 : Shape := ⟨2, ![4224, 1024]⟩
abbrev S1024x5632 : Shape := ⟨2, ![1024, 5632]⟩
abbrev S4224x2816 : Shape := ⟨2, ![4224, 2816]⟩
abbrev S1408x1024 : Shape := ⟨2, ![1408, 1024]⟩
abbrev S1024x256 : Shape := ⟨2, ![1024, 256]⟩
abbrev S1408x256 : Shape := ⟨2, ![1408, 256]⟩

abbrev nBuf : Space → Nat
  | .hbm => 5
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1408x256, .bf16⟩
  | .local _ .vmem, ⟨7, _⟩ => ⟨S1408x256, .bf16⟩
  | .local _ .vmem, ⟨8, _⟩ => ⟨S1408x256, .bf16⟩
  | .local _ .vmem, ⟨9, _⟩ => ⟨S1408x256, .bf16⟩
  | .local _ .vmem, ⟨10, _⟩ => ⟨S1408x256, .bf16⟩
  | .local _ .vmem, ⟨11, _⟩ => ⟨S1408x256, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4224x1024 : Shape := ⟨2, ![4224, 1024]⟩
abbrev S1024x5632 : Shape := ⟨2, ![1024, 5632]⟩
abbrev S4224x5632 : Shape := ⟨2, ![4224, 5632]⟩
abbrev S4224x2816 : Shape := ⟨2, ![4224, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .bf16⟩
  | .hbm, ⟨18, _⟩ => ⟨S4224x2816, .bf16⟩
  | .hbm, ⟨19, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel8.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S384x2816 : Shape := ⟨2, ![384, 2816]⟩
abbrev S384x1024 : Shape := ⟨2, ![384, 1024]⟩
abbrev S384 : Shape := ⟨1, ![384]⟩
abbrev S384x1 : Shape := ⟨2, ![384, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .bf16⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 24
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S1x1024, .f32⟩
  | .hbm, ⟨4, _⟩ => ⟨S4224x2816, .f32⟩
  | .hbm, ⟨5, _⟩ => ⟨S2816x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S_, .f32⟩
  | .hbm, ⟨10, _⟩ => ⟨S4224, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4224x1024 : Shape := ⟨2, ![4224, 1024]⟩
abbrev S1024x4224 : Shape := ⟨2, ![1024, 4224]⟩
abbrev S4224x4224 : Shape := ⟨2, ![4224, 4224]⟩
abbrev S1408x1024 : Shape := ⟨2, ![1408, 1024]⟩
abbrev S1024x384 : Shape := ⟨2, ![1024, 384]⟩
abbrev S1408x384 : Shape := ⟨2, ![1408, 384]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x4224, .bf16⟩
  | .hbm, ⟨2, _⟩ => ⟨S4224x4224, .f32⟩
  | .local _ .vmem, ⟨0, _⟩ => ⟨S1408x1024, .bf16⟩
  | .local _ .vmem, ⟨1, _⟩ => ⟨S1408x1024, .bf16⟩
  | .local _ .vmem, ⟨2, _⟩ => ⟨S1024x384, .bf16⟩
  | .local _ .vmem, ⟨3, _⟩ => ⟨S1024x384, .bf16⟩
  | .local _ .vmem, ⟨4, _⟩ => ⟨S1408x384, .f32⟩
  | .local _ .vmem, ⟨5, _⟩ => ⟨S1408x384, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4224x1024 : Shape := ⟨2, ![4224, 1024]⟩
abbrev S1024x4224 : Shape := ⟨2, ![1024, 4224]⟩
abbrev S4224x4224 : Shape := ⟨2, ![4224, 4224]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x4224, .bf16⟩
  | .hbm, ⟨2, _⟩ => ⟨S4224x1024, .f32⟩
  | .hbm, ⟨3, _⟩ => ⟨S1024x4224, .f32⟩
  | .hbm, ⟨4, _⟩ => ⟨S4224x4224, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4224x1024 : Shape := ⟨2, ![4224, 1024]⟩
abbrev S4224x4224 : Shape := ⟨2, ![4224, 4224]⟩
abbrev S1024x4224 : Shape := ⟨2, ![1024, 4224]⟩
abbrev S4224x384 : Shape := ⟨2, ![4224, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S4224x4224, .bf16⟩
  | .hbm, ⟨2, _⟩ => ⟨S1024x4224, .f32⟩
  | .local _ .vmem, ⟨0, _⟩ => ⟨S4224x1024, .bf16⟩
  | .local _ .vmem, ⟨1, _⟩ => ⟨S4224x384, .bf16⟩
  | .local _ .vmem, ⟨2, _⟩ => ⟨S4224x384, .bf16⟩
  | .local _ .vmem, ⟨3, _⟩ => ⟨S1024x384, .f32⟩
  | .local _ .vmem, ⟨4, _⟩ => ⟨S1024x384, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4224x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4224x1024 : Shape := ⟨2, ![4224, 1024]⟩
abbrev S4224x4224 : Shape := ⟨2, ![4224, 4224]⟩
abbrev S_ : Shape := ⟨0, ![]⟩
abbrev S1024x4224 : Shape := ⟨2, ![1024, 4224]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x4224, .bf16⟩
  | .hbm, ⟨2, _⟩ => ⟨S_, .f32⟩
  | .hbm, ⟨3, _⟩ => ⟨S1024x4224, .f32⟩
  | .hbm, ⟨4, _⟩ => ⟨S4224x1024, .f32⟩
  | .hbm, ⟨5, _⟩ => ⟨S4224x4224, .f32⟩
  | .hbm, ⟨6, _⟩ => ⟨S4224x4224, .f32⟩
  | .hbm, ⟨7, _⟩ => ⟨S4224x1024, .f32⟩
  | .hbm, ⟨8, _⟩ => ⟨S1024x4224, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4224x4224 : Shape := ⟨2, ![4224, 4224]⟩
abbrev S1024x4224 : Shape := ⟨2, ![1024, 4224]⟩
abbrev S4224x1024 : Shape := ⟨2, ![4224, 1024]⟩
abbrev S1x1024 : Shape := ⟨2, ![1, 1024]⟩
abbrev S384x4224 : Shape := ⟨2, ![384, 4224]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4224x4224, .bf16⟩
  | .hbm, ⟨1, _⟩ => ⟨S1024x4224, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S1x1024, .f32⟩
  | .local _ .vmem, ⟨0, _⟩ => ⟨S384x4224, .bf16⟩
  | .local _ .vmem, ⟨1, _⟩ => ⟨S384x4224, .bf16⟩
  | .local _ .vmem, ⟨2, _⟩ => ⟨S1024x4224, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S4224x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4224x4224 : Shape := ⟨2, ![4224, 4224]⟩
abbrev S1024x4224 : Shape := ⟨2, ![1024, 4224]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4224x4224, .bf16⟩
  | .hbm, ⟨1, _⟩ => ⟨S1024x4224, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S1024x4224, .f32⟩
  | .hbm, ⟨25, _⟩ => ⟨S4224x4224, .f32⟩
  | .hbm, ⟨26, _⟩ => ⟨S4224x4224, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S_, .f32⟩
  | .hbm, ⟨36, _⟩ => ⟨S4224, .f32⟩
  | .hbm, ⟨37, _⟩ => ⟨S4224x1, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S_, .f32⟩
  | .hbm, ⟨46, _⟩ => ⟨S4224, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | _, _ => ⟨S4224x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel12.lean ====
abbrev S4224x1024 : Shape := ⟨2, ![4224, 1024]⟩
abbrev S1024x1024 : Shape := ⟨2, ![1024, 1024]⟩
abbrev S1408x1024 : Shape := ⟨2, ![1408, 1024]⟩
abbrev S512x1024 : Shape := ⟨2, ![512, 1024]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S512x1024, .bf16⟩
  | .local _ .vmem, ⟨3, _⟩ => ⟨S512x1024, .bf16⟩
  | .local _ .vmem, ⟨4, _⟩ => ⟨S1408x512, .f32⟩
  | .local _ .vmem, ⟨5, _⟩ => ⟨S1408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S_, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4224x1024 : Shape := ⟨2, ![4224, 1024]⟩
abbrev S1024x1024 : Shape := ⟨2, ![1024, 1024]⟩
abbrev S4224x512 : Shape := ⟨2, ![4224, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S1024x1024, .f32⟩
  | .local _ .vmem, ⟨0, _⟩ => ⟨S4224x512, .bf16⟩
  | .local _ .vmem, ⟨1, _⟩ => ⟨S4224x512, .bf16⟩
  | .local _ .vmem, ⟨2, _⟩ => ⟨S4224x512, .f32⟩
  | .local _ .vmem, ⟨3, _⟩ => ⟨S4224x512, .f32⟩
  | .local _ .vmem, ⟨4, _⟩ => ⟨S512x512, .f32⟩
  | .local _ .vmem, ⟨5, _⟩ => ⟨S512x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4224x1024 : Shape := ⟨2, ![4224, 1024]⟩
abbrev S1024x1024 : Shape := ⟨2, ![1024, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .bf16⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S4224x1024 : Shape := ⟨2, ![4224, 1024]⟩
abbrev S1024x1024 : Shape := ⟨2, ![1024, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1024x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S_, .f32⟩
  | .hbm, ⟨10, _⟩ => ⟨S4224, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S4224x1024 : Shape := ⟨2, ![4224, 1024]⟩
abbrev S1024x3200 : Shape := ⟨2, ![1024, 3200]⟩
abbrev S4224x3200 : Shape := ⟨2, ![4224, 3200]⟩
abbrev S1408x1024 : Shape := ⟨2, ![1408, 1024]⟩
abbrev S1024x640 : Shape := ⟨2, ![1024, 640]⟩
abbrev S1408x640 : Shape := ⟨2, ![1408, 640]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x3200, .bf16⟩
  | .hbm, ⟨2, _⟩ => ⟨S4224x3200, .f32⟩
  | .local _ .vmem, ⟨0, _⟩ => ⟨S1408x1024, .bf16⟩
  | .local _ .vmem, ⟨1, _⟩ => ⟨S1408x1024, .bf16⟩
  | .local _ .vmem, ⟨2, _⟩ => ⟨S1024x640, .bf16⟩
  | .local _ .vmem, ⟨3, _⟩ => ⟨S1024x640, .bf16⟩
  | .local _ .vmem, ⟨4, _⟩ => ⟨S1408x640, .f32⟩
  | .local _ .vmem, ⟨5, _⟩ => ⟨S1408x640, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4224x1024 : Shape := ⟨2, ![4224, 1024]⟩
abbrev S1024x3200 : Shape := ⟨2, ![1024, 3200]⟩
abbrev S4224x3200 : Shape := ⟨2, ![4224, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x3200, .bf16⟩
  | .hbm, ⟨2, _⟩ => ⟨S4224x1024, .f32⟩
  | .hbm, ⟨3, _⟩ => ⟨S1024x3200, .f32⟩
  | .hbm, ⟨4, _⟩ => ⟨S4224x3200, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4224x1024 : Shape := ⟨2, ![4224, 1024]⟩
abbrev S4224x3200 : Shape := ⟨2, ![4224, 3200]⟩
abbrev S1024x3200 : Shape := ⟨2, ![1024, 3200]⟩
abbrev S4224x512 : Shape := ⟨2, ![4224, 512]⟩
abbrev S4224x640 : Shape := ⟨2, ![4224, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x3200, .bf16⟩
  | .hbm, ⟨2, _⟩ => ⟨S1024x3200, .f32⟩
  | .local _ .vmem, ⟨0, _⟩ => ⟨S4224x512, .bf16⟩
  | .local _ .vmem, ⟨1, _⟩ => ⟨S4224x512, .bf16⟩
  | .local _ .vmem, ⟨2, _⟩ => ⟨S4224x640, .bf16⟩
  | .local _ .vmem, ⟨3, _⟩ => ⟨S4224x640, .bf16⟩
  | .local _ .vmem, ⟨4, _⟩ => ⟨S512x640, .f32⟩
  | .local _ .vmem, ⟨5, _⟩ => ⟨S512x640, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4224x1024 : Shape := ⟨2, ![4224, 1024]⟩
abbrev S4224x3200 : Shape := ⟨2, ![4224, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x3200, .bf16⟩
  | .hbm, ⟨2, _⟩ => ⟨S_, .f32⟩
  | .hbm, ⟨3, _⟩ => ⟨S1024x3200, .f32⟩
  | .hbm, ⟨4, _⟩ => ⟨S4224x1024, .f32⟩
  | .hbm, ⟨5, _⟩ => ⟨S4224x3200, .f32⟩
  | .hbm, ⟨6, _⟩ => ⟨S4224x3200, .f32⟩
  | .hbm, ⟨7, _⟩ => ⟨S3200x1024, .f32⟩
  | .hbm, ⟨8, _⟩ => ⟨S1024x3200, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4224x3200 : Shape := ⟨2, ![4224, 3200]⟩
abbrev S1024x3200 : Shape := ⟨2, ![1024, 3200]⟩
abbrev S4224x1024 : Shape := ⟨2, ![4224, 1024]⟩
abbrev S1x1024 : Shape := ⟨2, ![1, 1024]⟩
abbrev S384x3200 : Shape := ⟨2, ![384, 3200]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4224x3200, .bf16⟩
  | .hbm, ⟨1, _⟩ => ⟨S1024x3200, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S1x1024, .f32⟩
  | .local _ .vmem, ⟨0, _⟩ => ⟨S384x3200, .bf16⟩
  | .local _ .vmem, ⟨1, _⟩ => ⟨S384x3200, .bf16⟩
  | .local _ .vmem, ⟨2, _⟩ => ⟨S1024x3200, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S4224x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4224x3200 : Shape := ⟨2, ![4224, 3200]⟩
abbrev S1024x3200 : Shape := ⟨2, ![1024, 3200]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4224x3200, .bf16⟩
  | .hbm, ⟨1, _⟩ => ⟨S1024x3200, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S1024x3200, .f32⟩
  | .hbm, ⟨25, _⟩ => ⟨S4224x3200, .f32⟩
  | .hbm, ⟨26, _⟩ => ⟨S4224x3200, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S_, .f32⟩
  | .hbm, ⟨36, _⟩ => ⟨S4224, .f32⟩
  | .hbm, ⟨37, _⟩ => ⟨S4224x1, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S_, .f32⟩
  | .hbm, ⟨46, _⟩ => ⟨S4224, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | _, _ => ⟨S4224x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel18.lean ====
abbrev S4224x2816 : Shape := ⟨2, ![4224, 2816]⟩
abbrev S2816x1024 : Shape := ⟨2, ![2816, 1024]⟩
abbrev S4224x1024 : Shape := ⟨2, ![4224, 1024]⟩
abbrev S1408x2816 : Shape := ⟨2, ![1408, 2816]⟩
abbrev S2816x512 : Shape := ⟨2, ![2816, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1408x2816, .bf16⟩
  | .local _ .vmem, ⟨1, _⟩ => ⟨S1408x2816, .bf16⟩
  | .local _ .vmem, ⟨2, _⟩ => ⟨S2816x512, .bf16⟩
  | .local _ .vmem, ⟨3, _⟩ => ⟨S2816x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4224x1024 : Shape := ⟨2, ![4224, 1024]⟩
abbrev S4096x1024 : Shape := ⟨2, ![4096, 1024]⟩
abbrev S1x1024 : Shape := ⟨2, ![1, 1024]⟩
abbrev S128x1024 : Shape := ⟨2, ![128, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference19Ideal.lean ====
abbrev S4224x1024 : Shape := ⟨2, ![4224, 1024]⟩
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4224x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel20.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference20Ideal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x1024x704 : Shape := ⟨3, ![8, 1024, 704]⟩
abbrev S4096x704 : Shape := ⟨2, ![4096, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S8x1024x704 : Shape := ⟨3, ![8, 1024, 704]⟩
abbrev S4096x704 : Shape := ⟨2, ![4096, 704]⟩
abbrev S_ : Shape := ⟨0, ![]⟩
abbrev S1024x704 : Shape := ⟨2, ![1024, 704]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S4096x704, .f32⟩
  | .hbm, ⟨20, _⟩ => ⟨S_, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S_, .f32⟩
  | .hbm, ⟨28, _⟩ => ⟨S4096x704, .f32⟩
  | .hbm, ⟨29, _⟩ => ⟨S4096x704, .f32⟩
  | .hbm, ⟨30, _⟩ => ⟨S4096x704, .f32⟩
  | .hbm, ⟨31, _⟩ => ⟨S_, .f32⟩
  | .hbm, ⟨32, _⟩ => ⟨S4096x704, .f32⟩
  | .hbm, ⟨33, _⟩ => ⟨S4096x704, .f32⟩
  | .hbm, ⟨34, _⟩ => ⟨S4096x704, .f32⟩
  | .hbm, ⟨35, _⟩ => ⟨S_, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S_, .f32⟩
  | .hbm, ⟨43, _⟩ => ⟨S4096x704, .f32⟩
  | .hbm, ⟨44, _⟩ => ⟨S4096x704, .f32⟩
  | .hbm, ⟨45, _⟩ => ⟨S4096x704, .f32⟩
  | .hbm, ⟨46, _⟩ => ⟨S_, .f32⟩
  | .hbm, ⟨47, _⟩ => ⟨S4096x704, .f32⟩
  | .hbm, ⟨48, _⟩ => ⟨S4096x704, .f32⟩
  | .hbm, ⟨49, _⟩ => ⟨S4096x704, .f32⟩
  | .hbm, ⟨50, _⟩ => ⟨S_, .f32⟩
  | .hbm, ⟨51, _⟩ => ⟨S4096x704, .f32⟩
  | .hbm, ⟨52, _⟩ => ⟨S4096x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel22.lean ====
abbrev S8x352x1024 : Shape := ⟨3, ![8, 352, 1024]⟩
abbrev S1408x1024 : Shape := ⟨2, ![1408, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .bf16⟩
  | .local _ .vmem, ⟨7, _⟩ => ⟨S8x32x1024, .bf16⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference22Ideal.lean ====
abbrev S8x352x1024 : Shape := ⟨3, ![8, 352, 1024]⟩
abbrev S1408x1024 : Shape := ⟨2, ![1408, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1408x1024, .f32⟩
  | .hbm, ⟨20, _⟩ => ⟨S_, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S_, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | .hbm, ⟨45, _⟩ => ⟨S1408x1024, .f32⟩
  | .hbm, ⟨46, _⟩ => ⟨S_, .f32⟩
  | .hbm, ⟨47, _⟩ => ⟨S1408x1024, .f32⟩
  | .hbm, ⟨48, _⟩ => ⟨S1408x1024, .f32⟩
  | .hbm, ⟨49, _⟩ => ⟨S1408x1024, .f32⟩
  | .hbm, ⟨50, _⟩ => ⟨S_, .f32⟩
  | .hbm, ⟨51, _⟩ => ⟨S1408x1024, .f32⟩
  | .hbm, ⟨52, _⟩ => ⟨S1408x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel23.lean ====
abbrev S8x1024x514 : Shape := ⟨3, ![8, 1024, 514]⟩
abbrev S2048x514 : Shape := ⟨2, ![2048, 514]⟩
abbrev S8x256x514 : Shape := ⟨3, ![8, 256, 514]⟩
abbrev S256x514 : Shape := ⟨2, ![256, 514]⟩
abbrev S1x256x514 : Shape := ⟨3, ![1, 256, 514]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x514, .bf16⟩
  | .hbm, ⟨1, _⟩ => ⟨S8x1024x514, .bf16⟩
  | .hbm, ⟨2, _⟩ => ⟨S2048x514, .f32⟩
  | .hbm, ⟨3, _⟩ => ⟨S2048x514, .f32⟩
  | .hbm, ⟨4, _⟩ => ⟨S2048x514, .f32⟩
  | .hbm, ⟨5, _⟩ => ⟨S2048x514, .f32⟩
  | .hbm, ⟨6, _⟩ => ⟨S2048x514, .f32⟩
  | .hbm, ⟨7, _⟩ => ⟨S2048x514, .f32⟩
  | .hbm, ⟨8, _⟩ => ⟨S2048x514, .f32⟩
  | .local _ .vmem, ⟨0, _⟩ => ⟨S8x256x514, .bf16⟩
  | .local _ .vmem, ⟨1, _⟩ => ⟨S8x256x514, .bf16⟩
  | .local _ .vmem, ⟨2, _⟩ => ⟨S8x256x514, .bf16⟩
  | .local _ .vmem, ⟨3, _⟩ => ⟨S8x256x514, .bf16⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | .local _ .vmem, ⟨14, _⟩ => ⟨S256x514, .f32⟩
  | .local _ .vmem, ⟨15, _⟩ => ⟨S256x514, .f32⟩
  | .local _ .vmem, ⟨16, _⟩ => ⟨S256x514, .f32⟩
  | .local _ .vmem, ⟨17, _⟩ => ⟨S256x514, .f32⟩
  | _, _ => ⟨S8x1024x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x514 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x514 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S8x1024x514 : Shape := ⟨3, ![8, 1024, 514]⟩
abbrev S2048x514 : Shape := ⟨2, ![2048, 514]⟩
abbrev S_ : Shape := ⟨0, ![]⟩
abbrev S1024x514 : Shape := ⟨2, ![1024, 514]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x514, .bf16⟩
  | .hbm, ⟨1, _⟩ => ⟨S8x1024x514, .bf16⟩
  | .hbm, ⟨2, _⟩ => ⟨S2048x514, .f32⟩
  | .hbm, ⟨3, _⟩ => ⟨S2048x514, .f32⟩
  | .hbm, ⟨4, _⟩ => ⟨S2048x514, .f32⟩
  | .hbm, ⟨5, _⟩ => ⟨S8x1024x514, .f32⟩
  | .hbm, ⟨6, _⟩ => ⟨S_, .f32⟩
  | .hbm, ⟨7, _⟩ => ⟨S1024x514, .f32⟩
  | .hbm, ⟨8, _⟩ => ⟨S8x1024x514, .f32⟩
  | .hbm, ⟨9, _⟩ => ⟨S_, .f32⟩
  | .hbm, ⟨10, _⟩ => ⟨S1024x514, .f32⟩
  | .hbm, ⟨11, _⟩ => ⟨S2048x514, .f32⟩
  | .hbm, ⟨12, _⟩ => ⟨S_, .f32⟩
  | .hbm, ⟨13, _⟩ => ⟨S2048x514, .f32⟩
  | .hbm, ⟨14, _⟩ => ⟨S2048x514, .f32⟩
  | .hbm, ⟨15, _⟩ => ⟨S_, .f32⟩
  | .hbm, ⟨16, _⟩ => ⟨S2048x514, .f32⟩
  | .hbm, ⟨17, _⟩ => ⟨S2048x514, .f32⟩
  | .hbm, ⟨18, _⟩ => ⟨S2048x514, .f32⟩
  | .hbm, ⟨19, _⟩ => ⟨S_, .f32⟩
  | .hbm, ⟨20, _⟩ => ⟨S2048x514, .f32⟩
  | .hbm, ⟨21, _⟩ => ⟨S2048x514, .f32⟩
  | .hbm, ⟨22, _⟩ => ⟨S2048x514, .f32⟩
  | .hbm, ⟨23, _⟩ => ⟨S_, .f32⟩
  | .hbm, ⟨24, _⟩ => ⟨S2048x514, .f32⟩
  | .hbm, ⟨25, _⟩ => ⟨S2048x514, .f32⟩
  | .hbm, ⟨26, _⟩ => ⟨S2048x514, .f32⟩
  | .hbm, ⟨27, _⟩ => ⟨S_, .f32⟩
  | .hbm, ⟨28, _⟩ => ⟨S2048x514, .f32⟩
  | .hbm, ⟨29, _⟩ => ⟨S2048x514, .f32⟩
  | .hbm, ⟨30, _⟩ => ⟨S_, .f32⟩
  | .hbm, ⟨31, _⟩ => ⟨S2048x514, .f32⟩
  | .hbm, ⟨32, _⟩ => ⟨S2048x514, .f32⟩
  | .hbm, ⟨33, _⟩ => ⟨S2048x514, .f32⟩
  | .hbm, ⟨34, _⟩ => ⟨S_, .f32⟩
  | .hbm, ⟨35, _⟩ => ⟨S2048x514, .f32⟩
  | .hbm, ⟨36, _⟩ => ⟨S2048x514, .f32⟩
  | .hbm, ⟨37, _⟩ => ⟨S2048x514, .f32⟩
  | .hbm, ⟨38, _⟩ => ⟨S_, .f32⟩
  | .hbm, ⟨39, _⟩ => ⟨S2048x514, .f32⟩
  | .hbm, ⟨40, _⟩ => ⟨S2048x514, .f32⟩
  | .hbm, ⟨41, _⟩ => ⟨S2048x514, .f32⟩
  | .hbm, ⟨42, _⟩ => ⟨S_, .f32⟩
  | .hbm, ⟨43, _⟩ => ⟨S2048x514, .f32⟩
  | .hbm, ⟨44, _⟩ => ⟨S2048x514, .f32⟩
  | _, _ => ⟨S8x1024x514, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel24.lean ====
abbrev S8x128x1024 : Shape := ⟨3, ![8, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S8x128x1024 : Shape := ⟨3, ![8, 128, 1024]⟩
abbrev S256x1024 : Shape := ⟨2, ![256, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel25.lean ====
abbrev S8x1024x386 : Shape := ⟨3, ![8, 1024, 386]⟩
abbrev S1024x386 : Shape := ⟨2, ![1024, 386]⟩
abbrev S8x256x386 : Shape := ⟨3, ![8, 256, 386]⟩
abbrev S256x386 : Shape := ⟨2, ![256, 386]⟩
abbrev S1x256x386 : Shape := ⟨3, ![1, 256, 386]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S8x256x386, .bf16⟩
  | .local _ .vmem, ⟨1, _⟩ => ⟨S8x256x386, .bf16⟩
  | .local _ .vmem, ⟨2, _⟩ => ⟨S256x386, .f32⟩
  | .local _ .vmem, ⟨3, _⟩ => ⟨S256x386, .f32⟩
  | .local _ .vmem, ⟨4, _⟩ => ⟨S256x386, .f32⟩
  | .local _ .vmem, ⟨5, _⟩ => ⟨S256x386, .f32⟩
  | .local _ .vmem, ⟨6, _⟩ => ⟨S256x386, .f32⟩
  | .local _ .vmem, ⟨7, _⟩ => ⟨S256x386, .f32⟩
  | .local _ .vmem, ⟨8, _⟩ => ⟨S256x386, .f32⟩
  | .local _ .vmem, ⟨9, _⟩ => ⟨S256x386, .f32⟩
  | .local _ .vmem, ⟨10, _⟩ => ⟨S256x386, .f32⟩
  | .local _ .vmem, ⟨11, _⟩ => ⟨S256x386, .f32⟩
  | .local _ .vmem, ⟨12, _⟩ => ⟨S256x386, .f32⟩
  | .local _ .vmem, ⟨13, _⟩ => ⟨S256x386, .f32⟩
  | .local _ .vmem, ⟨14, _⟩ => ⟨S256x386, .f32⟩
  | .local _ .vmem, ⟨15, _⟩ => ⟨S256x386, .f32⟩
  | _, _ => ⟨S8x1024x386, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S8x1024x386 : Shape := ⟨3, ![8, 1024, 386]⟩
abbrev S1024x386 : Shape := ⟨2, ![1024, 386]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S8x1024x386, .f32⟩
  | .hbm, ⟨5, _⟩ => ⟨S_, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S_, .f32⟩
  | .hbm, ⟨11, _⟩ => ⟨S1024x386, .f32⟩
  | .hbm, ⟨12, _⟩ => ⟨S1024x386, .f32⟩
  | .hbm, ⟨13, _⟩ => ⟨S1024x386, .f32⟩
  | .hbm, ⟨14, _⟩ => ⟨S_, .f32⟩
  | .hbm, ⟨15, _⟩ => ⟨S1024x386, .f32⟩
  | .hbm, ⟨16, _⟩ => ⟨S1024x386, .f32⟩
  | .hbm, ⟨17, _⟩ => ⟨S1024x386, .f32⟩
  | .hbm, ⟨18, _⟩ => ⟨S_, .f32⟩
  | .hbm, ⟨19, _⟩ => ⟨S1024x386, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S_, .f32⟩
  | .hbm, ⟨26, _⟩ => ⟨S1024x386, .f32⟩
  | .hbm, ⟨27, _⟩ => ⟨S1024x386, .f32⟩
  | .hbm, ⟨28, _⟩ => ⟨S1024x386, .f32⟩
  | .hbm, ⟨29, _⟩ => ⟨S_, .f32⟩
  | .hbm, ⟨30, _⟩ => ⟨S1024x386, .f32⟩
  | .hbm, ⟨31, _⟩ => ⟨S1024x386, .f32⟩
  | .hbm, ⟨32, _⟩ => ⟨S1024x386, .f32⟩
  | .hbm, ⟨33, _⟩ => ⟨S_, .f32⟩
  | .hbm, ⟨34, _⟩ => ⟨S1024x386, .f32⟩
  | .hbm, ⟨35, _⟩ => ⟨S1024x386, .f32⟩
  | .hbm, ⟨36, _⟩ => ⟨S1024x386, .f32⟩
  | .hbm, ⟨37, _⟩ => ⟨S_, .f32⟩
  | .hbm, ⟨38, _⟩ => ⟨S1024x386, .f32⟩
  | .hbm, ⟨39, _⟩ => ⟨S1024x386, .f32⟩
  | _, _ => ⟨S8x1024x386, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x16x64 : Shape := ⟨3, ![8, 16, 64]⟩
abbrev S16x64 : Shape := ⟨2, ![16, 64]⟩
abbrev S1x16x64 : Shape := ⟨3, ![1, 16, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x64, .f32⟩
  | .local _ .vmem, ⟨0, _⟩ => ⟨S8x16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | .local _ .vmem, ⟨7, _⟩ => ⟨S16x64, .f32⟩
  | _, _ => ⟨S8x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S8x16x64 : Shape := ⟨3, ![8, 16, 64]⟩
abbrev S16x64 : Shape := ⟨2, ![16, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S_, .f32⟩
  | .hbm, ⟨5, _⟩ => ⟨S16x64, .f32⟩
  | .hbm, ⟨6, _⟩ => ⟨S_, .f32⟩
  | .hbm, ⟨7, _⟩ => ⟨S16x64, .f32⟩
  | .hbm, ⟨8, _⟩ => ⟨S16x64, .f32⟩
  | .hbm, ⟨9, _⟩ => ⟨S_, .f32⟩
  | .hbm, ⟨10, _⟩ => ⟨S16x64, .f32⟩
  | .hbm, ⟨11, _⟩ => ⟨S16x64, .f32⟩
  | .hbm, ⟨12, _⟩ => ⟨S16x64, .f32⟩
  | .hbm, ⟨13, _⟩ => ⟨S_, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S_, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S_, .f32⟩
  | .hbm, ⟨22, _⟩ => ⟨S16x64, .f32⟩
  | .hbm, ⟨23, _⟩ => ⟨S16x64, .f32⟩
  | .hbm, ⟨24, _⟩ => ⟨S_, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S_, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S_, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S_, .f32⟩
  | .hbm, ⟨37, _⟩ => ⟨S16x64, .f32⟩
  | .hbm, ⟨38, _⟩ => ⟨S16x64, .f32⟩
  | _, _ => ⟨S8x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x1024x514 : Shape := ⟨3, ![8, 1024, 514]⟩
abbrev S1024x514 : Shape := ⟨2, ![1024, 514]⟩
abbrev S8x256x514 : Shape := ⟨3, ![8, 256, 514]⟩
abbrev S256x514 : Shape := ⟨2, ![256, 514]⟩
abbrev S1x256x514 : Shape := ⟨3, ![1, 256, 514]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x514, .bf16⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .hbm, ⟨7, _⟩ => ⟨S1024x514, .f32⟩
  | .local _ .vmem, ⟨0, _⟩ => ⟨S8x256x514, .bf16⟩
  | .local _ .vmem, ⟨1, _⟩ => ⟨S8x256x514, .bf16⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | .local _ .vmem, ⟨14, _⟩ => ⟨S256x514, .f32⟩
  | .local _ .vmem, ⟨15, _⟩ => ⟨S256x514, .f32⟩
  | _, _ => ⟨S8x1024x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S8x1024x514 : Shape := ⟨3, ![8, 1024, 514]⟩
abbrev S1024x514 : Shape := ⟨2, ![1024, 514]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x514, .bf16⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S8x1024x514, .f32⟩
  | .hbm, ⟨5, _⟩ => ⟨S_, .f32⟩
  | .hbm, ⟨6, _⟩ => ⟨S1024x514, .f32⟩
  | .hbm, ⟨7, _⟩ => ⟨S_, .f32⟩
  | .hbm, ⟨8, _⟩ => ⟨S1024x514, .f32⟩
  | .hbm, ⟨9, _⟩ => ⟨S1024x514, .f32⟩
  | .hbm, ⟨10, _⟩ => ⟨S_, .f32⟩
  | .hbm, ⟨11, _⟩ => ⟨S1024x514, .f32⟩
  | .hbm, ⟨12, _⟩ => ⟨S1024x514, .f32⟩
  | .hbm, ⟨13, _⟩ => ⟨S1024x514, .f32⟩
  | .hbm, ⟨14, _⟩ => ⟨S_, .f32⟩
  | .hbm, ⟨15, _⟩ => ⟨S1024x514, .f32⟩
  | .hbm, ⟨16, _⟩ => ⟨S1024x514, .f32⟩
  | .hbm, ⟨17, _⟩ => ⟨S1024x514, .f32⟩
  | .hbm, ⟨18, _⟩ => ⟨S_, .f32⟩
  | .hbm, ⟨19, _⟩ => ⟨S1024x514, .f32⟩
  | .hbm, ⟨20, _⟩ => ⟨S1024x514, .f32⟩
  | .hbm, ⟨21, _⟩ => ⟨S1024x514, .f32⟩
  | .hbm, ⟨22, _⟩ => ⟨S_, .f32⟩
  | .hbm, ⟨23, _⟩ => ⟨S1024x514, .f32⟩
  | .hbm, ⟨24, _⟩ => ⟨S1024x514, .f32⟩
  | .hbm, ⟨25, _⟩ => ⟨S_, .f32⟩
  | .hbm, ⟨26, _⟩ => ⟨S1024x514, .f32⟩
  | .hbm, ⟨27, _⟩ => ⟨S1024x514, .f32⟩
  | .hbm, ⟨28, _⟩ => ⟨S1024x514, .f32⟩
  | .hbm, ⟨29, _⟩ => ⟨S_, .f32⟩
  | .hbm, ⟨30, _⟩ => ⟨S1024x514, .f32⟩
  | .hbm, ⟨31, _⟩ => ⟨S1024x514, .f32⟩
  | .hbm, ⟨32, _⟩ => ⟨S1024x514, .f32⟩
  | .hbm, ⟨33, _⟩ => ⟨S_, .f32⟩
  | .hbm, ⟨34, _⟩ => ⟨S1024x514, .f32⟩
  | .hbm, ⟨35, _⟩ => ⟨S1024x514, .f32⟩
  | .hbm, ⟨36, _⟩ => ⟨S1024x514, .f32⟩
  | .hbm, ⟨37, _⟩ => ⟨S_, .f32⟩
  | .hbm, ⟨38, _⟩ => ⟨S1024x514, .f32⟩
  | .hbm, ⟨39, _⟩ => ⟨S1024x514, .f32⟩
  | _, _ => ⟨S8x1024x514, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference29Ideal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference30Ideal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel31.lean ====
abbrev S4224x1024 : Shape := ⟨2, ![4224, 1024]⟩
abbrev S4224x3200 : Shape := ⟨2, ![4224, 3200]⟩
abbrev S1x256 : Shape := ⟨2, ![1, 256]⟩
abbrev S128x1024 : Shape := ⟨2, ![128, 1024]⟩
abbrev S128x1 : Shape := ⟨2, ![128, 1]⟩
abbrev S128x256 : Shape := ⟨2, ![128, 256]⟩
abbrev S128 : Shape := ⟨1, ![128]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x3200, .f32⟩
  | .hbm, ⟨2, _⟩ => ⟨S1x256, .f32⟩
  | .hbm, ⟨3, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x256, .f32⟩
  | .local _ .vmem, ⟨5, _⟩ => ⟨S128x1024, .bf16⟩
  | .local _ .vmem, ⟨6, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference31Ideal.lean ====
abbrev S4224x1024 : Shape := ⟨2, ![4224, 1024]⟩
abbrev S4224x3200 : Shape := ⟨2, ![4224, 3200]⟩
abbrev S1x256 : Shape := ⟨2, ![1, 256]⟩
abbrev S4112x1024 : Shape := ⟨2, ![4112, 1024]⟩
abbrev S4112x4x256 : Shape := ⟨3, ![4112, 4, 256]⟩
abbrev S_ : Shape := ⟨0, ![]⟩
abbrev S4112x4 : Shape := ⟨2, ![4112, 4]⟩
abbrev S4112x4x1 : Shape := ⟨3, ![4112, 4, 1]⟩
abbrev S1x1x256 : Shape := ⟨3, ![1, 1, 256]⟩
abbrev S112x1024 : Shape := ⟨2, ![112, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x3200, .f32⟩
  | .hbm, ⟨2, _⟩ => ⟨S1x256, .f32⟩
  | .hbm, ⟨3, _⟩ => ⟨S4224x1024, .f32⟩
  | .hbm, ⟨4, _⟩ => ⟨S4112x1024, .f32⟩
  | .hbm, ⟨5, _⟩ => ⟨S4112x4x256, .f32⟩
  | .hbm, ⟨6, _⟩ => ⟨S4112x1024, .f32⟩
  | .hbm, ⟨7, _⟩ => ⟨S4112x4x256, .f32⟩
  | .hbm, ⟨8, _⟩ => ⟨S4112x4x256, .f32⟩
  | .hbm, ⟨9, _⟩ => ⟨S_, .f32⟩
  | .hbm, ⟨10, _⟩ => ⟨S4112x4, .f32⟩
  | .hbm, ⟨11, _⟩ => ⟨S4112x4x1, .f32⟩
  | .hbm, ⟨12, _⟩ => ⟨S_, .f32⟩
  | .hbm, ⟨13, _⟩ => ⟨S4112x4x1, .f32⟩
  | .hbm, ⟨14, _⟩ => ⟨S4112x4x1, .f32⟩
  | .hbm, ⟨15, _⟩ => ⟨S_, .f32⟩
  | .hbm, ⟨16, _⟩ => ⟨S4112x4x1, .f32⟩
  | .hbm, ⟨17, _⟩ => ⟨S4112x4x1, .f32⟩
  | .hbm, ⟨18, _⟩ => ⟨S4112x4x1, .f32⟩
  | .hbm, ⟨19, _⟩ => ⟨S4112x4x256, .f32⟩
  | .hbm, ⟨20, _⟩ => ⟨S4112x4x256, .f32⟩
  | .hbm, ⟨21, _⟩ => ⟨S1x1x256, .f32⟩
  | .hbm, ⟨22, _⟩ => ⟨S4112x4x256, .f32⟩
  | .hbm, ⟨23, _⟩ => ⟨S4112x4x256, .f32⟩
  | .hbm, ⟨24, _⟩ => ⟨S4112x4x256, .f32⟩
  | .hbm, ⟨25, _⟩ => ⟨S4112x4x256, .f32⟩
  | .hbm, ⟨26, _⟩ => ⟨S_, .f32⟩
  | .hbm, ⟨27, _⟩ => ⟨S4112x4x256, .f32⟩
  | .hbm, ⟨28, _⟩ => ⟨S4112x4x256, .f32⟩
  | .hbm, ⟨29, _⟩ => ⟨S_, .f32⟩
  | .hbm, ⟨30, _⟩ => ⟨S4112x4x256, .f32⟩
  | .hbm, ⟨31, _⟩ => ⟨S4112x4x256, .f32⟩
  | .hbm, ⟨32, _⟩ => ⟨S4112x4x256, .f32⟩
  | .hbm, ⟨33, _⟩ => ⟨S4112x4x256, .f32⟩
  | .hbm, ⟨34, _⟩ => ⟨S_, .f32⟩
  | .hbm, ⟨35, _⟩ => ⟨S112x1024, .f32⟩
  | .hbm, ⟨36, _⟩ => ⟨S4112x1024, .f32⟩
  | .hbm, ⟨37, _⟩ => ⟨S4224x1024, .f32⟩
  | .hbm, ⟨38, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel32.lean ====
abbrev S4224x1024 : Shape := ⟨2, ![4224, 1024]⟩
abbrev S4224x3200 : Shape := ⟨2, ![4224, 3200]⟩
abbrev S1x256 : Shape := ⟨2, ![1, 256]⟩
abbrev S128x1024 : Shape := ⟨2, ![128, 1024]⟩
abbrev S128x1 : Shape := ⟨2, ![128, 1]⟩
abbrev S128x256 : Shape := ⟨2, ![128, 256]⟩
abbrev S128 : Shape := ⟨1, ![128]⟩
abbrev S256 : Shape := ⟨1, ![256]⟩
abbrev S128x768 : Shape := ⟨2, ![128, 768]⟩
abbrev S128x512 : Shape := ⟨2, ![128, 512]⟩

abbrev nBuf : Space → Nat
  | .hbm => 7
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S4224x3200, .f32⟩
  | .hbm, ⟨2, _⟩ => ⟨S1x256, .f32⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S1x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x256, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .bf16⟩
  | .local _ .vmem, ⟨10, _⟩ => ⟨S128x1024, .bf16⟩
  | .local _ .vmem, ⟨11, _⟩ => ⟨S1x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference32Ideal.lean ====
abbrev S4224x1024 : Shape := ⟨2, ![4224, 1024]⟩
abbrev S4224x3200 : Shape := ⟨2, ![4224, 3200]⟩
abbrev S1x256 : Shape := ⟨2, ![1, 256]⟩
abbrev S4112x1024 : Shape := ⟨2, ![4112, 1024]⟩
abbrev S4112x4x256 : Shape := ⟨3, ![4112, 4, 256]⟩
abbrev S_ : Shape := ⟨0, ![]⟩
abbrev S4112x4 : Shape := ⟨2, ![4112, 4]⟩
abbrev S4112x4x1 : Shape := ⟨3, ![4112, 4, 1]⟩
abbrev S1x1x256 : Shape := ⟨3, ![1, 1, 256]⟩
abbrev S112x1024 : Shape := ⟨2, ![112, 1024]⟩
abbrev S256 : Shape := ⟨1, ![256]⟩

abbrev nBuf : Space → Nat
  | .hbm => 91
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x3200, .f32⟩
  | .hbm, ⟨2, _⟩ => ⟨S1x256, .f32⟩
  | .hbm, ⟨3, _⟩ => ⟨S4224x1024, .f32⟩
  | .hbm, ⟨4, _⟩ => ⟨S4224x1024, .f32⟩
  | .hbm, ⟨5, _⟩ => ⟨S4112x1024, .f32⟩
  | .hbm, ⟨6, _⟩ => ⟨S4112x4x256, .f32⟩
  | .hbm, ⟨7, _⟩ => ⟨S4112x1024, .f32⟩
  | .hbm, ⟨8, _⟩ => ⟨S4112x4x256, .f32⟩
  | .hbm, ⟨9, _⟩ => ⟨S4112x4x256, .f32⟩
  | .hbm, ⟨10, _⟩ => ⟨S_, .f32⟩
  | .hbm, ⟨11, _⟩ => ⟨S4112x4, .f32⟩
  | .hbm, ⟨12, _⟩ => ⟨S4112x4x1, .f32⟩
  | .hbm, ⟨13, _⟩ => ⟨S_, .f32⟩
  | .hbm, ⟨14, _⟩ => ⟨S4112x4x1, .f32⟩
  | .hbm, ⟨15, _⟩ => ⟨S4112x4x1, .f32⟩
  | .hbm, ⟨16, _⟩ => ⟨S_, .f32⟩
  | .hbm, ⟨17, _⟩ => ⟨S4112x4x1, .f32⟩
  | .hbm, ⟨18, _⟩ => ⟨S4112x4x1, .f32⟩
  | .hbm, ⟨19, _⟩ => ⟨S4112x4x1, .f32⟩
  | .hbm, ⟨20, _⟩ => ⟨S4112x4x1, .f32⟩
  | .hbm, ⟨21, _⟩ => ⟨S_, .f32⟩
  | .hbm, ⟨22, _⟩ => ⟨S4112x4x1, .f32⟩
  | .hbm, ⟨23, _⟩ => ⟨S4112x4x1, .f32⟩
  | .hbm, ⟨24, _⟩ => ⟨S4112x4x256, .f32⟩
  | .hbm, ⟨25, _⟩ => ⟨S4112x4x256, .f32⟩
  | .hbm, ⟨26, _⟩ => ⟨S1x1x256, .f32⟩
  | .hbm, ⟨27, _⟩ => ⟨S4112x4x256, .f32⟩
  | .hbm, ⟨28, _⟩ => ⟨S4112x4x256, .f32⟩
  | .hbm, ⟨29, _⟩ => ⟨S4112x4x256, .f32⟩
  | .hbm, ⟨30, _⟩ => ⟨S4112x4x256, .f32⟩
  | .hbm, ⟨31, _⟩ => ⟨S_, .f32⟩
  | .hbm, ⟨32, _⟩ => ⟨S4112x4x256, .f32⟩
  | .hbm, ⟨33, _⟩ => ⟨S4112x4x256, .f32⟩
  | .hbm, ⟨34, _⟩ => ⟨S_, .f32⟩
  | .hbm, ⟨35, _⟩ => ⟨S4112x4x256, .f32⟩
  | .hbm, ⟨36, _⟩ => ⟨S4112x4x256, .f32⟩
  | .hbm, ⟨37, _⟩ => ⟨S_, .f32⟩
  | .hbm, ⟨38, _⟩ => ⟨S4112x4x256, .f32⟩
  | .hbm, ⟨39, _⟩ => ⟨S4112x4x256, .f32⟩
  | .hbm, ⟨40, _⟩ => ⟨S4112x4x256, .f32⟩
  | .hbm, ⟨41, _⟩ => ⟨S4112x4x256, .f32⟩
  | .hbm, ⟨42, _⟩ => ⟨S4112x4x256, .f32⟩
  | .hbm, ⟨43, _⟩ => ⟨S_, .f32⟩
  | .hbm, ⟨44, _⟩ => ⟨S112x1024, .f32⟩
  | .hbm, ⟨45, _⟩ => ⟨S4112x1024, .f32⟩
  | .hbm, ⟨46, _⟩ => ⟨S4224x1024, .f32⟩
  | .hbm, ⟨47, _⟩ => ⟨S_, .f32⟩
  | .hbm, ⟨48, _⟩ => ⟨S112x1024, .f32⟩
  | .hbm, ⟨49, _⟩ => ⟨S112x1024, .f32⟩
  | .hbm, ⟨50, _⟩ => ⟨S4112x1024, .f32⟩
  | .hbm, ⟨51, _⟩ => ⟨S4112x4x256, .f32⟩
  | .hbm, ⟨52, _⟩ => ⟨S4112x4x256, .f32⟩
  | .hbm, ⟨53, _⟩ => ⟨S4112x4x256, .f32⟩
  | .hbm, ⟨54, _⟩ => ⟨S4112x4x256, .f32⟩
  | .hbm, ⟨55, _⟩ => ⟨S4112x4x256, .f32⟩
  | .hbm, ⟨56, _⟩ => ⟨S4112x4x256, .f32⟩
  | .hbm, ⟨57, _⟩ => ⟨S4112x4x256, .f32⟩
  | .hbm, ⟨58, _⟩ => ⟨S4112x4x256, .f32⟩
  | .hbm, ⟨59, _⟩ => ⟨S_, .f32⟩
  | .hbm, ⟨60, _⟩ => ⟨S256, .f32⟩
  | .hbm, ⟨61, _⟩ => ⟨S1x1x256, .f32⟩
  | .hbm, ⟨62, _⟩ => ⟨S4112x4x256, .f32⟩
  | .hbm, ⟨63, _⟩ => ⟨S4112x4x256, .f32⟩
  | .hbm, ⟨64, _⟩ => ⟨S_, .f32⟩
  | .hbm, ⟨65, _⟩ => ⟨S256, .f32⟩
  | .hbm, ⟨66, _⟩ => ⟨S1x256, .f32⟩
  | .hbm, ⟨67, _⟩ => ⟨S4112x4x256, .f32⟩
  | .hbm, ⟨68, _⟩ => ⟨S_, .f32⟩
  | .hbm, ⟨69, _⟩ => ⟨S4112x4, .f32⟩
  | .hbm, ⟨70, _⟩ => ⟨S4112x4x1, .f32⟩
  | .hbm, ⟨71, _⟩ => ⟨S4112x4x256, .f32⟩
  | .hbm, ⟨72, _⟩ => ⟨S4112x4x256, .f32⟩
  | .hbm, ⟨73, _⟩ => ⟨S4112x4x1, .f32⟩
  | .hbm, ⟨74, _⟩ => ⟨S_, .f32⟩
  | .hbm, ⟨75, _⟩ => ⟨S4112x4x1, .f32⟩
  | .hbm, ⟨76, _⟩ => ⟨S4112x4x1, .f32⟩
  | .hbm, ⟨77, _⟩ => ⟨S_, .f32⟩
  | .hbm, ⟨78, _⟩ => ⟨S4112x4, .f32⟩
  | .hbm, ⟨79, _⟩ => ⟨S4112x4x256, .f32⟩
  | .hbm, ⟨80, _⟩ => ⟨S4112x4x256, .f32⟩
  | .hbm, ⟨81, _⟩ => ⟨S4112x4x256, .f32⟩
  | .hbm, ⟨82, _⟩ => ⟨S4112x4x256, .f32⟩
  | .hbm, ⟨83, _⟩ => ⟨S4112x4x256, .f32⟩
  | .hbm, ⟨84, _⟩ => ⟨S4112x1024, .f32⟩
  | .hbm, ⟨85, _⟩ => ⟨S_, .f32⟩
  | .hbm, ⟨86, _⟩ => ⟨S4224x1024, .f32⟩
  | .hbm, ⟨87, _⟩ => ⟨S4112x1024, .f32⟩
  | .hbm, ⟨88, _⟩ => ⟨S_, .f32⟩
  | .hbm, ⟨89, _⟩ => ⟨S4224x1024, .f32⟩
  | .hbm, ⟨90, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v21_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v21_1 : Ref sig .tc := ⟨.hbm, 40, rfl⟩
abbrev main_v21_0 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Kernel33.lean ====
abbrev S4224x1024 : Shape := ⟨2, ![4224, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .bf16⟩
  | .local _ .vmem, ⟨4, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel34.lean ====
abbrev S4224x1024 : Shape := ⟨2, ![4224, 1024]⟩
abbrev S4224x4224 : Shape := ⟨2, ![4224, 4224]⟩
abbrev S128x1024 : Shape := ⟨2, ![128, 1024]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .bf16⟩
  | .local _ .vmem, ⟨5, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S4224x1024 : Shape := ⟨2, ![4224, 1024]⟩
abbrev S4224x4224 : Shape := ⟨2, ![4224, 4224]⟩
abbrev S4112x1024 : Shape := ⟨2, ![4112, 1024]⟩
abbrev S_ : Shape := ⟨0, ![]⟩
abbrev S112x1024 : Shape := ⟨2, ![112, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S4224x1024, .f32⟩
  | .hbm, ⟨3, _⟩ => ⟨S4112x1024, .f32⟩
  | .hbm, ⟨4, _⟩ => ⟨S4112x1024, .f32⟩
  | .hbm, ⟨5, _⟩ => ⟨S4112x1024, .f32⟩
  | .hbm, ⟨6, _⟩ => ⟨S4112x1024, .f32⟩
  | .hbm, ⟨7, _⟩ => ⟨S_, .f32⟩
  | .hbm, ⟨8, _⟩ => ⟨S4112x1024, .f32⟩
  | .hbm, ⟨9, _⟩ => ⟨S4112x1024, .f32⟩
  | .hbm, ⟨10, _⟩ => ⟨S_, .f32⟩
  | .hbm, ⟨11, _⟩ => ⟨S4112x1024, .f32⟩
  | .hbm, ⟨12, _⟩ => ⟨S4112x1024, .f32⟩
  | .hbm, ⟨13, _⟩ => ⟨S4112x1024, .f32⟩
  | .hbm, ⟨14, _⟩ => ⟨S_, .f32⟩
  | .hbm, ⟨15, _⟩ => ⟨S112x1024, .f32⟩
  | .hbm, ⟨16, _⟩ => ⟨S4224x1024, .f32⟩
  | .hbm, ⟨17, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel35.lean ====
abbrev S4224x1024 : Shape := ⟨2, ![4224, 1024]⟩
abbrev S4224x4224 : Shape := ⟨2, ![4224, 4224]⟩
abbrev S128x1024 : Shape := ⟨2, ![128, 1024]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S4224x1024, .f32⟩
  | .hbm, ⟨3, _⟩ => ⟨S4224x1024, .f32⟩
  | .hbm, ⟨4, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference35Ideal.lean ====
abbrev S4224x1024 : Shape := ⟨2, ![4224, 1024]⟩
abbrev S4224x4224 : Shape := ⟨2, ![4224, 4224]⟩
abbrev S4112x1024 : Shape := ⟨2, ![4112, 1024]⟩
abbrev S_ : Shape := ⟨0, ![]⟩
abbrev S112x1024 : Shape := ⟨2, ![112, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S4224x1024, .f32⟩
  | .hbm, ⟨3, _⟩ => ⟨S4224x1024, .f32⟩
  | .hbm, ⟨4, _⟩ => ⟨S4112x1024, .f32⟩
  | .hbm, ⟨5, _⟩ => ⟨S4112x1024, .f32⟩
  | .hbm, ⟨6, _⟩ => ⟨S4112x1024, .f32⟩
  | .hbm, ⟨7, _⟩ => ⟨S4112x1024, .f32⟩
  | .hbm, ⟨8, _⟩ => ⟨S_, .f32⟩
  | .hbm, ⟨9, _⟩ => ⟨S4112x1024, .f32⟩
  | .hbm, ⟨10, _⟩ => ⟨S4112x1024, .f32⟩
  | .hbm, ⟨11, _⟩ => ⟨S_, .f32⟩
  | .hbm, ⟨12, _⟩ => ⟨S4112x1024, .f32⟩
  | .hbm, ⟨13, _⟩ => ⟨S4112x1024, .f32⟩
  | .hbm, ⟨14, _⟩ => ⟨S_, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S4112x1024, .f32⟩
  | .hbm, ⟨19, _⟩ => ⟨S_, .f32⟩
  | .hbm, ⟨20, _⟩ => ⟨S112x1024, .f32⟩
  | .hbm, ⟨21, _⟩ => ⟨S4224x1024, .f32⟩
  | .hbm, ⟨22, _⟩ => ⟨S_, .f32⟩
  | .hbm, ⟨23, _⟩ => ⟨S112x1024, .f32⟩
  | .hbm, ⟨24, _⟩ => ⟨S112x1024, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S_, .f32⟩
  | .hbm, ⟨30, _⟩ => ⟨S4224x1024, .f32⟩
  | .hbm, ⟨31, _⟩ => ⟨S_, .f32⟩
  | .hbm, ⟨32, _⟩ => ⟨S4224x1024, .f32⟩
  | .hbm, ⟨33, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel36.lean ====
abbrev S4224x1024 : Shape := ⟨2, ![4224, 1024]⟩
abbrev S4224x4224 : Shape := ⟨2, ![4224, 4224]⟩
abbrev S1x128 : Shape := ⟨2, ![1, 128]⟩
abbrev S128x1024 : Shape := ⟨2, ![128, 1024]⟩
abbrev S128x1 : Shape := ⟨2, ![128, 1]⟩
abbrev S128x128 : Shape := ⟨2, ![128, 128]⟩
abbrev S128 : Shape := ⟨1, ![128]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S1x128, .f32⟩
  | .hbm, ⟨3, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x128, .f32⟩
  | .local _ .vmem, ⟨5, _⟩ => ⟨S128x1024, .bf16⟩
  | .local _ .vmem, ⟨6, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference36Ideal.lean ====
abbrev S4224x1024 : Shape := ⟨2, ![4224, 1024]⟩
abbrev S4224x4224 : Shape := ⟨2, ![4224, 4224]⟩
abbrev S1x128 : Shape := ⟨2, ![1, 128]⟩
abbrev S4112x1024 : Shape := ⟨2, ![4112, 1024]⟩
abbrev S4112x8x128 : Shape := ⟨3, ![4112, 8, 128]⟩
abbrev S_ : Shape := ⟨0, ![]⟩
abbrev S4112x8 : Shape := ⟨2, ![4112, 8]⟩
abbrev S4112x8x1 : Shape := ⟨3, ![4112, 8, 1]⟩
abbrev S1x1x128 : Shape := ⟨3, ![1, 1, 128]⟩
abbrev S112x1024 : Shape := ⟨2, ![112, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S1x128, .f32⟩
  | .hbm, ⟨3, _⟩ => ⟨S4224x1024, .f32⟩
  | .hbm, ⟨4, _⟩ => ⟨S4112x1024, .f32⟩
  | .hbm, ⟨5, _⟩ => ⟨S4112x8x128, .f32⟩
  | .hbm, ⟨6, _⟩ => ⟨S4112x1024, .f32⟩
  | .hbm, ⟨7, _⟩ => ⟨S4112x8x128, .f32⟩
  | .hbm, ⟨8, _⟩ => ⟨S4112x8x128, .f32⟩
  | .hbm, ⟨9, _⟩ => ⟨S_, .f32⟩
  | .hbm, ⟨10, _⟩ => ⟨S4112x8, .f32⟩
  | .hbm, ⟨11, _⟩ => ⟨S4112x8x1, .f32⟩
  | .hbm, ⟨12, _⟩ => ⟨S_, .f32⟩
  | .hbm, ⟨13, _⟩ => ⟨S4112x8x1, .f32⟩
  | .hbm, ⟨14, _⟩ => ⟨S4112x8x1, .f32⟩
  | .hbm, ⟨15, _⟩ => ⟨S_, .f32⟩
  | .hbm, ⟨16, _⟩ => ⟨S4112x8x1, .f32⟩
  | .hbm, ⟨17, _⟩ => ⟨S4112x8x1, .f32⟩
  | .hbm, ⟨18, _⟩ => ⟨S4112x8x1, .f32⟩
  | .hbm, ⟨19, _⟩ => ⟨S4112x8x128, .f32⟩
  | .hbm, ⟨20, _⟩ => ⟨S4112x8x128, .f32⟩
  | .hbm, ⟨21, _⟩ => ⟨S1x1x128, .f32⟩
  | .hbm, ⟨22, _⟩ => ⟨S4112x8x128, .f32⟩
  | .hbm, ⟨23, _⟩ => ⟨S4112x8x128, .f32⟩
  | .hbm, ⟨24, _⟩ => ⟨S4112x8x128, .f32⟩
  | .hbm, ⟨25, _⟩ => ⟨S4112x8x128, .f32⟩
  | .hbm, ⟨26, _⟩ => ⟨S_, .f32⟩
  | .hbm, ⟨27, _⟩ => ⟨S4112x8x128, .f32⟩
  | .hbm, ⟨28, _⟩ => ⟨S4112x8x128, .f32⟩
  | .hbm, ⟨29, _⟩ => ⟨S_, .f32⟩
  | .hbm, ⟨30, _⟩ => ⟨S4112x8x128, .f32⟩
  | .hbm, ⟨31, _⟩ => ⟨S4112x8x128, .f32⟩
  | .hbm, ⟨32, _⟩ => ⟨S4112x8x128, .f32⟩
  | .hbm, ⟨33, _⟩ => ⟨S4112x8x128, .f32⟩
  | .hbm, ⟨34, _⟩ => ⟨S_, .f32⟩
  | .hbm, ⟨35, _⟩ => ⟨S112x1024, .f32⟩
  | .hbm, ⟨36, _⟩ => ⟨S4112x1024, .f32⟩
  | .hbm, ⟨37, _⟩ => ⟨S4224x1024, .f32⟩
  | .hbm, ⟨38, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel37.lean ====
abbrev S4224x1024 : Shape := ⟨2, ![4224, 1024]⟩
abbrev S4224x4224 : Shape := ⟨2, ![4224, 4224]⟩
abbrev S1x128 : Shape := ⟨2, ![1, 128]⟩
abbrev S128x1024 : Shape := ⟨2, ![128, 1024]⟩
abbrev S128x1 : Shape := ⟨2, ![128, 1]⟩
abbrev S128x128 : Shape := ⟨2, ![128, 128]⟩
abbrev S128 : Shape := ⟨1, ![128]⟩
abbrev S128x896 : Shape := ⟨2, ![128, 896]⟩
abbrev S128x768 : Shape := ⟨2, ![128, 768]⟩
abbrev S128x640 : Shape := ⟨2, ![128, 640]⟩
abbrev S128x256 : Shape := ⟨2, ![128, 256]⟩
abbrev S128x512 : Shape := ⟨2, ![128, 512]⟩
abbrev S128x384 : Shape := ⟨2, ![128, 384]⟩

abbrev nBuf : Space → Nat
  | .hbm => 7
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S1x128, .f32⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x128, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .bf16⟩
  | .local _ .vmem, ⟨10, _⟩ => ⟨S128x1024, .bf16⟩
  | .local _ .vmem, ⟨11, _⟩ => ⟨S1x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference37Ideal.lean ====
abbrev S4224x1024 : Shape := ⟨2, ![4224, 1024]⟩
abbrev S4224x4224 : Shape := ⟨2, ![4224, 4224]⟩
abbrev S1x128 : Shape := ⟨2, ![1, 128]⟩
abbrev S4112x1024 : Shape := ⟨2, ![4112, 1024]⟩
abbrev S4112x8x128 : Shape := ⟨3, ![4112, 8, 128]⟩
abbrev S_ : Shape := ⟨0, ![]⟩
abbrev S4112x8 : Shape := ⟨2, ![4112, 8]⟩
abbrev S4112x8x1 : Shape := ⟨3, ![4112, 8, 1]⟩
abbrev S1x1x128 : Shape := ⟨3, ![1, 1, 128]⟩
abbrev S112x1024 : Shape := ⟨2, ![112, 1024]⟩
abbrev S128 : Shape := ⟨1, ![128]⟩

abbrev nBuf : Space → Nat
  | .hbm => 91
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4224, .f32⟩
  | .hbm, ⟨2, _⟩ => ⟨S1x128, .f32⟩
  | .hbm, ⟨3, _⟩ => ⟨S4224x1024, .f32⟩
  | .hbm, ⟨4, _⟩ => ⟨S4224x1024, .f32⟩
  | .hbm, ⟨5, _⟩ => ⟨S4112x1024, .f32⟩
  | .hbm, ⟨6, _⟩ => ⟨S4112x8x128, .f32⟩
  | .hbm, ⟨7, _⟩ => ⟨S4112x1024, .f32⟩
  | .hbm, ⟨8, _⟩ => ⟨S4112x8x128, .f32⟩
  | .hbm, ⟨9, _⟩ => ⟨S4112x8x128, .f32⟩
  | .hbm, ⟨10, _⟩ => ⟨S_, .f32⟩
  | .hbm, ⟨11, _⟩ => ⟨S4112x8, .f32⟩
  | .hbm, ⟨12, _⟩ => ⟨S4112x8x1, .f32⟩
  | .hbm, ⟨13, _⟩ => ⟨S_, .f32⟩
  | .hbm, ⟨14, _⟩ => ⟨S4112x8x1, .f32⟩
  | .hbm, ⟨15, _⟩ => ⟨S4112x8x1, .f32⟩
  | .hbm, ⟨16, _⟩ => ⟨S_, .f32⟩
  | .hbm, ⟨17, _⟩ => ⟨S4112x8x1, .f32⟩
  | .hbm, ⟨18, _⟩ => ⟨S4112x8x1, .f32⟩
  | .hbm, ⟨19, _⟩ => ⟨S4112x8x1, .f32⟩
  | .hbm, ⟨20, _⟩ => ⟨S4112x8x1, .f32⟩
  | .hbm, ⟨21, _⟩ => ⟨S_, .f32⟩
  | .hbm, ⟨22, _⟩ => ⟨S4112x8x1, .f32⟩
  | .hbm, ⟨23, _⟩ => ⟨S4112x8x1, .f32⟩
  | .hbm, ⟨24, _⟩ => ⟨S4112x8x128, .f32⟩
  | .hbm, ⟨25, _⟩ => ⟨S4112x8x128, .f32⟩
  | .hbm, ⟨26, _⟩ => ⟨S1x1x128, .f32⟩
  | .hbm, ⟨27, _⟩ => ⟨S4112x8x128, .f32⟩
  | .hbm, ⟨28, _⟩ => ⟨S4112x8x128, .f32⟩
  | .hbm, ⟨29, _⟩ => ⟨S4112x8x128, .f32⟩
  | .hbm, ⟨30, _⟩ => ⟨S4112x8x128, .f32⟩
  | .hbm, ⟨31, _⟩ => ⟨S_, .f32⟩
  | .hbm, ⟨32, _⟩ => ⟨S4112x8x128, .f32⟩
  | .hbm, ⟨33, _⟩ => ⟨S4112x8x128, .f32⟩
  | .hbm, ⟨34, _⟩ => ⟨S_, .f32⟩
  | .hbm, ⟨35, _⟩ => ⟨S4112x8x128, .f32⟩
  | .hbm, ⟨36, _⟩ => ⟨S4112x8x128, .f32⟩
  | .hbm, ⟨37, _⟩ => ⟨S_, .f32⟩
  | .hbm, ⟨38, _⟩ => ⟨S4112x8x128, .f32⟩
  | .hbm, ⟨39, _⟩ => ⟨S4112x8x128, .f32⟩
  | .hbm, ⟨40, _⟩ => ⟨S4112x8x128, .f32⟩
  | .hbm, ⟨41, _⟩ => ⟨S4112x8x128, .f32⟩
  | .hbm, ⟨42, _⟩ => ⟨S4112x8x128, .f32⟩
  | .hbm, ⟨43, _⟩ => ⟨S_, .f32⟩
  | .hbm, ⟨44, _⟩ => ⟨S112x1024, .f32⟩
  | .hbm, ⟨45, _⟩ => ⟨S4112x1024, .f32⟩
  | .hbm, ⟨46, _⟩ => ⟨S4224x1024, .f32⟩
  | .hbm, ⟨47, _⟩ => ⟨S_, .f32⟩
  | .hbm, ⟨48, _⟩ => ⟨S112x1024, .f32⟩
  | .hbm, ⟨49, _⟩ => ⟨S112x1024, .f32⟩
  | .hbm, ⟨50, _⟩ => ⟨S4112x1024, .f32⟩
  | .hbm, ⟨51, _⟩ => ⟨S4112x8x128, .f32⟩
  | .hbm, ⟨52, _⟩ => ⟨S4112x8x128, .f32⟩
  | .hbm, ⟨53, _⟩ => ⟨S4112x8x128, .f32⟩
  | .hbm, ⟨54, _⟩ => ⟨S4112x8x128, .f32⟩
  | .hbm, ⟨55, _⟩ => ⟨S4112x8x128, .f32⟩
  | .hbm, ⟨56, _⟩ => ⟨S4112x8x128, .f32⟩
  | .hbm, ⟨57, _⟩ => ⟨S4112x8x128, .f32⟩
  | .hbm, ⟨58, _⟩ => ⟨S4112x8x128, .f32⟩
  | .hbm, ⟨59, _⟩ => ⟨S_, .f32⟩
  | .hbm, ⟨60, _⟩ => ⟨S128, .f32⟩
  | .hbm, ⟨61, _⟩ => ⟨S1x1x128, .f32⟩
  | .hbm, ⟨62, _⟩ => ⟨S4112x8x128, .f32⟩
  | .hbm, ⟨63, _⟩ => ⟨S4112x8x128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S4112x8x128, .f32⟩
  | .hbm, ⟨68, _⟩ => ⟨S_, .f32⟩
  | .hbm, ⟨69, _⟩ => ⟨S4112x8, .f32⟩
  | .hbm, ⟨70, _⟩ => ⟨S4112x8x1, .f32⟩
  | .hbm, ⟨71, _⟩ => ⟨S4112x8x128, .f32⟩
  | .hbm, ⟨72, _⟩ => ⟨S4112x8x128, .f32⟩
  | .hbm, ⟨73, _⟩ => ⟨S4112x8x1, .f32⟩
  | .hbm, ⟨74, _⟩ => ⟨S_, .f32⟩
  | .hbm, ⟨75, _⟩ => ⟨S4112x8x1, .f32⟩
  | .hbm, ⟨76, _⟩ => ⟨S4112x8x1, .f32⟩
  | .hbm, ⟨77, _⟩ => ⟨S_, .f32⟩
  | .hbm, ⟨78, _⟩ => ⟨S4112x8, .f32⟩
  | .hbm, ⟨79, _⟩ => ⟨S4112x8x128, .f32⟩
  | .hbm, ⟨80, _⟩ => ⟨S4112x8x128, .f32⟩
  | .hbm, ⟨81, _⟩ => ⟨S4112x8x128, .f32⟩
  | .hbm, ⟨82, _⟩ => ⟨S4112x8x128, .f32⟩
  | .hbm, ⟨83, _⟩ => ⟨S4112x8x128, .f32⟩
  | .hbm, ⟨84, _⟩ => ⟨S4112x1024, .f32⟩
  | .hbm, ⟨85, _⟩ => ⟨S_, .f32⟩
  | .hbm, ⟨86, _⟩ => ⟨S4224x1024, .f32⟩
  | .hbm, ⟨87, _⟩ => ⟨S4112x1024, .f32⟩
  | .hbm, ⟨88, _⟩ => ⟨S_, .f32⟩
  | .hbm, ⟨89, _⟩ => ⟨S4224x1024, .f32⟩
  | .hbm, ⟨90, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v21_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v21_1 : Ref sig .tc := ⟨.hbm, 40, rfl⟩
abbrev main_v21_0 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Kernel38.lean ====
abbrev S4224x3200 : Shape := ⟨2, ![4224, 3200]⟩
abbrev S16x512 : Shape := ⟨2, ![16, 512]⟩
abbrev S1x512 : Shape := ⟨2, ![1, 512]⟩
abbrev S_ : Shape := ⟨0, ![]⟩
abbrev S128x512 : Shape := ⟨2, ![128, 512]⟩
abbrev S4224x512 : Shape := ⟨2, ![4224, 512]⟩
abbrev S128x128 : Shape := ⟨2, ![128, 128]⟩
abbrev S128x1 : Shape := ⟨2, ![128, 1]⟩

abbrev nBuf : Space → Nat
  | .hbm => 7
  | .vmem => 6
  | .smem => 0
  | _ => 0

abbrev bufTy : (tb : Table) → Fin (tcTables nBuf tb) → BufTy
  | .hbm, ⟨0, _⟩ => ⟨S4224x3200, .f32⟩
  | .hbm, ⟨1, _⟩ => ⟨S16x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S128x512, .f32⟩
  | .hbm, ⟨6, _⟩ => ⟨S4224x512, .f32⟩
  | .local _ .vmem, ⟨0, _⟩ => ⟨S128x128, .f32⟩
  | .local _ .vmem, ⟨1, _⟩ => ⟨S128x128, .f32⟩
  | .local _ .vmem, ⟨2, _⟩ => ⟨S128x512, .f32⟩
  | .local _ .vmem, ⟨3, _⟩ => ⟨S1x512, .f32⟩
  | .local _ .vmem, ⟨4, _⟩ => ⟨S128x512, .f32⟩
  | .local _ .vmem, ⟨5, _⟩ => ⟨S128x512, .f32⟩
  | _, _ => ⟨S4224x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference38Ideal.lean ====
abbrev S4224x3200 : Shape := ⟨2, ![4224, 3200]⟩
abbrev S16x512 : Shape := ⟨2, ![16, 512]⟩
abbrev S1x512 : Shape := ⟨2, ![1, 512]⟩
abbrev S4112x16 : Shape := ⟨2, ![4112, 16]⟩
abbrev S4112x512 : Shape := ⟨2, ![4112, 512]⟩
abbrev S_ : Shape := ⟨0, ![]⟩
abbrev S112x512 : Shape := ⟨2, ![112, 512]⟩
abbrev S4224x512 : Shape := ⟨2, ![4224, 512]⟩

abbrev nBuf : Space → Nat
  | .hbm => 29
  | .vmem => 0
  | .smem => 0
  | _ => 0

abbrev bufTy : (tb : Table) → Fin (tcTables nBuf tb) → BufTy
  | .hbm, ⟨0, _⟩ => ⟨S4224x3200, .f32⟩
  | .hbm, ⟨1, _⟩ => ⟨S16x512, .f32⟩
  | .hbm, ⟨2, _⟩ => ⟨S1x512, .f32⟩
  | .hbm, ⟨3, _⟩ => ⟨S4112x16, .f32⟩
  | .hbm, ⟨4, _⟩ => ⟨S4112x512, .f32⟩
  | .hbm, ⟨5, _⟩ => ⟨S4112x512, .f32⟩
  | .hbm, ⟨6, _⟩ => ⟨S4112x512, .f32⟩
  | .hbm, ⟨7, _⟩ => ⟨S4112x512, .f32⟩
  | .hbm, ⟨8, _⟩ => ⟨S_, .f32⟩
  | .hbm, ⟨9, _⟩ => ⟨S4112x512, .f32⟩
  | .hbm, ⟨10, _⟩ => ⟨S4112x512, .f32⟩
  | .hbm, ⟨11, _⟩ => ⟨S4112x512, .f32⟩
  | .hbm, ⟨12, _⟩ => ⟨S4112x512, .f32⟩
  | .hbm, ⟨13, _⟩ => ⟨S4112x512, .i1⟩
  | .hbm, ⟨14, _⟩ => ⟨S4112x512, .f32⟩
  | .hbm, ⟨15, _⟩ => ⟨S4112x512, .f32⟩
  | .hbm, ⟨16, _⟩ => ⟨S4112x512, .f32⟩
  | .hbm, ⟨17, _⟩ => ⟨S4112x512, .f32⟩
  | .hbm, ⟨18, _⟩ => ⟨S4112x512, .f32⟩
  | .hbm, ⟨19, _⟩ => ⟨S4112x512, .f32⟩
  | .hbm, ⟨20, _⟩ => ⟨S4112x512, .f32⟩
  | .hbm, ⟨21, _⟩ => ⟨S4112x512, .f32⟩
  | .hbm, ⟨22, _⟩ => ⟨S4112x512, .f32⟩
  | .hbm, ⟨23, _⟩ => ⟨S_, .f32⟩
  | .hbm, ⟨24, _⟩ => ⟨S4112x512, .f32⟩
  | .hbm, ⟨25, _⟩ => ⟨S4112x512, .f32⟩
  | .hbm, ⟨26, _⟩ => ⟨S_, .f32⟩
  | .hbm, ⟨27, _⟩ => ⟨S112x512, .f32⟩
  | .hbm, ⟨28, _⟩ => ⟨S4224x512, .f32⟩
  | _, _ => ⟨S4224x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Kernel39.lean ====
abbrev S4224x4224 : Shape := ⟨2, ![4224, 4224]⟩
abbrev S1x8 : Shape := ⟨2, ![1, 8]⟩
abbrev S_ : Shape := ⟨0, ![]⟩
abbrev S1x128 : Shape := ⟨2, ![1, 128]⟩
abbrev S4224x128 : Shape := ⟨2, ![4224, 128]⟩
abbrev S128x128 : Shape := ⟨2, ![128, 128]⟩
abbrev S128x1 : Shape := ⟨2, ![128, 1]⟩

abbrev nBuf : Space → Nat
  | .hbm => 10
  | .vmem => 6
  | .smem => 0
  | _ => 0

abbrev bufTy : (tb : Table) → Fin (tcTables nBuf tb) → BufTy
  | .hbm, ⟨0, _⟩ => ⟨S4224x4224, .f32⟩
  | .hbm, ⟨1, _⟩ => ⟨S1x8, .f32⟩
  | .hbm, ⟨2, _⟩ => ⟨S1x8, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S4224x128, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | _, _ => ⟨S4224x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  ![arg0.toNat, c32_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference39Ideal.lean ====
abbrev S4224x4224 : Shape := ⟨2, ![4224, 4224]⟩
abbrev S1x8 : Shape := ⟨2, ![1, 8]⟩
abbrev S4112x8 : Shape := ⟨2, ![4112, 8]⟩
abbrev S_ : Shape := ⟨0, ![]⟩
abbrev S4112x112 : Shape := ⟨2, ![4112, 112]⟩
abbrev S112x128 : Shape := ⟨2, ![112, 128]⟩
abbrev S4112x128 : Shape := ⟨2, ![4112, 128]⟩
abbrev S4224x128 : Shape := ⟨2, ![4224, 128]⟩

abbrev nBuf : Space → Nat
  | .hbm => 39
  | .vmem => 0
  | .smem => 0
  | _ => 0

abbrev bufTy : (tb : Table) → Fin (tcTables nBuf tb) → BufTy
  | .hbm, ⟨0, _⟩ => ⟨S4224x4224, .f32⟩
  | .hbm, ⟨1, _⟩ => ⟨S1x8, .f32⟩
  | .hbm, ⟨2, _⟩ => ⟨S1x8, .f32⟩
  | .hbm, ⟨3, _⟩ => ⟨S4112x8, .f32⟩
  | .hbm, ⟨4, _⟩ => ⟨S4112x8, .f32⟩
  | .hbm, ⟨5, _⟩ => ⟨S4112x8, .f32⟩
  | .hbm, ⟨6, _⟩ => ⟨S4112x8, .f32⟩
  | .hbm, ⟨7, _⟩ => ⟨S_, .f32⟩
  | .hbm, ⟨8, _⟩ => ⟨S4112x8, .f32⟩
  | .hbm, ⟨9, _⟩ => ⟨S4112x8, .f32⟩
  | .hbm, ⟨10, _⟩ => ⟨S_, .f32⟩
  | .hbm, ⟨11, _⟩ => ⟨S4112x8, .f32⟩
  | .hbm, ⟨12, _⟩ => ⟨S4112x8, .f32⟩
  | .hbm, ⟨13, _⟩ => ⟨S1x8, .f32⟩
  | .hbm, ⟨14, _⟩ => ⟨S1x8, .f32⟩
  | .hbm, ⟨15, _⟩ => ⟨S4112x8, .f32⟩
  | .hbm, ⟨16, _⟩ => ⟨S4112x8, .f32⟩
  | .hbm, ⟨17, _⟩ => ⟨S_, .f32⟩
  | .hbm, ⟨18, _⟩ => ⟨S4112x8, .f32⟩
  | .hbm, ⟨19, _⟩ => ⟨S4112x8, .f32⟩
  | .hbm, ⟨20, _⟩ => ⟨S4112x8, .f32⟩
  | .hbm, ⟨21, _⟩ => ⟨S4112x8, .f32⟩
  | .hbm, ⟨22, _⟩ => ⟨S4112x8, .i1⟩
  | .hbm, ⟨23, _⟩ => ⟨S4112x8, .f32⟩
  | .hbm, ⟨24, _⟩ => ⟨S4112x8, .f32⟩
  | .hbm, ⟨25, _⟩ => ⟨S4112x8, .f32⟩
  | .hbm, ⟨26, _⟩ => ⟨S4112x8, .f32⟩
  | .hbm, ⟨27, _⟩ => ⟨S4112x8, .f32⟩
  | .hbm, ⟨28, _⟩ => ⟨S4112x8, .f32⟩
  | .hbm, ⟨29, _⟩ => ⟨S4112x8, .f32⟩
  | .hbm, ⟨30, _⟩ => ⟨S4112x8, .f32⟩
  | .hbm, ⟨31, _⟩ => ⟨S4112x8, .f32⟩
  | .hbm, ⟨32, _⟩ => ⟨S4112x8, .f32⟩
  | .hbm, ⟨33, _⟩ => ⟨S_, .f32⟩
  | .hbm, ⟨34, _⟩ => ⟨S4112x112, .f32⟩
  | .hbm, ⟨35, _⟩ => ⟨S_, .f32⟩
  | .hbm, ⟨36, _⟩ => ⟨S112x128, .f32⟩
  | .hbm, ⟨37, _⟩ => ⟨S4112x128, .f32⟩
  | .hbm, ⟨38, _⟩ => ⟨S4224x128, .f32⟩
  | _, _ => ⟨S4224x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel40.lean ====
abbrev S4224x128 : Shape := ⟨2, ![4224, 128]⟩
abbrev S128x128 : Shape := ⟨2, ![128, 128]⟩
abbrev S1x128 : Shape := ⟨2, ![1, 128]⟩
abbrev S128 : Shape := ⟨1, ![128]⟩

abbrev nBuf : Space → Nat
  | .hbm => 2
  | .vmem => 5
  | .smem => 0
  | _ => 0

abbrev bufTy : (tb : Table) → Fin (tcTables nBuf tb) → BufTy
  | .hbm, ⟨0, _⟩ => ⟨S4224x128, .f32⟩
  | .hbm, ⟨1, _⟩ => ⟨S4224x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | _, _ => ⟨S4224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference40Ideal.lean ====
abbrev S4224x128 : Shape := ⟨2, ![4224, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4224x128, .f32⟩
  | .hbm, ⟨1, _⟩ => ⟨S_, .f32⟩
  | .hbm, ⟨2, _⟩ => ⟨S_, .f32⟩
  | .hbm, ⟨3, _⟩ => ⟨S4224x128, .f32⟩
  | _, _ => ⟨S4224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Head.lean ====
/- One head's step of the backward recurrence, as the kernel's body computes it over a chunk of sixty-four rows.

   Every function below takes one head's arrays of the chunk: the queries `q` and keys `k` [64, 128], the values `v`
   [64, 256], the log-decays `g` [64, 128], the output's cotangent `w` [64, 256], the state `S` that enters the chunk
   [256, 128] and the cotangent `D` of the state that leaves it [256, 128]. -/
module

public import proofs.«01_k».proof.Proof.Gen.KernelIdeal.Skeleton

@[expose] public section

noncomputable section

namespace Cert.Gla

open Cert.KernelIdeal Cert.KernelIdeal.Gen Idealize.ShloMosaic

variable {F : FTy → Type} [FloatOps F]

/-- The zero matrix of shape `s`. -/
abbrev zeros (s : Shape) : FVec F s .f32 := broadcast s (Scalar.ofBits .f32 0x00000000#32 : F .f32)

/-- The mask of the pairs (row, column) with the column not after the row. -/
def incl : IVec S64x64 1 := cmpi .sle (iota .tc S64x64 32 [1] iota_S64x64_d1_w32) (iota .tc S64x64 32 [0] iota_S64x64_d0_w32)

/-- The mask as a matrix of ones and zeros. -/
def ones : FVec F S64x64 .f32 := sitofp .f32 (extui 32 incl natLt_1_32)

/-- The log-decays summed from the chunk's first row to each row. -/
def cum (g : FVec F S64x128 .f32) : FVec F S64x128 .f32 :=
  matmul dot_S64x64_S64x128_S64x128_1_0_0_1_n_n (some .fp32) (ones (F := F)) g (constant S64x128 .f32 0x00000000#32)

/-- The scaled queries. -/
def qs (q : FVec F S64x128 .f32) : FVec F S64x128 .f32 :=
  mulf q (broadcast S64x128 (Scalar.ofBits .f32 0x3DB504F3#32 : F .f32))

/-- The exponential of the summed log-decays. -/
def ep (g : FVec F S64x128 .f32) : FVec F S64x128 .f32 := exp (cum g)

/-- The exponential of minus the summed log-decays. -/
def en (g : FVec F S64x128 .f32) : FVec F S64x128 .f32 := exp (subf (zeros S64x128) (cum g))

/-- The scaled queries times the exponential of the summed log-decays. -/
def qe (q g : FVec F S64x128 .f32) : FVec F S64x128 .f32 := mulf (qs q) (ep g)

/-- The keys times the exponential of minus the summed log-decays. -/
def ke (k g : FVec F S64x128 .f32) : FVec F S64x128 .f32 := mulf k (en g)

/-- The chunk's own attention matrix. -/
def att (q k g : FVec F S64x128 .f32) : FVec F S64x64 .f32 :=
  select incl (matmul dot_S64x128_S64x128_S64x64_1_1_0_0_n_n none (truncf .bf16 (qe q g) bitsLt_bf16_f32)
    (truncf .bf16 (ke k g) bitsLt_bf16_f32) (constant S64x64 .f32 0x00000000#32)) (zeros S64x64)

/-- The mask of the chunk's last row. -/
def lastRow : IVec S64x128 1 := cmpi .eq (iota .tc S64x128 32 [0] iota_S64x128_d0_w32) (broadcast S64x128 63#32)

/-- The log-decays summed over the whole chunk, picked from the last row of `cum`. -/
def bl (g : FVec F S64x128 .f32) : FVec F S1x128 .f32 :=
  shapeCast S1x128 (multiReduction .add [0] S128 (select lastRow (cum g) (zeros S64x128)) 0x00000000#32
    reduces_S64x128_S128 (.inl rfl) rfl) shapeCasts_S128_S1x128

/-- The decay from each row to the chunk's end. -/
def ed (g : FVec F S64x128 .f32) : FVec F S64x128 .f32 :=
  exp (subf (broadcastTo S64x128 (bl g) broadcasts_S1x128_S64x128) (cum g))

/-- The keys decayed to the chunk's end. -/
def kd (k g : FVec F S64x128 .f32) : FVec F S64x128 .f32 := mulf k (ed g)

/-- The decay over the whole chunk. -/
def ebl (g : FVec F S64x128 .f32) : FVec F S1x128 .f32 := exp (bl g)

/-- The output's cotangent as the body holds it. -/
def wc (w : FVec F S64x256 .f32) : FVec F S64x256 .f32 := shapeCast S64x256 w shapeCasts_S64x256_S64x256

/-- The leaving state's cotangent as the body holds it. -/
def dc (D : FVec F S256x128 .f32) : FVec F S256x128 .f32 := shapeCast S256x128 D shapeCasts_S256x128_S256x128

/-- The cotangent of the decayed keys. -/
def dkd (v : FVec F S64x256 .f32) (D : FVec F S256x128 .f32) : FVec F S64x128 .f32 :=
  matmul dot_S64x256_S256x128_S64x128_1_0_0_1_n_n none (truncf .bf16 v bitsLt_bf16_f32)
    (truncf .bf16 (dc D) bitsLt_bf16_f32) (constant S64x128 .f32 0x00000000#32)

/-- The cotangent of minus the summed log-decays, from the decayed keys. -/
def dtail (k g : FVec F S64x128 .f32) (v : FVec F S64x256 .f32) (D : FVec F S256x128 .f32) : FVec F S64x128 .f32 :=
  mulf (mulf k (dkd v D)) (ed g)

/-- The cotangent of the chunk's whole log-decay. -/
def dbl (k g : FVec F S64x128 .f32) (v : FVec F S64x256 .f32) (S D : FVec F S256x128 .f32) : FVec F S1x128 .f32 :=
  addf
    (mulf (shapeCast S1x128 (multiReduction .add [0] S128 (mulf S (dc D)) 0x00000000#32 reduces_S256x128_S128
      (.inl rfl) rfl) shapeCasts_S128_S1x128) (ebl g))
    (shapeCast S1x128 (multiReduction .add [0] S128 (dtail k g v D) 0x00000000#32 reduces_S64x128_S128
      (.inl rfl) rfl) shapeCasts_S128_S1x128)

/-- The part of the summed log-decays' cotangent that comes through the state that leaves the chunk. -/
def db1 (k g : FVec F S64x128 .f32) (v : FVec F S64x256 .f32) (S D : FVec F S256x128 .f32) : FVec F S64x128 .f32 :=
  addf (subf (zeros S64x128) (dtail k g v D))
    (select lastRow (broadcastTo S64x128 (shapeCast S1x128 (multiReduction .add [0] S128 (dbl k g v S D) 0x00000000#32
      reduces_S1x128_S128 (.inl rfl) rfl) shapeCasts_S128_S1x128) broadcasts_S1x128_S64x128) (zeros S64x128))

/-- The cotangent of the chunk's own attention matrix. -/
def datt (v w : FVec F S64x256 .f32) : FVec F S64x64 .f32 :=
  select incl (matmul dot_S64x256_S64x256_S64x64_1_1_0_0_n_n none (truncf .bf16 (wc w) bitsLt_bf16_f32)
    (truncf .bf16 v bitsLt_bf16_f32) (constant S64x64 .f32 0x00000000#32)) (zeros S64x64)

/-- The cotangent of `qe`. -/
def dqe (k g : FVec F S64x128 .f32) (v w : FVec F S64x256 .f32) (S : FVec F S256x128 .f32) : FVec F S64x128 .f32 :=
  addf
    (matmul dot_S64x256_S256x128_S64x128_1_0_0_1_n_n none (truncf .bf16 (wc w) bitsLt_bf16_f32)
      (truncf .bf16 S bitsLt_bf16_f32) (constant S64x128 .f32 0x00000000#32))
    (matmul dot_S64x64_S64x128_S64x128_1_0_0_1_n_n none (truncf .bf16 (datt v w) bitsLt_bf16_f32)
      (truncf .bf16 (ke k g) bitsLt_bf16_f32) (constant S64x128 .f32 0x00000000#32))

/-- The cotangent of `ke`. -/
def dke (q g : FVec F S64x128 .f32) (v w : FVec F S64x256 .f32) : FVec F S64x128 .f32 :=
  matmul dot_S64x64_S64x128_S64x128_0_0_1_1_n_n none (truncf .bf16 (datt v w) bitsLt_bf16_f32)
    (truncf .bf16 (qe q g) bitsLt_bf16_f32) (constant S64x128 .f32 0x00000000#32)

/-- The cotangent of the queries. -/
def outQ (k g : FVec F S64x128 .f32) (v w : FVec F S64x256 .f32) (S : FVec F S256x128 .f32) : FVec F S64x128 .f32 :=
  mulf (mulf (dqe k g v w S) (ep g)) (broadcast S64x128 (Scalar.ofBits .f32 0x3DB504F3#32 : F .f32))

/-- The cotangent of the keys. -/
def outK (q g : FVec F S64x128 .f32) (v w : FVec F S64x256 .f32) (D : FVec F S256x128 .f32) : FVec F S64x128 .f32 :=
  addf (mulf (dkd v D) (ed g)) (mulf (dke q g v w) (en g))

/-- The cotangent of the values. -/
def outV (q k g : FVec F S64x128 .f32) (w : FVec F S64x256 .f32) (D : FVec F S256x128 .f32) : FVec F S64x256 .f32 :=
  addf
    (matmul dot_S64x128_S256x128_S64x256_1_1_0_0_n_n none (truncf .bf16 (kd k g) bitsLt_bf16_f32)
      (truncf .bf16 (dc D) bitsLt_bf16_f32) (constant S64x256 .f32 0x00000000#32))
    (matmul dot_S64x64_S64x256_S64x256_0_0_1_1_n_n none (truncf .bf16 (att q k g) bitsLt_bf16_f32)
      (truncf .bf16 (wc w) bitsLt_bf16_f32) (constant S64x256 .f32 0x00000000#32))

/-- The cotangent of the summed log-decays. -/
def db (q k g : FVec F S64x128 .f32) (v w : FVec F S64x256 .f32) (S D : FVec F S256x128 .f32) : FVec F S64x128 .f32 :=
  addf (addf (db1 k g v S D) (subf (zeros S64x128) (mulf (mulf k (dke q g v w)) (en g))))
    (mulf (mulf (qs q) (dqe k g v w S)) (ep g))

/-- The cotangent of the log-decays: `db` summed from each row to the chunk's last row. -/
def outG (q k g : FVec F S64x128 .f32) (v w : FVec F S64x256 .f32) (S D : FVec F S256x128 .f32) : FVec F S64x128 .f32 :=
  transpose S64x128 [1, 0] (matmul dot_S64x128_S64x64_S128x64_0_0_1_1_n_n (some .fp32) (db q k g v w S D) (ones (F := F))
    (constant S128x64 .f32 0x00000000#32)) transposes_S128x64_p1_0_S64x128

/-- The cotangent of the state that enters the chunk. -/
def outS (q g : FVec F S64x128 .f32) (w : FVec F S64x256 .f32) (D : FVec F S256x128 .f32) : FVec F S256x128 .f32 :=
  addf (mulf (dc D) (broadcastTo S256x128 (ebl g) broadcasts_S1x128_S256x128))
    (matmul dot_S64x256_S64x128_S256x128_0_0_1_1_n_n none (truncf .bf16 (wc w) bitsLt_bf16_f32)
      (truncf .bf16 (qe q g) bitsLt_bf16_f32) (constant S256x128 .f32 0x00000000#32))

end Cert.Gla

end
-- ==== Proof.Real.lean ====
/- One head's step of the backward recurrence over real numbers: what the functions of Head.lean are at real inputs. -/
module

public import proofs.«01_k».proof.Proof.Head
public import Idealize.ShloMosaic.Lib.Pointwise
public import Idealize.ShloMosaic.PureOps.Ideal

@[expose] public section

set_option maxRecDepth 16384

noncomputable section

namespace Cert.Gla

open Cert.KernelIdeal Cert.KernelIdeal.Gen Idealize.ShloMosaic

/-- A sum of reals is the sum of their embeddings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of the queries as a real number. -/
def scl : ℝ := (Ideal.ofBits .f32 0x3DB504F3#32 : EReal).toReal

theorem scl_eq : (Ideal.ofBits .f32 0x3DB504F3#32 : EReal) = (scl : EReal) := by
  have h : (Ideal.ofBits .f32 0x3DB504F3#32 : EReal) = ((11863283 / 134217728 : ℝ) : EReal) := by
    simp [Ideal.ofBits, Ideal.ieee, -EReal.coe_mul]; norm_num
  rw [scl, h, EReal.toReal_coe]

theorem incl_apply (r s : Fin 64) : incl (ix2 r s) = if s ≤ r then 1#1 else 0#1 := by
  pointwise [incl]
  revert r s
  decide +kernel

theorem ones_apply (r s : Fin 64) : ones (F := Ideal) (ix2 r s) = (((if s ≤ r then 1 else 0 : ℝ)) : EReal) := by
  pointwise [ones]
  rw [incl_apply]
  split
  · simp [FloatOps.sitofp]
  · simp [FloatOps.sitofp]

theorem lastRow_apply (r : Fin 64) (d : Fin 128) : lastRow (ix2 r d) = if r = 63 then 1#1 else 0#1 := by
  pointwise [lastRow]
  revert r
  decide +kernel

theorem sel_coe (p : Prop) [Decidable p] (x y : ℝ) :
    Scalar.select (if p then 1#1 else 0#1) (x : EReal) (y : EReal) = ((if p then x else y : ℝ) : EReal) := by
  by_cases h : p <;> simp [h, Scalar.select]

theorem sel_zero (p : Prop) [Decidable p] (x : ℝ) :
    Scalar.select (if p then 1#1 else 0#1) (x : EReal) 0 = ((if p then x else 0 : ℝ) : EReal) := by
  rw [← EReal.coe_zero, sel_coe]

/-! ## The real functions -/

section real

variable (q k g : Fin 64 → Fin 128 → ℝ) (v w : Fin 64 → Fin 256 → ℝ) (S D : Fin 256 → Fin 128 → ℝ)

/-- The log-decays summed from the chunk's first row to each row. -/
def cumR (r : Fin 64) (d : Fin 128) : ℝ := ∑ s, (if s ≤ r then 1 else 0) * g s d
/-- The log-decays summed over the chunk. -/
def blR (d : Fin 128) : ℝ := cumR g 63 d
/-- `qe`, over the reals. -/
def qeR (r : Fin 64) (d : Fin 128) : ℝ := q r d * scl * Real.exp (cumR g r d)
/-- `ke`, over the reals. -/
def keR (r : Fin 64) (d : Fin 128) : ℝ := k r d * Real.exp (0 - cumR g r d)
/-- `att`, over the reals. -/
def attR (r s : Fin 64) : ℝ := if s ≤ r then ∑ d, qeR q g r d * keR k g s d else 0
/-- `ed`, over the reals. -/
def edR (r : Fin 64) (d : Fin 128) : ℝ := Real.exp (blR g d - cumR g r d)
/-- `dkd`, over the reals. -/
def dkdR (r : Fin 64) (d : Fin 128) : ℝ := ∑ x, v r x * D x d
/-- `dtail`, over the reals. -/
def dtailR (r : Fin 64) (d : Fin 128) : ℝ := k r d * dkdR v D r d * edR g r d
/-- `dbl`, over the reals. -/
def dblR (d : Fin 128) : ℝ := (∑ x, S x d * D x d) * Real.exp (blR g d) + ∑ r, dtailR k g v D r d
/-- `db1`, over the reals. -/
def db1R (r : Fin 64) (d : Fin 128) : ℝ := 0 - dtailR k g v D r d + if r = 63 then dblR k g v S D d else 0
/-- `datt`, over the reals. -/
def dattR (r s : Fin 64) : ℝ := if s ≤ r then ∑ x, w r x * v s x else 0
/-- `dqe`, over the reals. -/
def dqeR (r : Fin 64) (d : Fin 128) : ℝ := (∑ x, w r x * S x d) + ∑ s, dattR v w r s * keR k g s d
/-- `dke`, over the reals. -/
def dkeR (r : Fin 64) (d : Fin 128) : ℝ := ∑ s, dattR v w s r * qeR q g s d
/-- `outQ`, over the reals. -/
def outQR (r : Fin 64) (d : Fin 128) : ℝ := dqeR k g v w S r d * Real.exp (cumR g r d) * scl
/-- `outK`, over the reals. -/
def outKR (r : Fin 64) (d : Fin 128) : ℝ := dkdR v D r d * edR g r d + dkeR q g v w r d * Real.exp (0 - cumR g r d)
/-- `outV`, over the reals. -/
def outVR (r : Fin 64) (x : Fin 256) : ℝ := (∑ d, k r d * edR g r d * D x d) + ∑ s, attR q k g s r * w s x
/-- `db`, over the reals. -/
def dbR (r : Fin 64) (d : Fin 128) : ℝ :=
  db1R k g v S D r d + (0 - k r d * dkeR q g v w r d * Real.exp (0 - cumR g r d))
    + q r d * scl * dqeR k g v w S r d * Real.exp (cumR g r d)
/-- `outG`, over the reals. -/
def outGR (r : Fin 64) (d : Fin 128) : ℝ := ∑ s, dbR q k g v w S D s d * (if r ≤ s then 1 else 0)
/-- `outS`, over the reals. -/
def outSR (x : Fin 256) (d : Fin 128) : ℝ := D x d * Real.exp (blR g d) + ∑ s, w s x * qeR q g s d

end real

/-! ## The kernel's functions at real inputs -/

section ideal

variable {q k g : FVec Ideal S64x128 .f32} {v w : FVec Ideal S64x256 .f32} {S D : FVec Ideal S256x128 .f32}
variable {q' k' g' : Fin 64 → Fin 128 → ℝ} {v' w' : Fin 64 → Fin 256 → ℝ} {S' D' : Fin 256 → Fin 128 → ℝ}

section
variable (hg : ∀ r d, g (ix2 r d) = (g' r d : EReal))
include hg

theorem cum_real (r : Fin 64) (d : Fin 128) : cum g (ix2 r d) = (cumR g' r d : EReal) := by
  pointwise [cum]
  simp only [ones_apply, hg, cumR, coe_sum, EReal.coe_mul]

theorem ep_real (r : Fin 64) (d : Fin 128) : ep g (ix2 r d) = (Real.exp (cumR g' r d) : EReal) := by
  pointwise [ep]
  rw [cum_real hg, Ideal.exp_coe]

theorem en_real (r : Fin 64) (d : Fin 128) : en g (ix2 r d) = (Real.exp (0 - cumR g' r d) : EReal) := by
  pointwise [en]
  rw [cum_real hg, ← EReal.coe_zero, ← EReal.coe_sub, Ideal.exp_coe]

theorem bl_real (z : Fin 1) (d : Fin 128) : bl g (ix2 z d) = (blR g' d : EReal) := by
  pointwise [bl]
  simp only [lastRow_apply, cum_real hg, sel_zero, ← coe_sum]
  rw [Finset.sum_ite_eq' Finset.univ (63 : Fin 64)]
  simp [blR]

theorem ed_real (r : Fin 64) (d : Fin 128) : ed g (ix2 r d) = (edR g' r d : EReal) := by
  pointwise [ed]
  rw [cum_real hg, bl_real hg, ← EReal.coe_sub, Ideal.exp_coe, edR]

theorem ebl_real (z : Fin 1) (d : Fin 128) : ebl g (ix2 z d) = (Real.exp (blR g' d) : EReal) := by
  pointwise [ebl]
  rw [bl_real hg, Ideal.exp_coe]

theorem qe_real (hq : ∀ r d, q (ix2 r d) = (q' r d : EReal)) (r : Fin 64) (d : Fin 128) :
    qe q g (ix2 r d) = (qeR q' g' r d : EReal) := by
  pointwise [qe, qs]
  rw [ep_real hg, hq, scl_eq, qeR, EReal.coe_mul, EReal.coe_mul]

theorem ke_real (hk : ∀ r d, k (ix2 r d) = (k' r d : EReal)) (r : Fin 64) (d : Fin 128) :
    ke k g (ix2 r d) = (keR k' g' r d : EReal) := by
  pointwise [ke]
  rw [en_real hg, hk, keR, EReal.coe_mul]

theorem att_real (hq : ∀ r d, q (ix2 r d) = (q' r d : EReal)) (hk : ∀ r d, k (ix2 r d) = (k' r d : EReal))
    (r s : Fin 64) : att q k g (ix2 r s) = (attR q' k' g' r s : EReal) := by
  pointwise [att]
  simp only [qe_real hg hq, ke_real hg hk, ← EReal.coe_mul, ← coe_sum, incl_apply, sel_zero, attR]

end

theorem dkd_real (hv : ∀ r x, v (ix2 r x) = (v' r x : EReal)) (hD : ∀ x d, D (ix2 x d) = (D' x d : EReal))
    (r : Fin 64) (d : Fin 128) : dkd v D (ix2 r d) = (dkdR v' D' r d : EReal) := by
  pointwise [dkd, dc]
  simp only [hv, hD, ← EReal.coe_mul, ← coe_sum, dkdR]

theorem datt_real (hv : ∀ r x, v (ix2 r x) = (v' r x : EReal)) (hw : ∀ r x, w (ix2 r x) = (w' r x : EReal))
    (r s : Fin 64) : datt v w (ix2 r s) = (dattR v' w' r s : EReal) := by
  pointwise [datt, wc]
  simp only [hv, hw, ← EReal.coe_mul, ← coe_sum, incl_apply, sel_zero, dattR]

variable (hg : ∀ r d, g (ix2 r d) = (g' r d : EReal))
include hg

theorem dtail_real (hk : ∀ r d, k (ix2 r d) = (k' r d : EReal)) (hv : ∀ r x, v (ix2 r x) = (v' r x : EReal))
    (hD : ∀ x d, D (ix2 x d) = (D' x d : EReal)) (r : Fin 64) (d : Fin 128) :
    dtail k g v D (ix2 r d) = (dtailR k' g' v' D' r d : EReal) := by
  pointwise [dtail]
  rw [hk, dkd_real hv hD, ed_real hg, dtailR, EReal.coe_mul, EReal.coe_mul]

theorem dbl_real (hk : ∀ r d, k (ix2 r d) = (k' r d : EReal)) (hv : ∀ r x, v (ix2 r x) = (v' r x : EReal))
    (hS : ∀ x d, S (ix2 x d) = (S' x d : EReal))
    (hD : ∀ x d, D (ix2 x d) = (D' x d : EReal)) (z : Fin 1) (d : Fin 128) :
    dbl k g v S D (ix2 z d) = (dblR k' g' v' S' D' d : EReal) := by
  pointwise [dbl, dc]
  simp only [hS, hD, dtail_real hg hk hv hD, ebl_real hg, ← EReal.coe_mul, ← coe_sum, ← EReal.coe_add, dblR]

theorem db1_real (hk : ∀ r d, k (ix2 r d) = (k' r d : EReal)) (hv : ∀ r x, v (ix2 r x) = (v' r x : EReal))
    (hS : ∀ x d, S (ix2 x d) = (S' x d : EReal))
    (hD : ∀ x d, D (ix2 x d) = (D' x d : EReal)) (r : Fin 64) (d : Fin 128) :
    db1 k g v S D (ix2 r d) = (db1R k' g' v' S' D' r d : EReal) := by
  pointwise [db1]
  simp only [dtail_real hg hk hv hD, dbl_real hg hk hv hS hD, lastRow_apply, ← coe_sum, sel_zero]
  rw [← EReal.coe_zero, ← EReal.coe_sub, ← EReal.coe_add, db1R]
  simp

theorem dqe_real (hk : ∀ r d, k (ix2 r d) = (k' r d : EReal)) (hv : ∀ r x, v (ix2 r x) = (v' r x : EReal))
    (hw : ∀ r x, w (ix2 r x) = (w' r x : EReal))
    (hS : ∀ x d, S (ix2 x d) = (S' x d : EReal)) (r : Fin 64) (d : Fin 128) :
    dqe k g v w S (ix2 r d) = (dqeR k' g' v' w' S' r d : EReal) := by
  pointwise [dqe, wc]
  simp only [hS, hw, datt_real hv hw, ke_real hg hk, ← EReal.coe_mul, ← coe_sum, ← EReal.coe_add, dqeR]

theorem dke_real (hq : ∀ r d, q (ix2 r d) = (q' r d : EReal)) (hv : ∀ r x, v (ix2 r x) = (v' r x : EReal))
    (hw : ∀ r x, w (ix2 r x) = (w' r x : EReal)) (r : Fin 64) (d : Fin 128) :
    dke q g v w (ix2 r d) = (dkeR q' g' v' w' r d : EReal) := by
  pointwise [dke]
  simp only [datt_real hv hw, qe_real hg hq, ← EReal.coe_mul, ← coe_sum, dkeR]

theorem outQ_real (hk : ∀ r d, k (ix2 r d) = (k' r d : EReal)) (hv : ∀ r x, v (ix2 r x) = (v' r x : EReal))
    (hw : ∀ r x, w (ix2 r x) = (w' r x : EReal))
    (hS : ∀ x d, S (ix2 x d) = (S' x d : EReal)) (r : Fin 64) (d : Fin 128) :
    outQ k g v w S (ix2 r d) = (outQR k' g' v' w' S' r d : EReal) := by
  pointwise [outQ]
  rw [dqe_real hg hk hv hw hS, ep_real hg, scl_eq, outQR, EReal.coe_mul, EReal.coe_mul]

theorem outK_real (hq : ∀ r d, q (ix2 r d) = (q' r d : EReal)) (hv : ∀ r x, v (ix2 r x) = (v' r x : EReal))
    (hw : ∀ r x, w (ix2 r x) = (w' r x : EReal)) (hD : ∀ x d, D (ix2 x d) = (D' x d : EReal))
    (r : Fin 64) (d : Fin 128) : outK q g v w D (ix2 r d) = (outKR q' g' v' w' D' r d : EReal) := by
  pointwise [outK]
  simp only [dkd_real hv hD, ed_real hg, dke_real hg hq hv hw, en_real hg, ← EReal.coe_mul, ← EReal.coe_add, outKR]

theorem outV_real (hq : ∀ r d, q (ix2 r d) = (q' r d : EReal)) (hk : ∀ r d, k (ix2 r d) = (k' r d : EReal))
    (hw : ∀ r x, w (ix2 r x) = (w' r x : EReal)) (hD : ∀ x d, D (ix2 x d) = (D' x d : EReal))
    (r : Fin 64) (x : Fin 256) : outV q k g w D (ix2 r x) = (outVR q' k' g' w' D' r x : EReal) := by
  pointwise [outV, kd, wc, dc]
  simp only [hk, hw, hD, ed_real hg, att_real hg hq hk, ← EReal.coe_mul, ← EReal.coe_add, ← coe_sum, outVR]

theorem db_real (hq : ∀ r d, q (ix2 r d) = (q' r d : EReal)) (hk : ∀ r d, k (ix2 r d) = (k' r d : EReal))
    (hv : ∀ r x, v (ix2 r x) = (v' r x : EReal)) (hw : ∀ r x, w (ix2 r x) = (w' r x : EReal))
    (hS : ∀ x d, S (ix2 x d) = (S' x d : EReal)) (hD : ∀ x d, D (ix2 x d) = (D' x d : EReal))
    (r : Fin 64) (d : Fin 128) : db q k g v w S D (ix2 r d) = (dbR q' k' g' v' w' S' D' r d : EReal) := by
  pointwise [db, qs]
  rw [db1_real hg hk hv hS hD, hk, hq, dke_real hg hq hv hw, en_real hg, dqe_real hg hk hv hw hS, ep_real hg, scl_eq,
    dbR, ← EReal.coe_zero]
  simp only [← EReal.coe_mul, ← EReal.coe_add, ← EReal.coe_sub]

theorem outG_real (hq : ∀ r d, q (ix2 r d) = (q' r d : EReal)) (hk : ∀ r d, k (ix2 r d) = (k' r d : EReal))
    (hv : ∀ r x, v (ix2 r x) = (v' r x : EReal)) (hw : ∀ r x, w (ix2 r x) = (w' r x : EReal))
    (hS : ∀ x d, S (ix2 x d) = (S' x d : EReal)) (hD : ∀ x d, D (ix2 x d) = (D' x d : EReal))
    (r : Fin 64) (d : Fin 128) : outG q k g v w S D (ix2 r d) = (outGR q' k' g' v' w' S' D' r d : EReal) := by
  pointwise [outG]
  simp only [db_real hg hq hk hv hw hS hD, ones_apply, ← EReal.coe_mul, ← coe_sum, outGR]

theorem outS_real (hq : ∀ r d, q (ix2 r d) = (q' r d : EReal)) (hw : ∀ r x, w (ix2 r x) = (w' r x : EReal))
    (hD : ∀ x d, D (ix2 x d) = (D' x d : EReal)) (x : Fin 256) (d : Fin 128) :
    outS q g w D (ix2 x d) = (outSR q' g' w' D' x d : EReal) := by
  pointwise [outS, wc, dc]
  simp only [hD, hw, ebl_real hg, qe_real hg hq, ← EReal.coe_mul, ← EReal.coe_add, ← coe_sum, outSR]

end ideal

end Cert.Gla

end
-- ==== Proof.CumSum.lean ====
/- Running sums over the rows of an array, from the first row down and from the last row up, in exact arithmetic. -/
module

public import Idealize.ShloMosaic.Lib.Pointwise
public import Idealize.ShloMosaic.PureOps.Ideal

@[expose] public section

set_option maxRecDepth 16384

noncomputable section

namespace Cert.Gla

open Idealize.ShloMosaic

/-- A fold of additions is the start plus the sum. -/
theorem foldl_add {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window sum from zero is the sum over the window's places, zero where the place is outside the array. -/
theorem window_sum {s t u : Shape} (window strides lo hi : Fin s.rank → Nat) (x : FVec Ideal s .f32)
    (init : u.Idx → Ideal .f32) (h : s.ReduceWindows window strides lo hi t) (hu : 0 < u.numel)
    (h0 : init (Shape.Idx.first hu) = (0 : EReal)) (j : t.Idx) :
    Host.reduceWindowAdd (F := Ideal) window strides lo hi x init h hu j
      = ∑ w : (⟨s.rank, window⟩ : Shape).Idx,
          ((if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0 : EReal)) := by
  unfold Host.reduceWindowAdd
  rw [h0]
  simp only [Ideal.hostReduceWindowAdd_def]
  unfold Ideal.hostReduceWindowAdd Host.reduceWindow
  dsimp only
  rw [foldl_add, zero_add, ← List.ofFn_eq_map, List.sum_ofFn]
  refine Eq.trans (Finset.sum_congr rfl fun n _ => dite_congr rfl (fun _ => rfl) fun _ => rfl) (Equiv.sum_comp (⟨s.rank, window⟩ : Shape).rowMajor.symm
    (fun w : (⟨s.rank, window⟩ : Shape).Idx =>
      ((if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 : EReal))))

/-- A sum of the first `j + 1` entries, read through a window of the whole length that ends at `j`. -/
theorem shift_down {R : Nat} (f : Fin (R + 1) → EReal) (j : Fin (R + 1)) :
    (∑ w : Fin (R + 1), if h : R ≤ j.val + w.val then f ⟨j.val + w.val - R, by omega⟩ else 0)
      = ∑ i : Fin (R + 1), if i ≤ j then f i else 0 := by
  rw [← Equiv.sum_comp (Equiv.addRight (⟨R - j.val, by omega⟩ : Fin (R + 1)))]
  refine Finset.sum_congr rfl fun i _ => ?_
  have hv : ((Equiv.addRight (⟨R - j.val, by omega⟩ : Fin (R + 1))) i).val = (i.val + (R - j.val)) % (R + 1) := by
    simp [Fin.val_add]
  by_cases hij : i ≤ j
  · have hij' : i.val ≤ j.val := hij
    rw [Nat.mod_eq_of_lt (by omega)] at hv
    rw [dif_pos (by omega), if_pos hij]
    congr 1; apply Fin.ext; simp only [hv]; omega
  · have hij' : j.val < i.val := by simpa using hij
    rw [Nat.mod_eq_sub_mod (by omega), Nat.mod_eq_of_lt (by omega)] at hv
    rw [dif_neg (by omega), if_neg hij]

/-- A sum of the entries from `j` on, read through a window of the whole length that starts at `j`. -/
theorem shift_up {R : Nat} (f : Fin (R + 1) → EReal) (j : Fin (R + 1)) :
    (∑ w : Fin (R + 1), if h : j.val + w.val < R + 1 then f ⟨j.val + w.val, h⟩ else 0)
      = ∑ i : Fin (R + 1), if j ≤ i then f i else 0 := by
  rw [← Equiv.sum_comp (Equiv.addRight j) (fun i => if j ≤ i then f i else 0)]
  refine Finset.sum_congr rfl fun w _ => ?_
  have hv : ((Equiv.addRight j) w).val = (w.val + j.val) % (R + 1) := by simp [Fin.val_add]
  by_cases h : j.val + w.val < R + 1
  · rw [Nat.mod_eq_of_lt (by omega)] at hv
    rw [dif_pos h, if_pos (Fin.le_def.mpr (by rw [hv]; omega))]
    congr 1; apply Fin.ext; simp only [hv]; omega
  · rw [Nat.mod_eq_sub_mod (by omega), Nat.mod_eq_of_lt (by omega)] at hv
    rw [dif_neg h, if_neg (fun hle => by rw [Fin.le_def, hv] at hle; omega)]

/-- The running sum over the rows of a matrix. -/
theorem cumsum_two {R C : Nat} {u : Shape} (x : FVec Ideal ⟨2, ![R + 1, C]⟩ .f32) (init : u.Idx → Ideal .f32)
    (h : (⟨2, ![R + 1, C]⟩ : Shape).ReduceWindows (![R + 1, 1] : Fin 2 → Nat) ![1, 1] ![R, 0] ![0, 0] ⟨2, ![R + 1, C]⟩)
    (hu : 0 < u.numel) (h0 : init (Shape.Idx.first hu) = (0 : EReal)) (j : Fin (R + 1)) (c : Fin C) :
    Host.reduceWindowAdd (F := Ideal) (![R + 1, 1] : Fin 2 → Nat) ![1, 1] ![R, 0] ![0, 0] x init h hu (ix2 j c)
      = ∑ i : Fin (R + 1), ((if i ≤ j then x (ix2 i c) else 0 : EReal)) := by
  rw [window_sum (h0 := h0)]
  refine (sum_idx2 (n0 := R + 1) (n1 := 1) _).trans ?_
  rw [← shift_down (fun i => x (ix2 i c)) j]
  refine Finset.sum_congr rfl fun w _ => ?_
  rw [Fin.sum_univ_one]
  by_cases hw : R ≤ j.val + w.val
  · rw [dif_pos hw, dif_pos]
    · congr 1; funext a; apply Fin.ext
      match a with
      | ⟨0, _⟩ => show j.val * 1 + w.val - R = _; rw [Nat.mul_one]; rfl
      | ⟨1, _⟩ => show c.val * 1 + 0 - 0 = _; simp
    · intro a
      match a with
      | ⟨0, _⟩ =>
        show R ≤ j.val * 1 + w.val ∧ j.val * 1 + w.val - R < R + 1
        omega
      | ⟨1, _⟩ =>
        show 0 ≤ c.val * 1 + 0 ∧ c.val * 1 + 0 - 0 < C
        have := c.isLt; omega
  · rw [dif_neg hw, dif_neg]
    intro hin
    have h1 : R ≤ j.val * 1 + w.val := (hin 0).1
    omega

/-- The running sum over the rows of a rank-three array. -/
theorem cumsum_three {R A B : Nat} {u : Shape} (x : FVec Ideal ⟨3, ![R + 1, A, B]⟩ .f32) (init : u.Idx → Ideal .f32)
    (h : (⟨3, ![R + 1, A, B]⟩ : Shape).ReduceWindows (![R + 1, 1, 1] : Fin 3 → Nat) ![1, 1, 1] ![R, 0, 0] ![0, 0, 0]
      ⟨3, ![R + 1, A, B]⟩)
    (hu : 0 < u.numel) (h0 : init (Shape.Idx.first hu) = (0 : EReal)) (j : Fin (R + 1)) (a : Fin A) (b : Fin B) :
    Host.reduceWindowAdd (F := Ideal) (![R + 1, 1, 1] : Fin 3 → Nat) ![1, 1, 1] ![R, 0, 0] ![0, 0, 0] x init h hu (ix3 j a b)
      = ∑ i : Fin (R + 1), ((if i ≤ j then x (ix3 i a b) else 0 : EReal)) := by
  rw [window_sum (h0 := h0)]
  refine (sum_idx3 (n0 := R + 1) (n1 := 1) (n2 := 1) _).trans ?_
  rw [← shift_down (fun i => x (ix3 i a b)) j]
  refine Finset.sum_congr rfl fun w _ => ?_
  rw [Fin.sum_univ_one, Fin.sum_univ_one]
  by_cases hw : R ≤ j.val + w.val
  · rw [dif_pos hw, dif_pos]
    · congr 1; funext e; apply Fin.ext
      match e with
      | ⟨0, _⟩ => show j.val * 1 + w.val - R = _; rw [Nat.mul_one]; rfl
      | ⟨1, _⟩ => show a.val * 1 + 0 - 0 = _; simp
      | ⟨2, _⟩ => show b.val * 1 + 0 - 0 = _; simp
    · intro e
      match e with
      | ⟨0, _⟩ =>
        show R ≤ j.val * 1 + w.val ∧ j.val * 1 + w.val - R < R + 1
        omega
      | ⟨1, _⟩ =>
        show 0 ≤ a.val * 1 + 0 ∧ a.val * 1 + 0 - 0 < A
        have := a.isLt; omega
      | ⟨2, _⟩ =>
        show 0 ≤ b.val * 1 + 0 ∧ b.val * 1 + 0 - 0 < B
        have := b.isLt; omega
  · rw [dif_neg hw, dif_neg]
    intro hin
    have h1 : R ≤ j.val * 1 + w.val := (hin 0).1
    omega

/-- The running sum from the last row up, of a rank-three array. -/
theorem revsum_three {R A B : Nat} {u : Shape} (x : FVec Ideal ⟨3, ![R + 1, A, B]⟩ .f32) (init : u.Idx → Ideal .f32)
    (h : (⟨3, ![R + 1, A, B]⟩ : Shape).ReduceWindows (![R + 1, 1, 1] : Fin 3 → Nat) ![1, 1, 1] ![0, 0, 0] ![R, 0, 0]
      ⟨3, ![R + 1, A, B]⟩)
    (hu : 0 < u.numel) (h0 : init (Shape.Idx.first hu) = (0 : EReal)) (j : Fin (R + 1)) (a : Fin A) (b : Fin B) :
    Host.reduceWindowAdd (F := Ideal) (![R + 1, 1, 1] : Fin 3 → Nat) ![1, 1, 1] ![0, 0, 0] ![R, 0, 0] x init h hu (ix3 j a b)
      = ∑ i : Fin (R + 1), ((if j ≤ i then x (ix3 i a b) else 0 : EReal)) := by
  rw [window_sum (h0 := h0)]
  refine (sum_idx3 (n0 := R + 1) (n1 := 1) (n2 := 1) _).trans ?_
  rw [← shift_up (fun i => x (ix3 i a b)) j]
  refine Finset.sum_congr rfl fun w _ => ?_
  rw [Fin.sum_univ_one, Fin.sum_univ_one]
  by_cases hw : j.val + w.val < R + 1
  · rw [dif_pos hw, dif_pos]
    · congr 1; funext e; apply Fin.ext
      match e with
      | ⟨0, _⟩ => show j.val * 1 + w.val - 0 = _; rw [Nat.mul_one]; rfl
      | ⟨1, _⟩ => show a.val * 1 + 0 - 0 = _; simp
      | ⟨2, _⟩ => show b.val * 1 + 0 - 0 = _; simp
    · intro e
      match e with
      | ⟨0, _⟩ =>
        show 0 ≤ j.val * 1 + w.val ∧ j.val * 1 + w.val - 0 < R + 1
        omega
      | ⟨1, _⟩ =>
        show 0 ≤ a.val * 1 + 0 ∧ a.val * 1 + 0 - 0 < A
        have := a.isLt; omega
      | ⟨2, _⟩ =>
        show 0 ≤ b.val * 1 + 0 ∧ b.val * 1 + 0 - 0 < B
        have := b.isLt; omega
  · rw [dif_neg hw, dif_neg]
    intro hin
    have h1 : j.val * 1 + w.val - 0 < R + 1 := (hin 0).2
    omega

end Cert.Gla

end
-- ==== Proof.Ref.lean ====
/- The reference's gradients as staged functions of its arguments, and what they are over real numbers. -/
module

public import proofs.«01_k».proof.Proof.Gen.ReferenceIdeal.Run
public import proofs.«01_k».proof.Proof.Real
public import proofs.«01_k».proof.Proof.CumSum

@[expose] public section

set_option maxRecDepth 16384

noncomputable section

namespace Cert.Gla.Ref

open Cert.ReferenceIdeal Cert.ReferenceIdeal.Gen Cert.ReferenceIdeal.Value Idealize.ShloMosaic Idealize.ShloMosaic.TcCoe Idealize.SL.Sem

variable (P : FVec Ideal S4224x3200 .f32) (G : FVec Ideal S4224x512 .f32) (W : FVec Ideal S4224x1024 .f32)

/-- The scaled queries, head by head. -/
def rQ : FVec Ideal S4224x4x128 .f32 :=
  mulf (shapeCast _ (extractStridedSlice S4224x512 ![0, 0] P slices_S4224x3200_S4224x512_0_0) shapeCasts_S4224x512_S4224x4x128)
    (broadcastInDim S4224x4x128 ![] bcast_S_S4224x4x128 (constant S_ .f32 0x3DB504F3#32))
/-- The keys, head by head. -/
def rK : FVec Ideal S4224x4x128 .f32 :=
  shapeCast _ (extractStridedSlice S4224x512 ![0, 512] P slices_S4224x3200_S4224x512_0_512) shapeCasts_S4224x512_S4224x4x128
/-- The values, head by head. -/
def rV : FVec Ideal S4224x4x256 .f32 :=
  shapeCast _ (extractStridedSlice S4224x1024 ![0, 1024] P slices_S4224x3200_S4224x1024_0_1024) shapeCasts_S4224x1024_S4224x4x256
/-- The log-decays summed to each row. -/
def rCum : FVec Ideal S4224x4x128 .f32 :=
  Host.reduceWindowAdd ![4224, 1, 1] ![1, 1, 1] ![4223, 0, 0] ![0, 0, 0] (shapeCast _ G shapeCasts_S4224x512_S4224x4x128)
    (broadcastInDim S_ ![] bcast_S_S_ (constant S_ .f32 0x00000000#32))
    reduceWindows_S4224x4x128_S4224x4x128_w4224s1p4223_0_w1s1p0_0_w1s1p0_0 h_S_
/-- The mask of the pairs (row, row) with the second not after the first. -/
def rMask : IVec S4224x4224 1 :=
  select (cmpi .sge (addi (iotaInDim S4224x4224 32 0) (broadcastInDim S4224x4224 ![] bcast_S_S4224x4224 (constantI S_ 32 0#32)))
    (iotaInDim S4224x4224 32 1)) (broadcastInDim S4224x4224 ![] bcast_S_S4224x4224 (constantI S_ 1 1#1))
    (broadcastInDim S4224x4224 ![] bcast_S_S4224x4224 (constantI S_ 1 0#1))
/-- The mask at every head and lane. -/
def rMask4 : IVec S4224x4224x4x128 1 :=
  broadcastInDim S4224x4224x4x128 ![0, 1, 2, 3] bcast_S4224x4224x1x1_S4224x4224x4x128_0_1_2_3
    (broadcastInDim S4224x4224x1x1 ![0, 1] bcast_S4224x4224_S4224x4224x1x1_0_1 rMask)
/-- The decay from the second row to the first. -/
def rDec : FVec Ideal S4224x4224x4x128 .f32 :=
  Host.exp (select rMask4 (subf (broadcastInDim S4224x4224x4x128 ![0, 1, 2, 3] bcast_S4224x1x4x128_S4224x4224x4x128_0_1_2_3
      (broadcastInDim S4224x1x4x128 ![0, 2, 3] bcast_S4224x4x128_S4224x1x4x128_0_2_3 (rCum G)))
    (broadcastInDim S4224x4224x4x128 ![0, 1, 2, 3] bcast_S1x4224x4x128_S4224x4224x4x128_0_1_2_3
      (broadcastInDim S1x4224x4x128 ![1, 2, 3] bcast_S4224x4x128_S1x4224x4x128_1_2_3 (rCum G))))
    (broadcastInDim S4224x4224x4x128 ![] bcast_S_S4224x4224x4x128 (id (constant S_ .f32 0xFF800000#32))))
/-- The scaled queries at every pair of rows. -/
def rQb : FVec Ideal S4224x4224x4x128 .f32 :=
  broadcastInDim S4224x4224x4x128 ![0, 1, 2, 3] bcast_S4224x1x4x128_S4224x4224x4x128_0_1_2_3
    (broadcastInDim S4224x1x4x128 ![0, 2, 3] bcast_S4224x4x128_S4224x1x4x128_0_2_3 (rQ P))
/-- The keys at every pair of rows. -/
def rKb : FVec Ideal S4224x4224x4x128 .f32 :=
  broadcastInDim S4224x4224x4x128 ![0, 1, 2, 3] bcast_S1x4224x4x128_S4224x4224x4x128_0_1_2_3
    (broadcastInDim S1x4224x4x128 ![1, 2, 3] bcast_S4224x4x128_S1x4224x4x128_1_2_3 (rK P))
/-- The attention matrix. -/
def rA : FVec Ideal S4224x4224x4 .f32 :=
  Host.reduceAdd (mulf (mulf (rQb P) (rKb P)) (rDec G)) (constant S_ .f32 0x00000000#32) reducesTo_S4224x4224x4x128_S4224x4224x4_d3 h_S_
/-- The output's cotangent, head first. -/
def rW : FVec Ideal S4x256x4224 .f32 :=
  transpose S4x256x4224 [1, 2, 0] (shapeCast _ W shapeCasts_S4224x1024_S4224x4x256) transposes_S4224x4x256_S4x256x4224_1_2_0
/-- The attention matrix's cotangent at every lane. -/
def rDA : FVec Ideal S4224x4224x4x128 .f32 :=
  broadcastInDim S4224x4224x4x128 ![0, 1, 2] bcast_S4224x4224x4_S4224x4224x4x128_0_1_2
    (transpose S4224x4224x4 [1, 2, 0] (Host.dotGeneral dot_S4x256x4224_S4224x4x256_S4x4224x4224_1_2_2_0_0_1 none (rW W) (rV P))
      transposes_S4x4224x4224_S4224x4224x4_1_2_0)
/-- The cotangent of the decay times the decay, where the mask holds. -/
def rX : FVec Ideal S4224x4224x4x128 .f32 :=
  select rMask4 (mulf (mulf (mulf (rQb P) (rKb P)) (rDA P W)) (rDec G))
    (broadcastInDim S4224x4224x4x128 ![] bcast_S_S4224x4224x4x128 (constant S_ .f32 0x00000000#32))
/-- The cotangent of the summed log-decays. -/
def rDB : FVec Ideal S4224x4x128 .f32 :=
  addf (Host.reduceAdd (shapeCast _ (Host.reduceAdd (Host.negf (rX P G W)) (constant S_ .f32 0x00000000#32)
      reducesTo_S4224x4224x4x128_S4224x4x128_d0 h_S_) shapeCasts_S4224x4x128_S1x4224x4x128) (constant S_ .f32 0x00000000#32)
      reducesTo_S1x4224x4x128_S4224x4x128_d0 h_S_)
    (Host.reduceAdd (shapeCast _ (Host.reduceAdd (rX P G W) (constant S_ .f32 0x00000000#32)
      reducesTo_S4224x4224x4x128_S4224x4x128_d1 h_S_) shapeCasts_S4224x4x128_S4224x1x4x128) (constant S_ .f32 0x00000000#32)
      reducesTo_S4224x1x4x128_S4224x4x128_d1 h_S_)
/-- The log-decays' cotangent. -/
def rOutG : FVec Ideal S4224x512 .f32 :=
  shapeCast _ (Host.reduceWindowAdd ![4224, 1, 1] ![1, 1, 1] ![0, 0, 0] ![4223, 0, 0] (rDB P G W)
    (broadcastInDim S_ ![] bcast_S_S_ (constant S_ .f32 0x00000000#32))
    reduceWindows_S4224x4x128_S4224x4x128_w4224s1p0_4223_w1s1p0_0_w1s1p0_0 h_S_) shapeCasts_S4224x4x128_S4224x512
/-- The queries' cotangent. -/
def rOutQ : FVec Ideal S4224x512 .f32 :=
  shapeCast _ (mulf (Host.reduceAdd (shapeCast _ (Host.reduceAdd (mulf (mulf (rDA P W) (rDec G)) (rKb P)) (constant S_ .f32 0x00000000#32)
      reducesTo_S4224x4224x4x128_S4224x4x128_d1 h_S_) shapeCasts_S4224x4x128_S4224x1x4x128) (constant S_ .f32 0x00000000#32)
      reducesTo_S4224x1x4x128_S4224x4x128_d1 h_S_)
    (broadcastInDim S4224x4x128 ![] bcast_S_S4224x4x128 (constant S_ .f32 0x3DB504F3#32))) shapeCasts_S4224x4x128_S4224x512
/-- The keys' cotangent. -/
def rOutK : FVec Ideal S4224x512 .f32 :=
  shapeCast _ (Host.reduceAdd (shapeCast _ (Host.reduceAdd (mulf (rQb P) (mulf (rDA P W) (rDec G))) (constant S_ .f32 0x00000000#32)
      reducesTo_S4224x4224x4x128_S4224x4x128_d0 h_S_) shapeCasts_S4224x4x128_S1x4224x4x128) (constant S_ .f32 0x00000000#32)
      reducesTo_S1x4224x4x128_S4224x4x128_d0 h_S_) shapeCasts_S4224x4x128_S4224x512
/-- The values' cotangent. -/
def rOutV : FVec Ideal S4224x1024 .f32 :=
  shapeCast _ (transpose S4224x4x256 [2, 0, 1] (Host.dotGeneral dot_S4x256x4224_S4224x4224x4_S4x256x4224_2_0_1_1_0_2 none (rW W) (rA P G))
    transposes_S4x256x4224_S4224x4x256_2_0_1) shapeCasts_S4224x4x256_S4224x1024

/-- The reference's run, its results in these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = (truncf .bf16 (rOutQ (m ((c.tc : Thread nD τ).loc main_arg0))
          (m ((c.tc : Thread nD τ).loc main_arg1)) (m ((c.tc : Thread nD τ).loc main_arg2))) bitsLt_bf16_f32 : FVec Ideal S4224x512 .bf16)
      ∧ r.2.mem ((c.tc : Thread nD τ).loc main_v68) = (truncf .bf16 (rOutK (m ((c.tc : Thread nD τ).loc main_arg0))
          (m ((c.tc : Thread nD τ).loc main_arg1)) (m ((c.tc : Thread nD τ).loc main_arg2))) bitsLt_bf16_f32 : FVec Ideal S4224x512 .bf16)
      ∧ r.2.mem ((c.tc : Thread nD τ).loc main_v69) = (truncf .bf16 (rOutV (m ((c.tc : Thread nD τ).loc main_arg0))
          (m ((c.tc : Thread nD τ).loc main_arg1)) (m ((c.tc : Thread nD τ).loc main_arg2))) bitsLt_bf16_f32 : FVec Ideal S4224x1024 .bf16)
      ∧ r.2.mem ((c.tc : Thread nD τ).loc main_v61) = rOutG (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h := run m ρ
  simp only [res_main_v61] at h
  simp only [rOutQ, rOutK, rOutV, rOutG, rDB, rX, rDA, rA, rW, rQb, rKb, rDec, rMask4, rMask, rCum, rV, rK, rQ]
  exact h

end Cert.Gla.Ref

end
-- ==== Proof.Split.lean ====
/- The heads of a chunk's arrays: the lanes of one head, and an array written one head at a time. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Gla

open Cert.KernelIdeal Cert.KernelIdeal.Gen Idealize.ShloMosaic

variable {F : FTy → Type} [FloatOps F]

/-- Lane `d` of head `h` among the key lanes. -/
abbrev kl (h : Fin 4) (d : Fin 128) : Fin 512 := ⟨128 * h.val + d.val, by omega⟩

/-- Lane `d` of head `h` among the value lanes. -/
abbrev vl (h : Fin 4) (d : Fin 256) : Fin 1024 := ⟨256 * h.val + d.val, by omega⟩

/-- Head `h`'s key lanes of a chunk. -/
def colsK (h : Fin 4) (x : Vec F S64x512 .f32) : Vec F S64x128 .f32 := fun i => x (ix2 (i 0) (kl h (i 1)))

/-- Head `h`'s value lanes of a chunk. -/
def colsV (h : Fin 4) (x : Vec F S64x1024 .f32) : Vec F S64x256 .f32 := fun i => x (ix2 (i 0) (vl h (i 1)))

/-- Head `h`'s state among a chunk's. -/
def headS (h : Fin 4) (x : Vec F S4x1x256x128 .f32) : Vec F S256x128 .f32 := fun i => x (ix4 h 0 (i 0) (i 1))

/-- Head `h`'s state in the carried scratch. -/
def headD (h : Fin 4) (x : Vec F S4x256x128 .f32) : Vec F S256x128 .f32 := fun i => x (ix3 h (i 0) (i 1))

theorem ld_k0 (x : Vec F S64x512 .f32) :
    View.ld (Val := Elt F) (e' := .f32) x (Rect.unit ![0, 0] ![64, 128] inb_S64x512_S64x128_0_0) = colsK 0 x := by
  funext i; idx_vars i; pointwise [colsK]; congr 2; apply Fin.ext; simp

theorem ld_v0 (x : Vec F S64x1024 .f32) :
    View.ld (Val := Elt F) (e' := .f32) x (Rect.unit ![0, 0] ![64, 256] inb_S64x1024_S64x256_0_0) = colsV 0 x := by
  funext i; idx_vars i; pointwise [colsV]; congr 2; apply Fin.ext; simp

theorem ld_k1 (x : Vec F S64x512 .f32) :
    View.ld (Val := Elt F) (e' := .f32) x (Rect.unit ![0, 128] ![64, 128] inb_S64x512_S64x128_0_128) = colsK 1 x := by
  funext i; idx_vars i; pointwise [colsK]; rfl

theorem ld_v1 (x : Vec F S64x1024 .f32) :
    View.ld (Val := Elt F) (e' := .f32) x (Rect.unit ![0, 256] ![64, 256] inb_S64x1024_S64x256_0_256) = colsV 1 x := by
  funext i; idx_vars i; pointwise [colsV]; rfl

theorem ld_k2 (x : Vec F S64x512 .f32) :
    View.ld (Val := Elt F) (e' := .f32) x (Rect.unit ![0, 256] ![64, 128] inb_S64x512_S64x128_0_256) = colsK 2 x := by
  funext i; idx_vars i; pointwise [colsK]; rfl

theorem ld_v2 (x : Vec F S64x1024 .f32) :
    View.ld (Val := Elt F) (e' := .f32) x (Rect.unit ![0, 512] ![64, 256] inb_S64x1024_S64x256_0_512) = colsV 2 x := by
  funext i; idx_vars i; pointwise [colsV]; rfl

theorem ld_k3 (x : Vec F S64x512 .f32) :
    View.ld (Val := Elt F) (e' := .f32) x (Rect.unit ![0, 384] ![64, 128] inb_S64x512_S64x128_0_384) = colsK 3 x := by
  funext i; idx_vars i; pointwise [colsK]; rfl

theorem ld_v3 (x : Vec F S64x1024 .f32) :
    View.ld (Val := Elt F) (e' := .f32) x (Rect.unit ![0, 768] ![64, 256] inb_S64x1024_S64x256_0_768) = colsV 3 x := by
  funext i; idx_vars i; pointwise [colsV]; rfl

/-- Head `h`'s state as it is loaded. -/
def sliceS (h : Fin 4) (x : Vec F S4x1x256x128 .f32) : Vec F S1x1x256x128 .f32 := fun i => x (ix4 h 0 (i 2) (i 3))

/-- Head `h`'s part of the scratch as it is loaded. -/
def sliceD (h : Fin 4) (x : Vec F S4x256x128 .f32) : Vec F S1x256x128 .f32 := fun i => x (ix3 h (i 1) (i 2))

theorem cast_s (h : Fin 4) (x : Vec F S4x1x256x128 .f32) :
    shapeCast (α := F .f32) S256x128 (sliceS h x) shapeCasts_S1x1x256x128_S256x128 = headS h x := by
  funext i; idx_vars i; pointwise [headS, sliceS]

theorem cast_d (h : Fin 4) (x : Vec F S4x256x128 .f32) :
    shapeCast (α := F .f32) S256x128 (sliceD h x) shapeCasts_S1x256x128_S256x128 = headD h x := by
  funext i; idx_vars i; pointwise [headD, sliceD]

theorem ld_s0 (x : Vec F S4x1x256x128 .f32) :
    View.ld (Val := Elt F) (e' := .f32) x (Rect.unit ![0, 0, 0, 0] ![1, 1, 256, 128] inb_S4x1x256x128_S1x1x256x128_0_0_0_0) =
      sliceS 0 x := by
  funext i; idx_vars i; pointwise [sliceS]

theorem ld_d0 (x : Vec F S4x256x128 .f32) :
    View.ld (Val := Elt F) (e' := .f32) x (Rect.unit ![0, 0, 0] ![1, 256, 128] inb_S4x256x128_S1x256x128_0_0_0) =
      sliceD 0 x := by
  funext i; idx_vars i; pointwise [sliceD]

theorem ld_s1 (x : Vec F S4x1x256x128 .f32) :
    View.ld (Val := Elt F) (e' := .f32) x (Rect.unit ![1, 0, 0, 0] ![1, 1, 256, 128] inb_S4x1x256x128_S1x1x256x128_1_0_0_0) =
      sliceS 1 x := by
  funext i; idx_vars i; pointwise [sliceS]

theorem ld_d1 (x : Vec F S4x256x128 .f32) :
    View.ld (Val := Elt F) (e' := .f32) x (Rect.unit ![1, 0, 0] ![1, 256, 128] inb_S4x256x128_S1x256x128_1_0_0) =
      sliceD 1 x := by
  funext i; idx_vars i; pointwise [sliceD]

theorem ld_s2 (x : Vec F S4x1x256x128 .f32) :
    View.ld (Val := Elt F) (e' := .f32) x (Rect.unit ![2, 0, 0, 0] ![1, 1, 256, 128] inb_S4x1x256x128_S1x1x256x128_2_0_0_0) =
      sliceS 2 x := by
  funext i; idx_vars i; pointwise [sliceS]

theorem ld_d2 (x : Vec F S4x256x128 .f32) :
    View.ld (Val := Elt F) (e' := .f32) x (Rect.unit ![2, 0, 0] ![1, 256, 128] inb_S4x256x128_S1x256x128_2_0_0) =
      sliceD 2 x := by
  funext i; idx_vars i; pointwise [sliceD]

theorem ld_s3 (x : Vec F S4x1x256x128 .f32) :
    View.ld (Val := Elt F) (e' := .f32) x (Rect.unit ![3, 0, 0, 0] ![1, 1, 256, 128] inb_S4x1x256x128_S1x1x256x128_3_0_0_0) =
      sliceS 3 x := by
  funext i; idx_vars i; pointwise [sliceS]

theorem ld_d3 (x : Vec F S4x256x128 .f32) :
    View.ld (Val := Elt F) (e' := .f32) x (Rect.unit ![3, 0, 0] ![1, 256, 128] inb_S4x256x128_S1x256x128_3_0_0) =
      sliceD 3 x := by
  funext i; idx_vars i; pointwise [sliceD]

/-- The newest piece decides at an index it covers. -/
theorem canon_hit {s : Shape} {e : EltTy} {off size : Fin s.rank → Nat} (inb : ∀ a, off a + size a ≤ s.size a)
    (w : (Rect.unit off size inb).shape.Idx → Elt F e) (L : List (View.Piece (Elt F) s e)) (y : s.Idx)
    (x : (Rect.unit off size inb).shape.Idx) (hx : ∀ a, (y a).val = off a + (x a).val) :
    View.canon (Val := Elt F) (⟨Rect.unit off size inb, w⟩ :: L) y = w x := by
  have hy : y = (Rect.unit off size inb).emb x := by
    funext a; apply Fin.ext; rw [hx a]
    show off a + (x a).val = off a + 1 * (x a).val
    omega
  rw [hy]; exact View.canon_cons_emb _ _ _ _

/-- A piece that ends before the index, or starts after it, on some axis does not touch it. -/
theorem canon_miss {s : Shape} {e : EltTy} {off size : Fin s.rank → Nat} (inb : ∀ a, off a + size a ≤ s.size a)
    (w : (Rect.unit off size inb).shape.Idx → Elt F e) (L : List (View.Piece (Elt F) s e)) (y : s.Idx)
    (a : Fin s.rank) (ha : (y a).val < off a ∨ off a + size a ≤ (y a).val) :
    View.canon (Val := Elt F) (⟨Rect.unit off size inb, w⟩ :: L) y = View.canon L y := by
  refine View.canon_cons_of_not_mem _ _ fun hm => ?_
  have h2 := (Rect.mem_set_unit (inb := inb)).mp hm a
  omega

/-- A block written one head of key lanes at a time, at a lane of head `h`. -/
theorem canon_k {e : EltTy} (P : Fin 4 → S64x128.Idx → Elt F e) (h : Fin 4) (r : Fin 64) (d : Fin 128) :
    View.canon (Val := Elt F) (⟨Rect.unit ![0, 384] ![64, 128] inb_S64x512_S64x128_0_384, P 3⟩ ::
      ⟨Rect.unit ![0, 256] ![64, 128] inb_S64x512_S64x128_0_256, P 2⟩ ::
      ⟨Rect.unit ![0, 128] ![64, 128] inb_S64x512_S64x128_0_128, P 1⟩ ::
      ⟨Rect.unit ![0, 0] ![64, 128] inb_S64x512_S64x128_0_0, P 0⟩ :: []) (ix2 r (kl h d)) = P h (ix2 r d) := by
  have hd := d.isLt
  fin_cases h
  · rw [canon_miss _ _ _ _ 1 (by simp <;> omega)]; rw [canon_miss _ _ _ _ 1 (by simp <;> omega)]; rw [canon_miss _ _ _ _ 1 (by simp <;> omega)]; exact canon_hit (s := S64x512) (off := ![0, 0]) (size := ![64, 128]) inb_S64x512_S64x128_0_0 (P 0) _ _ (ix2 r d) (by intro a; fin_cases a <;> simp)
  · rw [canon_miss _ _ _ _ 1 (by simp <;> omega)]; rw [canon_miss _ _ _ _ 1 (by simp <;> omega)]; exact canon_hit (s := S64x512) (off := ![0, 128]) (size := ![64, 128]) inb_S64x512_S64x128_0_128 (P 1) _ _ (ix2 r d) (by intro a; fin_cases a <;> simp)
  · rw [canon_miss _ _ _ _ 1 (by simp <;> omega)]; exact canon_hit (s := S64x512) (off := ![0, 256]) (size := ![64, 128]) inb_S64x512_S64x128_0_256 (P 2) _ _ (ix2 r d) (by intro a; fin_cases a <;> simp)
  · exact canon_hit (s := S64x512) (off := ![0, 384]) (size := ![64, 128]) inb_S64x512_S64x128_0_384 (P 3) _ _ (ix2 r d) (by intro a; fin_cases a <;> simp)

/-- A block written one head of value lanes at a time, at a lane of head `h`. -/
theorem canon_v {e : EltTy} (P : Fin 4 → S64x256.Idx → Elt F e) (h : Fin 4) (r : Fin 64) (d : Fin 256) :
    View.canon (Val := Elt F) (⟨Rect.unit ![0, 768] ![64, 256] inb_S64x1024_S64x256_0_768, P 3⟩ ::
      ⟨Rect.unit ![0, 512] ![64, 256] inb_S64x1024_S64x256_0_512, P 2⟩ ::
      ⟨Rect.unit ![0, 256] ![64, 256] inb_S64x1024_S64x256_0_256, P 1⟩ ::
      ⟨Rect.unit ![0, 0] ![64, 256] inb_S64x1024_S64x256_0_0, P 0⟩ :: []) (ix2 r (vl h d)) = P h (ix2 r d) := by
  have hd := d.isLt
  fin_cases h
  · rw [canon_miss _ _ _ _ 1 (by simp <;> omega)]; rw [canon_miss _ _ _ _ 1 (by simp <;> omega)]; rw [canon_miss _ _ _ _ 1 (by simp <;> omega)]; exact canon_hit (s := S64x1024) (off := ![0, 0]) (size := ![64, 256]) inb_S64x1024_S64x256_0_0 (P 0) _ _ (ix2 r d) (by intro a; fin_cases a <;> simp)
  · rw [canon_miss _ _ _ _ 1 (by simp <;> omega)]; rw [canon_miss _ _ _ _ 1 (by simp <;> omega)]; exact canon_hit (s := S64x1024) (off := ![0, 256]) (size := ![64, 256]) inb_S64x1024_S64x256_0_256 (P 1) _ _ (ix2 r d) (by intro a; fin_cases a <;> simp)
  · rw [canon_miss _ _ _ _ 1 (by simp <;> omega)]; exact canon_hit (s := S64x1024) (off := ![0, 512]) (size := ![64, 256]) inb_S64x1024_S64x256_0_512 (P 2) _ _ (ix2 r d) (by intro a; fin_cases a <;> simp)
  · exact canon_hit (s := S64x1024) (off := ![0, 768]) (size := ![64, 256]) inb_S64x1024_S64x256_0_768 (P 3) _ _ (ix2 r d) (by intro a; fin_cases a <;> simp)

/-- The carried scratch written one head at a time, at a place of head `h`. -/
theorem canon_d {e : EltTy} (P : Fin 4 → S1x256x128.Idx → Elt F e) (L : List (View.Piece (Elt F) S4x256x128 e)) (h : Fin 4) (r : Fin 256) (d : Fin 128) :
    View.canon (Val := Elt F) (⟨Rect.unit ![3, 0, 0] ![1, 256, 128] inb_S4x256x128_S1x256x128_3_0_0, P 3⟩ ::
      ⟨Rect.unit ![2, 0, 0] ![1, 256, 128] inb_S4x256x128_S1x256x128_2_0_0, P 2⟩ ::
      ⟨Rect.unit ![1, 0, 0] ![1, 256, 128] inb_S4x256x128_S1x256x128_1_0_0, P 1⟩ ::
      ⟨Rect.unit ![0, 0, 0] ![1, 256, 128] inb_S4x256x128_S1x256x128_0_0_0, P 0⟩ :: L) (ix3 h r d) = P h (ix3 0 r d) := by
  have hd := d.isLt
  fin_cases h
  · rw [canon_miss _ _ _ _ 0 (by simp <;> omega)]; rw [canon_miss _ _ _ _ 0 (by simp <;> omega)]; rw [canon_miss _ _ _ _ 0 (by simp <;> omega)]; exact canon_hit (s := S4x256x128) (off := ![0, 0, 0]) (size := ![1, 256, 128]) inb_S4x256x128_S1x256x128_0_0_0 (P 0) _ _ (ix3 0 r d) (by intro a; fin_cases a <;> simp)
  · rw [canon_miss _ _ _ _ 0 (by simp <;> omega)]; rw [canon_miss _ _ _ _ 0 (by simp <;> omega)]; exact canon_hit (s := S4x256x128) (off := ![1, 0, 0]) (size := ![1, 256, 128]) inb_S4x256x128_S1x256x128_1_0_0 (P 1) _ _ (ix3 0 r d) (by intro a; fin_cases a <;> simp)
  · rw [canon_miss _ _ _ _ 0 (by simp <;> omega)]; exact canon_hit (s := S4x256x128) (off := ![2, 0, 0]) (size := ![1, 256, 128]) inb_S4x256x128_S1x256x128_2_0_0 (P 2) _ _ (ix3 0 r d) (by intro a; fin_cases a <;> simp)
  · exact canon_hit (s := S4x256x128) (off := ![3, 0, 0]) (size := ![1, 256, 128]) inb_S4x256x128_S1x256x128_3_0_0 (P 3) _ _ (ix3 0 r d) (by intro a; fin_cases a <;> simp)

end Cert.Gla

end
-- ==== Proof.Pieces.lean ====
/- What a grid point of the backward recurrence leaves in each output and in the carried scratch: the four heads' pieces. -/
module

public import proofs.«01_k».proof.Proof.Gen.KernelIdeal.Value
public import proofs.«01_k».proof.Proof.Head
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gla

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

set_option maxHeartbeats 1000000 in
/-- The queries' cotangent at a later point. -/
theorem openB6 (c : Dev nD) (t : Fin cfg0.N) (h0 : ¬t.val % 66 = 0) (y : _) :
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) y = View.canon [⟨Rect.unit ![0, 384] ![64, 128] inb_S64x512_S64x128_0_384, (truncf .bf16 (outQ (View.ld (X0_1 m c t) (Rect.unit ![0, 384] ![64, 128] inb_S64x512_S64x128_0_384)) (View.ld (iblk m c 3 t) (Rect.unit ![0, 384] ![64, 128] inb_S64x512_S64x128_0_384)) (View.ld (X0_2 m c t) (Rect.unit ![0, 768] ![64, 256] inb_S64x1024_S64x256_0_768)) (View.ld (iblk m c 5 t) (Rect.unit ![0, 768] ![64, 256] inb_S64x1024_S64x256_0_768)) (shapeCast S256x128 (View.ld (iblk m c 4 t) (Rect.unit ![3, 0, 0, 0] ![1, 1, 256, 128] inb_S4x1x256x128_S1x1x256x128_3_0_0_0)) shapeCasts_S1x1x256x128_S256x128)) bitsLt_bf16_f32)⟩,
    ⟨Rect.unit ![0, 256] ![64, 128] inb_S64x512_S64x128_0_256, (truncf .bf16 (outQ (View.ld (X0_1 m c t) (Rect.unit ![0, 256] ![64, 128] inb_S64x512_S64x128_0_256)) (View.ld (iblk m c 3 t) (Rect.unit ![0, 256] ![64, 128] inb_S64x512_S64x128_0_256)) (View.ld (X0_2 m c t) (Rect.unit ![0, 512] ![64, 256] inb_S64x1024_S64x256_0_512)) (View.ld (iblk m c 5 t) (Rect.unit ![0, 512] ![64, 256] inb_S64x1024_S64x256_0_512)) (shapeCast S256x128 (View.ld (iblk m c 4 t) (Rect.unit ![2, 0, 0, 0] ![1, 1, 256, 128] inb_S4x1x256x128_S1x1x256x128_2_0_0_0)) shapeCasts_S1x1x256x128_S256x128)) bitsLt_bf16_f32)⟩,
    ⟨Rect.unit ![0, 128] ![64, 128] inb_S64x512_S64x128_0_128, (truncf .bf16 (outQ (View.ld (X0_1 m c t) (Rect.unit ![0, 128] ![64, 128] inb_S64x512_S64x128_0_128)) (View.ld (iblk m c 3 t) (Rect.unit ![0, 128] ![64, 128] inb_S64x512_S64x128_0_128)) (View.ld (X0_2 m c t) (Rect.unit ![0, 256] ![64, 256] inb_S64x1024_S64x256_0_256)) (View.ld (iblk m c 5 t) (Rect.unit ![0, 256] ![64, 256] inb_S64x1024_S64x256_0_256)) (shapeCast S256x128 (View.ld (iblk m c 4 t) (Rect.unit ![1, 0, 0, 0] ![1, 1, 256, 128] inb_S4x1x256x128_S1x1x256x128_1_0_0_0)) shapeCasts_S1x1x256x128_S256x128)) bitsLt_bf16_f32)⟩,
    ⟨Rect.unit ![0, 0] ![64, 128] inb_S64x512_S64x128_0_0, (truncf .bf16 (outQ (View.ld (X0_1 m c t) (Rect.unit ![0, 0] ![64, 128] inb_S64x512_S64x128_0_0)) (View.ld (iblk m c 3 t) (Rect.unit ![0, 0] ![64, 128] inb_S64x512_S64x128_0_0)) (View.ld (X0_2 m c t) (Rect.unit ![0, 0] ![64, 256] inb_S64x1024_S64x256_0_0)) (View.ld (iblk m c 5 t) (Rect.unit ![0, 0] ![64, 256] inb_S64x1024_S64x256_0_0)) (shapeCast S256x128 (View.ld (iblk m c 4 t) (Rect.unit ![0, 0, 0, 0] ![1, 1, 256, 128] inb_S4x1x256x128_S1x1x256x128_0_0_0_0)) shapeCasts_S1x1x256x128_S256x128)) bitsLt_bf16_f32)⟩] y := by
  frame_open
  simp (disch := decide) only [↓ View.readCov_skip, ↓ View.readCov_cons_toLoadRect, ↓ View.readCov_fill]
  frame_out
  try simp only [read_unread_whole]
  rfl

set_option maxHeartbeats 1000000 in
/-- The keys' cotangent at a later point. -/
theorem openB7 (c : Dev nD) (t : Fin cfg0.N) (h0 : ¬t.val % 66 = 0) (y : _) :
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) y = View.canon [⟨Rect.unit ![0, 384] ![64, 128] inb_S64x512_S64x128_0_384, (truncf .bf16 (outK (View.ld (X0_0 m c t) (Rect.unit ![0, 384] ![64, 128] inb_S64x512_S64x128_0_384)) (View.ld (iblk m c 3 t) (Rect.unit ![0, 384] ![64, 128] inb_S64x512_S64x128_0_384)) (View.ld (X0_2 m c t) (Rect.unit ![0, 768] ![64, 256] inb_S64x1024_S64x256_0_768)) (View.ld (iblk m c 5 t) (Rect.unit ![0, 768] ![64, 256] inb_S64x1024_S64x256_0_768)) (shapeCast S256x128 (View.ld (Val := Elt F) (e' := .f32) (outsAt0 m c (t.val - 1) (Nat.lt_of_le_of_lt (Nat.sub_le _ _) t.isLt)).2.2.2.2 (Rect.unit ![3, 0, 0] ![1, 256, 128] inb_S4x256x128_S1x256x128_3_0_0)) shapeCasts_S1x256x128_S256x128)) bitsLt_bf16_f32)⟩,
    ⟨Rect.unit ![0, 256] ![64, 128] inb_S64x512_S64x128_0_256, (truncf .bf16 (outK (View.ld (X0_0 m c t) (Rect.unit ![0, 256] ![64, 128] inb_S64x512_S64x128_0_256)) (View.ld (iblk m c 3 t) (Rect.unit ![0, 256] ![64, 128] inb_S64x512_S64x128_0_256)) (View.ld (X0_2 m c t) (Rect.unit ![0, 512] ![64, 256] inb_S64x1024_S64x256_0_512)) (View.ld (iblk m c 5 t) (Rect.unit ![0, 512] ![64, 256] inb_S64x1024_S64x256_0_512)) (shapeCast S256x128 (View.ld (Val := Elt F) (e' := .f32) (outsAt0 m c (t.val - 1) (Nat.lt_of_le_of_lt (Nat.sub_le _ _) t.isLt)).2.2.2.2 (Rect.unit ![2, 0, 0] ![1, 256, 128] inb_S4x256x128_S1x256x128_2_0_0)) shapeCasts_S1x256x128_S256x128)) bitsLt_bf16_f32)⟩,
    ⟨Rect.unit ![0, 128] ![64, 128] inb_S64x512_S64x128_0_128, (truncf .bf16 (outK (View.ld (X0_0 m c t) (Rect.unit ![0, 128] ![64, 128] inb_S64x512_S64x128_0_128)) (View.ld (iblk m c 3 t) (Rect.unit ![0, 128] ![64, 128] inb_S64x512_S64x128_0_128)) (View.ld (X0_2 m c t) (Rect.unit ![0, 256] ![64, 256] inb_S64x1024_S64x256_0_256)) (View.ld (iblk m c 5 t) (Rect.unit ![0, 256] ![64, 256] inb_S64x1024_S64x256_0_256)) (shapeCast S256x128 (View.ld (Val := Elt F) (e' := .f32) (outsAt0 m c (t.val - 1) (Nat.lt_of_le_of_lt (Nat.sub_le _ _) t.isLt)).2.2.2.2 (Rect.unit ![1, 0, 0] ![1, 256, 128] inb_S4x256x128_S1x256x128_1_0_0)) shapeCasts_S1x256x128_S256x128)) bitsLt_bf16_f32)⟩,
    ⟨Rect.unit ![0, 0] ![64, 128] inb_S64x512_S64x128_0_0, (truncf .bf16 (outK (View.ld (X0_0 m c t) (Rect.unit ![0, 0] ![64, 128] inb_S64x512_S64x128_0_0)) (View.ld (iblk m c 3 t) (Rect.unit ![0, 0] ![64, 128] inb_S64x512_S64x128_0_0)) (View.ld (X0_2 m c t) (Rect.unit ![0, 0] ![64, 256] inb_S64x1024_S64x256_0_0)) (View.ld (iblk m c 5 t) (Rect.unit ![0, 0] ![64, 256] inb_S64x1024_S64x256_0_0)) (shapeCast S256x128 (View.ld (Val := Elt F) (e' := .f32) (outsAt0 m c (t.val - 1) (Nat.lt_of_le_of_lt (Nat.sub_le _ _) t.isLt)).2.2.2.2 (Rect.unit ![0, 0, 0] ![1, 256, 128] inb_S4x256x128_S1x256x128_0_0_0)) shapeCasts_S1x256x128_S256x128)) bitsLt_bf16_f32)⟩] y := by
  frame_open
  simp (disch := decide) only [↓ View.readCov_skip, ↓ View.readCov_cons_toLoadRect, ↓ View.readCov_fill]
  frame_out
  try simp only [read_unread_whole]
  rfl

set_option maxHeartbeats 1000000 in
/-- The values' cotangent at a later point. -/
theorem openB8 (c : Dev nD) (t : Fin cfg0.N) (h0 : ¬t.val % 66 = 0) (y : _) :
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) y = View.canon [⟨Rect.unit ![0, 768] ![64, 256] inb_S64x1024_S64x256_0_768, (truncf .bf16 (outV (View.ld (X0_0 m c t) (Rect.unit ![0, 384] ![64, 128] inb_S64x512_S64x128_0_384)) (View.ld (X0_1 m c t) (Rect.unit ![0, 384] ![64, 128] inb_S64x512_S64x128_0_384)) (View.ld (iblk m c 3 t) (Rect.unit ![0, 384] ![64, 128] inb_S64x512_S64x128_0_384)) (View.ld (iblk m c 5 t) (Rect.unit ![0, 768] ![64, 256] inb_S64x1024_S64x256_0_768)) (shapeCast S256x128 (View.ld (Val := Elt F) (e' := .f32) (outsAt0 m c (t.val - 1) (Nat.lt_of_le_of_lt (Nat.sub_le _ _) t.isLt)).2.2.2.2 (Rect.unit ![3, 0, 0] ![1, 256, 128] inb_S4x256x128_S1x256x128_3_0_0)) shapeCasts_S1x256x128_S256x128)) bitsLt_bf16_f32)⟩,
    ⟨Rect.unit ![0, 512] ![64, 256] inb_S64x1024_S64x256_0_512, (truncf .bf16 (outV (View.ld (X0_0 m c t) (Rect.unit ![0, 256] ![64, 128] inb_S64x512_S64x128_0_256)) (View.ld (X0_1 m c t) (Rect.unit ![0, 256] ![64, 128] inb_S64x512_S64x128_0_256)) (View.ld (iblk m c 3 t) (Rect.unit ![0, 256] ![64, 128] inb_S64x512_S64x128_0_256)) (View.ld (iblk m c 5 t) (Rect.unit ![0, 512] ![64, 256] inb_S64x1024_S64x256_0_512)) (shapeCast S256x128 (View.ld (Val := Elt F) (e' := .f32) (outsAt0 m c (t.val - 1) (Nat.lt_of_le_of_lt (Nat.sub_le _ _) t.isLt)).2.2.2.2 (Rect.unit ![2, 0, 0] ![1, 256, 128] inb_S4x256x128_S1x256x128_2_0_0)) shapeCasts_S1x256x128_S256x128)) bitsLt_bf16_f32)⟩,
    ⟨Rect.unit ![0, 256] ![64, 256] inb_S64x1024_S64x256_0_256, (truncf .bf16 (outV (View.ld (X0_0 m c t) (Rect.unit ![0, 128] ![64, 128] inb_S64x512_S64x128_0_128)) (View.ld (X0_1 m c t) (Rect.unit ![0, 128] ![64, 128] inb_S64x512_S64x128_0_128)) (View.ld (iblk m c 3 t) (Rect.unit ![0, 128] ![64, 128] inb_S64x512_S64x128_0_128)) (View.ld (iblk m c 5 t) (Rect.unit ![0, 256] ![64, 256] inb_S64x1024_S64x256_0_256)) (shapeCast S256x128 (View.ld (Val := Elt F) (e' := .f32) (outsAt0 m c (t.val - 1) (Nat.lt_of_le_of_lt (Nat.sub_le _ _) t.isLt)).2.2.2.2 (Rect.unit ![1, 0, 0] ![1, 256, 128] inb_S4x256x128_S1x256x128_1_0_0)) shapeCasts_S1x256x128_S256x128)) bitsLt_bf16_f32)⟩,
    ⟨Rect.unit ![0, 0] ![64, 256] inb_S64x1024_S64x256_0_0, (truncf .bf16 (outV (View.ld (X0_0 m c t) (Rect.unit ![0, 0] ![64, 128] inb_S64x512_S64x128_0_0)) (View.ld (X0_1 m c t) (Rect.unit ![0, 0] ![64, 128] inb_S64x512_S64x128_0_0)) (View.ld (iblk m c 3 t) (Rect.unit ![0, 0] ![64, 128] inb_S64x512_S64x128_0_0)) (View.ld (iblk m c 5 t) (Rect.unit ![0, 0] ![64, 256] inb_S64x1024_S64x256_0_0)) (shapeCast S256x128 (View.ld (Val := Elt F) (e' := .f32) (outsAt0 m c (t.val - 1) (Nat.lt_of_le_of_lt (Nat.sub_le _ _) t.isLt)).2.2.2.2 (Rect.unit ![0, 0, 0] ![1, 256, 128] inb_S4x256x128_S1x256x128_0_0_0)) shapeCasts_S1x256x128_S256x128)) bitsLt_bf16_f32)⟩] y := by
  frame_open
  simp (disch := decide) only [↓ View.readCov_skip, ↓ View.readCov_cons_toLoadRect, ↓ View.readCov_fill]
  frame_out
  try simp only [read_unread_whole]
  rfl

set_option maxHeartbeats 1000000 in
/-- The log-decays' cotangent at a later point. -/
theorem openB9 (c : Dev nD) (t : Fin cfg0.N) (h0 : ¬t.val % 66 = 0) (y : _) :
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) y = View.canon [⟨Rect.unit ![0, 384] ![64, 128] inb_S64x512_S64x128_0_384, (outG (View.ld (X0_0 m c t) (Rect.unit ![0, 384] ![64, 128] inb_S64x512_S64x128_0_384)) (View.ld (X0_1 m c t) (Rect.unit ![0, 384] ![64, 128] inb_S64x512_S64x128_0_384)) (View.ld (iblk m c 3 t) (Rect.unit ![0, 384] ![64, 128] inb_S64x512_S64x128_0_384)) (View.ld (X0_2 m c t) (Rect.unit ![0, 768] ![64, 256] inb_S64x1024_S64x256_0_768)) (View.ld (iblk m c 5 t) (Rect.unit ![0, 768] ![64, 256] inb_S64x1024_S64x256_0_768)) (shapeCast S256x128 (View.ld (iblk m c 4 t) (Rect.unit ![3, 0, 0, 0] ![1, 1, 256, 128] inb_S4x1x256x128_S1x1x256x128_3_0_0_0)) shapeCasts_S1x1x256x128_S256x128) (shapeCast S256x128 (View.ld (Val := Elt F) (e' := .f32) (outsAt0 m c (t.val - 1) (Nat.lt_of_le_of_lt (Nat.sub_le _ _) t.isLt)).2.2.2.2 (Rect.unit ![3, 0, 0] ![1, 256, 128] inb_S4x256x128_S1x256x128_3_0_0)) shapeCasts_S1x256x128_S256x128))⟩,
    ⟨Rect.unit ![0, 256] ![64, 128] inb_S64x512_S64x128_0_256, (outG (View.ld (X0_0 m c t) (Rect.unit ![0, 256] ![64, 128] inb_S64x512_S64x128_0_256)) (View.ld (X0_1 m c t) (Rect.unit ![0, 256] ![64, 128] inb_S64x512_S64x128_0_256)) (View.ld (iblk m c 3 t) (Rect.unit ![0, 256] ![64, 128] inb_S64x512_S64x128_0_256)) (View.ld (X0_2 m c t) (Rect.unit ![0, 512] ![64, 256] inb_S64x1024_S64x256_0_512)) (View.ld (iblk m c 5 t) (Rect.unit ![0, 512] ![64, 256] inb_S64x1024_S64x256_0_512)) (shapeCast S256x128 (View.ld (iblk m c 4 t) (Rect.unit ![2, 0, 0, 0] ![1, 1, 256, 128] inb_S4x1x256x128_S1x1x256x128_2_0_0_0)) shapeCasts_S1x1x256x128_S256x128) (shapeCast S256x128 (View.ld (Val := Elt F) (e' := .f32) (outsAt0 m c (t.val - 1) (Nat.lt_of_le_of_lt (Nat.sub_le _ _) t.isLt)).2.2.2.2 (Rect.unit ![2, 0, 0] ![1, 256, 128] inb_S4x256x128_S1x256x128_2_0_0)) shapeCasts_S1x256x128_S256x128))⟩,
    ⟨Rect.unit ![0, 128] ![64, 128] inb_S64x512_S64x128_0_128, (outG (View.ld (X0_0 m c t) (Rect.unit ![0, 128] ![64, 128] inb_S64x512_S64x128_0_128)) (View.ld (X0_1 m c t) (Rect.unit ![0, 128] ![64, 128] inb_S64x512_S64x128_0_128)) (View.ld (iblk m c 3 t) (Rect.unit ![0, 128] ![64, 128] inb_S64x512_S64x128_0_128)) (View.ld (X0_2 m c t) (Rect.unit ![0, 256] ![64, 256] inb_S64x1024_S64x256_0_256)) (View.ld (iblk m c 5 t) (Rect.unit ![0, 256] ![64, 256] inb_S64x1024_S64x256_0_256)) (shapeCast S256x128 (View.ld (iblk m c 4 t) (Rect.unit ![1, 0, 0, 0] ![1, 1, 256, 128] inb_S4x1x256x128_S1x1x256x128_1_0_0_0)) shapeCasts_S1x1x256x128_S256x128) (shapeCast S256x128 (View.ld (Val := Elt F) (e' := .f32) (outsAt0 m c (t.val - 1) (Nat.lt_of_le_of_lt (Nat.sub_le _ _) t.isLt)).2.2.2.2 (Rect.unit ![1, 0, 0] ![1, 256, 128] inb_S4x256x128_S1x256x128_1_0_0)) shapeCasts_S1x256x128_S256x128))⟩,
    ⟨Rect.unit ![0, 0] ![64, 128] inb_S64x512_S64x128_0_0, (outG (View.ld (X0_0 m c t) (Rect.unit ![0, 0] ![64, 128] inb_S64x512_S64x128_0_0)) (View.ld (X0_1 m c t) (Rect.unit ![0, 0] ![64, 128] inb_S64x512_S64x128_0_0)) (View.ld (iblk m c 3 t) (Rect.unit ![0, 0] ![64, 128] inb_S64x512_S64x128_0_0)) (View.ld (X0_2 m c t) (Rect.unit ![0, 0] ![64, 256] inb_S64x1024_S64x256_0_0)) (View.ld (iblk m c 5 t) (Rect.unit ![0, 0] ![64, 256] inb_S64x1024_S64x256_0_0)) (shapeCast S256x128 (View.ld (iblk m c 4 t) (Rect.unit ![0, 0, 0, 0] ![1, 1, 256, 128] inb_S4x1x256x128_S1x1x256x128_0_0_0_0)) shapeCasts_S1x1x256x128_S256x128) (shapeCast S256x128 (View.ld (Val := Elt F) (e' := .f32) (outsAt0 m c (t.val - 1) (Nat.lt_of_le_of_lt (Nat.sub_le _ _) t.isLt)).2.2.2.2 (Rect.unit ![0, 0, 0] ![1, 256, 128] inb_S4x256x128_S1x256x128_0_0_0)) shapeCasts_S1x256x128_S256x128))⟩] y := by
  frame_open
  simp (disch := decide) only [↓ View.readCov_skip, ↓ View.readCov_cons_toLoadRect, ↓ View.readCov_fill]
  frame_out
  try simp only [read_unread_whole]
  rfl

set_option maxHeartbeats 1000000 in
/-- The cotangent of the state that enters the chunk at a later point. -/
theorem openB10 (c : Dev nD) (t : Fin cfg0.N) (h0 : ¬t.val % 66 = 0) (y : _) :
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) y = View.canon [⟨Rect.unit ![3, 0, 0] ![1, 256, 128] inb_S4x256x128_S1x256x128_3_0_0, shapeCast S1x256x128 (outS (View.ld (X0_0 m c t) (Rect.unit ![0, 384] ![64, 128] inb_S64x512_S64x128_0_384)) (View.ld (iblk m c 3 t) (Rect.unit ![0, 384] ![64, 128] inb_S64x512_S64x128_0_384)) (View.ld (iblk m c 5 t) (Rect.unit ![0, 768] ![64, 256] inb_S64x1024_S64x256_0_768)) (shapeCast S256x128 (View.ld (Val := Elt F) (e' := .f32) (outsAt0 m c (t.val - 1) (Nat.lt_of_le_of_lt (Nat.sub_le _ _) t.isLt)).2.2.2.2 (Rect.unit ![3, 0, 0] ![1, 256, 128] inb_S4x256x128_S1x256x128_3_0_0)) shapeCasts_S1x256x128_S256x128)) shapeCasts_S256x128_S1x256x128⟩,
    ⟨Rect.unit ![2, 0, 0] ![1, 256, 128] inb_S4x256x128_S1x256x128_2_0_0, shapeCast S1x256x128 (outS (View.ld (X0_0 m c t) (Rect.unit ![0, 256] ![64, 128] inb_S64x512_S64x128_0_256)) (View.ld (iblk m c 3 t) (Rect.unit ![0, 256] ![64, 128] inb_S64x512_S64x128_0_256)) (View.ld (iblk m c 5 t) (Rect.unit ![0, 512] ![64, 256] inb_S64x1024_S64x256_0_512)) (shapeCast S256x128 (View.ld (Val := Elt F) (e' := .f32) (outsAt0 m c (t.val - 1) (Nat.lt_of_le_of_lt (Nat.sub_le _ _) t.isLt)).2.2.2.2 (Rect.unit ![2, 0, 0] ![1, 256, 128] inb_S4x256x128_S1x256x128_2_0_0)) shapeCasts_S1x256x128_S256x128)) shapeCasts_S256x128_S1x256x128⟩,
    ⟨Rect.unit ![1, 0, 0] ![1, 256, 128] inb_S4x256x128_S1x256x128_1_0_0, shapeCast S1x256x128 (outS (View.ld (X0_0 m c t) (Rect.unit ![0, 128] ![64, 128] inb_S64x512_S64x128_0_128)) (View.ld (iblk m c 3 t) (Rect.unit ![0, 128] ![64, 128] inb_S64x512_S64x128_0_128)) (View.ld (iblk m c 5 t) (Rect.unit ![0, 256] ![64, 256] inb_S64x1024_S64x256_0_256)) (shapeCast S256x128 (View.ld (Val := Elt F) (e' := .f32) (outsAt0 m c (t.val - 1) (Nat.lt_of_le_of_lt (Nat.sub_le _ _) t.isLt)).2.2.2.2 (Rect.unit ![1, 0, 0] ![1, 256, 128] inb_S4x256x128_S1x256x128_1_0_0)) shapeCasts_S1x256x128_S256x128)) shapeCasts_S256x128_S1x256x128⟩,
    ⟨Rect.unit ![0, 0, 0] ![1, 256, 128] inb_S4x256x128_S1x256x128_0_0_0, shapeCast S1x256x128 (outS (View.ld (X0_0 m c t) (Rect.unit ![0, 0] ![64, 128] inb_S64x512_S64x128_0_0)) (View.ld (iblk m c 3 t) (Rect.unit ![0, 0] ![64, 128] inb_S64x512_S64x128_0_0)) (View.ld (iblk m c 5 t) (Rect.unit ![0, 0] ![64, 256] inb_S64x1024_S64x256_0_0)) (shapeCast S256x128 (View.ld (Val := Elt F) (e' := .f32) (outsAt0 m c (t.val - 1) (Nat.lt_of_le_of_lt (Nat.sub_le _ _) t.isLt)).2.2.2.2 (Rect.unit ![0, 0, 0] ![1, 256, 128] inb_S4x256x128_S1x256x128_0_0_0)) shapeCasts_S1x256x128_S256x128)) shapeCasts_S256x128_S1x256x128⟩] y := by
  frame_open
  simp (disch := decide) only [↓ View.readCov_skip, ↓ View.readCov_cons_toLoadRect, ↓ View.readCov_fill]
  frame_out
  try simp only [read_unread_whole]
  rfl

set_option maxHeartbeats 1000000 in
/-- The queries' cotangent at the first point. -/
theorem openA6 (c : Dev nD) (t : Fin cfg0.N) (h0 : t.val % 66 = 0) (y : _) :
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 m c t) (X0_1 m c t) (X0_2 m c t) (iblk m c 3 t) (iblk m c 4 t) (iblk m c 5 t)) y = View.canon [⟨Rect.unit ![0, 384] ![64, 128] inb_S64x512_S64x128_0_384, (truncf .bf16 (outQ (View.ld (X0_1 m c t) (Rect.unit ![0, 384] ![64, 128] inb_S64x512_S64x128_0_384)) (View.ld (iblk m c 3 t) (Rect.unit ![0, 384] ![64, 128] inb_S64x512_S64x128_0_384)) (View.ld (X0_2 m c t) (Rect.unit ![0, 768] ![64, 256] inb_S64x1024_S64x256_0_768)) (View.ld (iblk m c 5 t) (Rect.unit ![0, 768] ![64, 256] inb_S64x1024_S64x256_0_768)) (shapeCast S256x128 (View.ld (iblk m c 4 t) (Rect.unit ![3, 0, 0, 0] ![1, 1, 256, 128] inb_S4x1x256x128_S1x1x256x128_3_0_0_0)) shapeCasts_S1x1x256x128_S256x128)) bitsLt_bf16_f32)⟩,
    ⟨Rect.unit ![0, 256] ![64, 128] inb_S64x512_S64x128_0_256, (truncf .bf16 (outQ (View.ld (X0_1 m c t) (Rect.unit ![0, 256] ![64, 128] inb_S64x512_S64x128_0_256)) (View.ld (iblk m c 3 t) (Rect.unit ![0, 256] ![64, 128] inb_S64x512_S64x128_0_256)) (View.ld (X0_2 m c t) (Rect.unit ![0, 512] ![64, 256] inb_S64x1024_S64x256_0_512)) (View.ld (iblk m c 5 t) (Rect.unit ![0, 512] ![64, 256] inb_S64x1024_S64x256_0_512)) (shapeCast S256x128 (View.ld (iblk m c 4 t) (Rect.unit ![2, 0, 0, 0] ![1, 1, 256, 128] inb_S4x1x256x128_S1x1x256x128_2_0_0_0)) shapeCasts_S1x1x256x128_S256x128)) bitsLt_bf16_f32)⟩,
    ⟨Rect.unit ![0, 128] ![64, 128] inb_S64x512_S64x128_0_128, (truncf .bf16 (outQ (View.ld (X0_1 m c t) (Rect.unit ![0, 128] ![64, 128] inb_S64x512_S64x128_0_128)) (View.ld (iblk m c 3 t) (Rect.unit ![0, 128] ![64, 128] inb_S64x512_S64x128_0_128)) (View.ld (X0_2 m c t) (Rect.unit ![0, 256] ![64, 256] inb_S64x1024_S64x256_0_256)) (View.ld (iblk m c 5 t) (Rect.unit ![0, 256] ![64, 256] inb_S64x1024_S64x256_0_256)) (shapeCast S256x128 (View.ld (iblk m c 4 t) (Rect.unit ![1, 0, 0, 0] ![1, 1, 256, 128] inb_S4x1x256x128_S1x1x256x128_1_0_0_0)) shapeCasts_S1x1x256x128_S256x128)) bitsLt_bf16_f32)⟩,
    ⟨Rect.unit ![0, 0] ![64, 128] inb_S64x512_S64x128_0_0, (truncf .bf16 (outQ (View.ld (X0_1 m c t) (Rect.unit ![0, 0] ![64, 128] inb_S64x512_S64x128_0_0)) (View.ld (iblk m c 3 t) (Rect.unit ![0, 0] ![64, 128] inb_S64x512_S64x128_0_0)) (View.ld (X0_2 m c t) (Rect.unit ![0, 0] ![64, 256] inb_S64x1024_S64x256_0_0)) (View.ld (iblk m c 5 t) (Rect.unit ![0, 0] ![64, 256] inb_S64x1024_S64x256_0_0)) (shapeCast S256x128 (View.ld (iblk m c 4 t) (Rect.unit ![0, 0, 0, 0] ![1, 1, 256, 128] inb_S4x1x256x128_S1x1x256x128_0_0_0_0)) shapeCasts_S1x1x256x128_S256x128)) bitsLt_bf16_f32)⟩] y := by
  frame_open
  simp (disch := decide) only [↓ View.readCov_skip, ↓ View.readCov_cons_toLoadRect, ↓ View.readCov_fill]
  frame_out
  rfl

set_option maxHeartbeats 1000000 in
/-- The keys' cotangent at the first point. -/
theorem openA7 (c : Dev nD) (t : Fin cfg0.N) (h0 : t.val % 66 = 0) (y : _) :
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 m c t) (X0_1 m c t) (X0_2 m c t) (iblk m c 3 t) (iblk m c 4 t) (iblk m c 5 t)) y = View.canon [⟨Rect.unit ![0, 384] ![64, 128] inb_S64x512_S64x128_0_384, (truncf .bf16 (outK (View.ld (X0_0 m c t) (Rect.unit ![0, 384] ![64, 128] inb_S64x512_S64x128_0_384)) (View.ld (iblk m c 3 t) (Rect.unit ![0, 384] ![64, 128] inb_S64x512_S64x128_0_384)) (View.ld (X0_2 m c t) (Rect.unit ![0, 768] ![64, 256] inb_S64x1024_S64x256_0_768)) (View.ld (iblk m c 5 t) (Rect.unit ![0, 768] ![64, 256] inb_S64x1024_S64x256_0_768)) (shapeCast S256x128 (View.ld (Val := Elt F) (e' := .f32) (k0_pay6 (F := F)) (Rect.unit ![3, 0, 0] ![1, 256, 128] inb_S4x256x128_S1x256x128_3_0_0)) shapeCasts_S1x256x128_S256x128)) bitsLt_bf16_f32)⟩,
    ⟨Rect.unit ![0, 256] ![64, 128] inb_S64x512_S64x128_0_256, (truncf .bf16 (outK (View.ld (X0_0 m c t) (Rect.unit ![0, 256] ![64, 128] inb_S64x512_S64x128_0_256)) (View.ld (iblk m c 3 t) (Rect.unit ![0, 256] ![64, 128] inb_S64x512_S64x128_0_256)) (View.ld (X0_2 m c t) (Rect.unit ![0, 512] ![64, 256] inb_S64x1024_S64x256_0_512)) (View.ld (iblk m c 5 t) (Rect.unit ![0, 512] ![64, 256] inb_S64x1024_S64x256_0_512)) (shapeCast S256x128 (View.ld (Val := Elt F) (e' := .f32) (k0_pay6 (F := F)) (Rect.unit ![2, 0, 0] ![1, 256, 128] inb_S4x256x128_S1x256x128_2_0_0)) shapeCasts_S1x256x128_S256x128)) bitsLt_bf16_f32)⟩,
    ⟨Rect.unit ![0, 128] ![64, 128] inb_S64x512_S64x128_0_128, (truncf .bf16 (outK (View.ld (X0_0 m c t) (Rect.unit ![0, 128] ![64, 128] inb_S64x512_S64x128_0_128)) (View.ld (iblk m c 3 t) (Rect.unit ![0, 128] ![64, 128] inb_S64x512_S64x128_0_128)) (View.ld (X0_2 m c t) (Rect.unit ![0, 256] ![64, 256] inb_S64x1024_S64x256_0_256)) (View.ld (iblk m c 5 t) (Rect.unit ![0, 256] ![64, 256] inb_S64x1024_S64x256_0_256)) (shapeCast S256x128 (View.ld (Val := Elt F) (e' := .f32) (k0_pay6 (F := F)) (Rect.unit ![1, 0, 0] ![1, 256, 128] inb_S4x256x128_S1x256x128_1_0_0)) shapeCasts_S1x256x128_S256x128)) bitsLt_bf16_f32)⟩,
    ⟨Rect.unit ![0, 0] ![64, 128] inb_S64x512_S64x128_0_0, (truncf .bf16 (outK (View.ld (X0_0 m c t) (Rect.unit ![0, 0] ![64, 128] inb_S64x512_S64x128_0_0)) (View.ld (iblk m c 3 t) (Rect.unit ![0, 0] ![64, 128] inb_S64x512_S64x128_0_0)) (View.ld (X0_2 m c t) (Rect.unit ![0, 0] ![64, 256] inb_S64x1024_S64x256_0_0)) (View.ld (iblk m c 5 t) (Rect.unit ![0, 0] ![64, 256] inb_S64x1024_S64x256_0_0)) (shapeCast S256x128 (View.ld (Val := Elt F) (e' := .f32) (k0_pay6 (F := F)) (Rect.unit ![0, 0, 0] ![1, 256, 128] inb_S4x256x128_S1x256x128_0_0_0)) shapeCasts_S1x256x128_S256x128)) bitsLt_bf16_f32)⟩] y := by
  frame_open
  simp (disch := decide) only [↓ View.readCov_skip, ↓ View.readCov_cons_toLoadRect, ↓ View.readCov_fill]
  frame_out
  rfl

set_option maxHeartbeats 1000000 in
/-- The values' cotangent at the first point. -/
theorem openA8 (c : Dev nD) (t : Fin cfg0.N) (h0 : t.val % 66 = 0) (y : _) :
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 m c t) (X0_1 m c t) (X0_2 m c t) (iblk m c 3 t) (iblk m c 4 t) (iblk m c 5 t)) y = View.canon [⟨Rect.unit ![0, 768] ![64, 256] inb_S64x1024_S64x256_0_768, (truncf .bf16 (outV (View.ld (X0_0 m c t) (Rect.unit ![0, 384] ![64, 128] inb_S64x512_S64x128_0_384)) (View.ld (X0_1 m c t) (Rect.unit ![0, 384] ![64, 128] inb_S64x512_S64x128_0_384)) (View.ld (iblk m c 3 t) (Rect.unit ![0, 384] ![64, 128] inb_S64x512_S64x128_0_384)) (View.ld (iblk m c 5 t) (Rect.unit ![0, 768] ![64, 256] inb_S64x1024_S64x256_0_768)) (shapeCast S256x128 (View.ld (Val := Elt F) (e' := .f32) (k0_pay6 (F := F)) (Rect.unit ![3, 0, 0] ![1, 256, 128] inb_S4x256x128_S1x256x128_3_0_0)) shapeCasts_S1x256x128_S256x128)) bitsLt_bf16_f32)⟩,
    ⟨Rect.unit ![0, 512] ![64, 256] inb_S64x1024_S64x256_0_512, (truncf .bf16 (outV (View.ld (X0_0 m c t) (Rect.unit ![0, 256] ![64, 128] inb_S64x512_S64x128_0_256)) (View.ld (X0_1 m c t) (Rect.unit ![0, 256] ![64, 128] inb_S64x512_S64x128_0_256)) (View.ld (iblk m c 3 t) (Rect.unit ![0, 256] ![64, 128] inb_S64x512_S64x128_0_256)) (View.ld (iblk m c 5 t) (Rect.unit ![0, 512] ![64, 256] inb_S64x1024_S64x256_0_512)) (shapeCast S256x128 (View.ld (Val := Elt F) (e' := .f32) (k0_pay6 (F := F)) (Rect.unit ![2, 0, 0] ![1, 256, 128] inb_S4x256x128_S1x256x128_2_0_0)) shapeCasts_S1x256x128_S256x128)) bitsLt_bf16_f32)⟩,
    ⟨Rect.unit ![0, 256] ![64, 256] inb_S64x1024_S64x256_0_256, (truncf .bf16 (outV (View.ld (X0_0 m c t) (Rect.unit ![0, 128] ![64, 128] inb_S64x512_S64x128_0_128)) (View.ld (X0_1 m c t) (Rect.unit ![0, 128] ![64, 128] inb_S64x512_S64x128_0_128)) (View.ld (iblk m c 3 t) (Rect.unit ![0, 128] ![64, 128] inb_S64x512_S64x128_0_128)) (View.ld (iblk m c 5 t) (Rect.unit ![0, 256] ![64, 256] inb_S64x1024_S64x256_0_256)) (shapeCast S256x128 (View.ld (Val := Elt F) (e' := .f32) (k0_pay6 (F := F)) (Rect.unit ![1, 0, 0] ![1, 256, 128] inb_S4x256x128_S1x256x128_1_0_0)) shapeCasts_S1x256x128_S256x128)) bitsLt_bf16_f32)⟩,
    ⟨Rect.unit ![0, 0] ![64, 256] inb_S64x1024_S64x256_0_0, (truncf .bf16 (outV (View.ld (X0_0 m c t) (Rect.unit ![0, 0] ![64, 128] inb_S64x512_S64x128_0_0)) (View.ld (X0_1 m c t) (Rect.unit ![0, 0] ![64, 128] inb_S64x512_S64x128_0_0)) (View.ld (iblk m c 3 t) (Rect.unit ![0, 0] ![64, 128] inb_S64x512_S64x128_0_0)) (View.ld (iblk m c 5 t) (Rect.unit ![0, 0] ![64, 256] inb_S64x1024_S64x256_0_0)) (shapeCast S256x128 (View.ld (Val := Elt F) (e' := .f32) (k0_pay6 (F := F)) (Rect.unit ![0, 0, 0] ![1, 256, 128] inb_S4x256x128_S1x256x128_0_0_0)) shapeCasts_S1x256x128_S256x128)) bitsLt_bf16_f32)⟩] y := by
  frame_open
  simp (disch := decide) only [↓ View.readCov_skip, ↓ View.readCov_cons_toLoadRect, ↓ View.readCov_fill]
  frame_out
  rfl

set_option maxHeartbeats 1000000 in
/-- The log-decays' cotangent at the first point. -/
theorem openA9 (c : Dev nD) (t : Fin cfg0.N) (h0 : t.val % 66 = 0) (y : _) :
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 m c t) (X0_1 m c t) (X0_2 m c t) (iblk m c 3 t) (iblk m c 4 t) (iblk m c 5 t)) y = View.canon [⟨Rect.unit ![0, 384] ![64, 128] inb_S64x512_S64x128_0_384, (outG (View.ld (X0_0 m c t) (Rect.unit ![0, 384] ![64, 128] inb_S64x512_S64x128_0_384)) (View.ld (X0_1 m c t) (Rect.unit ![0, 384] ![64, 128] inb_S64x512_S64x128_0_384)) (View.ld (iblk m c 3 t) (Rect.unit ![0, 384] ![64, 128] inb_S64x512_S64x128_0_384)) (View.ld (X0_2 m c t) (Rect.unit ![0, 768] ![64, 256] inb_S64x1024_S64x256_0_768)) (View.ld (iblk m c 5 t) (Rect.unit ![0, 768] ![64, 256] inb_S64x1024_S64x256_0_768)) (shapeCast S256x128 (View.ld (iblk m c 4 t) (Rect.unit ![3, 0, 0, 0] ![1, 1, 256, 128] inb_S4x1x256x128_S1x1x256x128_3_0_0_0)) shapeCasts_S1x1x256x128_S256x128) (shapeCast S256x128 (View.ld (Val := Elt F) (e' := .f32) (k0_pay6 (F := F)) (Rect.unit ![3, 0, 0] ![1, 256, 128] inb_S4x256x128_S1x256x128_3_0_0)) shapeCasts_S1x256x128_S256x128))⟩,
    ⟨Rect.unit ![0, 256] ![64, 128] inb_S64x512_S64x128_0_256, (outG (View.ld (X0_0 m c t) (Rect.unit ![0, 256] ![64, 128] inb_S64x512_S64x128_0_256)) (View.ld (X0_1 m c t) (Rect.unit ![0, 256] ![64, 128] inb_S64x512_S64x128_0_256)) (View.ld (iblk m c 3 t) (Rect.unit ![0, 256] ![64, 128] inb_S64x512_S64x128_0_256)) (View.ld (X0_2 m c t) (Rect.unit ![0, 512] ![64, 256] inb_S64x1024_S64x256_0_512)) (View.ld (iblk m c 5 t) (Rect.unit ![0, 512] ![64, 256] inb_S64x1024_S64x256_0_512)) (shapeCast S256x128 (View.ld (iblk m c 4 t) (Rect.unit ![2, 0, 0, 0] ![1, 1, 256, 128] inb_S4x1x256x128_S1x1x256x128_2_0_0_0)) shapeCasts_S1x1x256x128_S256x128) (shapeCast S256x128 (View.ld (Val := Elt F) (e' := .f32) (k0_pay6 (F := F)) (Rect.unit ![2, 0, 0] ![1, 256, 128] inb_S4x256x128_S1x256x128_2_0_0)) shapeCasts_S1x256x128_S256x128))⟩,
    ⟨Rect.unit ![0, 128] ![64, 128] inb_S64x512_S64x128_0_128, (outG (View.ld (X0_0 m c t) (Rect.unit ![0, 128] ![64, 128] inb_S64x512_S64x128_0_128)) (View.ld (X0_1 m c t) (Rect.unit ![0, 128] ![64, 128] inb_S64x512_S64x128_0_128)) (View.ld (iblk m c 3 t) (Rect.unit ![0, 128] ![64, 128] inb_S64x512_S64x128_0_128)) (View.ld (X0_2 m c t) (Rect.unit ![0, 256] ![64, 256] inb_S64x1024_S64x256_0_256)) (View.ld (iblk m c 5 t) (Rect.unit ![0, 256] ![64, 256] inb_S64x1024_S64x256_0_256)) (shapeCast S256x128 (View.ld (iblk m c 4 t) (Rect.unit ![1, 0, 0, 0] ![1, 1, 256, 128] inb_S4x1x256x128_S1x1x256x128_1_0_0_0)) shapeCasts_S1x1x256x128_S256x128) (shapeCast S256x128 (View.ld (Val := Elt F) (e' := .f32) (k0_pay6 (F := F)) (Rect.unit ![1, 0, 0] ![1, 256, 128] inb_S4x256x128_S1x256x128_1_0_0)) shapeCasts_S1x256x128_S256x128))⟩,
    ⟨Rect.unit ![0, 0] ![64, 128] inb_S64x512_S64x128_0_0, (outG (View.ld (X0_0 m c t) (Rect.unit ![0, 0] ![64, 128] inb_S64x512_S64x128_0_0)) (View.ld (X0_1 m c t) (Rect.unit ![0, 0] ![64, 128] inb_S64x512_S64x128_0_0)) (View.ld (iblk m c 3 t) (Rect.unit ![0, 0] ![64, 128] inb_S64x512_S64x128_0_0)) (View.ld (X0_2 m c t) (Rect.unit ![0, 0] ![64, 256] inb_S64x1024_S64x256_0_0)) (View.ld (iblk m c 5 t) (Rect.unit ![0, 0] ![64, 256] inb_S64x1024_S64x256_0_0)) (shapeCast S256x128 (View.ld (iblk m c 4 t) (Rect.unit ![0, 0, 0, 0] ![1, 1, 256, 128] inb_S4x1x256x128_S1x1x256x128_0_0_0_0)) shapeCasts_S1x1x256x128_S256x128) (shapeCast S256x128 (View.ld (Val := Elt F) (e' := .f32) (k0_pay6 (F := F)) (Rect.unit ![0, 0, 0] ![1, 256, 128] inb_S4x256x128_S1x256x128_0_0_0)) shapeCasts_S1x256x128_S256x128))⟩] y := by
  frame_open
  simp (disch := decide) only [↓ View.readCov_skip, ↓ View.readCov_cons_toLoadRect, ↓ View.readCov_fill]
  frame_out
  rfl

set_option maxHeartbeats 1000000 in
/-- The cotangent of the state that enters the chunk at the first point. -/
theorem openA10 (c : Dev nD) (t : Fin cfg0.N) (h0 : t.val % 66 = 0) (y : _) :
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (X0_0 m c t) (X0_1 m c t) (X0_2 m c t) (iblk m c 3 t) (iblk m c 4 t) (iblk m c 5 t)) y = View.canon [⟨Rect.unit ![3, 0, 0] ![1, 256, 128] inb_S4x256x128_S1x256x128_3_0_0, shapeCast S1x256x128 (outS (View.ld (X0_0 m c t) (Rect.unit ![0, 384] ![64, 128] inb_S64x512_S64x128_0_384)) (View.ld (iblk m c 3 t) (Rect.unit ![0, 384] ![64, 128] inb_S64x512_S64x128_0_384)) (View.ld (iblk m c 5 t) (Rect.unit ![0, 768] ![64, 256] inb_S64x1024_S64x256_0_768)) (shapeCast S256x128 (View.ld (Val := Elt F) (e' := .f32) (k0_pay6 (F := F)) (Rect.unit ![3, 0, 0] ![1, 256, 128] inb_S4x256x128_S1x256x128_3_0_0)) shapeCasts_S1x256x128_S256x128)) shapeCasts_S256x128_S1x256x128⟩,
    ⟨Rect.unit ![2, 0, 0] ![1, 256, 128] inb_S4x256x128_S1x256x128_2_0_0, shapeCast S1x256x128 (outS (View.ld (X0_0 m c t) (Rect.unit ![0, 256] ![64, 128] inb_S64x512_S64x128_0_256)) (View.ld (iblk m c 3 t) (Rect.unit ![0, 256] ![64, 128] inb_S64x512_S64x128_0_256)) (View.ld (iblk m c 5 t) (Rect.unit ![0, 512] ![64, 256] inb_S64x1024_S64x256_0_512)) (shapeCast S256x128 (View.ld (Val := Elt F) (e' := .f32) (k0_pay6 (F := F)) (Rect.unit ![2, 0, 0] ![1, 256, 128] inb_S4x256x128_S1x256x128_2_0_0)) shapeCasts_S1x256x128_S256x128)) shapeCasts_S256x128_S1x256x128⟩,
    ⟨Rect.unit ![1, 0, 0] ![1, 256, 128] inb_S4x256x128_S1x256x128_1_0_0, shapeCast S1x256x128 (outS (View.ld (X0_0 m c t) (Rect.unit ![0, 128] ![64, 128] inb_S64x512_S64x128_0_128)) (View.ld (iblk m c 3 t) (Rect.unit ![0, 128] ![64, 128] inb_S64x512_S64x128_0_128)) (View.ld (iblk m c 5 t) (Rect.unit ![0, 256] ![64, 256] inb_S64x1024_S64x256_0_256)) (shapeCast S256x128 (View.ld (Val := Elt F) (e' := .f32) (k0_pay6 (F := F)) (Rect.unit ![1, 0, 0] ![1, 256, 128] inb_S4x256x128_S1x256x128_1_0_0)) shapeCasts_S1x256x128_S256x128)) shapeCasts_S256x128_S1x256x128⟩,
    ⟨Rect.unit ![0, 0, 0] ![1, 256, 128] inb_S4x256x128_S1x256x128_0_0_0, shapeCast S1x256x128 (outS (View.ld (X0_0 m c t) (Rect.unit ![0, 0] ![64, 128] inb_S64x512_S64x128_0_0)) (View.ld (iblk m c 3 t) (Rect.unit ![0, 0] ![64, 128] inb_S64x512_S64x128_0_0)) (View.ld (iblk m c 5 t) (Rect.unit ![0, 0] ![64, 256] inb_S64x1024_S64x256_0_0)) (shapeCast S256x128 (View.ld (Val := Elt F) (e' := .f32) (k0_pay6 (F := F)) (Rect.unit ![0, 0, 0] ![1, 256, 128] inb_S4x256x128_S1x256x128_0_0_0)) shapeCasts_S1x256x128_S256x128)) shapeCasts_S256x128_S1x256x128⟩,
    ⟨Rect.unit ![0, 0, 0] S4x256x128.size inb_S4x256x128_S4x256x128_0_0_0, k0_pay6⟩] y := by
  frame_open
  simp (disch := decide) only [↓ View.readCov_skip, ↓ View.readCov_cons_toLoadRect, ↓ View.readCov_fill]
  frame_out
  rfl

end Cert.Gla

end
-- ==== Proof.Opened.lean ====
/- What a grid point of the backward recurrence leaves in its outputs and in the carried scratch, head by head. -/
module

public import proofs.«01_k».proof.Proof.Gen.KernelIdeal.Value
public import proofs.«01_k».proof.Proof.Head
public import proofs.«01_k».proof.Proof.Split
public import proofs.«01_k».proof.Proof.Pieces
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gla

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The carried scratch as point `t` finds it: zero at the first point, else what the point before left. -/
def acc (c : Dev nD) (t : Fin cfg0.N) : Vec F S4x256x128 .f32 :=
  if t.val % 66 = 0 then k0_pay6 else (outsAt0 m c (t.val - 1) (Nat.lt_of_le_of_lt (Nat.sub_le _ _) t.isLt)).2.2.2.2

/-- Head `h`'s queries at point `t`. -/
def qB (c : Dev nD) (t : Fin cfg0.N) (h : Fin 4) : Vec F S64x128 .f32 := colsK h (X0_0 m c t)
/-- Head `h`'s keys at point `t`. -/
def kB (c : Dev nD) (t : Fin cfg0.N) (h : Fin 4) : Vec F S64x128 .f32 := colsK h (X0_1 m c t)
/-- Head `h`'s values at point `t`. -/
def vB (c : Dev nD) (t : Fin cfg0.N) (h : Fin 4) : Vec F S64x256 .f32 := colsV h (X0_2 m c t)
/-- Head `h`'s log-decays at point `t`. -/
def gB (c : Dev nD) (t : Fin cfg0.N) (h : Fin 4) : Vec F S64x128 .f32 := colsK h (iblk m c 3 t)
/-- Head `h`'s entering state at point `t`. -/
def sB (c : Dev nD) (t : Fin cfg0.N) (h : Fin 4) : Vec F S256x128 .f32 := headS h (iblk m c 4 t)
/-- Head `h`'s output cotangent at point `t`. -/
def wB (c : Dev nD) (t : Fin cfg0.N) (h : Fin 4) : Vec F S64x256 .f32 := colsV h (iblk m c 5 t)
/-- Head `h`'s leaving state's cotangent at point `t`. -/
def dB (c : Dev nD) (t : Fin cfg0.N) (h : Fin 4) : Vec F S256x128 .f32 := headD h (acc m c t)

/-- At the first point the leaving state's cotangent is zero. -/
theorem dB_first (c : Dev nD) (t : Fin cfg0.N) (h0 : t.val % 66 = 0) (h : Fin 4) : dB m c t h = headD h k0_pay6 := by
  unfold dB acc; rw [if_pos h0]

/-- Elsewhere it is what the point before left. -/
theorem dB_next (c : Dev nD) (t : Fin cfg0.N) (h0 : ¬t.val % 66 = 0) (h : Fin 4) : dB m c t h =
    headD h (outsAt0 m c (t.val - 1) (Nat.lt_of_le_of_lt (Nat.sub_le _ _) t.isLt)).2.2.2.2 := by
  unfold dB acc; rw [if_neg h0]

set_option maxHeartbeats 400000 in
/-- What point `t` leaves of the queries' cotangent, at head `h`. -/
theorem outs_q (c : Dev nD) (t : Fin cfg0.N) (h : Fin 4) (r : Fin 64) (d : Fin 128) :
    (outsAt0 m c t.val t.isLt).1 (ix2 r (kl h d)) = truncf .bf16 (outQ (kB m c t h) (gB m c t h) (vB m c t h) (wB m c t h) (sB m c t h)) bitsLt_bf16_f32 (ix2 r d) := by
  by_cases h0 : t.val % 66 = 0
  · have e1 := congrFun (congrArg (fun x => x.1) (outsAt0_A m c t h0)) (ix2 r (kl h d))
    dsimp only at e1
    rw [e1, openA6 m c t h0 (ix2 r (kl h d))]
    simp only [ld_k0, ld_k1, ld_k2, ld_k3, ld_v0, ld_v1, ld_v2, ld_v3, ld_s0, ld_s1, ld_s2, ld_s3, cast_s, ld_d0, ld_d1, ld_d2, ld_d3, cast_d]
    have e := canon_k (F := F) (e := .bf16) (fun h => truncf .bf16 (outQ (kB m c t h) (gB m c t h) (vB m c t h) (wB m c t h) (sB m c t h)) bitsLt_bf16_f32) h r d
    simp only [qB, kB, gB, vB, wB, sB] at e ⊢
    rw [e]

  · have e1 := congrFun (congrArg (fun x => x.1) (outsAt0_B m c t h0)) (ix2 r (kl h d))
    dsimp only at e1
    rw [e1, openB6 m c t h0 (ix2 r (kl h d))]
    simp only [ld_k0, ld_k1, ld_k2, ld_k3, ld_v0, ld_v1, ld_v2, ld_v3, ld_s0, ld_s1, ld_s2, ld_s3, cast_s, ld_d0, ld_d1, ld_d2, ld_d3, cast_d]
    have e := canon_k (F := F) (e := .bf16) (fun h => truncf .bf16 (outQ (kB m c t h) (gB m c t h) (vB m c t h) (wB m c t h) (sB m c t h)) bitsLt_bf16_f32) h r d
    simp only [qB, kB, gB, vB, wB, sB] at e ⊢
    rw [e]

set_option maxHeartbeats 400000 in
/-- What point `t` leaves of the keys' cotangent, at head `h`. -/
theorem outs_k (c : Dev nD) (t : Fin cfg0.N) (h : Fin 4) (r : Fin 64) (d : Fin 128) :
    (outsAt0 m c t.val t.isLt).2.1 (ix2 r (kl h d)) = truncf .bf16 (outK (qB m c t h) (gB m c t h) (vB m c t h) (wB m c t h) (dB m c t h)) bitsLt_bf16_f32 (ix2 r d) := by
  by_cases h0 : t.val % 66 = 0
  · have e1 := congrFun (congrArg (fun x => x.2.1) (outsAt0_A m c t h0)) (ix2 r (kl h d))
    dsimp only at e1
    rw [e1, openA7 m c t h0 (ix2 r (kl h d))]
    rw [dB_first m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_k (F := F) (e := .bf16) (fun h => truncf .bf16 (outK (qB m c t h) (gB m c t h) (vB m c t h) (wB m c t h) (headD h (k0_pay6 (F := F)))) bitsLt_bf16_f32) h r d
    simp only [qB, kB, gB, vB, wB, sB] at e ⊢
    rw [e]

  · have e1 := congrFun (congrArg (fun x => x.2.1) (outsAt0_B m c t h0)) (ix2 r (kl h d))
    dsimp only at e1
    rw [e1, openB7 m c t h0 (ix2 r (kl h d))]
    rw [dB_next m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_k (F := F) (e := .bf16) (fun h => truncf .bf16 (outK (qB m c t h) (gB m c t h) (vB m c t h) (wB m c t h) (headD h (outsAt0 m c (t.val - 1) (Nat.lt_of_le_of_lt (Nat.sub_le _ _) t.isLt)).2.2.2.2)) bitsLt_bf16_f32) h r d
    simp only [qB, kB, gB, vB, wB, sB] at e ⊢
    rw [e]

set_option maxHeartbeats 400000 in
/-- What point `t` leaves of the values' cotangent, at head `h`. -/
theorem outs_v (c : Dev nD) (t : Fin cfg0.N) (h : Fin 4) (r : Fin 64) (d : Fin 256) :
    (outsAt0 m c t.val t.isLt).2.2.1 (ix2 r (vl h d)) = truncf .bf16 (outV (qB m c t h) (kB m c t h) (gB m c t h) (wB m c t h) (dB m c t h)) bitsLt_bf16_f32 (ix2 r d) := by
  by_cases h0 : t.val % 66 = 0
  · have e1 := congrFun (congrArg (fun x => x.2.2.1) (outsAt0_A m c t h0)) (ix2 r (vl h d))
    dsimp only at e1
    rw [e1, openA8 m c t h0 (ix2 r (vl h d))]
    rw [dB_first m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_v (F := F) (e := .bf16) (fun h => truncf .bf16 (outV (qB m c t h) (kB m c t h) (gB m c t h) (wB m c t h) (headD h (k0_pay6 (F := F)))) bitsLt_bf16_f32) h r d
    simp only [qB, kB, gB, vB, wB, sB] at e ⊢
    rw [e]

  · have e1 := congrFun (congrArg (fun x => x.2.2.1) (outsAt0_B m c t h0)) (ix2 r (vl h d))
    dsimp only at e1
    rw [e1, openB8 m c t h0 (ix2 r (vl h d))]
    rw [dB_next m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_v (F := F) (e := .bf16) (fun h => truncf .bf16 (outV (qB m c t h) (kB m c t h) (gB m c t h) (wB m c t h) (headD h (outsAt0 m c (t.val - 1) (Nat.lt_of_le_of_lt (Nat.sub_le _ _) t.isLt)).2.2.2.2)) bitsLt_bf16_f32) h r d
    simp only [qB, kB, gB, vB, wB, sB] at e ⊢
    rw [e]

set_option maxHeartbeats 400000 in
/-- What point `t` leaves of the log-decays' cotangent, at head `h`. -/
theorem outs_g (c : Dev nD) (t : Fin cfg0.N) (h : Fin 4) (r : Fin 64) (d : Fin 128) :
    (outsAt0 m c t.val t.isLt).2.2.2.1 (ix2 r (kl h d)) = outG (qB m c t h) (kB m c t h) (gB m c t h) (vB m c t h) (wB m c t h) (sB m c t h) (dB m c t h) (ix2 r d) := by
  by_cases h0 : t.val % 66 = 0
  · have e1 := congrFun (congrArg (fun x => x.2.2.2.1) (outsAt0_A m c t h0)) (ix2 r (kl h d))
    dsimp only at e1
    rw [e1, openA9 m c t h0 (ix2 r (kl h d))]
    rw [dB_first m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_k (F := F) (e := .f32) (fun h => outG (qB m c t h) (kB m c t h) (gB m c t h) (vB m c t h) (wB m c t h) (sB m c t h) (headD h (k0_pay6 (F := F)))) h r d
    simp only [qB, kB, gB, vB, wB, sB] at e ⊢
    rw [e]

  · have e1 := congrFun (congrArg (fun x => x.2.2.2.1) (outsAt0_B m c t h0)) (ix2 r (kl h d))
    dsimp only at e1
    rw [e1, openB9 m c t h0 (ix2 r (kl h d))]
    rw [dB_next m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_k (F := F) (e := .f32) (fun h => outG (qB m c t h) (kB m c t h) (gB m c t h) (vB m c t h) (wB m c t h) (sB m c t h) (headD h (outsAt0 m c (t.val - 1) (Nat.lt_of_le_of_lt (Nat.sub_le _ _) t.isLt)).2.2.2.2)) h r d
    simp only [qB, kB, gB, vB, wB, sB] at e ⊢
    rw [e]

set_option maxHeartbeats 400000 in
/-- What point `t` leaves of the cotangent of the state that enters the chunk, at head `h`. -/
theorem outs_s (c : Dev nD) (t : Fin cfg0.N) (h : Fin 4) (r : Fin 256) (d : Fin 128) :
    (outsAt0 m c t.val t.isLt).2.2.2.2 (ix3 h r d) = outS (qB m c t h) (gB m c t h) (wB m c t h) (dB m c t h) (ix2 r d) := by
  by_cases h0 : t.val % 66 = 0
  · have e1 := congrFun (congrArg (fun x => x.2.2.2.2) (outsAt0_A m c t h0)) (ix3 h r d)
    dsimp only at e1
    rw [e1, openA10 m c t h0 (ix3 h r d)]
    rw [dB_first m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_d (F := F) (e := .f32) (fun h => shapeCast S1x256x128 (outS (qB m c t h) (gB m c t h) (wB m c t h) (headD h (k0_pay6 (F := F)))) shapeCasts_S256x128_S1x256x128) [⟨Rect.unit ![0, 0, 0] S4x256x128.size inb_S4x256x128_S4x256x128_0_0_0, k0_pay6⟩] h r d
    simp only [qB, kB, gB, vB, wB, sB] at e ⊢
    rw [e]
    pointwise
  · have e1 := congrFun (congrArg (fun x => x.2.2.2.2) (outsAt0_B m c t h0)) (ix3 h r d)
    dsimp only at e1
    rw [e1, openB10 m c t h0 (ix3 h r d)]
    rw [dB_next m c t h0 h]
    simp only [ld_k0, ld_k1, ld_k2, ld_k3, ld_v0, ld_v1, ld_v2, ld_v3, ld_s0, ld_s1, ld_s2, ld_s3, cast_s, ld_d0, ld_d1, ld_d2, ld_d3, cast_d]
    have e := canon_d (F := F) (e := .f32) (fun h => shapeCast S1x256x128 (outS (qB m c t h) (gB m c t h) (wB m c t h) (headD h (outsAt0 m c (t.val - 1) (Nat.lt_of_le_of_lt (Nat.sub_le _ _) t.isLt)).2.2.2.2)) shapeCasts_S256x128_S1x256x128) [] h r d
    simp only [qB, kB, gB, vB, wB, sB] at e ⊢
    rw [e]
    pointwise

end Cert.Gla

end
-- ==== Proof.Blocks.lean ====
/- Where a grid point's blocks lie in the arrays: the point that works on chunk `j` reads and writes rows 64 j to 64 j + 63. -/
module

public import proofs.«01_k».proof.Proof.Opened

@[expose] public section

set_option maxRecDepth 16384

noncomputable section

namespace Cert.Gla

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

/-- Row `r` of chunk `j`. -/
abbrev row (j : Fin 66) (r : Fin 64) : Fin 4224 := ⟨64 * j.val + r.val, by omega⟩

/-- The grid point that works on chunk `j`: the grid runs through the chunks from the last to the first. -/
def pt (j : Fin 66) : Fin cfg0.N := ⟨65 - j.val, by have : cfg0.N = 66 := rfl; omega⟩

/-- Column `l` of the keys in the projections. -/
abbrev kcol (l : Fin 512) : Fin 3200 := ⟨512 + l.val, by omega⟩
/-- Column `l` of the queries in the projections. -/
abbrev qcol (l : Fin 512) : Fin 3200 := ⟨l.val, by omega⟩
/-- Column `l` of the values in the projections. -/
abbrev vcol (l : Fin 1024) : Fin 3200 := ⟨1024 + l.val, by omega⟩

theorem index6 : ∀ j : Fin 66, win0_6.index (pt j) 0 = j.val ∧ win0_6.index (pt j) 1 = 0 := by decide +kernel
theorem flush6 : ∀ j : Fin 66, (cfg0.win 6).flush (pt j) = true := by decide +kernel

/-- The array of the queries' cotangent after the run, at chunk `j`: what the chunk's point left. -/
theorem arr_q (c : Dev nD) (j : Fin 66) (r : Fin 64) (l : Fin 512) :
    (dats m 0 c).arrAt 6 cfg0.N (ix2 (row j r) l) = (outsAt0 m c (pt j).val (pt j).isLt).1 (ix2 r l) := by
  have e := congrFun ((blocks6 m c (pt j) (flush6 j)).trans (flushed6 m c (pt j))) (ix2 r l)
  blk_simp at e
  refine Eq.trans ?_ e
  blk_ext [index6 j]

theorem index7 : ∀ j : Fin 66, win0_7.index (pt j) 0 = j.val ∧ win0_7.index (pt j) 1 = 0 := by decide +kernel
theorem flush7 : ∀ j : Fin 66, (cfg0.win 7).flush (pt j) = true := by decide +kernel

/-- The array of the keys' cotangent after the run, at chunk `j`: what the chunk's point left. -/
theorem arr_k (c : Dev nD) (j : Fin 66) (r : Fin 64) (l : Fin 512) :
    (dats m 0 c).arrAt 7 cfg0.N (ix2 (row j r) l) = (outsAt0 m c (pt j).val (pt j).isLt).2.1 (ix2 r l) := by
  have e := congrFun ((blocks7 m c (pt j) (flush7 j)).trans (flushed7 m c (pt j))) (ix2 r l)
  blk_simp at e
  refine Eq.trans ?_ e
  blk_ext [index7 j]

theorem index8 : ∀ j : Fin 66, win0_8.index (pt j) 0 = j.val ∧ win0_8.index (pt j) 1 = 0 := by decide +kernel
theorem flush8 : ∀ j : Fin 66, (cfg0.win 8).flush (pt j) = true := by decide +kernel

/-- The array of the values' cotangent after the run, at chunk `j`: what the chunk's point left. -/
theorem arr_v (c : Dev nD) (j : Fin 66) (r : Fin 64) (l : Fin 1024) :
    (dats m 0 c).arrAt 8 cfg0.N (ix2 (row j r) l) = (outsAt0 m c (pt j).val (pt j).isLt).2.2.1 (ix2 r l) := by
  have e := congrFun ((blocks8 m c (pt j) (flush8 j)).trans (flushed8 m c (pt j))) (ix2 r l)
  blk_simp at e
  refine Eq.trans ?_ e
  blk_ext [index8 j]

theorem index9 : ∀ j : Fin 66, win0_9.index (pt j) 0 = j.val ∧ win0_9.index (pt j) 1 = 0 := by decide +kernel
theorem flush9 : ∀ j : Fin 66, (cfg0.win 9).flush (pt j) = true := by decide +kernel

/-- The array of the log-decays' cotangent after the run, at chunk `j`: what the chunk's point left. -/
theorem arr_g (c : Dev nD) (j : Fin 66) (r : Fin 64) (l : Fin 512) :
    (dats m 0 c).arrAt 9 cfg0.N (ix2 (row j r) l) = (outsAt0 m c (pt j).val (pt j).isLt).2.2.2.1 (ix2 r l) := by
  have e := congrFun ((blocks9 m c (pt j) (flush9 j)).trans (flushed9 m c (pt j))) (ix2 r l)
  blk_simp at e
  refine Eq.trans ?_ e
  blk_ext [index9 j]

theorem index0 : ∀ j : Fin 66, win0_0.index (pt j) 0 = j.val ∧ win0_0.index (pt j) 1 = 0 := by decide +kernel

/-- Head `h`'s queries at the point of chunk `j`. -/
theorem qB_apply (c : Dev nD) (j : Fin 66) (h : Fin 4) (r : Fin 64) (d : Fin 128) :
    qB m c (pt j) h (ix2 r d) = m ((c : Thread nD τ).loc main_arg0) (ix2 (row j r) (qcol (kl h d))) := by
  rw [← V_main_arg0 m c]
  pointwise [qB, colsK, X0_0]
  unfold Pipeline.Window.fill
  rw [dif_pos (moved0_0 (pt j) _)]
  blk_ext [iblk, index0 j]

theorem index1 : ∀ j : Fin 66, win0_1.index (pt j) 0 = j.val ∧ win0_1.index (pt j) 1 = 1 := by decide +kernel

/-- Head `h`'s keys at the point of chunk `j`. -/
theorem kB_apply (c : Dev nD) (j : Fin 66) (h : Fin 4) (r : Fin 64) (d : Fin 128) :
    kB m c (pt j) h (ix2 r d) = m ((c : Thread nD τ).loc main_arg0) (ix2 (row j r) (kcol (kl h d))) := by
  rw [← V_main_arg0 m c]
  pointwise [kB, colsK, X0_1]
  unfold Pipeline.Window.fill
  rw [dif_pos (moved0_1 (pt j) _)]
  blk_ext [iblk, index1 j]

theorem index2 : ∀ j : Fin 66, win0_2.index (pt j) 0 = j.val ∧ win0_2.index (pt j) 1 = 1 := by decide +kernel

/-- Head `h`'s values at the point of chunk `j`. -/
theorem vB_apply (c : Dev nD) (j : Fin 66) (h : Fin 4) (r : Fin 64) (d : Fin 256) :
    vB m c (pt j) h (ix2 r d) = m ((c : Thread nD τ).loc main_arg0) (ix2 (row j r) (vcol (vl h d))) := by
  rw [← V_main_arg0 m c]
  pointwise [vB, colsV, X0_2]
  unfold Pipeline.Window.fill
  rw [dif_pos (moved0_2 (pt j) _)]
  blk_ext [iblk, index2 j]

theorem index3 : ∀ j : Fin 66, win0_3.index (pt j) 0 = j.val ∧ win0_3.index (pt j) 1 = 0 := by decide +kernel

/-- Head `h`'s log-decays at the point of chunk `j`. -/
theorem gB_apply (c : Dev nD) (j : Fin 66) (h : Fin 4) (r : Fin 64) (d : Fin 128) :
    gB m c (pt j) h (ix2 r d) = m ((c : Thread nD τ).loc main_arg1) (ix2 (row j r) (kl h d)) := by
  rw [← V_main_arg1 m c]
  pointwise [gB, colsK]
  blk_ext [iblk, index3 j]

theorem index5 : ∀ j : Fin 66, win0_5.index (pt j) 0 = j.val ∧ win0_5.index (pt j) 1 = 0 := by decide +kernel

/-- Head `h`'s output cotangent at the point of chunk `j`. -/
theorem wB_apply (c : Dev nD) (j : Fin 66) (h : Fin 4) (r : Fin 64) (d : Fin 256) :
    wB m c (pt j) h (ix2 r d) = m ((c : Thread nD τ).loc main_arg2) (ix2 (row j r) (vl h d)) := by
  rw [← V_main_arg2 m c]
  pointwise [wB, colsV]
  blk_ext [iblk, index5 j]

theorem index4 : ∀ j : Fin 66, win0_4.index (pt j) 0 = 0 ∧ win0_4.index (pt j) 1 = j.val ∧ win0_4.index (pt j) 2 = 0
    ∧ win0_4.index (pt j) 3 = 0 := by decide +kernel

/-- Head `h`'s entering state at the point of chunk `j`. -/
theorem sB_apply (c : Dev nD) (j : Fin 66) (h : Fin 4) (r : Fin 256) (d : Fin 128) :
    sB m c (pt j) h (ix2 r d) = V m c main_v28 (ix4 h j r d) := by
  pointwise [sB, headS]
  blk_ext [iblk, index4 j]

/-- At the last chunk's point the leaving state's cotangent is zero. -/
theorem dB_last (c : Dev nD) (h : Fin 4) (x : Fin 256) (d : Fin 128) :
    dB m c (pt 65) h (ix2 x d) = k0_pay6 (ix3 h x d) := by
  rw [dB_first m c (pt 65) (by decide) h]; pointwise [headD]

/-- At any other chunk's point it is what the next chunk's point left as the cotangent of its entering state. -/
theorem dB_step (c : Dev nD) (j : Fin 66) (hj : j.val + 1 < 66) (h : Fin 4) (x : Fin 256) (d : Fin 128) :
    dB m c (pt j) h (ix2 x d) = outS (qB m c (pt ⟨j.val + 1, hj⟩) h) (gB m c (pt ⟨j.val + 1, hj⟩) h)
      (wB m c (pt ⟨j.val + 1, hj⟩) h) (dB m c (pt ⟨j.val + 1, hj⟩) h) (ix2 x d) := by
  rw [← outs_s m c (pt ⟨j.val + 1, hj⟩) h x d, dB_next m c (pt j) (by simp only [pt]; omega) h]
  pointwise [headD]
  have e : (pt j).val - 1 = (pt ⟨j.val + 1, hj⟩).val := by simp only [pt]; omega
  simp only [e]

end Cert.Gla

end
-- ==== Proof.Whole.lean ====
/- Gated linear attention of one head over the whole sequence, its gradients, and their split into chunks, over the reals.

   `q`, `k` and `g` are the head's queries, keys and log-decays at each row and lane, `v` its values and `w` the
   cotangent of its output. -/
module

public import proofs.«01_k».proof.Proof.Real
public import proofs.«01_k».proof.Proof.Blocks

@[expose] public section

set_option maxRecDepth 16384

noncomputable section

namespace Cert.Gla

/-! ## Sums over the rows, split at chunks -/

/-- The rows before chunk `n`. -/
def L (n : ℕ) : Finset (Fin 4224) := Finset.univ.filter fun s => s.val < 64 * n

/-- The rows from chunk `n` on. -/
def H (n : ℕ) : Finset (Fin 4224) := Finset.univ.filter fun s => 64 * n ≤ s.val

theorem mem_L {n : ℕ} {s : Fin 4224} : s ∈ L n ↔ s.val < 64 * n := by simp [L]
theorem mem_H {n : ℕ} {s : Fin 4224} : s ∈ H n ↔ 64 * n ≤ s.val := by simp [H]

theorem row_inj (j : Fin 66) : Function.Injective (row j) := fun a b h => by
  have := Fin.ext_iff.mp h; simp only [row] at this; apply Fin.ext; omega

/-- The rows before the next chunk are those before this one and this one's. -/
theorem sum_L_succ (j : Fin 66) (f : Fin 4224 → ℝ) :
    ∑ s ∈ L (j.val + 1), f s = ∑ s ∈ L j.val, f s + ∑ r, f (row j r) := by
  have e : L (j.val + 1) = L j.val ∪ Finset.univ.map ⟨row j, row_inj j⟩ := by
    ext s
    simp only [Finset.mem_union, mem_L, Finset.mem_map, Finset.mem_univ, true_and, Function.Embedding.coeFn_mk]
    constructor
    · intro h
      by_cases h' : s.val < 64 * j.val
      · exact .inl h'
      · exact .inr ⟨⟨s.val - 64 * j.val, by omega⟩, Fin.ext (by simp only [row]; omega)⟩
    · rintro (h | ⟨r, rfl⟩)
      · omega
      · simp only [row]; omega
  rw [e, Finset.sum_union, Finset.sum_map]
  · rfl
  · rw [Finset.disjoint_left]
    intro s hs hm
    simp only [Finset.mem_map, Finset.mem_univ, true_and, Function.Embedding.coeFn_mk] at hm
    obtain ⟨r, rfl⟩ := hm
    rw [mem_L] at hs; simp only [row] at hs; omega

/-- All rows are those before chunk `n` and those from it on. -/
theorem sum_split (n : ℕ) (f : Fin 4224 → ℝ) : ∑ s, f s = ∑ s ∈ L n, f s + ∑ s ∈ H n, f s := by
  rw [← Finset.sum_filter_add_sum_filter_not Finset.univ (fun s : Fin 4224 => s.val < 64 * n) f]
  congr 1
  refine Finset.sum_congr ?_ fun _ _ => rfl
  ext s; simp [H]

/-- The rows from this chunk on are this one's and those from the next on. -/
theorem sum_H_succ (j : Fin 66) (f : Fin 4224 → ℝ) :
    ∑ s ∈ H j.val, f s = ∑ r, f (row j r) + ∑ s ∈ H (j.val + 1), f s := by
  have h1 := sum_split j.val f
  have h2 := sum_split (j.val + 1) f
  have h3 := sum_L_succ j f
  linarith

/-- All rows are those before a chunk, its own and those after it. -/
theorem sum_three (j : Fin 66) (f : Fin 4224 → ℝ) :
    ∑ s, f s = ∑ s ∈ L j.val, f s + ∑ r, f (row j r) + ∑ s ∈ H (j.val + 1), f s := by
  rw [sum_split (j.val + 1) f, sum_L_succ]

variable (q k g : Fin 4224 → Fin 128 → ℝ) (v w : Fin 4224 → Fin 256 → ℝ)

/-! ## The mathematics -/

/-- The log-decays summed to each row. -/
def B (t : Fin 4224) (d : Fin 128) : ℝ := ∑ s, if s ≤ t then g s d else 0
/-- The decay from row `s` to row `t`. -/
def E (t s : Fin 4224) (d : Fin 128) : ℝ := if s ≤ t then Real.exp (B g t d - B g s d) else 0
/-- The attention matrix. -/
def aW (t s : Fin 4224) : ℝ := ∑ d, q t d * scl * k s d * E g t s d
/-- The attention matrix's cotangent. -/
def daW (t s : Fin 4224) : ℝ := ∑ x, w t x * v s x
/-- The queries' gradient. -/
def gradQ (t : Fin 4224) (d : Fin 128) : ℝ := (∑ s, daW v w t s * E g t s d * k s d) * scl
/-- The keys' gradient. -/
def gradK (s : Fin 4224) (d : Fin 128) : ℝ := ∑ t, q t d * scl * (daW v w t s * E g t s d)
/-- The values' gradient. -/
def gradV (s : Fin 4224) (x : Fin 256) : ℝ := ∑ t, w t x * aW q k g t s
/-- What rows `t` and `s` give to the gradient of the summed log-decays. -/
def pairX (t s : Fin 4224) (d : Fin 128) : ℝ := if s ≤ t then q t d * scl * k s d * daW v w t s * E g t s d else 0
/-- The gradient of the summed log-decays. -/
def gradB (t : Fin 4224) (d : Fin 128) : ℝ := (∑ s, -pairX q k g v w s t d) + ∑ s, pairX q k g v w t s d
/-- The log-decays' gradient. -/
def gradG (j : Fin 4224) (d : Fin 128) : ℝ := ∑ t, if j ≤ t then gradB q k g v w t d else 0

/-! ## Chunks -/

/-- A chunk's rows of an array of rows. -/
abbrev ck {n : ℕ} (f : Fin 4224 → Fin n → ℝ) (j : Fin 66) : Fin 64 → Fin n → ℝ := fun r d => f (row j r) d

/-- The log-decays summed over the rows before chunk `n`. -/
def cumL (n : ℕ) (d : Fin 128) : ℝ := ∑ s ∈ L n, g s d

/-- The state that enters chunk `n`. -/
def stIn (n : ℕ) (x : Fin 256) (d : Fin 128) : ℝ := ∑ s ∈ L n, v s x * (k s d * Real.exp (cumL g n d - B g s d))

/-- The cotangent of the state that enters chunk `n`. -/
def dstIn (n : ℕ) (x : Fin 256) (d : Fin 128) : ℝ := ∑ t ∈ H n, w t x * (q t d * scl * Real.exp (B g t d - cumL g n d))

theorem row_le (j : Fin 66) (r s : Fin 64) : row j s ≤ row j r ↔ s ≤ r := by
  simp only [row, Fin.le_def]; omega

theorem B_row (j : Fin 66) (r : Fin 64) (d : Fin 128) : B g (row j r) d = cumL g j.val d + cumR (ck g j) r d := by
  rw [B, sum_three j, cumL, cumR]
  have h1 : ∑ s ∈ L j.val, (if s ≤ row j r then g s d else 0) = ∑ s ∈ L j.val, g s d :=
    Finset.sum_congr rfl fun s hs => by
      rw [mem_L] at hs; rw [if_pos (by simp only [row, Fin.le_def]; omega)]
  have h2 : ∑ s ∈ H (j.val + 1), (if s ≤ row j r then g s d else 0) = 0 :=
    Finset.sum_eq_zero fun s hs => by
      rw [mem_H] at hs; rw [if_neg (by simp only [row, Fin.le_def]; omega)]
  rw [h1, h2, add_zero]
  congr 1
  refine Finset.sum_congr rfl fun s _ => ?_
  simp only [row_le]
  split <;> simp

theorem cumL_succ (j : Fin 66) (d : Fin 128) : cumL g (j.val + 1) d = cumL g j.val d + blR (ck g j) d := by
  rw [cumL, sum_L_succ, cumL, blR, cumR]
  congr 1
  refine Finset.sum_congr rfl fun s _ => ?_
  rw [if_pos (by simp only [Fin.le_def]; have := s.isLt; omega), one_mul]

/-- The decay from a row before the chunk to one of its rows. -/
theorem E_lo (j : Fin 66) (r : Fin 64) (s : Fin 4224) (hs : s ∈ L j.val) (d : Fin 128) :
    E g (row j r) s d = Real.exp (cumL g j.val d - B g s d) * Real.exp (cumR (ck g j) r d) := by
  rw [mem_L] at hs
  rw [E, if_pos (by simp only [row, Fin.le_def]; omega), B_row, ← Real.exp_add]
  congr 1; ring

/-- The decay between two rows of the chunk. -/
theorem E_in (j : Fin 66) (r s : Fin 64) (d : Fin 128) :
    E g (row j r) (row j s) d = if s ≤ r then Real.exp (0 - cumR (ck g j) s d) * Real.exp (cumR (ck g j) r d) else 0 := by
  rw [E]
  simp only [row_le]
  split
  · rw [B_row, B_row, ← Real.exp_add]; congr 1; ring
  · rfl

/-- The decay from a row of the chunk to one after it. -/
theorem E_hi (j : Fin 66) (r : Fin 64) (t : Fin 4224) (ht : t ∈ H (j.val + 1)) (d : Fin 128) :
    E g t (row j r) d = Real.exp (B g t d - cumL g (j.val + 1) d) * edR (ck g j) r d := by
  rw [mem_H] at ht
  rw [E, if_pos (by simp only [row, Fin.le_def]; omega), B_row, cumL_succ, edR, ← Real.exp_add]
  congr 1; ring

/-- The decay across the chunk. -/
theorem E_across (j : Fin 66) (s t : Fin 4224) (hs : s ∈ L j.val) (ht : t ∈ H (j.val + 1)) (d : Fin 128) :
    E g t s d = Real.exp (cumL g j.val d - B g s d) * Real.exp (B g t d - cumL g (j.val + 1) d) * Real.exp (blR (ck g j) d) := by
  rw [mem_H] at ht
  rw [mem_L] at hs
  rw [E, if_pos (by simp only [Fin.le_def]; omega), cumL_succ, ← Real.exp_add, ← Real.exp_add]
  congr 1; ring

theorem E_zero (t s : Fin 4224) (h : t < s) (d : Fin 128) : E g t s d = 0 := by
  rw [E, if_neg (not_le.mpr h)]

/-! ## The kernel's step is the mathematics -/

/-- The queries' part: the sum over the keys. -/
theorem dqe_eq (j : Fin 66) (r : Fin 64) (d : Fin 128) :
    dqeR (ck k j) (ck g j) (ck v j) (ck w j) (stIn k g v j.val) r d * Real.exp (cumR (ck g j) r d)
      = ∑ s, daW v w (row j r) s * E g (row j r) s d * k s d := by
  have h1 : (∑ x, ck w j r x * stIn k g v j.val x d) * Real.exp (cumR (ck g j) r d)
      = ∑ s ∈ L j.val, daW v w (row j r) s * E g (row j r) s d * k s d := by
    simp only [stIn, Finset.mul_sum, Finset.sum_mul]
    rw [Finset.sum_comm]
    refine Finset.sum_congr rfl fun s hs => ?_
    rw [E_lo g j r s hs, daW, Finset.sum_mul, Finset.sum_mul]
    exact Finset.sum_congr rfl fun x _ => by ring
  have h2 : (∑ s, dattR (ck v j) (ck w j) r s * keR (ck k j) (ck g j) s d) * Real.exp (cumR (ck g j) r d)
      = ∑ s, daW v w (row j r) (row j s) * E g (row j r) (row j s) d * k (row j s) d := by
    rw [Finset.sum_mul]
    refine Finset.sum_congr rfl fun s _ => ?_
    rw [E_in, dattR, daW, keR]
    split <;> ring
  have h3 : ∑ s ∈ H (j.val + 1), daW v w (row j r) s * E g (row j r) s d * k s d = 0 :=
    Finset.sum_eq_zero fun s hs => by
      rw [mem_H] at hs
      rw [E_zero g _ s (by simp only [row, Fin.lt_def]; omega)]; ring
  rw [sum_three j, ← h1, ← h2, h3, dqeR]; ring

theorem outQ_eq (j : Fin 66) (r : Fin 64) (d : Fin 128) :
    outQR (ck k j) (ck g j) (ck v j) (ck w j) (stIn k g v j.val) r d = gradQ k g v w (row j r) d := by
  rw [outQR, dqe_eq, gradQ]

/-- The keys' part that comes from after the chunk. -/
theorem dkd_eq (j : Fin 66) (r : Fin 64) (d : Fin 128) :
    dkdR (ck v j) (dstIn q g w (j.val + 1)) r d * edR (ck g j) r d
      = ∑ t ∈ H (j.val + 1), q t d * scl * (daW v w t (row j r) * E g t (row j r) d) := by
  simp only [dkdR, dstIn, Finset.mul_sum, Finset.sum_mul]
  rw [Finset.sum_comm]
  refine Finset.sum_congr rfl fun t ht => ?_
  rw [E_hi g j r t ht, daW, Finset.sum_mul, Finset.mul_sum]
  exact Finset.sum_congr rfl fun x _ => by ring

theorem outK_eq (j : Fin 66) (r : Fin 64) (d : Fin 128) :
    outKR (ck q j) (ck g j) (ck v j) (ck w j) (dstIn q g w (j.val + 1)) r d = gradK q g v w (row j r) d := by
  have h2 : dkeR (ck q j) (ck g j) (ck v j) (ck w j) r d * Real.exp (0 - cumR (ck g j) r d)
      = ∑ t, q (row j t) d * scl * (daW v w (row j t) (row j r) * E g (row j t) (row j r) d) := by
    rw [dkeR, Finset.sum_mul]
    refine Finset.sum_congr rfl fun t _ => ?_
    rw [E_in, dattR, daW, qeR]
    split <;> ring
  have h3 : ∑ t ∈ L j.val, q t d * scl * (daW v w t (row j r) * E g t (row j r) d) = 0 :=
    Finset.sum_eq_zero fun t ht => by
      rw [mem_L] at ht
      rw [E_zero g t _ (by simp only [row, Fin.lt_def]; omega)]; ring
  rw [outKR, dkd_eq, h2, gradK, sum_three j, h3]; ring

theorem outV_eq (j : Fin 66) (r : Fin 64) (x : Fin 256) :
    outVR (ck q j) (ck k j) (ck g j) (ck w j) (dstIn q g w (j.val + 1)) r x = gradV q k g w (row j r) x := by
  have h1 : ∑ d, ck k j r d * edR (ck g j) r d * dstIn q g w (j.val + 1) x d
      = ∑ t ∈ H (j.val + 1), w t x * aW q k g t (row j r) := by
    simp only [dstIn, Finset.mul_sum, aW]
    rw [Finset.sum_comm]
    refine Finset.sum_congr rfl fun t ht => ?_
    refine Finset.sum_congr rfl fun d _ => ?_
    rw [E_hi g j r t ht]; ring
  have h2 : ∑ s, attR (ck q j) (ck k j) (ck g j) s r * ck w j s x = ∑ t, w (row j t) x * aW q k g (row j t) (row j r) := by
    refine Finset.sum_congr rfl fun t _ => ?_
    rw [attR, aW]
    simp only [E_in]
    split
    · rw [Finset.sum_mul, Finset.mul_sum]
      refine Finset.sum_congr rfl fun d _ => ?_
      rw [qeR, keR]; ring
    · simp
  have h3 : ∑ t ∈ L j.val, w t x * aW q k g t (row j r) = 0 :=
    Finset.sum_eq_zero fun t ht => by
      rw [mem_L] at ht
      have : aW q k g t (row j r) = 0 := Finset.sum_eq_zero fun d _ => by
        rw [E_zero g t _ (by simp only [row, Fin.lt_def]; omega)]; ring
      rw [this, mul_zero]
  rw [outVR, h1, h2, gradV, sum_three j, h3]; ring

/-- The carried cotangent, one chunk back. -/
theorem outS_eq (j : Fin 66) (x : Fin 256) (d : Fin 128) :
    outSR (ck q j) (ck g j) (ck w j) (dstIn q g w (j.val + 1)) x d = dstIn q g w j.val x d := by
  rw [outSR, dstIn, dstIn, sum_H_succ, add_comm, Finset.sum_mul]
  congr 1
  · refine Finset.sum_congr rfl fun r _ => ?_
    rw [qeR, B_row, add_sub_cancel_left]
  · refine Finset.sum_congr rfl fun t _ => ?_
    rw [cumL_succ, mul_assoc, mul_assoc, ← Real.exp_add]
    congr 3; ring

theorem pairX_mul (t s : Fin 4224) (d : Fin 128) :
    pairX q k g v w t s d = q t d * scl * k s d * daW v w t s * E g t s d := by
  rw [pairX]
  split
  · rfl
  · next h => rw [E_zero g t s (not_le.mp h)]; ring

theorem gradB_eq (j : Fin 66) (r : Fin 64) (d : Fin 128) :
    gradB q k g v w (row j r) d = 0 - dtailR (ck k j) (ck g j) (ck v j) (dstIn q g w (j.val + 1)) r d
      + (0 - ck k j r d * dkeR (ck q j) (ck g j) (ck v j) (ck w j) r d * Real.exp (0 - cumR (ck g j) r d))
      + ck q j r d * scl * dqeR (ck k j) (ck g j) (ck v j) (ck w j) (stIn k g v j.val) r d * Real.exp (cumR (ck g j) r d) := by
  have h1 : ∑ s, pairX q k g v w (row j r) s d = q (row j r) d * scl * ∑ s, daW v w (row j r) s * E g (row j r) s d * k s d := by
    rw [Finset.mul_sum]
    exact Finset.sum_congr rfl fun s _ => by rw [pairX_mul]; ring
  have h2 : ∑ t, -pairX q k g v w t (row j r) d = -(k (row j r) d * gradK q g v w (row j r) d) := by
    rw [gradK, Finset.mul_sum, Finset.sum_neg_distrib]
    congr 1
    exact Finset.sum_congr rfl fun s _ => by rw [pairX_mul]; ring
  rw [gradB, h1, h2, ← dqe_eq, ← outK_eq, outKR, dtailR]; ring

/-- The gradient of the summed log-decays, summed over the rows after the chunk. -/
theorem dbl_eq (j : Fin 66) (d : Fin 128) :
    dblR (ck k j) (ck g j) (ck v j) (stIn k g v j.val) (dstIn q g w (j.val + 1)) d
      = ∑ t ∈ H (j.val + 1), gradB q k g v w t d := by
  have h1 : (∑ x, stIn k g v j.val x d * dstIn q g w (j.val + 1) x d) * Real.exp (blR (ck g j) d)
      = ∑ t ∈ H (j.val + 1), ∑ s ∈ L j.val, pairX q k g v w t s d := by
    have e : ∀ t ∈ H (j.val + 1), ∀ s ∈ L j.val, pairX q k g v w t s d
        = ∑ x, v s x * (k s d * Real.exp (cumL g j.val d - B g s d)) *
          (w t x * (q t d * scl * Real.exp (B g t d - cumL g (j.val + 1) d))) * Real.exp (blR (ck g j) d) := by
      intro t ht s hs
      rw [pairX_mul, E_across g j s t hs ht, daW, Finset.mul_sum, Finset.sum_mul]
      exact Finset.sum_congr rfl fun x _ => by ring
    rw [Finset.sum_congr rfl fun t ht => Finset.sum_congr rfl fun s hs => e t ht s hs]
    simp only [stIn, dstIn, Finset.mul_sum, Finset.sum_mul]
    rw [Finset.sum_comm]
    refine Finset.sum_congr rfl fun t _ => ?_
    rw [Finset.sum_comm]
  have h2 : ∑ r, dtailR (ck k j) (ck g j) (ck v j) (dstIn q g w (j.val + 1)) r d
      = ∑ t ∈ H (j.val + 1), ∑ r, pairX q k g v w t (row j r) d := by
    rw [Finset.sum_comm]
    refine Finset.sum_congr rfl fun r _ => ?_
    rw [dtailR, mul_assoc, dkd_eq, Finset.mul_sum]
    exact Finset.sum_congr rfl fun t _ => by rw [pairX_mul]; ring
  have h3 : ∑ t ∈ H (j.val + 1), gradB q k g v w t d
      = ∑ t ∈ H (j.val + 1), ∑ s ∈ L (j.val + 1), pairX q k g v w t s d := by
    have a : ∑ t ∈ H (j.val + 1), ∑ s, -pairX q k g v w s t d
        = -∑ t ∈ H (j.val + 1), ∑ s ∈ H (j.val + 1), pairX q k g v w t s d := by
      rw [Finset.sum_comm, sum_split (j.val + 1), Finset.sum_eq_zero (s := L (j.val + 1)), zero_add]
      · simp only [Finset.sum_neg_distrib]
      · intro s hs
        refine Finset.sum_eq_zero fun t ht => ?_
        rw [mem_L] at hs
        rw [mem_H] at ht
        rw [pairX, if_neg (by simp only [Fin.le_def]; omega), neg_zero]
    have b : ∑ t ∈ H (j.val + 1), ∑ s, pairX q k g v w t s d
        = ∑ t ∈ H (j.val + 1), ∑ s ∈ L (j.val + 1), pairX q k g v w t s d
          + ∑ t ∈ H (j.val + 1), ∑ s ∈ H (j.val + 1), pairX q k g v w t s d := by
      rw [← Finset.sum_add_distrib]
      exact Finset.sum_congr rfl fun t _ => sum_split (j.val + 1) _
    simp only [gradB, Finset.sum_add_distrib]
    rw [a, b]; ring
  rw [dblR, h1, h2, h3, ← Finset.sum_add_distrib]
  exact Finset.sum_congr rfl fun t _ => (sum_L_succ j _).symm

theorem outG_eq (j : Fin 66) (r : Fin 64) (d : Fin 128) :
    outGR (ck q j) (ck k j) (ck g j) (ck v j) (ck w j) (stIn k g v j.val) (dstIn q g w (j.val + 1)) r d
      = gradG q k g v w (row j r) d := by
  have h1 : ∀ s : Fin 64, dbR (ck q j) (ck k j) (ck g j) (ck v j) (ck w j) (stIn k g v j.val) (dstIn q g w (j.val + 1)) s d
      = gradB q k g v w (row j s) d + if s = 63 then ∑ t ∈ H (j.val + 1), gradB q k g v w t d else 0 := fun s => by
    rw [dbR, db1R, gradB_eq, dbl_eq]; ring
  have h2 : ∑ t ∈ L j.val, (if row j r ≤ t then gradB q k g v w t d else 0) = 0 :=
    Finset.sum_eq_zero fun s hs => by
      rw [mem_L] at hs; rw [if_neg (by simp only [row, Fin.le_def]; omega)]
  have h3 : ∑ t ∈ H (j.val + 1), (if row j r ≤ t then gradB q k g v w t d else 0) = ∑ t ∈ H (j.val + 1), gradB q k g v w t d :=
    Finset.sum_congr rfl fun s hs => by
      rw [mem_H] at hs; rw [if_pos (by simp only [row, Fin.le_def]; omega)]
  rw [outGR, gradG, sum_three j, h2, h3, zero_add]
  simp only [h1, add_mul, Finset.sum_add_distrib]
  congr 1
  · refine Finset.sum_congr rfl fun s _ => ?_
    simp only [row_le]
    split <;> simp
  · rw [Finset.sum_eq_single (63 : Fin 64)]
    · rw [if_pos rfl, if_pos (by simp only [Fin.le_def]; have := r.isLt; omega), mul_one]
    · intro s _ hs; rw [if_neg hs, zero_mul]
    · intro h; exact absurd (Finset.mem_univ _) h

end Cert.Gla

end
-- ==== Proof.RefReal.lean ====
/- The reference's gradients over real numbers: head by head the mathematics of `Whole`. -/
module

public import proofs.«01_k».proof.Proof.Ref
public import proofs.«01_k».proof.Proof.Whole

@[expose] public section

set_option maxRecDepth 16384

noncomputable section

namespace Cert.Gla.Ref

open Cert.ReferenceIdeal Cert.ReferenceIdeal.Gen Cert.ReferenceIdeal.Value Idealize.ShloMosaic Idealize.ShloMosaic.TcCoe Idealize.SL.Sem

theorem negInf_eq : (Ideal.ofBits .f32 0xFF800000#32 : EReal) = ⊥ := by simp [Ideal.ofBits, Ideal.ieee]

theorem mask_apply (t s : Fin 4224) : rMask (ix2 t s) = if s ≤ t then 1#1 else 0#1 := by
  have e : IntOp.addi (BitVec.ofNat 32 t.val) 0#32 = BitVec.ofNat 32 t.val := by simp [IntOp.addi]
  pointwise [rMask]
  rw [e, WordCmp.cmpi_sge_ofNat (by omega) (by omega)]
  by_cases h : s ≤ t
  · have h' : s.val ≤ t.val := h
    simp [h, h', Scalar.select]
  · have h' : ¬ s.val ≤ t.val := h
    simp [h, h', Scalar.select]

theorem kl_eq (h : Fin 4) (d : Fin 128) (p : h.val * 128 + d.val < 512) : (⟨h.val * 128 + d.val, p⟩ : Fin 512) = kl h d :=
  Fin.ext (by simp only [kl]; omega)
theorem vl_eq (h : Fin 4) (d : Fin 256) (p : h.val * 256 + d.val < 1024) : (⟨h.val * 256 + d.val, p⟩ : Fin 1024) = vl h d :=
  Fin.ext (by simp only [vl]; omega)
theorem qcol_eq (h : Fin 4) (d : Fin 128) (p : h.val * 128 + d.val < 3200) :
    (⟨h.val * 128 + d.val, p⟩ : Fin 3200) = qcol (kl h d) := Fin.ext (by simp only [qcol, kl]; omega)
theorem kcol_eq (h : Fin 4) (d : Fin 128) (p : 512 + (h.val * 128 + d.val) < 3200) :
    (⟨512 + (h.val * 128 + d.val), p⟩ : Fin 3200) = kcol (kl h d) := Fin.ext (by simp only [kcol, kl]; omega)
theorem vcol_eq (h : Fin 4) (d : Fin 256) (p : 1024 + (h.val * 256 + d.val) < 3200) :
    (⟨1024 + (h.val * 256 + d.val), p⟩ : Fin 3200) = vcol (vl h d) := Fin.ext (by simp only [vcol, vl]; omega)

variable {P : FVec Ideal S4224x3200 .f32} {G : FVec Ideal S4224x512 .f32} {W : FVec Ideal S4224x1024 .f32}
variable {q' k' g' : Fin 4224 → Fin 512 → ℝ} {v' w' : Fin 4224 → Fin 1024 → ℝ}

/-- A head's lanes. -/
abbrev hk (f : Fin 4224 → Fin 512 → ℝ) (h : Fin 4) : Fin 4224 → Fin 128 → ℝ := fun t d => f t (kl h d)
/-- A head's value lanes. -/
abbrev hv (f : Fin 4224 → Fin 1024 → ℝ) (h : Fin 4) : Fin 4224 → Fin 256 → ℝ := fun t d => f t (vl h d)

theorem rQ_real (hQ : ∀ t l, P (ix2 t (qcol l)) = (q' t l : EReal)) (t : Fin 4224) (h : Fin 4) (d : Fin 128) :
    rQ P (ix3 t h d) = ((hk q' h t d * scl : ℝ) : EReal) := by
  pointwise [rQ]
  rw [qcol_eq, hQ, scl_eq, EReal.coe_mul]

theorem rK_real (hK : ∀ t l, P (ix2 t (kcol l)) = (k' t l : EReal)) (t : Fin 4224) (h : Fin 4) (d : Fin 128) :
    rK P (ix3 t h d) = (hk k' h t d : EReal) := by
  pointwise [rK]
  rw [kcol_eq, hK]

theorem rDA_real (hV : ∀ t l, P (ix2 t (vcol l)) = (v' t l : EReal)) (hW : ∀ t l, W (ix2 t l) = (w' t l : EReal))
    (t s : Fin 4224) (h : Fin 4) (d : Fin 128) : rDA P W (ix4 t s h d) = (daW (hv v' h) (hv w' h) t s : EReal) := by
  pointwise [rDA, rV, rW]
  simp only [vl_eq, vcol_eq, hV, hW, ← EReal.coe_mul, ← coe_sum, daW]

theorem rCum_real (hG : ∀ t l, G (ix2 t l) = (g' t l : EReal)) (t : Fin 4224) (h : Fin 4) (d : Fin 128) :
    rCum G (ix3 t h d) = (B (hk g' h) t d : EReal) := by
  unfold rCum
  refine (cumsum_three (R := 4223) (A := 4) (B := 128) _ _ _ _ ?_ t h d).trans ?_
  · pointwise
  · rw [B, coe_sum]
    refine Finset.sum_congr rfl fun s _ => ?_
    have e : (shapeCast S4224x4x128 G shapeCasts_S4224x512_S4224x4x128) (ix3 s h d) = (hk g' h s d : EReal) := by
      pointwise
      rw [kl_eq, hG]
    rw [e]
    split <;> simp

theorem rDec_real (hG : ∀ t l, G (ix2 t l) = (g' t l : EReal)) (t s : Fin 4224) (h : Fin 4) (d : Fin 128) :
    rDec G (ix4 t s h d) = (E (hk g' h) t s d : EReal) := by
  pointwise [rDec, rMask4]
  rw [mask_apply, rCum_real hG, rCum_real hG, E]
  by_cases p : s ≤ t
  · simp only [p, if_true, Scalar.select]
    rw [← EReal.coe_sub]
    simp [-EReal.coe_sub]
  · simp only [p, if_false, Scalar.select]
    simp [constant, FloatOps.ofBits, negInf_eq]

theorem rX_real (hG : ∀ t l, G (ix2 t l) = (g' t l : EReal)) (hQ : ∀ t l, P (ix2 t (qcol l)) = (q' t l : EReal))
    (hK : ∀ t l, P (ix2 t (kcol l)) = (k' t l : EReal)) (hV : ∀ t l, P (ix2 t (vcol l)) = (v' t l : EReal))
    (hW : ∀ t l, W (ix2 t l) = (w' t l : EReal)) (t s : Fin 4224) (h : Fin 4) (d : Fin 128) :
    rX P G W (ix4 t s h d) = (pairX (hk q' h) (hk k' h) (hk g' h) (hv v' h) (hv w' h) t s d : EReal) := by
  pointwise [rX, rMask4, rQb, rKb]
  simp only [mask_apply, rQ_real hQ, rK_real hK, rDA_real hV hW, rDec_real hG, ← EReal.coe_mul, sel_zero, pairX]

theorem rA_real (hG : ∀ t l, G (ix2 t l) = (g' t l : EReal)) (hQ : ∀ t l, P (ix2 t (qcol l)) = (q' t l : EReal))
    (hK : ∀ t l, P (ix2 t (kcol l)) = (k' t l : EReal)) (t s : Fin 4224) (h : Fin 4) :
    rA P G (ix3 t s h) = (aW (hk q' h) (hk k' h) (hk g' h) t s : EReal) := by
  pointwise [rA, rQb, rKb]
  simp only [rQ_real hQ, rK_real hK, rDec_real hG, ← EReal.coe_mul, ← coe_sum, aW]

theorem rOutQ_real (hG : ∀ t l, G (ix2 t l) = (g' t l : EReal))
    (hK : ∀ t l, P (ix2 t (kcol l)) = (k' t l : EReal)) (hV : ∀ t l, P (ix2 t (vcol l)) = (v' t l : EReal))
    (hW : ∀ t l, W (ix2 t l) = (w' t l : EReal)) (t : Fin 4224) (h : Fin 4) (d : Fin 128) :
    rOutQ P G W (ix2 t (kl h d)) = (gradQ (hk k' h) (hk g' h) (hv v' h) (hv w' h) t d : EReal) := by
  show rOutQ P G W (ix2 t ⟨128 * h.val + d.val, by omega⟩) = _
  pointwise [rOutQ, rKb]
  simp only [rK_real hK, rDA_real hV hW, rDec_real hG, ← EReal.coe_mul, ← coe_sum, scl_eq, gradQ]
  simp

theorem rOutK_real (hG : ∀ t l, G (ix2 t l) = (g' t l : EReal)) (hQ : ∀ t l, P (ix2 t (qcol l)) = (q' t l : EReal))
    (hV : ∀ t l, P (ix2 t (vcol l)) = (v' t l : EReal))
    (hW : ∀ t l, W (ix2 t l) = (w' t l : EReal)) (t : Fin 4224) (h : Fin 4) (d : Fin 128) :
    rOutK P G W (ix2 t (kl h d)) = (gradK (hk q' h) (hk g' h) (hv v' h) (hv w' h) t d : EReal) := by
  show rOutK P G W (ix2 t ⟨128 * h.val + d.val, by omega⟩) = _
  pointwise [rOutK, rQb]
  simp only [rQ_real hQ, rDA_real hV hW, rDec_real hG, ← EReal.coe_mul, ← coe_sum, gradK]
  simp

theorem rOutV_real (hG : ∀ t l, G (ix2 t l) = (g' t l : EReal)) (hQ : ∀ t l, P (ix2 t (qcol l)) = (q' t l : EReal))
    (hK : ∀ t l, P (ix2 t (kcol l)) = (k' t l : EReal))
    (hW : ∀ t l, W (ix2 t l) = (w' t l : EReal)) (t : Fin 4224) (h : Fin 4) (x : Fin 256) :
    rOutV P G W (ix2 t (vl h x)) = (gradV (hk q' h) (hk k' h) (hk g' h) (hv w' h) t x : EReal) := by
  show rOutV P G W (ix2 t ⟨256 * h.val + x.val, by omega⟩) = _
  pointwise [rOutV, rW]
  simp only [vl_eq, hW, rA_real hG hQ hK, ← EReal.coe_mul, ← coe_sum, gradV]

theorem rDB_real (hG : ∀ t l, G (ix2 t l) = (g' t l : EReal)) (hQ : ∀ t l, P (ix2 t (qcol l)) = (q' t l : EReal))
    (hK : ∀ t l, P (ix2 t (kcol l)) = (k' t l : EReal)) (hV : ∀ t l, P (ix2 t (vcol l)) = (v' t l : EReal))
    (hW : ∀ t l, W (ix2 t l) = (w' t l : EReal)) (t : Fin 4224) (h : Fin 4) (d : Fin 128) :
    rDB P G W (ix3 t h d) = (gradB (hk q' h) (hk k' h) (hk g' h) (hv v' h) (hv w' h) t d : EReal) := by
  pointwise [rDB]
  simp only [rX_real hG hQ hK hV hW, ← EReal.coe_neg, ← coe_sum, ← EReal.coe_add, gradB]
  simp

theorem rOutG_real (hG : ∀ t l, G (ix2 t l) = (g' t l : EReal)) (hQ : ∀ t l, P (ix2 t (qcol l)) = (q' t l : EReal))
    (hK : ∀ t l, P (ix2 t (kcol l)) = (k' t l : EReal)) (hV : ∀ t l, P (ix2 t (vcol l)) = (v' t l : EReal))
    (hW : ∀ t l, W (ix2 t l) = (w' t l : EReal)) (t : Fin 4224) (h : Fin 4) (d : Fin 128) :
    rOutG P G W (ix2 t (kl h d)) = (gradG (hk q' h) (hk k' h) (hk g' h) (hv v' h) (hv w' h) t d : EReal) := by
  show rOutG P G W (ix2 t ⟨128 * h.val + d.val, by omega⟩) = _
  pointwise [rOutG]
  refine (revsum_three (R := 4223) (A := 4) (B := 128) _ _ _ _ ?_ t h d).trans ?_
  · pointwise
  · rw [gradG, coe_sum]
    refine Finset.sum_congr rfl fun s _ => ?_
    rw [rDB_real hG hQ hK hV hW]
    split <;> simp

end Cert.Gla.Ref

end
-- ==== Proof.Prefix.lean ====
/- The states that enter the chunks, as the host operations before the kernel compute them. -/
module

public import proofs.«01_k».proof.Proof.Blocks
public import proofs.«01_k».proof.Proof.Real
public import proofs.«01_k».proof.Proof.CumSum

@[expose] public section

set_option maxRecDepth 16384

noncomputable section

namespace Cert.Gla

open Cert.KernelIdeal Cert.KernelIdeal.Gen Cert.KernelIdeal.Value Idealize.ShloMosaic Idealize.ShloMosaic.TcCoe Idealize.SL.Sem

/-- The mask of the rows before chunk `j`. -/
def past : IVec S66x4224 1 :=
  cmpi .slt (broadcastInDim S66x4224 ![0, 1] bcast_S1x4224_S66x4224_0_1
      (broadcastInDim S1x4224 ![1] bcast_S4224_S1x4224_1 (iotaInDim S4224 32 0)))
    (broadcastInDim S66x4224 ![0, 1] bcast_S66x1_S66x4224_0_1
      (muli (broadcastInDim S66x1 ![] bcast_S_S66x1 (constantI S_ 32 64#32))
        (broadcastInDim S66x1 ![0] bcast_S66_S66x1_0 (iotaInDim S66 32 0))))

/-- The log-decays summed over the rows before chunk `j`. -/
def bIn (G : FVec Ideal S4224x512 .f32) : FVec Ideal S66x512 .f32 :=
  Host.dotGeneral dot_S66x4224_S4224x512_S66x512_1_0_0_1_n_n none (uitofp .f32 past) G

/-- The log-decays summed to each row. -/
def bSum (G : FVec Ideal S4224x512 .f32) : FVec Ideal S4224x512 .f32 :=
  Host.reduceWindowAdd ![4224, 1] ![1, 1] ![4223, 0] ![0, 0] G (broadcastInDim S_ ![] bcast_S_S_ (constant S_ .f32 0x00000000#32))
    reduceWindows_S4224x512_S4224x512_w4224s1p4223_0_w1s1p0_0 h_S_

/-- The decay from each row to the start of chunk `j`, zero for the rows that are not before it. -/
def bDec (G : FVec Ideal S4224x512 .f32) : FVec Ideal S66x4224x512 .f32 :=
  Host.exp (select (broadcastInDim S66x4224x512 ![0, 1, 2] bcast_S66x4224x1_S66x4224x512_0_1_2
      (broadcastInDim S66x4224x1 ![0, 1] bcast_S66x4224_S66x4224x1_0_1 past))
    (subf (broadcastInDim S66x4224x512 ![0, 1, 2] bcast_S66x1x512_S66x4224x512_0_1_2
        (broadcastInDim S66x1x512 ![0, 2] bcast_S66x512_S66x1x512_0_2 (bIn G)))
      (broadcastInDim S66x4224x512 ![0, 1, 2] bcast_S1x4224x512_S66x4224x512_0_1_2
        (broadcastInDim S1x4224x512 ![1, 2] bcast_S4224x512_S1x4224x512_1_2 (bSum G))))
    (broadcastInDim S66x4224x512 ![] bcast_S_S66x4224x512 (constant S_ .f32 0xFF800000#32)))

/-- The keys decayed to the start of chunk `j`. -/
def kDec (P : FVec Ideal S4224x3200 .f32) (G : FVec Ideal S4224x512 .f32) : FVec Ideal S66x4224x512 .f32 :=
  mulf (broadcastInDim S66x4224x512 ![0, 1, 2] bcast_S1x4224x512_S66x4224x512_0_1_2
    (broadcastInDim S1x4224x512 ![1, 2] bcast_S4224x512_S1x4224x512_1_2
      (extractStridedSlice S4224x512 ![0, 512] P slices_S4224x3200_S4224x512_0_512))) (bDec G)

/-- The states that enter the chunks. -/
def states (P : FVec Ideal S4224x3200 .f32) (G : FVec Ideal S4224x512 .f32) : FVec Ideal S4x66x256x128 .f32 :=
  transpose S4x66x256x128 [0, 2, 1, 3]
    (Host.dotGeneral dot_S4224x4x256_S66x4224x4x128_S4x256x66x128_0_1_2_03_1_2 none
      (shapeCast S4224x4x256 (extractStridedSlice S4224x1024 ![0, 1024] P slices_S4224x3200_S4224x1024_0_1024)
        shapeCasts_S4224x1024_S4224x4x256)
      (shapeCast S66x4224x4x128 (kDec P G) shapeCasts_S66x4224x512_S66x4224x4x128))
    transposes_S4x256x66x128_S4x66x256x128_0_2_1_3

/-- What the kernel finds as the states that enter the chunks. -/
theorem V_states (m : (ℓ : Loc nD τ sig) → Buf (Elt Ideal) ℓ) (c : Dev nD) :
    V m c main_v28 = states (m ((c : Thread nD τ).loc main_arg0)) (m ((c : Thread nD τ).loc main_arg1)) := by
  unfold_abbrev_sides
  simp only [hostOps0, hostOps0_1, hostOps0_2, hostOps0_3, hostOps0_4, List.flatten_cons, List.flatten_nil,
    List.append_nil, List.cons_append, List.nil_append]
  after_results
  simp only [states, kDec, bDec, bSum, bIn, past]
  rfl

/-- The constant that stands for minus infinity. -/
theorem negInf_eq : (Ideal.ofBits .f32 0xFF800000#32 : EReal) = ⊥ := by simp [Ideal.ofBits, Ideal.ieee]

theorem past_apply (j : Fin 66) (s : Fin 4224) : past (ix2 j s) = if s.val < 64 * j.val then 1#1 else 0#1 := by
  have e : IntOp.muli (64#32) (BitVec.ofNat 32 j.val) = BitVec.ofNat 32 (64 * j.val) := by
    apply BitVec.eq_of_toNat_eq; simp [IntOp.muli, BitVec.toNat_mul]
  pointwise [past]
  rw [e, WordCmp.cmpi_slt_ofNat (by omega) (by omega)]
  by_cases h : s.val < 64 * j.val <;> simp [h]

variable {P : FVec Ideal S4224x3200 .f32} {G : FVec Ideal S4224x512 .f32}
variable {k' g' : Fin 4224 → Fin 512 → ℝ} {v' : Fin 4224 → Fin 1024 → ℝ}

/-- The log-decays summed to each row, over the reals. -/
def cumG (g : Fin 4224 → Fin 512 → ℝ) (t : Fin 4224) (l : Fin 512) : ℝ := ∑ s, if s ≤ t then g s l else 0

/-- The log-decays summed over the rows before chunk `j`, over the reals. -/
def cumIn (g : Fin 4224 → Fin 512 → ℝ) (j : Fin 66) (l : Fin 512) : ℝ := ∑ s : Fin 4224, if s.val < 64 * j.val then g s l else 0

theorem bIn_real (hG : ∀ t l, G (ix2 t l) = (g' t l : EReal)) (j : Fin 66) (l : Fin 512) :
    bIn G (ix2 j l) = (cumIn g' j l : EReal) := by
  pointwise [bIn]
  rw [cumIn, coe_sum]
  refine Finset.sum_congr rfl fun s _ => ?_
  rw [past_apply, hG]
  split <;> simp [FloatOps.uitofp]

theorem bSum_real (hG : ∀ t l, G (ix2 t l) = (g' t l : EReal)) (t : Fin 4224) (l : Fin 512) :
    bSum G (ix2 t l) = (cumG g' t l : EReal) := by
  unfold bSum
  refine (cumsum_two (R := 4223) (C := 512) G _ _ _ ?_ t l).trans ?_
  · pointwise
  · rw [cumG, coe_sum]
    refine Finset.sum_congr rfl fun s _ => ?_
    rw [hG]
    split <;> simp

theorem bDec_real (hG : ∀ t l, G (ix2 t l) = (g' t l : EReal)) (j : Fin 66) (s : Fin 4224) (l : Fin 512) :
    bDec G (ix3 j s l) = ((if s.val < 64 * j.val then Real.exp (cumIn g' j l - cumG g' s l) else 0 : ℝ) : EReal) := by
  pointwise [bDec]
  rw [past_apply, bIn_real hG, bSum_real hG, negInf_eq]
  by_cases h : s.val < 64 * j.val
  · simp only [h, if_true, Scalar.select]
    rw [← EReal.coe_sub]
    simp [-EReal.coe_sub]
  · simp [h, Scalar.select]

theorem states_real (hG : ∀ t l, G (ix2 t l) = (g' t l : EReal)) (hK : ∀ t l, P (ix2 t (kcol l)) = (k' t l : EReal))
    (hV : ∀ t l, P (ix2 t (vcol l)) = (v' t l : EReal)) (h : Fin 4) (j : Fin 66) (x : Fin 256) (d : Fin 128) :
    states P G (ix4 h j x d) = ((∑ s, v' s (vl h x) * (k' s (kl h d) *
      (if s.val < 64 * j.val then Real.exp (cumIn g' j (kl h d) - cumG g' s (kl h d)) else 0)) : ℝ) : EReal) := by
  have el : (⟨h.val * 128 + d.val, by omega⟩ : Fin 512) = kl h d := Fin.ext (by simp only [kl]; omega)
  have hk : ∀ s, P (ix2 s ⟨512 + (h.val * 128 + d.val), by omega⟩) = (k' s (kl h d) : EReal) := fun s => by
    rw [← hK]; congr 2; apply Fin.ext; simp only [kcol, kl]; omega
  have hv : ∀ s, P (ix2 s ⟨1024 + (h.val * 256 + x.val), by omega⟩) = (v' s (vl h x) : EReal) := fun s => by
    rw [← hV]; congr 2; apply Fin.ext; simp only [vcol, vl]; omega
  pointwise [states, kDec]
  simp only [el, hk, hv, bDec_real hG, ← EReal.coe_mul, ← coe_sum]

end Cert.Gla

end
-- ==== Proof.Bwd.lean ====
/- What the kernel leaves of the four gradients, over real numbers: head by head the mathematics of `Whole`. -/
module

public import proofs.«01_k».proof.Proof.RefReal
public import proofs.«01_k».proof.Proof.Prefix

@[expose] public section

set_option maxRecDepth 16384

noncomputable section

namespace Cert.Gla

open Cert.KernelIdeal Cert.KernelIdeal.Gen Cert.KernelIdeal.Value Idealize.ShloMosaic Idealize.ShloMosaic.TcCoe Idealize.SL.Sem
open Cert.Gla.Ref (hk hv)

variable {m : (ℓ : Loc nD τ sig) → Buf (Elt Ideal) ℓ} {c : Dev nD}
variable {q' k' g' : Fin 4224 → Fin 512 → ℝ} {v' w' : Fin 4224 → Fin 1024 → ℝ}

/-- The projections' queries, keys and values, the log-decays and the output's cotangent are these real numbers. -/
structure AreReal (m : (ℓ : Loc nD τ sig) → Buf (Elt Ideal) ℓ) (c : Dev nD) (q' k' g' : Fin 4224 → Fin 512 → ℝ)
    (v' w' : Fin 4224 → Fin 1024 → ℝ) : Prop where
  Q : ∀ t l, m ((c : Thread nD τ).loc main_arg0) (ix2 t (qcol l)) = (q' t l : EReal)
  K : ∀ t l, m ((c : Thread nD τ).loc main_arg0) (ix2 t (kcol l)) = (k' t l : EReal)
  V : ∀ t l, m ((c : Thread nD τ).loc main_arg0) (ix2 t (vcol l)) = (v' t l : EReal)
  G : ∀ t l, m ((c : Thread nD τ).loc main_arg1) (ix2 t l) = (g' t l : EReal)
  W : ∀ t l, m ((c : Thread nD τ).loc main_arg2) (ix2 t l) = (w' t l : EReal)

variable (A : AreReal m c q' k' g' v' w')
include A

theorem q_real (j : Fin 66) (h : Fin 4) (r : Fin 64) (d : Fin 128) : qB m c (pt j) h (ix2 r d) = (ck (hk q' h) j r d : EReal) := by
  rw [qB_apply, A.Q]
theorem k_real (j : Fin 66) (h : Fin 4) (r : Fin 64) (d : Fin 128) : kB m c (pt j) h (ix2 r d) = (ck (hk k' h) j r d : EReal) := by
  rw [kB_apply, A.K]
theorem v_real (j : Fin 66) (h : Fin 4) (r : Fin 64) (x : Fin 256) : vB m c (pt j) h (ix2 r x) = (ck (hv v' h) j r x : EReal) := by
  rw [vB_apply, A.V]
theorem g_real (j : Fin 66) (h : Fin 4) (r : Fin 64) (d : Fin 128) : gB m c (pt j) h (ix2 r d) = (ck (hk g' h) j r d : EReal) := by
  rw [gB_apply, A.G]
theorem w_real (j : Fin 66) (h : Fin 4) (r : Fin 64) (x : Fin 256) : wB m c (pt j) h (ix2 r x) = (ck (hv w' h) j r x : EReal) := by
  rw [wB_apply, A.W]

/-- The entering states. -/
theorem s_real (j : Fin 66) (h : Fin 4) (x : Fin 256) (d : Fin 128) :
    sB m c (pt j) h (ix2 x d) = (stIn (hk k' h) (hk g' h) (hv v' h) j.val x d : EReal) := by
  rw [sB_apply, V_states, states_real A.G A.K A.V, stIn, L, Finset.sum_filter]
  congr 1
  refine Finset.sum_congr rfl fun s _ => ?_
  have e : cumIn g' j (kl h d) = cumL (hk g' h) j.val d := by rw [cumIn, cumL, L, Finset.sum_filter]
  rw [e]
  split
  · rfl
  · simp

/-- The leaving states' cotangents. -/
theorem d_real (n : ℕ) (j : Fin 66) (hn : j.val + n = 65) (h : Fin 4) (x : Fin 256) (d : Fin 128) :
    dB m c (pt j) h (ix2 x d) = (dstIn (hk q' h) (hk g' h) (hv w' h) (j.val + 1) x d : EReal) := by
  induction n generalizing j x d with
  | zero =>
    obtain rfl : j = 65 := Fin.ext (by simpa using hn)
    rw [dB_last]
    have e : H (((65 : Fin 66).val) + 1) = ∅ := by
      refine Finset.eq_empty_of_forall_notMem fun s hs => ?_
      rw [mem_H] at hs
      have : ((65 : Fin 66).val) = 65 := rfl
      omega
    rw [dstIn, e, Finset.sum_empty]
    pointwise [k0_pay6]
    exact EReal.coe_zero.symm
  | succ n ih =>
    have hj : j.val + 1 < 66 := by omega
    rw [dB_step m c j hj, outS_real (g_real A _ h) (q_real A _ h) (w_real A _ h) (fun x d => ih ⟨j.val + 1, hj⟩ (by simp only; omega) x d),
      outS_eq]

omit A in
theorem row_of (t : Fin 4224) : ∃ j r, t = row j r :=
  ⟨⟨t.val / 64, by omega⟩, ⟨t.val % 64, by omega⟩, Fin.ext (by simp only [row]; omega)⟩

/-- The queries' gradient. -/
theorem arrQ_real (t : Fin 4224) (h : Fin 4) (d : Fin 128) :
    (dats m 0 c).arrAt 6 cfg0.N (ix2 t (kl h d)) = (gradQ (hk k' h) (hk g' h) (hv v' h) (hv w' h) t d : EReal) := by
  obtain ⟨j, r, rfl⟩ := row_of t
  rw [arr_q, outs_q]
  pointwise
  rw [outQ_real (g_real A j h) (k_real A j h) (v_real A j h) (w_real A j h) (s_real A j h), outQ_eq]

/-- The keys' gradient. -/
theorem arrK_real (t : Fin 4224) (h : Fin 4) (d : Fin 128) :
    (dats m 0 c).arrAt 7 cfg0.N (ix2 t (kl h d)) = (gradK (hk q' h) (hk g' h) (hv v' h) (hv w' h) t d : EReal) := by
  obtain ⟨j, r, rfl⟩ := row_of t
  rw [arr_k, outs_k]
  pointwise
  rw [outK_real (g_real A j h) (q_real A j h) (v_real A j h) (w_real A j h) (d_real A (65 - j.val) j (by omega) h), outK_eq]

/-- The values' gradient. -/
theorem arrV_real (t : Fin 4224) (h : Fin 4) (x : Fin 256) :
    (dats m 0 c).arrAt 8 cfg0.N (ix2 t (vl h x)) = (gradV (hk q' h) (hk k' h) (hk g' h) (hv w' h) t x : EReal) := by
  obtain ⟨j, r, rfl⟩ := row_of t
  rw [arr_v, outs_v]
  pointwise
  rw [outV_real (g_real A j h) (q_real A j h) (k_real A j h) (w_real A j h) (d_real A (65 - j.val) j (by omega) h), outV_eq]

/-- The log-decays' gradient. -/
theorem arrG_real (t : Fin 4224) (h : Fin 4) (d : Fin 128) :
    (dats m 0 c).arrAt 9 cfg0.N (ix2 t (kl h d))
      = (gradG (hk q' h) (hk k' h) (hk g' h) (hv v' h) (hv w' h) t d : EReal) := by
  obtain ⟨j, r, rfl⟩ := row_of t
  rw [arr_g, outs_g]
  rw [outG_real (g_real A j h) (q_real A j h) (k_real A j h) (v_real A j h) (w_real A j h) (s_real A j h)
    (d_real A (65 - j.val) j (by omega) h), outG_eq]

end Cert.Gla

end
-- ==== Proof.Finite.lean ====
/- The precondition: the projections' queries, keys and values, the log-decays and the output's cotangent are real numbers. -/
module

public import proofs.«01_k».proof.Defs
public import proofs.«01_k».proof.Proof.Gen.Pre_finite
public import proofs.«01_k».proof.Proof.Bwd

@[expose] public section

set_option maxRecDepth 16384

noncomputable section

namespace Cert.Gla

open Cert.KernelIdeal Cert.KernelIdeal.Gen Idealize.ShloMosaic Idealize.ShloMosaic.TcCoe Idealize.SL.Sem

/-- An extended real whose absolute value is below infinity is a real number. -/
theorem real_of_abs {x : Ideal .f32}
    (h : BitVec.ofBool (decide ((FloatOps.absf x : Ideal .f32) < Ideal.ofBits FTy.f32 0x7F800000#32)) = 1#1) :
    x = ((x : EReal).toReal : EReal) := by
  have hi : (Ideal.ofBits FTy.f32 0x7F800000#32 : EReal) = ⊤ := by simp [Ideal.ofBits, Ideal.ieee]
  have h' : (FloatOps.absf x : Ideal .f32) < Ideal.ofBits FTy.f32 0x7F800000#32 := by
    by_contra hn
    simp [hn] at h
  rw [hi] at h'
  have h'' : max (x : EReal) (-x) < ⊤ := h'
  rw [max_lt_iff] at h''
  refine (EReal.coe_toReal h''.1.ne ?_).symm
  rintro e
  rw [e] at h''
  simp at h''

/-- The precondition says that the arguments are real numbers. -/
theorem areReal {m : (ℓ : Loc nD τ sig) → Buf (Elt Ideal) ℓ} (h : Cert.Pre_KernelIdeal_finite m) (c : Dev nD) :
    AreReal m c (fun t l => EReal.toReal (m ((c : Thread nD τ).loc main_arg0) (ix2 t (qcol l))))
      (fun t l => EReal.toReal (m ((c : Thread nD τ).loc main_arg0) (ix2 t (kcol l))))
      (fun t l => EReal.toReal (m ((c : Thread nD τ).loc main_arg1) (ix2 t l)))
      (fun t l => EReal.toReal (m ((c : Thread nD τ).loc main_arg0) (ix2 t (vcol l))))
      (fun t l => EReal.toReal (m ((c : Thread nD τ).loc main_arg2) (ix2 t l))) := by
  have hp : ∀ (t : Fin 4224) (l : Fin 3200), l.val < 2048 → m ((c : Thread nD τ).loc main_arg0) (ix2 t l)
      = (EReal.toReal (m ((c : Thread nD τ).loc main_arg0) (ix2 t l)) : EReal) := fun t l hl => by
    have e := congrFun (h c).1 (ix2 t ⟨l.val, hl⟩)
    simp only [Cert.Pre_finite.fn] at e
    refine real_of_abs ?_
    revert e
    pointwise
    exact id
  refine ⟨fun t l => hp t (qcol l) (by simp only [qcol]; omega), fun t l => hp t (kcol l) (by simp only [kcol]; omega),
    fun t l => hp t (vcol l) (by simp only [vcol]; omega), fun t l => ?_, fun t l => ?_⟩
  · have e := congrFun (h c).2.1 (ix2 t l)
    simp only [Cert.Pre_finite.fn] at e
    refine real_of_abs ?_
    revert e
    pointwise
    exact id
  · have e := congrFun (h c).2.2 (ix2 t l)
    simp only [Cert.Pre_finite.fn] at e
    refine real_of_abs ?_
    revert e
    pointwise
    exact id

end Cert.Gla

end
-- ==== Proof.Algebraic.lean ====
/- The backward recurrence's claim: the kernel's four gradients are the reference's. -/
module

public import proofs.«01_k».proof.Proof.Finite

@[expose] public section

set_option maxRecDepth 16384

noncomputable section

namespace Cert.Gla

open Idealize.ShloMosaic Idealize.ShloMosaic.TcCoe Idealize.SL.Sem

/-- An index of rows and key lanes, by row, head and lane. -/
theorem idx512 (i : (⟨2, ![4224, 512]⟩ : Shape).Idx) : ∃ (t : Fin 4224) (h : Fin 4) (d : Fin 128), i = ix2 t (kl h d) := by
  have h1 := (i 1).isLt
  change (i 1).val < 512 at h1
  refine ⟨i 0, ⟨(i 1).val / 128, by omega⟩, ⟨(i 1).val % 128, by omega⟩, ?_⟩
  funext a
  fin_cases a
  · rfl
  · exact Fin.ext (by show (i 1).val = 128 * ((i 1).val / 128) + (i 1).val % 128; omega)

/-- An index of rows and value lanes, by row, head and lane. -/
theorem idx1024 (i : (⟨2, ![4224, 1024]⟩ : Shape).Idx) : ∃ (t : Fin 4224) (h : Fin 4) (x : Fin 256), i = ix2 t (vl h x) := by
  have h1 := (i 1).isLt
  change (i 1).val < 1024 at h1
  refine ⟨i 0, ⟨(i 1).val / 256, by omega⟩, ⟨(i 1).val % 256, by omega⟩, ?_⟩
  funext a
  fin_cases a
  · rfl
  · exact Fin.ext (by show (i 1).val = 256 * ((i 1).val / 256) + (i 1).val % 256; omega)

/-- The kernel's gradients of queries, keys, values and log-decays equal the reference's at every index. -/
theorem algebraic : Cert.algebraic_KernelIdeal_ReferenceIdeal_pre_finite := by
  intro m ρ m' ρ' hpre hin
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m ρ, ?_⟩
  refine (θ_run _ _ _).mono (fun r h c => ?_) (Ref.run_named m' ρ')
  obtain ⟨e0, e1, e2⟩ := hin c
  obtain ⟨hq, hk, hv, hg, a0, a1, a2⟩ := h c
  rw [e0, e1, e2] at hq hk hv hg
  have A := areReal hpre c
  refine ⟨hq.trans ?_, hk.trans ?_, hv.trans ?_, hg.trans ?_, a0, a1, a2⟩
  · funext i
    obtain ⟨t, h, d, rfl⟩ := idx512 i
    exact (Ref.rOutQ_real A.G A.K A.V A.W t h d).trans (arrQ_real A t h d).symm
  · funext i
    obtain ⟨t, h, d, rfl⟩ := idx512 i
    exact (Ref.rOutK_real A.G A.Q A.V A.W t h d).trans (arrK_real A t h d).symm
  · funext i
    obtain ⟨t, h, d, rfl⟩ := idx1024 i
    exact (Ref.rOutV_real A.G A.Q A.K A.W t h d).trans (arrV_real A t h d).symm
  · funext i
    obtain ⟨t, h, d, rfl⟩ := idx512 i
    exact (Ref.rOutG_real A.G A.Q A.K A.V A.W t h d).trans (arrG_real A t h d).symm

/-- The reference's frame. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run _ _ _).mono (fun r h => ⟨fun c => ⟨(h c).2.2.2.2.1, (h c).2.2.2.2.2.1, (h c).2.2.2.2.2.2⟩,
    sem_eq_zero_of_no_sems (by decide) r.2⟩) (Cert.ReferenceIdeal.Value.run m ρ)

end Cert.Gla

end
-- ==== Proof.Mat.lean ====
/- The three products of matrices that the step's dense calls compute, index by index. -/
module

public import Idealize.ShloMosaic.Lib.Pipeline.ValueKit
public import Idealize.ShloMosaic.Lib.Pointwise
public import Idealize.ShloMosaic.Lib.Quiescent
public import Idealize.ShloMosaic.PureOps.Ideal

@[expose] public section

noncomputable section

namespace Cert.Mat

open Idealize.ShloMosaic

/-- A matrix over the extended reals. -/
abbrev M (r c : ℕ) := (⟨2, ![r, c]⟩ : Shape).Idx → EReal

/-- Rows of `a` against columns of `b`. -/
def nn {r k c : ℕ} (a : M r k) (b : M k c) (i : Fin r) (j : Fin c) : EReal := ∑ s : Fin k, a (ix2 i s) * b (ix2 s j)
/-- Rows of `a` against rows of `b`. -/
def nt {r k c : ℕ} (a : M r k) (b : M c k) (i : Fin r) (j : Fin c) : EReal := ∑ s : Fin k, a (ix2 i s) * b (ix2 j s)
/-- Columns of `a` against columns of `b`. -/
def tn {r k c : ℕ} (a : M k r) (b : M k c) (i : Fin r) (j : Fin c) : EReal := ∑ s : Fin k, a (ix2 s i) * b (ix2 s j)

/-- The columns of the joint weights that belong to the gate: the first half. -/
def gateCols (w : M 1024 5632) : M 1024 2816 := fun i => w (ix2 (i 0) ⟨(i 1).val, Nat.lt_trans (i 1).isLt (by decide)⟩)
/-- The columns of the joint weights that multiply the gate: the second half. -/
def upCols (w : M 1024 5632) : M 1024 2816 := fun i => w (ix2 (i 0) ⟨2816 + (i 1).val, Nat.add_lt_add_left (i 1).isLt 2816⟩)

/-- A product with the residual added to it. -/
def resid {r k c : Nat} (x : M r k) (w : M k c) (h : M r c) (i : Fin r) (j : Fin c) : EReal := nn x w i j + h (ix2 i j)
/-- The same with its terms exchanged. -/
theorem resid_comm {r k c : Nat} (x : M r k) (w : M k c) (h : M r c) (i : Fin r) :
    resid x w h i = fun j => h (ix2 i j) + nn x w i j := funext fun _ => add_comm _ _

/-- A row's mean square with the small constant added, as the normalisation has it. -/
def meanSq (f : Fin 1024 → EReal) : EReal :=
  Ideal.div (∑ j, f j * f j) (Ideal.ofBits .f32 0x44800000#32) + Ideal.ofBits .f32 0x358637BD#32
/-- One over its root. -/
def invRms (f : Fin 1024 → EReal) : EReal := Ideal.rsqrt (meanSq f)

/-- Offsets of zero. -/
theorem hz : (![0, 0] : Fin 2 → Nat) = fun _ => 0 := funext fun a => by fin_cases a <;> rfl

/-- An index of a matrix by its row and column. -/
theorem idx {r c : ℕ} (i : (⟨2, ![r, c]⟩ : Shape).Idx) : ∃ (x : Fin r) (y : Fin c), i = ix2 x y :=
  ⟨i 0, i 1, by funext a; fin_cases a <;> rfl⟩

end Cert.Mat

end
-- ==== Proof.DownDx.lean ====
/- The gradients of the gate and of the multiplier: the down projection's input gradient, then the gated product's, block by block. -/
module

public import proofs.«01_k».proof.Defs
public import proofs.«01_k».proof.Proof.Gen.Kernel2Ideal.Value
public import proofs.«01_k».proof.Proof.Gen.Reference2Ideal.Run
public import proofs.«01_k».proof.Proof.Gen.Pre_finite2
public import proofs.«01_k».proof.Proof.Finite
public import proofs.«01_k».proof.Proof.Mat

@[expose] public section

set_option maxRecDepth 16384

noncomputable section

namespace Cert.DownDx

open Cert.Mat Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

/-- The blocks of the windows at every grid point: eleven blocks of columns within each of the three blocks of rows. -/
theorem index : ∀ t : Fin cfg0.N,
    win0_0.index t = ![t.val / 11, 0] ∧ win0_1.index t = ![t.val % 11, 0] ∧ win0_2.index t = ![t.val / 11, t.val % 11]
      ∧ win0_3.index t = ![t.val / 11, t.val % 11] ∧ win0_4.index t = ![t.val / 11, t.val % 11]
      ∧ win0_5.index t = ![t.val / 11, t.val % 11] := by
  decide +kernel

/-- The gate's gradient from what comes back to the product, the gate and the multiplier, as the kernel groups it. -/
def dgate (a g u : EReal) : EReal :=
  a * u * (Ideal.logistic g + g * Ideal.logistic g * (1 - Ideal.logistic g))

section Point
variable (x : Vec Ideal S1408x1024 .f32) (w : Vec Ideal S256x1024 .bf16) (g u : Vec Ideal S1408x256 .bf16) (i : Fin 1408) (j : Fin 256)

/-- What a grid point leaves of the gate's gradient. -/
theorem dgate_apply : out0_4 x w g u (ix2 i j) = dgate (nt x w i j) (g (ix2 i j)) (u (ix2 i j)) := by
  unfold out0_4 nt dgate
  rw [View.canon_unit_zero hz]
  unfold k0_pay4 k0_pay3 k0_pay2 k0_pay1
  simp only [View.ld_unit_zero (S := S1408x1024) hz, View.ld_unit_zero (S := S256x1024) hz, View.ld_unit_zero (S := S1408x256) hz]
  pointwise

/-- What a grid point leaves of the multiplier's gradient. -/
theorem dup_apply : out0_5 x w g u (ix2 i j) = nt x w i j * g (ix2 i j) * Ideal.logistic (g (ix2 i j)) := by
  unfold out0_5 nt
  rw [View.canon_unit_zero hz]
  unfold k0_pay5 k0_pay3 k0_pay2 k0_pay1
  simp only [View.ld_unit_zero (S := S1408x1024) hz, View.ld_unit_zero (S := S256x1024) hz, View.ld_unit_zero (S := S1408x256) hz]
  pointwise

end Point

section Array
variable (c : Dev nD) (i : Fin 4224) (j : Fin 2816)

/-- What comes back to the gated product. -/
def A : EReal :=
  nt (r := 4224) (k := 1024) (c := 2816) (m ((c : Thread nD τ).loc main_arg0)) (m ((c : Thread nD τ).loc main_arg1)) i j

/-- The grid point that works on an index. -/
theorem point : ∃ t : Fin cfg0.N, t.val / 11 = i.val / 1408 ∧ t.val % 11 = j.val / 256 :=
  ⟨⟨11 * (i.val / 1408) + j.val / 256, by have : cfg0.N = 33 := rfl; omega⟩, by dsimp only; omega, by dsimp only; omega⟩

/-- A block of what comes back. -/
theorem block (t : Fin cfg0.N) (hr : t.val / 11 = i.val / 1408) (hc : t.val % 11 = j.val / 256) :
    nt (r := 1408) (k := 1024) (c := 256) (iblk m c 0 t) (iblk m c 1 t) ⟨i.val % 1408, by omega⟩ ⟨j.val % 256, by omega⟩ = A m c i j := by
  unfold A nt
  refine Finset.sum_congr rfl fun s _ => ?_
  congr 1 <;> blk_ext [iblk, index t]

/-- The gate's gradient: its array. -/
theorem dgate_arr : (dats m 0 c).arrAt 4 cfg0.N (ix2 i j)
    = dgate (A m c i j) (m ((c : Thread nD τ).loc main_arg2) (ix2 i j)) (m ((c : Thread nD τ).loc main_arg3) (ix2 i j)) := by
  obtain ⟨t, hr, hc⟩ := point i j
  have e := congrFun ((blocks4 m c t (flush0_4 t)).trans (flushed4 m c t)) (ix2 ⟨i.val % 1408, by omega⟩ ⟨j.val % 256, by omega⟩)
  blk_simp at e
  refine Eq.trans ?_ (e.trans ((dgate_apply _ _ _ _ ⟨i.val % 1408, by omega⟩ ⟨j.val % 256, by omega⟩).trans ?_))
  · blk_ext [index t]
  · rw [block m c i j t hr hc]
    congr 1 <;> blk_ext [iblk, index t]

/-- The multiplier's gradient: its array. -/
theorem dup_arr : (dats m 0 c).arrAt 5 cfg0.N (ix2 i j)
    = (fun a g : EReal => a * g * Ideal.logistic g) (A m c i j) (m ((c : Thread nD τ).loc main_arg2) (ix2 i j)) := by
  obtain ⟨t, hr, hc⟩ := point i j
  have e := congrFun ((blocks5 m c t (flush0_5 t)).trans (flushed5 m c t)) (ix2 ⟨i.val % 1408, by omega⟩ ⟨j.val % 256, by omega⟩)
  blk_simp at e
  refine Eq.trans ?_ (e.trans ((dup_apply _ _ _ _ ⟨i.val % 1408, by omega⟩ ⟨j.val % 256, by omega⟩).trans ?_))
  · blk_ext [index t]
  · rw [block m c i j t hr hc]
    refine congrArg (fun g : EReal => A m c i j * g * Ideal.logistic g) ?_
    blk_ext [iblk, index t]

end Array

/-- At real arguments the kernel's grouping is the reference's, at an infinite gate as well. -/
theorem regroup (a u : ℝ) (g : EReal) :
    dgate a g u = a * u * Ideal.logistic g + g * (a * u) * (Ideal.logistic g * (1 - Ideal.logistic g)) := by
  have one : (1 : EReal) - 1 = 0 := by rw [← EReal.coe_one, ← EReal.coe_sub, sub_self, EReal.coe_zero]
  unfold dgate
  induction g with
  | bot => simp only [Ideal.logistic_bot, mul_zero, zero_mul, add_zero]
  | coe x =>
    simp only [Ideal.logistic_coe, ← EReal.coe_one, ← EReal.coe_mul, ← EReal.coe_add, ← EReal.coe_sub]
    exact congrArg _ (by ring)
  | top => simp only [Ideal.logistic_top, one, mul_zero, add_zero]

/-- What comes back is a real number where the two factors are. -/
theorem A_real {m : (ℓ : Loc nD τ sig) → Buf (Elt Ideal) ℓ} (h : Cert.Pre_Kernel2Ideal_finite2 m) (c : Dev nD) (i : Fin 4224) (j : Fin 2816) :
    ∃ a : ℝ, A m c i j = a := by
  have hx : ∀ s : Fin 1024, ∃ r : ℝ, m ((c : Thread nD τ).loc main_arg0) (ix2 i s) = (r : EReal) := fun s => by
    have e := congrFun (h c).1 (ix2 i s)
    simp only [Cert.Pre_finite2.fn] at e
    refine ⟨_, Cert.Gla.real_of_abs ?_⟩
    revert e
    pointwise
    exact id
  have hw : ∀ s : Fin 1024, ∃ r : ℝ, m ((c : Thread nD τ).loc main_arg1) (ix2 j s) = (r : EReal) := fun s => by
    have e := congrFun (h c).2.1 (ix2 j s)
    simp only [Cert.Pre_finite2.fn] at e
    refine ⟨_, Cert.Gla.real_of_abs ?_⟩
    revert e
    pointwise
    exact id
  choose x hx using hx
  choose w hw using hw
  refine ⟨∑ s, x s * w s, ?_⟩
  unfold A nt
  simp only [hx, hw, ← EReal.coe_mul, ← Cert.Gla.coe_sum]

/-- The multiplier is a real number. -/
theorem up_real {m : (ℓ : Loc nD τ sig) → Buf (Elt Ideal) ℓ} (h : Cert.Pre_Kernel2Ideal_finite2 m) (c : Dev nD) (i : Fin 4224) (j : Fin 2816) :
    ∃ u : ℝ, m ((c : Thread nD τ).loc main_arg3) (ix2 i j) = (u : EReal) := by
  have e := congrFun (h c).2.2 (ix2 i j)
  simp only [Cert.Pre_finite2.fn] at e
  refine ⟨_, Cert.Gla.real_of_abs ?_⟩
  revert e
  pointwise
  exact id

/-- The call leaves the gate's and the multiplier's gradients. -/
theorem algebraic : Cert.algebraic_Kernel2Ideal_Reference2Ideal_pre_finite2 := by
  intro m ρ m' ρ' hp hin
  refine ⟨fun c => (dats m 0 c).arrAt 4 cfg0.N, fun c => (dats m 0 c).arrAt 5 cfg0.N, run_blocks m ρ, ?_⟩
  refine (θ_run _ _ _).mono (fun r h c => ?_) (Cert.Reference2Ideal.Value.run m' ρ')
  obtain ⟨e0, e1, e2, e3⟩ := hin c
  obtain ⟨hg, hu, a⟩ := h c
  rw [e0, e1, e2, e3] at hg
  rw [e0, e1, e2] at hu
  refine ⟨hg.trans ?_, hu.trans ?_, a⟩ <;> funext i <;> obtain ⟨x, y, rfl⟩ := idx i
  · refine Eq.trans ?_ (dgate_arr m c x y).symm
    obtain ⟨p, ep⟩ := A_real hp c x y
    obtain ⟨q, eq⟩ := up_real hp c x y
    rw [ep, eq, regroup, ← ep, ← eq]
    pointwise [A, nt, Ideal.logistic]
  · refine Eq.trans ?_ (dup_arr m c x y).symm
    pointwise [A, nt, Ideal.logistic]
    rw [mul_comm, ← mul_assoc]

/-- The reference's frame. -/
theorem frame_ref : Cert.quiescent_Reference2Ideal := fun m ρ _ =>
  (θ_run _ _ _).mono (fun r h => ⟨fun c => (h c).2.2, sem_eq_zero_of_no_sems (by decide) r.2⟩) (Cert.Reference2Ideal.Value.run m ρ)

end Cert.DownDx

end
-- ==== Proof.GateDw.lean ====
/- The gradient of the gate's weights: the blocks of columns that the call writes are the columns of one product. -/
module

public import proofs.«01_k».proof.Defs
public import proofs.«01_k».proof.Proof.Gen.Kernel3Ideal.Value
public import proofs.«01_k».proof.Proof.Gen.Reference3Ideal.Run
public import proofs.«01_k».proof.Proof.Mat

@[expose] public section

set_option maxRecDepth 16384

noncomputable section

namespace Cert.GateDw

open Cert.Mat Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

/-- Where the blocks of each window lie, at every grid point. -/
theorem index : ∀ t : Fin cfg0.N, win0_0.index t = ![0, 0] ∧ win0_1.index t = ![0, t.val] ∧ win0_2.index t = ![0, t.val] := by
  decide +kernel

/-- What a grid point leaves: the product of its two blocks. -/
theorem out_apply (x : Vec Ideal S4224x1024 .bf16) (y : Vec Ideal S4224x256 .bf16) (i : Fin 1024) (j : Fin 256) :
    out0_2 x y (ix2 i j) = tn x y i j := by
  unfold out0_2 tn
  rw [View.canon_unit_zero hz]
  unfold k0_pay1
  simp only [View.ld_unit_zero (S := S4224x1024) hz, View.ld_unit_zero (S := S4224x256) hz]
  pointwise

/-- The result's array, index by index. -/
theorem arr_apply (c : Dev nD) (i : Fin 1024) (j : Fin 2816) :
    (dats m 0 c).arrAt 2 cfg0.N (ix2 i j) = tn (m ((c : Thread nD τ).loc main_arg0)) (m ((c : Thread nD τ).loc main_arg1)) i j := by
  have hN : cfg0.N = 11 := rfl
  obtain ⟨t, ht⟩ : ∃ t : Fin cfg0.N, t.val = j.val / 256 := ⟨⟨j.val / 256, by omega⟩, rfl⟩
  have e := congrFun ((blocks2 m c t (flush0_2 t)).trans (flushed2 m c t)) (ix2 i ⟨j.val % 256, by omega⟩)
  blk_simp at e
  refine Eq.trans ?_ (e.trans ((out_apply _ _ i ⟨j.val % 256, by omega⟩).trans ?_))
  · blk_ext [index t]
  · unfold tn
    refine Finset.sum_congr rfl fun s _ => ?_
    congr 1 <;> blk_ext [iblk, index t]

/-- The call leaves the weights' gradient. -/
theorem algebraic : Cert.algebraic_Kernel3Ideal_Reference3Ideal := by
  intro m ρ m' ρ' _ hin
  refine ⟨fun c => (dats m 0 c).arrAt 2 cfg0.N, run_blocks m ρ, ?_⟩
  refine (θ_run _ _ _).mono (fun r h c => ?_) (Cert.Reference3Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [tn]
  exact Finset.sum_congr rfl fun s _ => mul_comm _ _

/-- The reference's frame. -/
theorem frame_ref : Cert.quiescent_Reference3Ideal := fun m ρ _ =>
  (θ_run _ _ _).mono (fun r h => ⟨fun c => (h c).2, sem_eq_zero_of_no_sems (by decide) r.2⟩) (Cert.Reference3Ideal.Value.run m ρ)

end Cert.GateDw

end
-- ==== Proof.DownDw.lean ====
/- The gradient of the down projection's weights: the blocks that the call writes are the blocks of one product. -/
module

public import proofs.«01_k».proof.Defs
public import proofs.«01_k».proof.Proof.Gen.Kernel4Ideal.Value
public import proofs.«01_k».proof.Proof.Gen.Reference4Ideal.Run
public import proofs.«01_k».proof.Proof.Mat

@[expose] public section

set_option maxRecDepth 16384

noncomputable section

namespace Cert.DownDw

open Cert.Mat Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- The blocks of the windows at every grid point: eleven blocks of rows within each of the two blocks of columns. -/
theorem index : ∀ t : Fin cfg0.N,
    win0_0.index t = ![0, t.val % 11] ∧ win0_1.index t = ![0, t.val / 11] ∧ win0_2.index t = ![t.val % 11, t.val / 11] := by
  decide +kernel

/-- What a grid point leaves: the product of its two blocks. -/
theorem out_apply (x : Vec Ideal S4224x256 .bf16) (y : Vec Ideal S4224x512 .f32) (i : Fin 256) (j : Fin 512) :
    out0_2 x y (ix2 i j) = tn x y i j := by
  unfold out0_2 tn
  rw [View.canon_unit_zero hz]
  unfold k0_pay1
  simp only [View.ld_unit_zero (S := S4224x256) hz, View.ld_unit_zero (S := S4224x512) hz]
  pointwise

/-- The result's array, index by index. -/
theorem arr_apply (c : Dev nD) (i : Fin 2816) (j : Fin 1024) :
    (dats m 0 c).arrAt 2 cfg0.N (ix2 i j) = tn (m ((c : Thread nD τ).loc main_arg0)) (m ((c : Thread nD τ).loc main_arg1)) i j := by
  have hN : cfg0.N = 22 := rfl
  obtain ⟨t, hr, hc⟩ : ∃ t : Fin cfg0.N, t.val % 11 = i.val / 256 ∧ t.val / 11 = j.val / 512 :=
    ⟨⟨11 * (j.val / 512) + i.val / 256, by omega⟩, by dsimp only; omega, by dsimp only; omega⟩
  have e := congrFun ((blocks2 m c t (flush0_2 t)).trans (flushed2 m c t)) (ix2 ⟨i.val % 256, by omega⟩ ⟨j.val % 512, by omega⟩)
  blk_simp at e
  refine Eq.trans ?_ (e.trans ((out_apply _ _ ⟨i.val % 256, by omega⟩ ⟨j.val % 512, by omega⟩).trans ?_))
  · blk_ext [index t]
  · unfold tn
    refine Finset.sum_congr rfl fun s _ => ?_
    congr 1 <;> blk_ext [iblk, index t]

/-- The call leaves the weights' gradient. -/
theorem algebraic : Cert.algebraic_Kernel4Ideal_Reference4Ideal := by
  intro m ρ m' ρ' _ hin
  refine ⟨fun c => (dats m 0 c).arrAt 2 cfg0.N, run_blocks m ρ, ?_⟩
  refine (θ_run _ _ _).mono (fun r h c => ?_) (Cert.Reference4Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [tn]
  exact Finset.sum_congr rfl fun s _ => mul_comm _ _

/-- The reference's frame. -/
theorem frame_ref : Cert.quiescent_Reference4Ideal := fun m ρ _ =>
  (θ_run _ _ _).mono (fun r h => ⟨fun c => (h c).2, sem_eq_zero_of_no_sems (by decide) r.2⟩) (Cert.Reference4Ideal.Value.run m ρ)

end Cert.DownDw

end
-- ==== Proof.GateDx.lean ====
/- The gate's part of the normed rows' cotangent: blocks of rows against rows of the first half of the joint weights. -/
module

public import proofs.«01_k».proof.Defs
public import proofs.«01_k».proof.Proof.Gen.Kernel5Ideal.Value
public import proofs.«01_k».proof.Proof.Gen.Reference5Ideal.Run
public import proofs.«01_k».proof.Proof.Mat

@[expose] public section

set_option maxRecDepth 16384

noncomputable section

namespace Cert.GateDx

open Cert.Mat Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ)

/-- The blocks of the windows at every grid point: two blocks of columns within each of the three blocks of rows. -/
theorem index : ∀ t : Fin cfg0.N,
    win0_0.index t = ![t.val / 2, 0] ∧ win0_1.index t = ![t.val % 2, 0] ∧ win0_2.index t = ![t.val / 2, t.val % 2] := by
  decide +kernel

/-- What a grid point leaves: the product of its two blocks. -/
theorem out_apply (x : Vec Ideal S1408x2816 .bf16) (y : Vec Ideal S512x2816 .bf16) (i : Fin 1408) (j : Fin 512) :
    out0_2 x y (ix2 i j) = nt x y i j := by
  unfold out0_2 nt
  rw [View.canon_unit_zero hz]
  unfold k0_pay1
  simp only [View.ld_unit_zero (S := S1408x2816) hz, View.ld_unit_zero (S := S512x2816) hz]
  pointwise

/-- The result's array, index by index. -/
theorem arr_apply (c : Dev nD) (i : Fin 4224) (j : Fin 1024) :
    (dats m 0 c).arrAt 2 cfg0.N (ix2 i j)
      = nt (m ((c : Thread nD τ).loc main_arg0)) (gateCols (m ((c : Thread nD τ).loc main_arg1))) i j := by
  have hN : cfg0.N = 6 := rfl
  obtain ⟨t, hr, hc⟩ : ∃ t : Fin cfg0.N, t.val / 2 = i.val / 1408 ∧ t.val % 2 = j.val / 512 :=
    ⟨⟨2 * (i.val / 1408) + j.val / 512, by omega⟩, by dsimp only; omega, by dsimp only; omega⟩
  have e := congrFun ((blocks2 m c t (flush0_2 t)).trans (flushed2 m c t)) (ix2 ⟨i.val % 1408, by omega⟩ ⟨j.val % 512, by omega⟩)
  blk_simp at e
  refine Eq.trans ?_ (e.trans ((out_apply _ _ ⟨i.val % 1408, by omega⟩ ⟨j.val % 512, by omega⟩).trans ?_))
  · blk_ext [index t]
  · unfold nt gateCols
    refine Finset.sum_congr rfl fun s _ => ?_
    congr 1 <;> blk_ext [iblk, index t]

/-- The call leaves the cotangent. -/
theorem algebraic : Cert.algebraic_Kernel5Ideal_Reference5Ideal := by
  intro m ρ m' ρ' _ hin
  refine ⟨fun c => (dats m 0 c).arrAt 2 cfg0.N, run_blocks m ρ, ?_⟩
  refine (θ_run _ _ _).mono (fun r h c => ?_) (Cert.Reference5Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [nt, gateCols]

/-- The reference's frame. -/
theorem frame_ref : Cert.quiescent_Reference5Ideal := fun m ρ _ =>
  (θ_run _ _ _).mono (fun r h => ⟨fun c => (h c).2, sem_eq_zero_of_no_sems (by decide) r.2⟩) (Cert.Reference5Ideal.Value.run m ρ)

end Cert.GateDx

end
-- ==== Proof.NormBack.lean ====
/- The normalisation's backward pass on one row, and a sum over all rows taken block after block. -/
module

public import proofs.«01_k».proof.Proof.Mat

@[expose] public section

noncomputable section

namespace Cert.NormBack

open Cert.Mat Idealize.ShloMosaic

/-- What reaches a row's elements through its mean square: the same factor for every element, met twice by the square. -/
def share (f d g : Fin 1024 → EReal) : EReal :=
  Ideal.div ((∑ l, f l * (d l * g l)) * (Ideal.ofBits .f32 0xBF000000#32 * Ideal.div (invRms f) (meanSq f))) (Ideal.ofBits .f32 0x44800000#32)

/-- The row's gradient: `f` the row, `d` what comes back to the normalised row, `g` the scale. -/
def back (f d g : Fin 1024 → EReal) (j : Fin 1024) : EReal :=
  d j * g j * invRms f + f j * share f d g + share f d g * f j

/-- The scale's gradient: a sum over all rows. -/
def scale {r : Nat} (f d : Fin r → Fin 1024 → EReal) (j : Fin 1024) : EReal := ∑ i, f i j * invRms (f i) * d i j

/-- What comes back to the normalised rows: a product and what another branch brought. -/
def cot {r k : Nat} (x : M r k) (w : M 1024 k) (p : M r 1024) (i : Fin r) (j : Fin 1024) : EReal := nt x w i j + p (ix2 i j)

/-- The same with its terms exchanged. -/
theorem cot_comm {r k : Nat} (x : M r k) (w : M 1024 k) (p : M r 1024) :
    cot x w p = fun i j => p (ix2 i j) + nt x w i j := funext fun _ => funext fun _ => add_comm _ _

/-- The rows of an array. -/
def rows {r c : Nat} (x : M r c) (i : Fin r) (j : Fin c) : EReal := x (ix2 i j)

/-- A value per row, with zero beyond the rows. -/
def ext (F : Fin 4224 → EReal) (k : ℕ) : EReal := if h : k < 4224 then F ⟨k, h⟩ else 0

/-- All rows make the whole sum. -/
theorem sum_ext (F : Fin 4224 → EReal) : ∑ k ∈ Finset.range (384 * (10 + 1)), ext F k = ∑ i, F i := by
  rw [show 384 * (10 + 1) = 4224 from rfl, Finset.sum_range]
  exact Finset.sum_congr rfl fun i _ => dif_pos i.isLt

/-- One more block of rows. -/
theorem sum_block (F : Fin 4224 → EReal) (n : ℕ) (hn : n < 11) :
    ∑ k ∈ Finset.range (384 * (n + 1)), ext F k
      = ∑ k ∈ Finset.range (384 * n), ext F k + ∑ i : Fin 384, F ⟨384 * n + i.val, by omega⟩ := by
  rw [Nat.mul_succ, Finset.sum_range_add, Finset.sum_range (n := 384)]
  exact congrArg _ (Finset.sum_congr rfl fun i _ => dif_pos _)

end Cert.NormBack

end
-- ==== Proof.UpDxNorm.lean ====
/- The multiplier's input gradient and the backward pass of the normalisation before it; the scale's gradient is summed over the grid. -/
module

public import proofs.«01_k».proof.Defs
public import proofs.«01_k».proof.Proof.Gen.Kernel6Ideal.Value
public import proofs.«01_k».proof.Proof.Gen.Reference6Ideal.Run
public import proofs.«01_k».proof.Proof.NormBack

@[expose] public section

set_option maxRecDepth 16384

noncomputable section

namespace Cert.UpDxNorm

open Cert.Mat Cert.NormBack Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ)

/-- The blocks of the windows at every grid point: eleven blocks of rows, the weights' second half, one scale. -/
theorem index : ∀ t : Fin cfg0.N,
    win0_0.index t = ![t.val, 0] ∧ win0_1.index t = ![0, 1] ∧ win0_2.index t = ![t.val, 0] ∧ win0_3.index t = ![0, 0]
      ∧ win0_4.index t = ![t.val, 0] ∧ win0_5.index t = ![t.val, 0] ∧ win0_6.index t = ![t.val, 0] ∧ win0_7.index t = ![0, 0] := by
  decide +kernel

section Point
variable (x : Vec Ideal S384x2816 .bf16) (w : Vec Ideal S1024x2816 .bf16) (p h : Vec Ideal S384x1024 .f32) (g : Vec Ideal S1x1024 .f32)
  (d : Vec Ideal S384x1024 .f32) (i : Fin 384) (j : Fin 1024)

/-- The rows' gradient in a block. -/
theorem rows_apply : k0_pay1 (k0_pay8 x w p h g) d (ix2 i j) = d (ix2 i j) + back (rows h i) (cot x w p i) (rows g 0) j := by
  unfold k0_pay1 k0_pay8 k0_pay6 k0_pay5 k0_pay4 back share invRms meanSq cot nt rows
  pointwise
  simp only [Fin.sum_univ_one]

/-- A block's part of the scale's gradient. -/
theorem part_apply : k0_pay7 x w p h (ix2 0 j) = scale (rows h) (cot x w p) j := by
  unfold k0_pay7 k0_pay6 k0_pay5 k0_pay4 scale invRms meanSq cot nt rows
  pointwise

end Point

section Step
variable (c : Dev nD) (t : Fin cfg0.N)

/-- Every point leaves its rows' gradient. -/
theorem rows_step : (outsAt0 m c t.val t.isLt).1
    = k0_pay1 (k0_pay8 (iblk m c 0 t) (iblk m c 1 t) (iblk m c 5 t) (iblk m c 2 t) (iblk m c 3 t)) (iblk m c 4 t) := by
  by_cases h0 : t.val % 11 = 0
  · rw [outsAt0_A m c t h0]
    dsimp only
    unfold out0_A_6
    rw [View.read_writes_eq_canon _ _ _ (fun _ => cover0_A_6 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      (hs0_4 t).read_unread, (hs0_5 t).read_unread, View.ld_unit_zero (S := S384x2816) hz, View.ld_unit_zero (S := S1024x2816) hz,
      View.ld_unit_zero (S := S384x1024) hz, View.ld_unit_zero (S := S1x1024) hz]
  · rw [outsAt0_B m c t h0]
    dsimp only
    unfold out0_B_6
    rw [View.read_writes_eq_canon _ _ _ (fun _ => cover0_B_6 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      (hs0_4 t).read_unread, (hs0_5 t).read_unread, View.ld_unit_zero (S := S384x2816) hz, View.ld_unit_zero (S := S1024x2816) hz,
      View.ld_unit_zero (S := S384x1024) hz, View.ld_unit_zero (S := S1x1024) hz]

/-- The first point starts the scale's gradient from zero. -/
theorem scale_first (h0 : t.val % 11 = 0) : (outsAt0 m c t.val t.isLt).2
    = k0_pay3 (k0_pay7 (iblk m c 0 t) (iblk m c 1 t) (iblk m c 5 t) (iblk m c 2 t)) (k0_pay2 (F := Ideal)) := by
  rw [outsAt0_A m c t h0]
  dsimp only
  unfold out0_A_7
  rw [View.read_writes_eq_canon _ _ _ (fun _ => cover0_A_7 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread,
    (hs0_5 t).read_unread, View.ld_unit_zero (S := S384x2816) hz, View.ld_unit_zero (S := S1024x2816) hz,
    View.ld_unit_zero (S := S384x1024) hz, View.ld_unit_zero (S := S1x1024) hz]

/-- Every later point adds its part. -/
theorem scale_next (h0 : ¬t.val % 11 = 0) : (outsAt0 m c t.val t.isLt).2
    = k0_pay3 (k0_pay7 (iblk m c 0 t) (iblk m c 1 t) (iblk m c 5 t) (iblk m c 2 t))
        (outsAt0 m c (t.val - 1) (Nat.lt_of_le_of_lt (Nat.sub_le _ _) t.isLt)).2 := by
  rw [outsAt0_B m c t h0]
  dsimp only
  unfold out0_B_7
  rw [View.read_writes_eq_canon _ _ _ (fun _ => cover0_B_7 ..)]
  unfold kernelRun0_B
  dsimp only
  rw [View.canon_unit_zero hz]
  sl_unfold_words
  simp only [View.readAt_eq_ld, (hs0_0 t).read_unread, (hs0_1 t).read_unread, (hs0_2 t).read_unread,
    (hs0_5 t).read_unread, (hs0_7 t).read_unread, View.ld_unit_zero (S := S384x2816) hz, View.ld_unit_zero (S := S1024x2816) hz,
    View.ld_unit_zero (S := S384x1024) hz, View.ld_unit_zero (S := S1x1024) hz]

end Step

section Array
variable (c : Dev nD) (i : Fin 4224) (j : Fin 1024)

/-- What comes back to the normalised rows. -/
def D : Fin 4224 → Fin 1024 → EReal :=
  cot (k := 2816) (m ((c : Thread nD τ).loc main_arg0)) (upCols (m ((c : Thread nD τ).loc main_arg1))) (m ((c : Thread nD τ).loc main_arg5))

/-- The rows before the normalisation. -/
def H : Fin 4224 → Fin 1024 → EReal := rows (m ((c : Thread nD τ).loc main_arg2))

variable (t : Fin cfg0.N) (k : Fin 384)

/-- A block of what comes back. -/
theorem cot_block (e : i.val = 384 * t.val + k.val) : cot (k := 2816) (iblk m c 0 t) (iblk m c 1 t) (iblk m c 5 t) k = D m c i := by
  funext j
  unfold D cot nt upCols
  refine congrArg₂ _ (Finset.sum_congr rfl fun s _ => ?_) ?_
  · congr 1 <;> blk_ext [iblk, index t]
  · blk_ext [iblk, index t]

/-- A block of the rows. -/
theorem rows_block (e : i.val = 384 * t.val + k.val) : rows (r := 384) (c := 1024) (iblk m c 2 t) k = H m c i := by
  funext j
  unfold H rows
  blk_ext [iblk, index t]

/-- The rows' gradient: its array. -/
theorem rows_arr : (dats m 0 c).arrAt 6 cfg0.N (ix2 i j)
    = rows (r := 4224) (c := 1024) (m ((c : Thread nD τ).loc main_arg4)) i j
      + back (H m c i) (D m c i) (rows (m ((c : Thread nD τ).loc main_arg3) : M 1 1024) 0) j := by
  obtain ⟨t, ht⟩ : ∃ t : Fin cfg0.N, t.val = i.val / 384 := ⟨⟨i.val / 384, by have : cfg0.N = 11 := rfl; omega⟩, rfl⟩
  obtain ⟨k, hk⟩ : ∃ k : Fin 384, k.val = i.val % 384 := ⟨⟨i.val % 384, by omega⟩, rfl⟩
  have e := congrFun ((blocks6 m c t (flush0_6 t)).trans ((flushed6 m c t).trans (congrArg _ (rows_step m c t)))) (ix2 k j)
  blk_simp at e
  refine Eq.trans ?_ (e.trans ((rows_apply _ _ _ _ _ _ k j).trans ?_))
  · blk_ext [index t]
  · rw [cot_block m c i t k (by omega), rows_block m c i t k (by omega)]
    refine congrArg₂ _ ?_ (congrArg (fun g => back _ _ g j) (funext fun l => ?_))
    all_goals unfold rows; blk_ext [iblk, index t]

/-- A point's part of the scale's gradient. -/
theorem part_block : k0_pay7 (iblk m c 0 t) (iblk m c 1 t) (iblk m c 5 t) (iblk m c 2 t) (ix2 0 j)
    = ∑ k : Fin 384, (fun i => H m c i j * invRms (H m c i) * D m c i j)
        (⟨384 * t.val + k.val, by have := t.isLt; have : cfg0.N = 11 := rfl; omega⟩ : Fin 4224) := by
  refine (part_apply _ _ _ _ j).trans (Finset.sum_congr rfl fun k _ => ?_)
  rw [cot_block m c ⟨384 * t.val + k.val, by have := t.isLt; have : cfg0.N = 11 := rfl; omega⟩ t k rfl,
    rows_block m c ⟨384 * t.val + k.val, by have := t.isLt; have : cfg0.N = 11 := rfl; omega⟩ t k rfl]

/-- A part added to what there is. -/
theorem add_apply (a b : Vec Ideal S1x1024 .f32) : k0_pay3 a b (ix2 0 j) = b (ix2 0 j) + a (ix2 0 j) := by
  unfold k0_pay3
  pointwise

/-- The start. -/
theorem zero_apply : k0_pay2 (F := Ideal) (ix2 0 j) = 0 := by
  unfold k0_pay2
  pointwise

/-- The scale's gradient after every point: the rows so far. -/
theorem scale_sum : ∀ (n : ℕ) (h : n < cfg0.N), (outsAt0 m c n h).2 (ix2 0 j)
    = ∑ k ∈ Finset.range (384 * (n + 1)), ext (fun i => H m c i j * invRms (H m c i) * D m c i j) k
  | 0, h => by
    rw [scale_first m c ⟨0, h⟩ rfl, sum_block _ _ (by decide), add_apply, zero_apply, part_block]
    rfl
  | n + 1, h => by
    have hN : cfg0.N = 11 := rfl
    rw [scale_next m c ⟨n + 1, h⟩ (by dsimp only; omega), sum_block _ _ (by omega), ← scale_sum n (by omega), add_apply, part_block]
    rfl

/-- The last point writes the one block that is the scale's array. -/
theorem last (R : Vec Ideal S1x1024 .f32) (hR : ∀ t : Fin cfg0.N, t.val = 10 → (outsAt0 m c t.val t.isLt).2 = R) :
    (dats m 0 c).arrAt 7 cfg0.N = R := by
  have hN : cfg0.N = 11 := rfl
  have hz' (t : Fin cfg0.N) : (fun a => win0_7.index t a * main_v0_1.ty.shape.size a) = fun _ => 0 := by
    rw [(index t).2.2.2.2.2.2.2]; funext a; fin_cases a <;> rfl
  refine (dats m 0 c).arrAt_eq_of_cover 7 R (fun t h => ?_) fun i => ?_
  · rw [flushed7, hR t (by have := (flush0_7 t).mp h; have := t.isLt; omega)]
    exact (Memref.read_access_unit_zero (Elt Ideal) main_v0_1 (hz' t) (fun a => by rw [congrFun (hz' t) a]; simp) R).symm
  · obtain ⟨t, ht⟩ : ∃ t : Fin cfg0.N, t.val = 10 := ⟨⟨10, by omega⟩, rfl⟩
    refine ⟨t, (flush0_7 t).mpr (by omega), ?_⟩
    show i ∈ ((View.whole main_v0_1).slice (win0_7.rect t)).set
    rw [View.set_slice_whole, Rect.mem_set_unit]
    intro a
    show win0_7.index t a * main_v0_1.ty.shape.size a ≤ (i a : Nat)
      ∧ (i a : Nat) < win0_7.index t a * main_v0_1.ty.shape.size a + main_v0_1.ty.shape.size a
    rw [congrFun (hz' t) a, Nat.zero_add]
    exact ⟨Nat.zero_le _, (i a).isLt⟩

/-- The scale's gradient: its array. -/
theorem scale_arr : (dats m 0 c).arrAt 7 cfg0.N (ix2 0 j) = scale (H m c) (D m c) j := by
  have hN : cfg0.N = 11 := rfl
  obtain ⟨t, ht⟩ : ∃ t : Fin cfg0.N, t.val = 10 := ⟨⟨10, by omega⟩, rfl⟩
  rw [last m c _ fun s hs => by rw [show s = t from Fin.ext (hs.trans ht.symm)], scale_sum, ht]
  exact sum_ext _

end Array

/-- The call leaves the rows' gradient, the residual branch's added, and the scale's gradient. -/
theorem algebraic : Cert.algebraic_Kernel6Ideal_Reference6Ideal := by
  intro m ρ m' ρ' _ hin
  refine ⟨fun c => (dats m 0 c).arrAt 6 cfg0.N, fun c => (dats m 0 c).arrAt 7 cfg0.N, run_blocks m ρ, ?_⟩
  refine (θ_run _ _ _).mono (fun r h c => ?_) (Cert.Reference6Ideal.Value.run m' ρ')
  obtain ⟨e0, e1, e2, e3, e4, e5⟩ := hin c
  obtain ⟨hd, hs, a⟩ := h c
  unfold Cert.Reference6Ideal.Value.res_main_v40 at hd
  rw [e0, e1, e2, e3, e4, e5] at hd
  rw [e0, e1, e2, e5] at hs
  refine ⟨hd.trans ?_, hs.trans ?_, a⟩ <;> funext i <;> obtain ⟨x, y, rfl⟩ := idx i
  · refine Eq.trans ?_ (rows_arr m c x y).symm
    unfold D H
    rw [cot_comm]
    unfold back share invRms meanSq nt upCols rows
    simp only [← add_assoc]
    pointwise
    simp only [Fin.sum_univ_one]
  · obtain rfl : x = 0 := Subsingleton.elim _ _
    refine Eq.trans ?_ (scale_arr m c y).symm
    unfold D H
    rw [cot_comm]
    unfold scale invRms meanSq nt upCols rows
    pointwise

/-- The reference's frame. -/
theorem frame_ref : Cert.quiescent_Reference6Ideal := fun m ρ _ =>
  (θ_run _ _ _).mono (fun r h => ⟨fun c => (h c).2.2, sem_eq_zero_of_no_sems (by decide) r.2⟩) (Cert.Reference6Ideal.Value.run m ρ)

end Cert.UpDxNorm

end
-- ==== Proof.GateUp.lean ====
/- The forward pass of the gated channel mixer: gate, multiplier and their combination, block by block. -/
module

public import proofs.«01_k».proof.Defs
public import proofs.«01_k».proof.Proof.Gen.Kernel7Ideal.Value
public import proofs.«01_k».proof.Proof.Gen.Reference7Ideal.Run
public import proofs.«01_k».proof.Proof.Mat

@[expose] public section

set_option maxRecDepth 16384

noncomputable section

namespace Cert.GateUp

open Cert.Mat Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

/-- The blocks of the windows at every grid point: eleven blocks of columns within each of the three blocks of rows. -/
theorem index : ∀ t : Fin cfg0.N,
    win0_0.index t = ![t.val / 11, 0] ∧ win0_1.index t = ![0, t.val % 11] ∧ win0_2.index t = ![0, 11 + t.val % 11]
      ∧ win0_3.index t = ![t.val / 11, t.val % 11] ∧ win0_4.index t = ![t.val / 11, t.val % 11]
      ∧ win0_5.index t = ![t.val / 11, t.val % 11] := by
  decide +kernel

section Point
variable (x : Vec Ideal S1408x1024 .bf16) (y z : Vec Ideal S1024x256 .bf16) (i : Fin 1408) (j : Fin 256)

/-- What a grid point leaves of the gate. -/
theorem gate_apply : out0_4 x y z (ix2 i j) = nn x y i j := by
  unfold out0_4 nn
  rw [View.canon_unit_zero hz]
  unfold k0_pay4 k0_pay1
  simp only [View.ld_unit_zero (S := S1408x1024) hz, View.ld_unit_zero (S := S1024x256) hz]
  pointwise

/-- What a grid point leaves of the multiplier. -/
theorem up_apply : out0_5 x y z (ix2 i j) = nn x z i j := by
  unfold out0_5 nn
  rw [View.canon_unit_zero hz]
  unfold k0_pay5 k0_pay2
  simp only [View.ld_unit_zero (S := S1408x1024) hz, View.ld_unit_zero (S := S1024x256) hz]
  pointwise

/-- What a grid point leaves of the combination. -/
theorem act_apply : out0_3 x y z (ix2 i j) = nn x y i j * Ideal.logistic (nn x y i j) * nn x z i j := by
  unfold out0_3 nn
  rw [View.canon_unit_zero hz]
  unfold k0_pay3 k0_pay1 k0_pay2
  simp only [View.ld_unit_zero (S := S1408x1024) hz, View.ld_unit_zero (S := S1024x256) hz]
  pointwise

end Point

section Array
variable (c : Dev nD) (i : Fin 4224) (j : Fin 2816)

/-- The grid point that works on an index. -/
theorem point : ∃ t : Fin cfg0.N, t.val / 11 = i.val / 1408 ∧ t.val % 11 = j.val / 256 :=
  ⟨⟨11 * (i.val / 1408) + j.val / 256, by have : cfg0.N = 33 := rfl; omega⟩, by dsimp only; omega, by dsimp only; omega⟩

/-- A block of rows against the gate's block of columns. -/
theorem gate_block (t : Fin cfg0.N) (hr : t.val / 11 = i.val / 1408) (hc : t.val % 11 = j.val / 256) :
    nn (r := 1408) (k := 1024) (c := 256) (iblk m c 0 t) (iblk m c 1 t) ⟨i.val % 1408, by omega⟩ ⟨j.val % 256, by omega⟩
      = nn (m ((c : Thread nD τ).loc main_arg0)) (gateCols (m ((c : Thread nD τ).loc main_arg1))) i j := by
  unfold nn gateCols
  refine Finset.sum_congr rfl fun s _ => ?_
  congr 1 <;> blk_ext [iblk, index t]

/-- A block of rows against the multiplier's block of columns. -/
theorem up_block (t : Fin cfg0.N) (hr : t.val / 11 = i.val / 1408) (hc : t.val % 11 = j.val / 256) :
    nn (r := 1408) (k := 1024) (c := 256) (iblk m c 0 t) (iblk m c 2 t) ⟨i.val % 1408, by omega⟩ ⟨j.val % 256, by omega⟩
      = nn (m ((c : Thread nD τ).loc main_arg0)) (upCols (m ((c : Thread nD τ).loc main_arg1))) i j := by
  unfold nn upCols
  refine Finset.sum_congr rfl fun s _ => ?_
  congr 1 <;> blk_ext [iblk, index t]

/-- The gate's array. -/
theorem gate_arr : (dats m 0 c).arrAt 4 cfg0.N (ix2 i j)
    = nn (m ((c : Thread nD τ).loc main_arg0)) (gateCols (m ((c : Thread nD τ).loc main_arg1))) i j := by
  obtain ⟨t, hr, hc⟩ := point i j
  have e := congrFun ((blocks4 m c t (flush0_4 t)).trans (flushed4 m c t)) (ix2 ⟨i.val % 1408, by omega⟩ ⟨j.val % 256, by omega⟩)
  blk_simp at e
  refine Eq.trans ?_ (e.trans ((gate_apply _ _ _ ⟨i.val % 1408, by omega⟩ ⟨j.val % 256, by omega⟩).trans (gate_block m c i j t hr hc)))
  blk_ext [index t]

/-- The multiplier's array. -/
theorem up_arr : (dats m 0 c).arrAt 5 cfg0.N (ix2 i j)
    = nn (m ((c : Thread nD τ).loc main_arg0)) (upCols (m ((c : Thread nD τ).loc main_arg1))) i j := by
  obtain ⟨t, hr, hc⟩ := point i j
  have e := congrFun ((blocks5 m c t (flush0_5 t)).trans (flushed5 m c t)) (ix2 ⟨i.val % 1408, by omega⟩ ⟨j.val % 256, by omega⟩)
  blk_simp at e
  refine Eq.trans ?_ (e.trans ((up_apply _ _ _ ⟨i.val % 1408, by omega⟩ ⟨j.val % 256, by omega⟩).trans (up_block m c i j t hr hc)))
  blk_ext [index t]

/-- The combination's array. -/
theorem act_arr : (dats m 0 c).arrAt 3 cfg0.N (ix2 i j)
    = nn (m ((c : Thread nD τ).loc main_arg0)) (gateCols (m ((c : Thread nD τ).loc main_arg1))) i j
        * Ideal.logistic (nn (m ((c : Thread nD τ).loc main_arg0)) (gateCols (m ((c : Thread nD τ).loc main_arg1))) i j)
        * nn (m ((c : Thread nD τ).loc main_arg0)) (upCols (m ((c : Thread nD τ).loc main_arg1))) i j := by
  obtain ⟨t, hr, hc⟩ := point i j
  have e := congrFun ((blocks3 m c t (flush0_3 t)).trans (flushed3 m c t)) (ix2 ⟨i.val % 1408, by omega⟩ ⟨j.val % 256, by omega⟩)
  blk_simp at e
  refine Eq.trans ?_ (e.trans ((act_apply _ _ _ ⟨i.val % 1408, by omega⟩ ⟨j.val % 256, by omega⟩).trans ?_))
  · blk_ext [index t]
  · rw [gate_block m c i j t hr hc, up_block m c i j t hr hc]

end Array

/-- The call leaves the gate, the multiplier and their combination. -/
theorem algebraic : Cert.algebraic_Kernel7Ideal_Reference7Ideal := by
  intro m ρ m' ρ' _ hin
  refine ⟨fun c => (dats m 0 c).arrAt 3 cfg0.N, fun c => (dats m 0 c).arrAt 4 cfg0.N, fun c => (dats m 0 c).arrAt 5 cfg0.N,
    run_blocks m ρ, ?_⟩
  refine (θ_run _ _ _).mono (fun r h c => ?_) (Cert.Reference7Ideal.Value.run m' ρ')
  obtain ⟨e0, e1⟩ := hin c
  obtain ⟨ha, hg, hu, a⟩ := h c
  rw [e0, e1] at ha hg hu
  refine ⟨ha.trans ?_, hg.trans ?_, hu.trans ?_, a⟩ <;> funext i <;> obtain ⟨x, y, rfl⟩ := idx i
  · refine Eq.trans ?_ (act_arr m c x y).symm
    pointwise [nn, gateCols, upCols, Ideal.logistic]
  · refine Eq.trans ?_ (gate_arr m c x y).symm
    pointwise [nn, gateCols]
  · refine Eq.trans ?_ (up_arr m c x y).symm
    pointwise [nn, upCols]

/-- The reference's frame. -/
theorem frame_ref : Cert.quiescent_Reference7Ideal := fun m ρ _ =>
  (θ_run _ _ _).mono (fun r h => ⟨fun c => (h c).2.2.2, sem_eq_zero_of_no_sems (by decide) r.2⟩) (Cert.Reference7Ideal.Value.run m ρ)

end Cert.GateUp

end
-- ==== Proof.DownNorm.lean ====
/- The down projection with the residual and the next normalisation: every block holds whole rows, so each row's mean is taken whole. -/
module

public import proofs.«01_k».proof.Defs
public import proofs.«01_k».proof.Proof.Gen.Kernel8Ideal.Value
public import proofs.«01_k».proof.Proof.Gen.Reference8Ideal.Run
public import proofs.«01_k».proof.Proof.Mat

@[expose] public section

set_option maxRecDepth 16384

noncomputable section

namespace Cert.DownNorm

open Cert.Mat Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ)

/-- The blocks of the windows at every grid point: eleven blocks of rows. -/
theorem index : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] := by
  decide +kernel

section Point
variable (x : Vec Ideal S384x2816 .bf16) (w : Vec Ideal S2816x1024 .bf16) (h : Vec Ideal S384x1024 .f32) (g : Vec Ideal S1x1024 .f32)
  (i : Fin 384) (j : Fin 1024)

/-- What a grid point leaves of the residual. -/
theorem resid_apply : out0_4 x w h g (ix2 i j) = resid x w h i j := by
  unfold out0_4 resid nn
  rw [View.canon_unit_zero hz]
  unfold k0_pay1
  simp only [View.ld_unit_zero (S := S384x2816) hz, View.ld_unit_zero (S := S2816x1024) hz, View.ld_unit_zero (S := S384x1024) hz]
  pointwise

/-- What a grid point leaves of the normalised rows. -/
theorem norm_apply : out0_5 x w h g (ix2 i j)
    = resid x w h i j * invRms (resid x w h i) * g (ix2 0 j) := by
  unfold out0_5 resid nn invRms meanSq
  rw [View.canon_unit_zero hz]
  unfold k0_pay2 k0_pay1
  simp only [View.ld_unit_zero (S := S384x2816) hz, View.ld_unit_zero (S := S2816x1024) hz, View.ld_unit_zero (S := S384x1024) hz,
    View.ld_unit_zero (S := S1x1024) hz]
  pointwise

end Point

section Array
variable (c : Dev nD) (i : Fin 4224) (j : Fin 1024)

/-- The residual at an index. -/
def res : Fin 4224 → Fin 1024 → EReal :=
  resid (k := 2816) (m ((c : Thread nD τ).loc main_arg0)) (m ((c : Thread nD τ).loc main_arg1)) (m ((c : Thread nD τ).loc main_arg2))

/-- The grid point that works on a row. -/
theorem point : ∃ t : Fin cfg0.N, t.val = i.val / 384 := ⟨⟨i.val / 384, by have : cfg0.N = 11 := rfl; omega⟩, rfl⟩

/-- A block of rows against the whole weights, with its block of the residual. -/
theorem block (t : Fin cfg0.N) (ht : t.val = i.val / 384) :
    resid (r := 384) (k := 2816) (c := 1024) (iblk m c 0 t) (iblk m c 1 t) (iblk m c 2 t) ⟨i.val % 384, by omega⟩ j = res m c i j := by
  unfold res resid nn
  refine congrArg₂ _ (Finset.sum_congr rfl fun s _ => ?_) ?_
  · congr 1 <;> blk_ext [iblk, index t]
  · blk_ext [iblk, index t]

/-- The residual's array. -/
theorem resid_arr : (dats m 0 c).arrAt 4 cfg0.N (ix2 i j) = res m c i j := by
  obtain ⟨t, ht⟩ := point i
  have e := congrFun ((blocks4 m c t (flush0_4 t)).trans (flushed4 m c t)) (ix2 ⟨i.val % 384, by omega⟩ j)
  blk_simp at e
  refine Eq.trans ?_ (e.trans ((resid_apply _ _ _ _ ⟨i.val % 384, by omega⟩ j).trans (block m c i j t ht)))
  blk_ext [index t]

/-- The normalised rows' array. -/
theorem norm_arr : (dats m 0 c).arrAt 5 cfg0.N (ix2 i j)
    = res m c i j * invRms (res m c i) * (m ((c : Thread nD τ).loc main_arg3) : M 1 1024) (ix2 0 j) := by
  obtain ⟨t, ht⟩ := point i
  have e := congrFun ((blocks5 m c t (flush0_5 t)).trans (flushed5 m c t)) (ix2 ⟨i.val % 384, by omega⟩ j)
  blk_simp at e
  refine Eq.trans ?_ (e.trans ((norm_apply _ _ _ _ ⟨i.val % 384, by omega⟩ j).trans ?_))
  · blk_ext [index t]
  · rw [funext fun l => block m c i l t ht]
    refine congrArg _ ?_
    blk_ext [iblk, index t]

end Array

/-- The call leaves the residual and its rows normalised. -/
theorem algebraic : Cert.algebraic_Kernel8Ideal_Reference8Ideal := by
  intro m ρ m' ρ' _ hin
  refine ⟨fun c => (dats m 0 c).arrAt 4 cfg0.N, fun c => (dats m 0 c).arrAt 5 cfg0.N, run_blocks m ρ, ?_⟩
  refine (θ_run _ _ _).mono (fun r h c => ?_) (Cert.Reference8Ideal.Value.run m' ρ')
  obtain ⟨e0, e1, e2, e3⟩ := hin c
  obtain ⟨hh, hy, a⟩ := h c
  rw [e0, e1, e2] at hh hy
  rw [e3] at hy
  refine ⟨hh.trans ?_, hy.trans ?_, a⟩ <;> funext i <;> obtain ⟨x, y, rfl⟩ := idx i
  · refine Eq.trans ?_ (resid_arr m c x y).symm
    pointwise [res, resid, nn]
    exact add_comm _ _
  · refine Eq.trans ?_ (norm_arr m c x y).symm
    unfold res
    rw [resid_comm]
    unfold invRms meanSq nn
    pointwise

/-- The reference's frame. -/
theorem frame_ref : Cert.quiescent_Reference8Ideal := fun m ρ _ =>
  (θ_run _ _ _).mono (fun r h => ⟨fun c => (h c).2.2, sem_eq_zero_of_no_sems (by decide) r.2⟩) (Cert.Reference8Ideal.Value.run m ρ)

end Cert.DownNorm

end
-- ==== Proof.FoxIn.lean ====
/- The attention's input projection: the blocks that the call writes are the blocks of one product. The other two mixers'
   projections run the same call, the gated DeltaNet's at this shape. -/
module

public import proofs.«01_k».proof.Defs
public import proofs.«01_k».proof.Proof.Gen.Kernel9Ideal.Value
public import proofs.«01_k».proof.Proof.Gen.Reference9Ideal.Run
public import proofs.«01_k».proof.Proof.Mat

@[expose] public section

set_option maxRecDepth 16384

noncomputable section

namespace Cert.FoxIn

open Cert.Mat Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ)

/-- The blocks of the windows at every grid point: eleven blocks of columns within each of the three blocks of rows. -/
theorem index : ∀ t : Fin cfg0.N,
    win0_0.index t = ![t.val / 11, 0] ∧ win0_1.index t = ![0, t.val % 11] ∧ win0_2.index t = ![t.val / 11, t.val % 11] := by
  decide +kernel

/-- What a grid point leaves: the product of its two blocks. -/
theorem out_apply (x : Vec Ideal S1408x1024 .bf16) (y : Vec Ideal S1024x384 .bf16) (i : Fin 1408) (j : Fin 384) :
    out0_2 x y (ix2 i j) = nn x y i j := by
  unfold out0_2 nn
  rw [View.canon_unit_zero hz]
  unfold k0_pay1
  simp only [View.ld_unit_zero (S := S1408x1024) hz, View.ld_unit_zero (S := S1024x384) hz]
  pointwise

/-- The result's array, index by index. -/
theorem arr_apply (c : Dev nD) (i : Fin 4224) (j : Fin 4224) :
    (dats m 0 c).arrAt 2 cfg0.N (ix2 i j) = nn (m ((c : Thread nD τ).loc main_arg0)) (m ((c : Thread nD τ).loc main_arg1)) i j := by
  have hN : cfg0.N = 33 := rfl
  obtain ⟨t, hr, hc⟩ : ∃ t : Fin cfg0.N, t.val / 11 = i.val / 1408 ∧ t.val % 11 = j.val / 384 :=
    ⟨⟨11 * (i.val / 1408) + j.val / 384, by omega⟩, by dsimp only; omega, by dsimp only; omega⟩
  have e := congrFun ((blocks2 m c t (flush0_2 t)).trans (flushed2 m c t)) (ix2 ⟨i.val % 1408, by omega⟩ ⟨j.val % 384, by omega⟩)
  blk_simp at e
  refine Eq.trans ?_ (e.trans ((out_apply _ _ ⟨i.val % 1408, by omega⟩ ⟨j.val % 384, by omega⟩).trans ?_))
  · blk_ext [index t]
  · unfold nn
    refine Finset.sum_congr rfl fun s _ => ?_
    congr 1 <;> blk_ext [iblk, index t]

/-- The call leaves the projections. -/
theorem algebraic : Cert.algebraic_Kernel9Ideal_Reference9Ideal := by
  intro m ρ m' ρ' _ hin
  refine ⟨fun c => (dats m 0 c).arrAt 2 cfg0.N, run_blocks m ρ, ?_⟩
  refine (θ_run _ _ _).mono (fun r h c => ?_) (Cert.Reference9Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [nn]

/-- The reference's frame. -/
theorem frame_ref : Cert.quiescent_Reference9Ideal := fun m ρ _ =>
  (θ_run _ _ _).mono (fun r h => ⟨fun c => (h c).2, sem_eq_zero_of_no_sems (by decide) r.2⟩) (Cert.Reference9Ideal.Value.run m ρ)

end Cert.FoxIn

end
-- ==== Proof.FoxInDw.lean ====
/- The gradient of the attention's input weights: the blocks of columns that the call writes are the columns of one product. -/
module

public import proofs.«01_k».proof.Defs
public import proofs.«01_k».proof.Proof.Gen.Kernel10Ideal.Value
public import proofs.«01_k».proof.Proof.Gen.Reference10Ideal.Run
public import proofs.«01_k».proof.Proof.Mat

@[expose] public section

set_option maxRecDepth 16384

noncomputable section

namespace Cert.FoxInDw

open Cert.Mat Cert.Kernel10Ideal Cert.Kernel10Ideal.Gen Cert.Kernel10Ideal.Value Idealize.ShloMosaic Idealize.ShloMosaic.TcCoe Idealize.SL.Sem

variable (m : (ℓ : Loc nD τ sig) → Buf (Elt Ideal) ℓ)

/-- Where the blocks of each window lie, at every grid point. -/
theorem index : ∀ t : Fin cfg0.N, win0_0.index t = ![0, 0] ∧ win0_1.index t = ![0, t.val] ∧ win0_2.index t = ![0, t.val] := by
  decide +kernel

/-- What a grid point leaves: the product of its two blocks. -/
theorem out_apply (x : Vec Ideal S4224x1024 .bf16) (y : Vec Ideal S4224x384 .bf16) (i : Fin 1024) (j : Fin 384) :
    out0_2 x y (ix2 i j) = tn x y i j := by
  unfold out0_2 tn
  rw [View.canon_unit_zero hz]
  unfold k0_pay1
  simp only [View.ld_unit_zero (S := S4224x1024) hz, View.ld_unit_zero (S := S4224x384) hz]
  pointwise

/-- The result's array, index by index. -/
theorem arr_apply (c : Dev nD) (i : Fin 1024) (j : Fin 4224) :
    (dats m 0 c).arrAt 2 cfg0.N (ix2 i j) = tn (m ((c : Thread nD τ).loc main_arg0)) (m ((c : Thread nD τ).loc main_arg1)) i j := by
  have hN : cfg0.N = 11 := rfl
  obtain ⟨t, ht⟩ : ∃ t : Fin cfg0.N, t.val = j.val / 384 := ⟨⟨j.val / 384, by omega⟩, rfl⟩
  have e := congrFun ((blocks2 m c t (flush0_2 t)).trans (flushed2 m c t)) (ix2 i ⟨j.val % 384, by omega⟩)
  blk_simp at e
  refine Eq.trans ?_ (e.trans ((out_apply _ _ i ⟨j.val % 384, by omega⟩).trans ?_))
  · blk_ext [index t]
  · unfold tn
    refine Finset.sum_congr rfl fun s _ => ?_
    congr 1 <;> blk_ext [iblk, index t]

/-- The call leaves the weights' gradient. -/
theorem algebraic : Cert.algebraic_Kernel10Ideal_Reference10Ideal := by
  intro m ρ m' ρ' _ hin
  refine ⟨fun c => (dats m 0 c).arrAt 2 cfg0.N, run_blocks m ρ, ?_⟩
  refine (θ_run _ _ _).mono (fun r h c => ?_) (Cert.Reference10Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [tn]
  exact Finset.sum_congr rfl fun s _ => mul_comm _ _

/-- The reference's frame. -/
theorem frame_ref : Cert.quiescent_Reference10Ideal := fun m ρ _ =>
  (θ_run _ _ _).mono (fun r h => ⟨fun c => (h c).2, sem_eq_zero_of_no_sems (by decide) r.2⟩) (Cert.Reference10Ideal.Value.run m ρ)

end Cert.FoxInDw

end
-- ==== Proof.InDxNorm.lean ====
/- The input projection's input gradient and the backward pass of the normalisation before it; the scale's gradient is summed over the grid. -/
module

public import proofs.«01_k».proof.Defs
public import proofs.«01_k».proof.Proof.Gen.Kernel11Ideal.Value
public import proofs.«01_k».proof.Proof.Gen.Reference11Ideal.Run
public import proofs.«01_k».proof.Proof.NormBack

@[expose] public section

set_option maxRecDepth 16384

noncomputable section

namespace Cert.InDxNorm

open Cert.Mat Cert.NormBack Cert.Kernel11Ideal Cert.Kernel11Ideal.Gen Cert.Kernel11Ideal.Value Idealize.ShloMosaic Idealize.ShloMosaic.TcCoe Idealize.SL.Sem

variable (m : (ℓ : Loc nD τ sig) → Buf (Elt Ideal) ℓ)

/-- The blocks of the windows at every grid point: eleven blocks of rows, the whole weights, one scale. -/
theorem index : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] ∧ win0_6.index t = ![0, 0] := by
  decide +kernel

section Point
variable (x : Vec Ideal S384x4224 .bf16) (w : Vec Ideal S1024x4224 .bf16) (h : Vec Ideal S384x1024 .f32) (g : Vec Ideal S1x1024 .f32)
  (d : Vec Ideal S384x1024 .f32) (i : Fin 384) (j : Fin 1024)

/-- The rows' gradient in a block. -/
theorem rows_apply : k0_pay7 x w h g d (ix2 i j) = d (ix2 i j) + back (rows h i) (nt x w i) (rows g 0) j := by
  unfold k0_pay7 k0_pay5 k0_pay4 k0_pay3 back share invRms meanSq nt rows
  pointwise
  simp only [Fin.sum_univ_one]

/-- A block's part of the scale's gradient. -/
theorem part_apply : k0_pay6 x w h (ix2 0 j) = scale (rows h) (nt x w) j := by
  unfold k0_pay6 k0_pay5 k0_pay4 k0_pay3 scale invRms meanSq nt rows
  pointwise

end Point

section Step
variable (c : Dev nD) (t : Fin cfg0.N)

/-- Every point leaves its rows' gradient. -/
theorem rows_step : (outsAt0 m c t.val t.isLt).1
    = k0_pay7 (iblk m c 0 t) (iblk m c 1 t) (iblk m c 2 t) (iblk m c 3 t) (iblk m c 4 t) := by
  by_cases h0 : t.val % 11 = 0
  · rw [outsAt0_A m c t h0]
    dsimp only
    unfold out0_A_5
    rw [View.read_writes_eq_canon _ _ _ (fun _ => cover0_A_5 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      (hs0_4 t).read_unread, View.ld_unit_zero (S := S384x4224) hz, View.ld_unit_zero (S := S1024x4224) hz,
      View.ld_unit_zero (S := S384x1024) hz, View.ld_unit_zero (S := S1x1024) hz]
  · rw [outsAt0_B m c t h0]
    dsimp only
    unfold out0_B_5
    rw [View.read_writes_eq_canon _ _ _ (fun _ => cover0_B_5 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      (hs0_4 t).read_unread, View.ld_unit_zero (S := S384x4224) hz, View.ld_unit_zero (S := S1024x4224) hz,
      View.ld_unit_zero (S := S384x1024) hz, View.ld_unit_zero (S := S1x1024) hz]

/-- The first point starts the scale's gradient from zero. -/
theorem scale_first (h0 : t.val % 11 = 0) : (outsAt0 m c t.val t.isLt).2
    = k0_pay2 (k0_pay6 (iblk m c 0 t) (iblk m c 1 t) (iblk m c 2 t)) (k0_pay1 (F := Ideal)) := by
  rw [outsAt0_A m c t h0]
  dsimp only
  unfold out0_A_6
  rw [View.read_writes_eq_canon _ _ _ (fun _ => cover0_A_6 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread,
    View.ld_unit_zero (S := S384x4224) hz, View.ld_unit_zero (S := S1024x4224) hz,
    View.ld_unit_zero (S := S384x1024) hz, View.ld_unit_zero (S := S1x1024) hz]

/-- Every later point adds its part. -/
theorem scale_next (h0 : ¬t.val % 11 = 0) : (outsAt0 m c t.val t.isLt).2
    = k0_pay2 (k0_pay6 (iblk m c 0 t) (iblk m c 1 t) (iblk m c 2 t))
        (outsAt0 m c (t.val - 1) (Nat.lt_of_le_of_lt (Nat.sub_le _ _) t.isLt)).2 := by
  rw [outsAt0_B m c t h0]
  dsimp only
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread,
    (hs0_6 t).read_unread, View.ld_unit_zero (S := S384x4224) hz, View.ld_unit_zero (S := S1024x4224) hz,
    View.ld_unit_zero (S := S384x1024) hz, View.ld_unit_zero (S := S1x1024) hz]

end Step

section Array
variable (c : Dev nD) (i : Fin 4224) (j : Fin 1024)

/-- What comes back to the normalised rows. -/
def D : Fin 4224 → Fin 1024 → EReal :=
  nt (r := 4224) (k := 4224) (c := 1024) (m ((c : Thread nD τ).loc main_arg0)) (m ((c : Thread nD τ).loc main_arg1))

/-- The rows before the normalisation. -/
def H : Fin 4224 → Fin 1024 → EReal := rows (m ((c : Thread nD τ).loc main_arg2))

variable (t : Fin cfg0.N) (k : Fin 384)

/-- A block of what comes back. -/
theorem cot_block (e : i.val = 384 * t.val + k.val) : nt (r := 384) (k := 4224) (c := 1024) (iblk m c 0 t) (iblk m c 1 t) k = D m c i := by
  funext j
  unfold D nt
  refine Finset.sum_congr rfl fun s _ => ?_
  congr 1 <;> blk_ext [iblk, index t]

/-- A block of the rows. -/
theorem rows_block (e : i.val = 384 * t.val + k.val) : rows (r := 384) (c := 1024) (iblk m c 2 t) k = H m c i := by
  funext j
  unfold H rows
  blk_ext [iblk, index t]

/-- The rows' gradient: its array. -/
theorem rows_arr : (dats m 0 c).arrAt 5 cfg0.N (ix2 i j)
    = rows (r := 4224) (c := 1024) (m ((c : Thread nD τ).loc main_arg4)) i j
      + back (H m c i) (D m c i) (rows (m ((c : Thread nD τ).loc main_arg3) : M 1 1024) 0) j := by
  obtain ⟨t, ht⟩ : ∃ t : Fin cfg0.N, t.val = i.val / 384 := ⟨⟨i.val / 384, by have : cfg0.N = 11 := rfl; omega⟩, rfl⟩
  obtain ⟨k, hk⟩ : ∃ k : Fin 384, k.val = i.val % 384 := ⟨⟨i.val % 384, by omega⟩, rfl⟩
  have e := congrFun ((blocks5 m c t (flush0_5 t)).trans ((flushed5 m c t).trans (congrArg _ (rows_step m c t)))) (ix2 k j)
  blk_simp at e
  refine Eq.trans ?_ (e.trans ((rows_apply _ _ _ _ _ k j).trans ?_))
  · blk_ext [index t]
  · rw [cot_block m c i t k (by omega), rows_block m c i t k (by omega)]
    refine congrArg₂ _ ?_ (congrArg (fun g => back _ _ g j) (funext fun l => ?_))
    all_goals unfold rows; blk_ext [iblk, index t]

/-- A point's part of the scale's gradient. -/
theorem part_block : k0_pay6 (iblk m c 0 t) (iblk m c 1 t) (iblk m c 2 t) (ix2 0 j)
    = ∑ k : Fin 384, (fun i => H m c i j * invRms (H m c i) * D m c i j)
        (⟨384 * t.val + k.val, by have := t.isLt; have : cfg0.N = 11 := rfl; omega⟩ : Fin 4224) := by
  refine (part_apply _ _ _ j).trans (Finset.sum_congr rfl fun k _ => ?_)
  rw [cot_block m c ⟨384 * t.val + k.val, by have := t.isLt; have : cfg0.N = 11 := rfl; omega⟩ t k rfl,
    rows_block m c ⟨384 * t.val + k.val, by have := t.isLt; have : cfg0.N = 11 := rfl; omega⟩ t k rfl]

/-- A part added to what there is. -/
theorem add_apply (a b : Vec Ideal S1x1024 .f32) : k0_pay2 a b (ix2 0 j) = b (ix2 0 j) + a (ix2 0 j) := by
  unfold k0_pay2
  pointwise

/-- The start. -/
theorem zero_apply : k0_pay1 (F := Ideal) (ix2 0 j) = 0 := by
  unfold k0_pay1
  pointwise

/-- The scale's gradient after every point: the rows so far. -/
theorem scale_sum : ∀ (n : ℕ) (h : n < cfg0.N), (outsAt0 m c n h).2 (ix2 0 j)
    = ∑ k ∈ Finset.range (384 * (n + 1)), ext (fun i => H m c i j * invRms (H m c i) * D m c i j) k
  | 0, h => by
    rw [scale_first m c ⟨0, h⟩ rfl, sum_block _ _ (by decide), add_apply, zero_apply, part_block]
    rfl
  | n + 1, h => by
    have hN : cfg0.N = 11 := rfl
    rw [scale_next m c ⟨n + 1, h⟩ (by dsimp only; omega), sum_block _ _ (by omega), ← scale_sum n (by omega), add_apply, part_block]
    rfl

/-- The last point writes the one block that is the scale's array. -/
theorem last (R : Vec Ideal S1x1024 .f32) (hR : ∀ t : Fin cfg0.N, t.val = 10 → (outsAt0 m c t.val t.isLt).2 = R) :
    (dats m 0 c).arrAt 6 cfg0.N = R := by
  have hN : cfg0.N = 11 := rfl
  have hz' (t : Fin cfg0.N) : (fun a => win0_6.index t a * main_v0_1.ty.shape.size a) = fun _ => 0 := by
    rw [(index t).2.2.2.2.2.2]; funext a; fin_cases a <;> rfl
  refine (dats m 0 c).arrAt_eq_of_cover 6 R (fun t h => ?_) fun i => ?_
  · rw [flushed6, hR t (by have := (flush0_6 t).mp h; have := t.isLt; omega)]
    exact (Memref.read_access_unit_zero (Elt Ideal) main_v0_1 (hz' t) (fun a => by rw [congrFun (hz' t) a]; simp) R).symm
  · obtain ⟨t, ht⟩ : ∃ t : Fin cfg0.N, t.val = 10 := ⟨⟨10, by omega⟩, rfl⟩
    refine ⟨t, (flush0_6 t).mpr (by omega), ?_⟩
    show i ∈ ((View.whole main_v0_1).slice (win0_6.rect t)).set
    rw [View.set_slice_whole, Rect.mem_set_unit]
    intro a
    show win0_6.index t a * main_v0_1.ty.shape.size a ≤ (i a : Nat)
      ∧ (i a : Nat) < win0_6.index t a * main_v0_1.ty.shape.size a + main_v0_1.ty.shape.size a
    rw [congrFun (hz' t) a, Nat.zero_add]
    exact ⟨Nat.zero_le _, (i a).isLt⟩

/-- The scale's gradient: its array. -/
theorem scale_arr : (dats m 0 c).arrAt 6 cfg0.N (ix2 0 j) = scale (H m c) (D m c) j := by
  have hN : cfg0.N = 11 := rfl
  obtain ⟨t, ht⟩ : ∃ t : Fin cfg0.N, t.val = 10 := ⟨⟨10, by omega⟩, rfl⟩
  rw [last m c _ fun s hs => by rw [show s = t from Fin.ext (hs.trans ht.symm)], scale_sum, ht]
  exact sum_ext _

end Array

/-- The call leaves the rows' gradient, the residual branch's added, and the scale's gradient. -/
theorem algebraic : Cert.algebraic_Kernel11Ideal_Reference11Ideal := by
  intro m ρ m' ρ' _ hin
  refine ⟨fun c => (dats m 0 c).arrAt 5 cfg0.N, fun c => (dats m 0 c).arrAt 6 cfg0.N, run_blocks m ρ, ?_⟩
  refine (θ_run _ _ _).mono (fun r h c => ?_) (Cert.Reference11Ideal.Value.run m' ρ')
  obtain ⟨e0, e1, e2, e3, e4⟩ := hin c
  obtain ⟨hd, hs, a⟩ := h c
  unfold Cert.Reference11Ideal.Value.res_main_v38 at hd
  rw [e0, e1, e2, e3, e4] at hd
  rw [e0, e1, e2] at hs
  refine ⟨hd.trans ?_, hs.trans ?_, a⟩ <;> funext i <;> obtain ⟨x, y, rfl⟩ := idx i
  · refine Eq.trans ?_ (rows_arr m c x y).symm
    unfold D H
    unfold back share invRms meanSq nt rows
    simp only [← add_assoc]
    pointwise
    simp only [Fin.sum_univ_one]
  · obtain rfl : x = 0 := Subsingleton.elim _ _
    refine Eq.trans ?_ (scale_arr m c y).symm
    unfold D H
    unfold scale invRms meanSq nt rows
    pointwise

/-- The reference's frame. -/
theorem frame_ref : Cert.quiescent_Reference11Ideal := fun m ρ _ =>
  (θ_run _ _ _).mono (fun r h => ⟨fun c => (h c).2.2, sem_eq_zero_of_no_sems (by decide) r.2⟩) (Cert.Reference11Ideal.Value.run m ρ)

end Cert.InDxNorm

end
-- ==== Proof.OutDx.lean ====
/- The gradient of a mixer's output projection by its input: the blocks that the call writes are the blocks of one product. -/
module

public import proofs.«01_k».proof.Defs
public import proofs.«01_k».proof.Proof.Gen.Kernel12Ideal.Value
public import proofs.«01_k».proof.Proof.Gen.Reference12Ideal.Run
public import proofs.«01_k».proof.Proof.Mat

@[expose] public section

set_option maxRecDepth 16384

noncomputable section

namespace Cert.OutDx

open Cert.Mat Cert.Kernel12Ideal Cert.Kernel12Ideal.Gen Cert.Kernel12Ideal.Value Idealize.ShloMosaic Idealize.ShloMosaic.TcCoe Idealize.SL.Sem

variable (m : (ℓ : Loc nD τ sig) → Buf (Elt Ideal) ℓ)

/-- The blocks of the windows at every grid point: two blocks of columns within each of the three blocks of rows. -/
theorem index : ∀ t : Fin cfg0.N,
    win0_0.index t = ![t.val / 2, 0] ∧ win0_1.index t = ![t.val % 2, 0] ∧ win0_2.index t = ![t.val / 2, t.val % 2] := by
  decide +kernel

/-- What a grid point leaves: the product of its two blocks. -/
theorem out_apply (x : Vec Ideal S1408x1024 .f32) (y : Vec Ideal S512x1024 .bf16) (i : Fin 1408) (j : Fin 512) :
    out0_2 x y (ix2 i j) = nt x y i j := by
  unfold out0_2 nt
  rw [View.canon_unit_zero hz]
  unfold k0_pay1
  simp only [View.ld_unit_zero (S := S1408x1024) hz, View.ld_unit_zero (S := S512x1024) hz]
  pointwise

/-- The result's array, index by index. -/
theorem arr_apply (c : Dev nD) (i : Fin 4224) (j : Fin 1024) :
    (dats m 0 c).arrAt 2 cfg0.N (ix2 i j)
      = nt (m ((c : Thread nD τ).loc main_arg0)) (m ((c : Thread nD τ).loc main_arg1)) i j := by
  have hN : cfg0.N = 6 := rfl
  obtain ⟨t, hr, hc⟩ : ∃ t : Fin cfg0.N, t.val / 2 = i.val / 1408 ∧ t.val % 2 = j.val / 512 :=
    ⟨⟨2 * (i.val / 1408) + j.val / 512, by omega⟩, by dsimp only; omega, by dsimp only; omega⟩
  have e := congrFun ((blocks2 m c t (flush0_2 t)).trans (flushed2 m c t)) (ix2 ⟨i.val % 1408, by omega⟩ ⟨j.val % 512, by omega⟩)
  blk_simp at e
  refine Eq.trans ?_ (e.trans ((out_apply _ _ ⟨i.val % 1408, by omega⟩ ⟨j.val % 512, by omega⟩).trans ?_))
  · blk_ext [index t]
  · unfold nt
    refine Finset.sum_congr rfl fun s _ => ?_
    congr 1 <;> blk_ext [iblk, index t]

/-- The call leaves the cotangent. -/
theorem algebraic : Cert.algebraic_Kernel12Ideal_Reference12Ideal := by
  intro m ρ m' ρ' _ hin
  refine ⟨fun c => (dats m 0 c).arrAt 2 cfg0.N, run_blocks m ρ, ?_⟩
  refine (θ_run _ _ _).mono (fun r h c => ?_) (Cert.Reference12Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [nt]

/-- The reference's frame. -/
theorem frame_ref : Cert.quiescent_Reference12Ideal := fun m ρ _ =>
  (θ_run _ _ _).mono (fun r h => ⟨fun c => (h c).2, sem_eq_zero_of_no_sems (by decide) r.2⟩) (Cert.Reference12Ideal.Value.run m ρ)

end Cert.OutDx

end
-- ==== Proof.OutDw.lean ====
/- The gradient of a mixer's output weights: the blocks that the call writes are the blocks of one product. -/
module

public import proofs.«01_k».proof.Defs
public import proofs.«01_k».proof.Proof.Gen.Kernel13Ideal.Value
public import proofs.«01_k».proof.Proof.Gen.Reference13Ideal.Run
public import proofs.«01_k».proof.Proof.Mat

@[expose] public section

set_option maxRecDepth 16384

noncomputable section

namespace Cert.OutDw

open Cert.Mat Cert.Kernel13Ideal Cert.Kernel13Ideal.Gen Cert.Kernel13Ideal.Value Idealize.ShloMosaic Idealize.ShloMosaic.TcCoe Idealize.SL.Sem

variable (m : (ℓ : Loc nD τ sig) → Buf (Elt Ideal) ℓ)

/-- The blocks of the windows at every grid point: two blocks of rows within each of the two blocks of columns. -/
theorem index : ∀ t : Fin cfg0.N,
    win0_0.index t = ![0, t.val % 2] ∧ win0_1.index t = ![0, t.val / 2] ∧ win0_2.index t = ![t.val % 2, t.val / 2] := by
  decide +kernel

/-- What a grid point leaves: the product of its two blocks. -/
theorem out_apply (x : Vec Ideal S4224x512 .bf16) (y : Vec Ideal S4224x512 .f32) (i : Fin 512) (j : Fin 512) :
    out0_2 x y (ix2 i j) = tn x y i j := by
  unfold out0_2 tn
  rw [View.canon_unit_zero hz]
  unfold k0_pay1
  simp only [View.ld_unit_zero (S := S4224x512) hz]
  pointwise

/-- The result's array, index by index. -/
theorem arr_apply (c : Dev nD) (i : Fin 1024) (j : Fin 1024) :
    (dats m 0 c).arrAt 2 cfg0.N (ix2 i j) = tn (m ((c : Thread nD τ).loc main_arg0)) (m ((c : Thread nD τ).loc main_arg1)) i j := by
  have hN : cfg0.N = 4 := rfl
  obtain ⟨t, hr, hc⟩ : ∃ t : Fin cfg0.N, t.val % 2 = i.val / 512 ∧ t.val / 2 = j.val / 512 :=
    ⟨⟨2 * (j.val / 512) + i.val / 512, by omega⟩, by dsimp only; omega, by dsimp only; omega⟩
  have e := congrFun ((blocks2 m c t (flush0_2 t)).trans (flushed2 m c t)) (ix2 ⟨i.val % 512, by omega⟩ ⟨j.val % 512, by omega⟩)
  blk_simp at e
  refine Eq.trans ?_ (e.trans ((out_apply _ _ ⟨i.val % 512, by omega⟩ ⟨j.val % 512, by omega⟩).trans ?_))
  · blk_ext [index t]
  · unfold tn
    refine Finset.sum_congr rfl fun s _ => ?_
    congr 1 <;> blk_ext [iblk, index t]

/-- The call leaves the weights' gradient. -/
theorem algebraic : Cert.algebraic_Kernel13Ideal_Reference13Ideal := by
  intro m ρ m' ρ' _ hin
  refine ⟨fun c => (dats m 0 c).arrAt 2 cfg0.N, run_blocks m ρ, ?_⟩
  refine (θ_run _ _ _).mono (fun r h c => ?_) (Cert.Reference13Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [tn]
  exact Finset.sum_congr rfl fun s _ => mul_comm _ _

/-- The reference's frame. -/
theorem frame_ref : Cert.quiescent_Reference13Ideal := fun m ρ _ =>
  (θ_run _ _ _).mono (fun r h => ⟨fun c => (h c).2, sem_eq_zero_of_no_sems (by decide) r.2⟩) (Cert.Reference13Ideal.Value.run m ρ)

end Cert.OutDw

end
-- ==== Proof.OutNorm.lean ====
/- A mixer's output projection onto the residual and the norm of its rows, eleven blocks of rows. -/
module

public import proofs.«01_k».proof.Defs
public import proofs.«01_k».proof.Proof.Gen.Kernel14Ideal.Value
public import proofs.«01_k».proof.Proof.Gen.Reference14Ideal.Run
public import proofs.«01_k».proof.Proof.Mat

@[expose] public section

set_option maxRecDepth 16384

noncomputable section

namespace Cert.OutNorm

open Cert.Mat Cert.Kernel14Ideal Cert.Kernel14Ideal.Gen Cert.Kernel14Ideal.Value Idealize.ShloMosaic Idealize.ShloMosaic.TcCoe Idealize.SL.Sem

variable (m : (ℓ : Loc nD τ sig) → Buf (Elt Ideal) ℓ)

/-- The blocks of the windows at every grid point: eleven blocks of rows. -/
theorem index : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] := by
  decide +kernel

section Point
variable (x : Vec Ideal S384x1024 .bf16) (w : Vec Ideal S1024x1024 .bf16) (h : Vec Ideal S384x1024 .f32) (g : Vec Ideal S1x1024 .f32)
  (i : Fin 384) (j : Fin 1024)

/-- What a grid point leaves of the residual. -/
theorem resid_apply : out0_4 x w h g (ix2 i j) = resid x w h i j := by
  unfold out0_4 resid nn
  rw [View.canon_unit_zero hz]
  unfold k0_pay1
  simp only [View.ld_unit_zero (S := S384x1024) hz, View.ld_unit_zero (S := S1024x1024) hz]
  pointwise

/-- What a grid point leaves of the normalised rows. -/
theorem norm_apply : out0_5 x w h g (ix2 i j)
    = resid x w h i j * invRms (resid x w h i) * g (ix2 0 j) := by
  unfold out0_5 resid nn invRms meanSq
  rw [View.canon_unit_zero hz]
  unfold k0_pay2 k0_pay1
  simp only [View.ld_unit_zero (S := S384x1024) hz, View.ld_unit_zero (S := S1024x1024) hz,
    View.ld_unit_zero (S := S1x1024) hz]
  pointwise

end Point

section Array
variable (c : Dev nD) (i : Fin 4224) (j : Fin 1024)

/-- The residual at an index. -/
def res : Fin 4224 → Fin 1024 → EReal :=
  resid (k := 1024) (m ((c : Thread nD τ).loc main_arg0)) (m ((c : Thread nD τ).loc main_arg1)) (m ((c : Thread nD τ).loc main_arg2))

/-- The grid point that works on a row. -/
theorem point : ∃ t : Fin cfg0.N, t.val = i.val / 384 := ⟨⟨i.val / 384, by have : cfg0.N = 11 := rfl; omega⟩, rfl⟩

/-- A block of rows against the whole weights, with its block of the residual. -/
theorem block (t : Fin cfg0.N) (ht : t.val = i.val / 384) :
    resid (r := 384) (k := 1024) (c := 1024) (iblk m c 0 t) (iblk m c 1 t) (iblk m c 2 t) ⟨i.val % 384, by omega⟩ j = res m c i j := by
  unfold res resid nn
  refine congrArg₂ _ (Finset.sum_congr rfl fun s _ => ?_) ?_
  · congr 1 <;> blk_ext [iblk, index t]
  · blk_ext [iblk, index t]

/-- The residual's array. -/
theorem resid_arr : (dats m 0 c).arrAt 4 cfg0.N (ix2 i j) = res m c i j := by
  obtain ⟨t, ht⟩ := point i
  have e := congrFun ((blocks4 m c t (flush0_4 t)).trans (flushed4 m c t)) (ix2 ⟨i.val % 384, by omega⟩ j)
  blk_simp at e
  refine Eq.trans ?_ (e.trans ((resid_apply _ _ _ _ ⟨i.val % 384, by omega⟩ j).trans (block m c i j t ht)))
  blk_ext [index t]

/-- The normalised rows' array. -/
theorem norm_arr : (dats m 0 c).arrAt 5 cfg0.N (ix2 i j)
    = res m c i j * invRms (res m c i) * (m ((c : Thread nD τ).loc main_arg3) : M 1 1024) (ix2 0 j) := by
  obtain ⟨t, ht⟩ := point i
  have e := congrFun ((blocks5 m c t (flush0_5 t)).trans (flushed5 m c t)) (ix2 ⟨i.val % 384, by omega⟩ j)
  blk_simp at e
  refine Eq.trans ?_ (e.trans ((norm_apply _ _ _ _ ⟨i.val % 384, by omega⟩ j).trans ?_))
  · blk_ext [index t]
  · rw [funext fun l => block m c i l t ht]
    refine congrArg _ ?_
    blk_ext [iblk, index t]

end Array

/-- The call leaves the residual and its rows normalised. -/
theorem algebraic : Cert.algebraic_Kernel14Ideal_Reference14Ideal := by
  intro m ρ m' ρ' _ hin
  refine ⟨fun c => (dats m 0 c).arrAt 4 cfg0.N, fun c => (dats m 0 c).arrAt 5 cfg0.N, run_blocks m ρ, ?_⟩
  refine (θ_run _ _ _).mono (fun r h c => ?_) (Cert.Reference14Ideal.Value.run m' ρ')
  obtain ⟨e0, e1, e2, e3⟩ := hin c
  obtain ⟨hh, hy, a⟩ := h c
  rw [e0, e1, e2] at hh hy
  rw [e3] at hy
  refine ⟨hh.trans ?_, hy.trans ?_, a⟩ <;> funext i <;> obtain ⟨x, y, rfl⟩ := idx i
  · refine Eq.trans ?_ (resid_arr m c x y).symm
    pointwise [res, resid, nn]
    exact add_comm _ _
  · refine Eq.trans ?_ (norm_arr m c x y).symm
    unfold res
    rw [resid_comm]
    unfold invRms meanSq nn
    pointwise

/-- The reference's frame. -/
theorem frame_ref : Cert.quiescent_Reference14Ideal := fun m ρ _ =>
  (θ_run _ _ _).mono (fun r h => ⟨fun c => (h c).2.2, sem_eq_zero_of_no_sems (by decide) r.2⟩) (Cert.Reference14Ideal.Value.run m ρ)

end Cert.OutNorm

end
-- ==== Proof.GlaIn.lean ====
/- The gated linear attention's input projection: the blocks that the call writes are the blocks of one product. -/
module

public import proofs.«01_k».proof.Defs
public import proofs.«01_k».proof.Proof.Gen.Kernel15Ideal.Value
public import proofs.«01_k».proof.Proof.Gen.Reference15Ideal.Run
public import proofs.«01_k».proof.Proof.Mat

@[expose] public section

set_option maxRecDepth 16384

noncomputable section

namespace Cert.GlaIn

open Cert.Mat Cert.Kernel15Ideal Cert.Kernel15Ideal.Gen Cert.Kernel15Ideal.Value Idealize.ShloMosaic Idealize.ShloMosaic.TcCoe Idealize.SL.Sem

variable (m : (ℓ : Loc nD τ sig) → Buf (Elt Ideal) ℓ)

/-- The blocks of the windows at every grid point: five blocks of columns within each of the three blocks of rows. -/
theorem index : ∀ t : Fin cfg0.N,
    win0_0.index t = ![t.val / 5, 0] ∧ win0_1.index t = ![0, t.val % 5] ∧ win0_2.index t = ![t.val / 5, t.val % 5] := by
  decide +kernel

/-- What a grid point leaves: the product of its two blocks. -/
theorem out_apply (x : Vec Ideal S1408x1024 .bf16) (y : Vec Ideal S1024x640 .bf16) (i : Fin 1408) (j : Fin 640) :
    out0_2 x y (ix2 i j) = nn x y i j := by
  unfold out0_2 nn
  rw [View.canon_unit_zero hz]
  unfold k0_pay1
  simp only [View.ld_unit_zero (S := S1408x1024) hz, View.ld_unit_zero (S := S1024x640) hz]
  pointwise

/-- The result's array, index by index. -/
theorem arr_apply (c : Dev nD) (i : Fin 4224) (j : Fin 3200) :
    (dats m 0 c).arrAt 2 cfg0.N (ix2 i j) = nn (m ((c : Thread nD τ).loc main_arg0)) (m ((c : Thread nD τ).loc main_arg1)) i j := by
  have hN : cfg0.N = 15 := rfl
  obtain ⟨t, hr, hc⟩ : ∃ t : Fin cfg0.N, t.val / 5 = i.val / 1408 ∧ t.val % 5 = j.val / 640 :=
    ⟨⟨5 * (i.val / 1408) + j.val / 640, by omega⟩, by dsimp only; omega, by dsimp only; omega⟩
  have e := congrFun ((blocks2 m c t (flush0_2 t)).trans (flushed2 m c t)) (ix2 ⟨i.val % 1408, by omega⟩ ⟨j.val % 640, by omega⟩)
  blk_simp at e
  refine Eq.trans ?_ (e.trans ((out_apply _ _ ⟨i.val % 1408, by omega⟩ ⟨j.val % 640, by omega⟩).trans ?_))
  · blk_ext [index t]
  · unfold nn
    refine Finset.sum_congr rfl fun s _ => ?_
    congr 1 <;> blk_ext [iblk, index t]

/-- The call leaves the projections. -/
theorem algebraic : Cert.algebraic_Kernel15Ideal_Reference15Ideal := by
  intro m ρ m' ρ' _ hin
  refine ⟨fun c => (dats m 0 c).arrAt 2 cfg0.N, run_blocks m ρ, ?_⟩
  refine (θ_run _ _ _).mono (fun r h c => ?_) (Cert.Reference15Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [nn]

/-- The reference's frame. -/
theorem frame_ref : Cert.quiescent_Reference15Ideal := fun m ρ _ =>
  (θ_run _ _ _).mono (fun r h => ⟨fun c => (h c).2, sem_eq_zero_of_no_sems (by decide) r.2⟩) (Cert.Reference15Ideal.Value.run m ρ)

end Cert.GlaIn

end
-- ==== Proof.GlaInDw.lean ====
/- The gradient of the gated linear attention's input weights: the blocks that the call writes are the blocks of one product. -/
module

public import proofs.«01_k».proof.Defs
public import proofs.«01_k».proof.Proof.Gen.Kernel16Ideal.Value
public import proofs.«01_k».proof.Proof.Gen.Reference16Ideal.Run
public import proofs.«01_k».proof.Proof.Mat

@[expose] public section

set_option maxRecDepth 16384

noncomputable section

namespace Cert.GlaInDw

open Cert.Mat Cert.Kernel16Ideal Cert.Kernel16Ideal.Gen Cert.Kernel16Ideal.Value Idealize.ShloMosaic Idealize.ShloMosaic.TcCoe Idealize.SL.Sem

variable (m : (ℓ : Loc nD τ sig) → Buf (Elt Ideal) ℓ)

/-- The blocks of the windows at every grid point: five blocks of columns within each of the two blocks of rows. -/
theorem index : ∀ t : Fin cfg0.N,
    win0_0.index t = ![0, t.val / 5] ∧ win0_1.index t = ![0, t.val % 5] ∧ win0_2.index t = ![t.val / 5, t.val % 5] := by
  decide +kernel

/-- What a grid point leaves: the product of its two blocks. -/
theorem out_apply (x : Vec Ideal S4224x512 .bf16) (y : Vec Ideal S4224x640 .bf16) (i : Fin 512) (j : Fin 640) :
    out0_2 x y (ix2 i j) = tn x y i j := by
  unfold out0_2 tn
  rw [View.canon_unit_zero hz]
  unfold k0_pay1
  simp only [View.ld_unit_zero (S := S4224x512) hz, View.ld_unit_zero (S := S4224x640) hz]
  pointwise

/-- The result's array, index by index. -/
theorem arr_apply (c : Dev nD) (i : Fin 1024) (j : Fin 3200) :
    (dats m 0 c).arrAt 2 cfg0.N (ix2 i j) = tn (m ((c : Thread nD τ).loc main_arg0)) (m ((c : Thread nD τ).loc main_arg1)) i j := by
  have hN : cfg0.N = 10 := rfl
  obtain ⟨t, hr, hc⟩ : ∃ t : Fin cfg0.N, t.val / 5 = i.val / 512 ∧ t.val % 5 = j.val / 640 :=
    ⟨⟨5 * (i.val / 512) + j.val / 640, by omega⟩, by dsimp only; omega, by dsimp only; omega⟩
  have e := congrFun ((blocks2 m c t (flush0_2 t)).trans (flushed2 m c t)) (ix2 ⟨i.val % 512, by omega⟩ ⟨j.val % 640, by omega⟩)
  blk_simp at e
  refine Eq.trans ?_ (e.trans ((out_apply _ _ ⟨i.val % 512, by omega⟩ ⟨j.val % 640, by omega⟩).trans ?_))
  · blk_ext [index t]
  · unfold tn
    refine Finset.sum_congr rfl fun s _ => ?_
    congr 1 <;> blk_ext [iblk, index t]

/-- The call leaves the weights' gradient. -/
theorem algebraic : Cert.algebraic_Kernel16Ideal_Reference16Ideal := by
  intro m ρ m' ρ' _ hin
  refine ⟨fun c => (dats m 0 c).arrAt 2 cfg0.N, run_blocks m ρ, ?_⟩
  refine (θ_run _ _ _).mono (fun r h c => ?_) (Cert.Reference16Ideal.Value.run m' ρ')
  obtain ⟨e0, e1⟩ := hin c
  obtain ⟨hv, a⟩ := h c
  refine ⟨hv.trans ?_, a⟩
  funext i
  obtain ⟨x, y, rfl⟩ := idx i
  refine Eq.trans ?_ (arr_apply m c x y).symm
  rw [e0, e1]
  pointwise [tn]
  exact Finset.sum_congr rfl fun s _ => mul_comm _ _

/-- The reference's frame. -/
theorem frame_ref : Cert.quiescent_Reference16Ideal := fun m ρ _ =>
  (θ_run _ _ _).mono (fun r h => ⟨fun c => (h c).2, sem_eq_zero_of_no_sems (by decide) r.2⟩) (Cert.Reference16Ideal.Value.run m ρ)

end Cert.GlaInDw

end
-- ==== Proof.GlaInDxNorm.lean ====
/- The gated linear attention's input gradient and the backward pass of the normalisation before it; the scale's gradient is
   summed over the grid. -/
module

public import proofs.«01_k».proof.Defs
public import proofs.«01_k».proof.Proof.Gen.Kernel17Ideal.Value
public import proofs.«01_k».proof.Proof.Gen.Reference17Ideal.Run
public import proofs.«01_k».proof.Proof.NormBack

@[expose] public section

set_option maxRecDepth 16384

noncomputable section

namespace Cert.GlaInDxNorm

open Cert.Mat Cert.NormBack Cert.Kernel17Ideal Cert.Kernel17Ideal.Gen Cert.Kernel17Ideal.Value Idealize.ShloMosaic Idealize.ShloMosaic.TcCoe Idealize.SL.Sem

variable (m : (ℓ : Loc nD τ sig) → Buf (Elt Ideal) ℓ)

/-- The blocks of the windows at every grid point: eleven blocks of rows, the whole weights, one scale. -/
theorem index : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] ∧ win0_6.index t = ![0, 0] := by
  decide +kernel

section Point
variable (x : Vec Ideal S384x3200 .bf16) (w : Vec Ideal S1024x3200 .bf16) (h : Vec Ideal S384x1024 .f32) (g : Vec Ideal S1x1024 .f32)
  (d : Vec Ideal S384x1024 .f32) (i : Fin 384) (j : Fin 1024)

/-- The rows' gradient in a block. -/
theorem rows_apply : k0_pay7 x w h g d (ix2 i j) = d (ix2 i j) + back (rows h i) (nt x w i) (rows g 0) j := by
  unfold k0_pay7 k0_pay5 k0_pay4 k0_pay3 back share invRms meanSq nt rows
  pointwise
  simp only [Fin.sum_univ_one]

/-- A block's part of the scale's gradient. -/
theorem part_apply : k0_pay6 x w h (ix2 0 j) = scale (rows h) (nt x w) j := by
  unfold k0_pay6 k0_pay5 k0_pay4 k0_pay3 scale invRms meanSq nt rows
  pointwise

end Point

section Step
variable (c : Dev nD) (t : Fin cfg0.N)

/-- Every point leaves its rows' gradient. -/
theorem rows_step : (outsAt0 m c t.val t.isLt).1
    = k0_pay7 (iblk m c 0 t) (iblk m c 1 t) (iblk m c 2 t) (iblk m c 3 t) (iblk m c 4 t) := by
  by_cases h0 : t.val % 11 = 0
  · rw [outsAt0_A m c t h0]
    dsimp only
    unfold out0_A_5
    rw [View.read_writes_eq_canon _ _ _ (fun _ => cover0_A_5 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      (hs0_4 t).read_unread, View.ld_unit_zero (S := S384x3200) hz, View.ld_unit_zero (S := S1024x3200) hz,
      View.ld_unit_zero (S := S384x1024) hz, View.ld_unit_zero (S := S1x1024) hz]
  · rw [outsAt0_B m c t h0]
    dsimp only
    unfold out0_B_5
    rw [View.read_writes_eq_canon _ _ _ (fun _ => cover0_B_5 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      (hs0_4 t).read_unread, View.ld_unit_zero (S := S384x3200) hz, View.ld_unit_zero (S := S1024x3200) hz,
      View.ld_unit_zero (S := S384x1024) hz, View.ld_unit_zero (S := S1x1024) hz]

/-- The first point starts the scale's gradient from zero. -/
theorem scale_first (h0 : t.val % 11 = 0) : (outsAt0 m c t.val t.isLt).2
    = k0_pay2 (k0_pay6 (iblk m c 0 t) (iblk m c 1 t) (iblk m c 2 t)) (k0_pay1 (F := Ideal)) := by
  rw [outsAt0_A m c t h0]
  dsimp only
  unfold out0_A_6
  rw [View.read_writes_eq_canon _ _ _ (fun _ => cover0_A_6 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread,
    View.ld_unit_zero (S := S384x3200) hz, View.ld_unit_zero (S := S1024x3200) hz,
    View.ld_unit_zero (S := S384x1024) hz, View.ld_unit_zero (S := S1x1024) hz]

/-- Every later point adds its part. -/
theorem scale_next (h0 : ¬t.val % 11 = 0) : (outsAt0 m c t.val t.isLt).2
    = k0_pay2 (k0_pay6 (iblk m c 0 t) (iblk m c 1 t) (iblk m c 2 t))
        (outsAt0 m c (t.val - 1) (Nat.lt_of_le_of_lt (Nat.sub_le _ _) t.isLt)).2 := by
  rw [outsAt0_B m c t h0]
  dsimp only
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread,
    (hs0_6 t).read_unread, View.ld_unit_zero (S := S384x3200) hz, View.ld_unit_zero (S := S1024x3200) hz,
    View.ld_unit_zero (S := S384x1024) hz, View.ld_unit_zero (S := S1x1024) hz]

end Step

section Array
variable (c : Dev nD) (i : Fin 4224) (j : Fin 1024)

/-- What comes back to the normalised rows. -/
def D : Fin 4224 → Fin 1024 → EReal :=
  nt (r := 4224) (k := 3200) (c := 1024) (m ((c : Thread nD τ).loc main_arg0)) (m ((c : Thread nD τ).loc main_arg1))

/-- The rows before the normalisation. -/
def H : Fin 4224 → Fin 1024 → EReal := rows (m ((c : Thread nD τ).loc main_arg2))

variable (t : Fin cfg0.N) (k : Fin 384)

/-- A block of what comes back. -/
theorem cot_block (e : i.val = 384 * t.val + k.val) : nt (r := 384) (k := 3200) (c := 1024) (iblk m c 0 t) (iblk m c 1 t) k = D m c i := by
  funext j
  unfold D nt
  refine Finset.sum_congr rfl fun s _ => ?_
  congr 1 <;> blk_ext [iblk, index t]

/-- A block of the rows. -/
theorem rows_block (e : i.val = 384 * t.val + k.val) : rows (r := 384) (c := 1024) (iblk m c 2 t) k = H m c i := by
  funext j
  unfold H rows
  blk_ext [iblk, index t]

/-- The rows' gradient: its array. -/
theorem rows_arr : (dats m 0 c).arrAt 5 cfg0.N (ix2 i j)
    = rows (r := 4224) (c := 1024) (m ((c : Thread nD τ).loc main_arg4)) i j
      + back (H m c i) (D m c i) (rows (m ((c : Thread nD τ).loc main_arg3) : M 1 1024) 0) j := by
  obtain ⟨t, ht⟩ : ∃ t : Fin cfg0.N, t.val = i.val / 384 := ⟨⟨i.val / 384, by have : cfg0.N = 11 := rfl; omega⟩, rfl⟩
  obtain ⟨k, hk⟩ : ∃ k : Fin 384, k.val = i.val % 384 := ⟨⟨i.val % 384, by omega⟩, rfl⟩
  have e := congrFun ((blocks5 m c t (flush0_5 t)).trans ((flushed5 m c t).trans (congrArg _ (rows_step m c t)))) (ix2 k j)
  blk_simp at e
  refine Eq.trans ?_ (e.trans ((rows_apply _ _ _ _ _ k j).trans ?_))
  · blk_ext [index t]
  · rw [cot_block m c i t k (by omega), rows_block m c i t k (by omega)]
    refine congrArg₂ _ ?_ (congrArg (fun g => back _ _ g j) (funext fun l => ?_))
    all_goals unfold rows; blk_ext [iblk, index t]

/-- A point's part of the scale's gradient. -/
theorem part_block : k0_pay6 (iblk m c 0 t) (iblk m c 1 t) (iblk m c 2 t) (ix2 0 j)
    = ∑ k : Fin 384, (fun i => H m c i j * invRms (H m c i) * D m c i j)
        (⟨384 * t.val + k.val, by have := t.isLt; have : cfg0.N = 11 := rfl; omega⟩ : Fin 4224) := by
  refine (part_apply _ _ _ j).trans (Finset.sum_congr rfl fun k _ => ?_)
  rw [cot_block m c ⟨384 * t.val + k.val, by have := t.isLt; have : cfg0.N = 11 := rfl; omega⟩ t k rfl,
    rows_block m c ⟨384 * t.val + k.val, by have := t.isLt; have : cfg0.N = 11 := rfl; omega⟩ t k rfl]

/-- A part added to what there is. -/
theorem add_apply (a b : Vec Ideal S1x1024 .f32) : k0_pay2 a b (ix2 0 j) = b (ix2 0 j) + a (ix2 0 j) := by
  unfold k0_pay2
  pointwise

/-- The start. -/
theorem zero_apply : k0_pay1 (F := Ideal) (ix2 0 j) = 0 := by
  unfold k0_pay1
  pointwise

/-- The scale's gradient after every point: the rows so far. -/
theorem scale_sum : ∀ (n : ℕ) (h : n < cfg0.N), (outsAt0 m c n h).2 (ix2 0 j)
    = ∑ k ∈ Finset.range (384 * (n + 1)), ext (fun i => H m c i j * invRms (H m c i) * D m c i j) k
  | 0, h => by
    rw [scale_first m c ⟨0, h⟩ rfl, sum_block _ _ (by decide), add_apply, zero_apply, part_block]
    rfl
  | n + 1, h => by
    have hN : cfg0.N = 11 := rfl
    rw [scale_next m c ⟨n + 1, h⟩ (by dsimp only; omega), sum_block _ _ (by omega), ← scale_sum n (by omega), add_apply, part_block]
    rfl

/-- The last point writes the one block that is the scale's array. -/
theorem last (R : Vec Ideal S1x1024 .f32) (hR : ∀ t : Fin cfg0.N, t.val = 10 → (outsAt0 m c t.val t.isLt).2 = R) :
    (dats m 0 c).arrAt 6 cfg0.N = R := by
  have hN : cfg0.N = 11 := rfl
  have hz' (t : Fin cfg0.N) : (fun a => win0_6.index t a * main_v0_1.ty.shape.size a) = fun _ => 0 := by
    rw [(index t).2.2.2.2.2.2]; funext a; fin_cases a <;> rfl
  refine (dats m 0 c).arrAt_eq_of_cover 6 R (fun t h => ?_) fun i => ?_
  · rw [flushed6, hR t (by have := (flush0_6 t).mp h; have := t.isLt; omega)]
    exact (Memref.read_access_unit_zero (Elt Ideal) main_v0_1 (hz' t) (fun a => by rw [congrFun (hz' t) a]; simp) R).symm
  · obtain ⟨t, ht⟩ : ∃ t : Fin cfg0.N, t.val = 10 := ⟨⟨10, by omega⟩, rfl⟩
    refine ⟨t, (flush0_6 t).mpr (by omega), ?_⟩
    show i ∈ ((View.whole main_v0_1).slice (win0_6.rect t)).set
    rw [View.set_slice_whole, Rect.mem_set_unit]
    intro a
    show win0_6.index t a * main_v0_1.ty.shape.size a ≤ (i a : Nat)
      ∧ (i a : Nat) < win0_6.index t a * main_v0_1.ty.shape.size a + main_v0_1.ty.shape.size a
    rw [congrFun (hz' t) a, Nat.zero_add]
    exact ⟨Nat.zero_le _, (i a).isLt⟩

/-- The scale's gradient: its array. -/
theorem scale_arr : (dats m 0 c).arrAt 6 cfg0.N (ix2 0 j) = scale (H m c) (D m c) j := by
  have hN : cfg0.N = 11 := rfl
  obtain ⟨t, ht⟩ : ∃ t : Fin cfg0.N, t.val = 10 := ⟨⟨10, by omega⟩, rfl⟩
  rw [last m c _ fun s hs => by rw [show s = t from Fin.ext (hs.trans ht.symm)], scale_sum, ht]
  exact sum_ext _

end Array

/-- The call leaves the rows' gradient, the residual branch's added, and the scale's gradient. -/
theorem algebraic : Cert.algebraic_Kernel17Ideal_Reference17Ideal := by
  intro m ρ m' ρ' _ hin
  refine ⟨fun c => (dats m 0 c).arrAt 5 cfg0.N, fun c => (dats m 0 c).arrAt 6 cfg0.N, run_blocks m ρ, ?_⟩
  refine (θ_run _ _ _).mono (fun r h c => ?_) (Cert.Reference17Ideal.Value.run m' ρ')
  obtain ⟨e0, e1, e2, e3, e4⟩ := hin c
  obtain ⟨hd, hs, a⟩ := h c
  unfold Cert.Reference17Ideal.Value.res_main_v38 at hd
  rw [e0, e1, e2, e3, e4] at hd
  rw [e0, e1, e2] at hs
  refine ⟨hd.trans ?_, hs.trans ?_, a⟩ <;> funext i <;> obtain ⟨x, y, rfl⟩ := idx i
  · refine Eq.trans ?_ (rows_arr m c x y).symm
    unfold D H
    unfold back share invRms meanSq nt rows
    simp only [← add_assoc]
    pointwise
    simp only [Fin.sum_univ_one]
  · obtain rfl : x = 0 := Subsingleton.elim _ _
    refine Eq.trans ?_ (scale_arr m c y).symm
    unfold D H
    unfold scale invRms meanSq nt rows
    pointwise

/-- The reference's frame. -/
theorem frame_ref : Cert.quiescent_Reference17Ideal := fun m ρ _ =>
  (θ_run _ _ _).mono (fun r h => ⟨fun c => (h c).2.2, sem_eq_zero_of_no_sems (by decide) r.2⟩) (Cert.Reference17Ideal.Value.run m ρ)

end Cert.GlaInDxNorm

end
-- ==== Proof.LastDown.lean ====
/- The last layer's down projection onto the residual: the blocks that the call writes are the blocks of one sum. -/
module

public import proofs.«01_k».proof.Defs
public import proofs.«01_k».proof.Proof.Gen.Kernel18Ideal.Value
public import proofs.«01_k».proof.Proof.Gen.Reference18Ideal.Run
public import proofs.«01_k».proof.Proof.Mat

@[expose] public section

set_option maxRecDepth 16384

noncomputable section

namespace Cert.LastDown

open Cert.Mat Cert.Kernel18Ideal Cert.Kernel18Ideal.Gen Cert.Kernel18Ideal.Value Idealize.ShloMosaic Idealize.ShloMosaic.TcCoe Idealize.SL.Sem

variable (m : (ℓ : Loc nD τ sig) → Buf (Elt Ideal) ℓ)

/-- The blocks of the windows at every grid point: two blocks of columns within each of the three blocks of rows. -/
theorem index : ∀ t : Fin cfg0.N,
    win0_0.index t = ![t.val / 2, 0] ∧ win0_1.index t = ![0, t.val % 2] ∧ win0_2.index t = ![t.val / 2, t.val % 2]
      ∧ win0_3.index t = ![t.val / 2, t.val % 2] := by
  decide +kernel

/-- What a grid point leaves: the product of its two blocks onto its block of the residual. -/
theorem out_apply (x : Vec Ideal S1408x2816 .bf16) (y : Vec Ideal S2816x512 .bf16) (h : Vec Ideal S1408x512 .f32) (i : Fin 1408) (j : Fin 512) :
    out0_3 x y h (ix2 i j) = resid x y h i j := by
  unfold out0_3 resid nn
  rw [View.canon_unit_zero hz]
  unfold k0_pay1
  simp only [View.ld_unit_zero (S := S1408x2816) hz, View.ld_unit_zero (S := S2816x512) hz, View.ld_unit_zero (S := S1408x512) hz]
  pointwise

/-- The result's array, index by index. -/
theorem arr_apply (c : Dev nD) (i : Fin 4224) (j : Fin 1024) :
    (dats m 0 c).arrAt 3 cfg0.N (ix2 i j)
      = resid (m ((c : Thread nD τ).loc main_arg0)) (m ((c : Thread nD τ).loc main_arg1)) (m ((c : Thread nD τ).loc main_arg2)) i j := by
  have hN : cfg0.N = 6 := rfl
  obtain ⟨t, hr, hc⟩ : ∃ t : Fin cfg0.N, t.val / 2 = i.val / 1408 ∧ t.val % 2 = j.val / 512 :=
    ⟨⟨2 * (i.val / 1408) + j.val / 512, by omega⟩, by dsimp only; omega, by dsimp only; omega⟩
  have e := congrFun ((blocks3 m c t (flush0_3 t)).trans (flushed3 m c t)) (ix2 ⟨i.val % 1408, by omega⟩ ⟨j.val % 512, by omega⟩)
  blk_simp at e
  refine Eq.trans ?_ (e.trans ((out_apply _ _ _ ⟨i.val % 1408, by omega⟩ ⟨j.val % 512, by omega⟩).trans ?_))
  · blk_ext [index t]
  · unfold resid nn
    refine congrArg₂ _ (Finset.sum_congr rfl fun s _ => ?_) ?_
    · congr 1 <;> blk_ext [iblk, index t]
    · blk_ext [iblk, index t]

/-- The call leaves the residual. -/
theorem algebraic : Cert.algebraic_Kernel18Ideal_Reference18Ideal := by
  intro m ρ m' ρ' _ hin
  refine ⟨fun c => (dats m 0 c).arrAt 3 cfg0.N, run_blocks m ρ, ?_⟩
  refine (θ_run _ _ _).mono (fun r h c => ?_) (Cert.Reference18Ideal.Value.run m' ρ')
  obtain ⟨e0, e1, e2⟩ := hin c
  obtain ⟨hv, a⟩ := h c
  refine ⟨hv.trans ?_, a⟩
  funext i
  obtain ⟨x, y, rfl⟩ := idx i
  refine Eq.trans ?_ (arr_apply m c x y).symm
  rw [e0, e1, e2]
  pointwise [resid, nn]
  exact add_comm _ _

/-- The reference's frame. -/
theorem frame_ref : Cert.quiescent_Reference18Ideal := fun m ρ _ =>
  (θ_run _ _ _).mono (fun r h => ⟨fun c => (h c).2, sem_eq_zero_of_no_sems (by decide) r.2⟩) (Cert.Reference18Ideal.Value.run m ρ)

end Cert.LastDown

end
-- ==== Proof.LossHead.lean ====
/- The loss, its gradient at the last rows, and the squared errors summed over the rows. -/
module

public import proofs.«01_k».proof.Defs
public import proofs.«01_k».proof.Proof.Gen.Kernel19Ideal.Frame
public import Idealize.ShloMosaic.Lib.Pipeline.Value
public import proofs.«01_k».proof.Proof.Gen.Reference19Ideal.Run
public import proofs.«01_k».proof.Proof.NormBack

@[expose] public section

set_option maxRecDepth 16384

noncomputable section

namespace Cert.LossHead

open Cert.Mat Cert.NormBack Cert.Kernel19Ideal Cert.Kernel19Ideal.Gen Idealize.ShloMosaic Idealize.ShloMosaic.TcCoe Idealize.SL.Sem

variable (m : (ℓ : Loc nD τ sig) → Buf (Elt Ideal) ℓ)

/-- The blocks of the windows at every grid point: the rows' first block is the prefix, which has no targets. -/
theorem index : ∀ t : Fin cfg0.N,
    win0_0.index t = ![t.val, 0] ∧ (1 ≤ t.val → win0_1.index t = ![t.val - 1, 0]) ∧ win0_2.index t = ![t.val, 0] ∧ win0_3.index t = ![0, 0] := by
  decide +kernel

/-- The first point's rows count nothing. -/
theorem counts : ∀ t : Fin cfg0.N, Scalar.cmpi .sge (BitVec.ofNat 32 (grid0.coords t 0).val) 1#32 = if t.val = 0 then 0#1 else 1#1 := by
  decide +kernel

section Point
variable (t : Fin cfg0.N) (x y : Vec Ideal S128x1024 .f32) (i : Fin 128) (j : Fin 1024)

/-- The error of the prefix. -/
theorem err_zero (h : t.val = 0) : k0_pay2 (grid0.coords t) x y (ix2 i j) = 0 := by
  unfold k0_pay2
  rw [counts t, if_pos h]
  pointwise
  exact mul_zero _

/-- The error of a row that has a target. -/
theorem err_apply (h : ¬t.val = 0) : k0_pay2 (grid0.coords t) x y (ix2 i j) = x (ix2 i j) - y (ix2 i j) := by
  unfold k0_pay2
  rw [counts t, if_neg h]
  pointwise

/-- The gradient, from the error. -/
theorem grad_apply : k0_pay3 (grid0.coords t) x y (ix2 i j) = k0_pay2 (grid0.coords t) x y (ix2 i j) * Ideal.ofBits .f32 0x3A800000#32 := by
  unfold k0_pay3
  pointwise

/-- The squared errors added to what there is. -/
theorem add_apply (a : Vec Ideal S1x1024 .f32) : k0_pay4 (grid0.coords t) x y a (ix2 0 j)
    = a (ix2 0 j) + ∑ i : Fin 128, k0_pay2 (grid0.coords t) x y (ix2 i j) * k0_pay2 (grid0.coords t) x y (ix2 i j) := by
  unfold k0_pay4
  pointwise

/-- The start. -/
theorem zero_apply : k0_pay1 (F := Ideal) (ix2 0 j) = 0 := by
  unfold k0_pay1
  pointwise

end Point

section Flush
variable (c : Dev nD) (t : Fin cfg0.N)

/-- What a point writes back to the gradient: what the run leaves there. -/
theorem flushed2 : (dats m 0 c).flushed 2 t = (cfg0.win 2).cut (grid0.coords t) ((outsAt0 m c t.val t.isLt).1) := by
  show (cfg0.win 2).cut (grid0.coords t) ((dats m 0 c).after 2 t) = _
  rw [after0_2]

/-- What a point writes back to the sums: what the run leaves there. -/
theorem flushed3 : (dats m 0 c).flushed 3 t = (cfg0.win 3).cut (grid0.coords t) ((outsAt0 m c t.val t.isLt).2) := by
  show (cfg0.win 3).cut (grid0.coords t) ((dats m 0 c).after 3 t) = _
  rw [after0_3]

/-- Every point has its own block of the gradient. -/
theorem index_inj : ∀ t t' : Fin cfg0.N, win0_2.index t = win0_2.index t' → t = t' :=
  (by decide +kernel : ∀ t t' : Fin grid0.N, win0_2.index t = win0_2.index t' → t = t')

/-- A block of the gradient at the end is what its point wrote back. -/
theorem blocks2 (hf : (cfg0.win 2).flush t = true) :
    ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (index_inj t t' h)) cfg0.N t t.isLt hf

end Flush

section Step
variable (c : Dev nD) (t : Fin cfg0.N)

/-- Every point leaves its rows' gradient. -/
theorem rows_step : (outsAt0 m c t.val t.isLt).1 = k0_pay3 (grid0.coords t) (iblk m c 0 t) (iblk m c 1 t) := by
  by_cases h0 : t.val % 33 = 0
  · rw [outsAt0_A m c t h0]
    dsimp only
    unfold out0_A_2
    rw [View.read_writes_eq_canon _ _ _ (fun _ => cover0_A_2 ..)]
    unfold kernelRun0_A
    dsimp only
    rw [View.canon_unit_zero hz]
    sl_unfold_words
    simp only [View.readAt_eq_ld, (hs0_0 t).read_unread, (hs0_1 t).read_unread, View.ld_unit_zero (S := S128x1024) hz]
  · rw [outsAt0_B m c t h0]
    dsimp only
    unfold out0_B_2
    rw [View.read_writes_eq_canon _ _ _ (fun _ => cover0_B_2 ..)]
    unfold kernelRun0_B
    dsimp only
    rw [View.canon_unit_zero hz]
    sl_unfold_words
    simp only [View.readAt_eq_ld, (hs0_0 t).read_unread, (hs0_1 t).read_unread, View.ld_unit_zero (S := S128x1024) hz]

/-- The first point starts the sums from zero. -/
theorem sum_first (h0 : t.val % 33 = 0) : (outsAt0 m c t.val t.isLt).2
    = k0_pay4 (grid0.coords t) (iblk m c 0 t) (iblk m c 1 t) (k0_pay1 (F := Ideal)) := by
  rw [outsAt0_A m c t h0]
  dsimp only
  unfold out0_A_3
  rw [View.read_writes_eq_canon _ _ _ (fun _ => cover0_A_3 ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, View.ld_unit_zero (S := S128x1024) hz]

/-- Every later point adds its rows. -/
theorem sum_next (h0 : ¬t.val % 33 = 0) : (outsAt0 m c t.val t.isLt).2
    = k0_pay4 (grid0.coords t) (iblk m c 0 t) (iblk m c 1 t) (outsAt0 m c (t.val - 1) (Nat.lt_of_le_of_lt (Nat.sub_le _ _) t.isLt)).2 := by
  rw [outsAt0_B m c t h0]
  dsimp only
  unfold out0_B_3
  rw [View.read_writes_eq_canon _ _ _ (fun _ => cover0_B_3 ..)]
  unfold kernelRun0_B
  dsimp only
  rw [View.canon_unit_zero hz]
  sl_unfold_words
  simp only [View.readAt_eq_ld, (hs0_0 t).read_unread, (hs0_1 t).read_unread, (hs0_3 t).read_unread,
    View.ld_unit_zero (S := S128x1024) hz, View.ld_unit_zero (S := S1x1024) hz]

end Step

/-- One more block of rows. -/
theorem more (F : Fin 4224 → EReal) (n : ℕ) (hn : n < 33) :
    ∑ k ∈ Finset.range (128 * (n + 1)), ext F k
      = ∑ k ∈ Finset.range (128 * n), ext F k + ∑ i : Fin 128, F ⟨128 * n + i.val, by omega⟩ := by
  rw [Nat.mul_succ, Finset.sum_range_add, Finset.sum_range (n := 128)]
  exact congrArg _ (Finset.sum_congr rfl fun i _ => dif_pos _)

/-- A division by a row's length is a product with its share. -/
theorem div_eq (x : EReal) : Ideal.div x (Ideal.ofBits .f32 0x44800000#32) = x * Ideal.ofBits .f32 0x3A800000#32 := by
  have b : (Ideal.ofBits .f32 0x44800000#32 : EReal) = ((1024 : ℝ) : EReal) := by simp [Ideal.ofBits, Ideal.ieee, -EReal.coe_mul]; norm_num
  have e : (Ideal.ofBits .f32 0x3A800000#32 : EReal) = ((1 / 1024 : ℝ) : EReal) := by simp [Ideal.ofBits, Ideal.ieee, -EReal.coe_mul]; norm_num
  rw [b, e, Ideal.div, if_neg (by norm_num), ← EReal.coe_inv, one_div]

/-- Twice a half of the share of a row is the share. -/
theorem share_eq : Ideal.ofBits .f32 0x3F000000#32 * Ideal.ofBits .f32 0x3F800000#32 * Ideal.ofBits .f32 0x3A800000#32 * Ideal.ofBits .f32 0x40000000#32
    = Ideal.ofBits .f32 0x3A800000#32 := by
  have a : (Ideal.ofBits .f32 0x3F000000#32 : EReal) = ((1 / 2 : ℝ) : EReal) := by simp [Ideal.ofBits, Ideal.ieee, -EReal.coe_mul]; norm_num
  have b : (Ideal.ofBits .f32 0x3F800000#32 : EReal) = ((1 : ℝ) : EReal) := by simp [Ideal.ofBits, Ideal.ieee, -EReal.coe_mul]; norm_num
  have d : (Ideal.ofBits .f32 0x40000000#32 : EReal) = ((2 : ℝ) : EReal) := by simp [Ideal.ofBits, Ideal.ieee, -EReal.coe_mul]; norm_num
  have e : (Ideal.ofBits .f32 0x3A800000#32 : EReal) = ((1 / 1024 : ℝ) : EReal) := by simp [Ideal.ofBits, Ideal.ieee, -EReal.coe_mul]; norm_num
  rw [a, b, d, e, ← EReal.coe_mul, ← EReal.coe_mul, ← EReal.coe_mul]
  norm_num

/-- The share of a row multiplies a sum term by term. -/
theorem share_sum {n : ℕ} (F : Fin n → EReal) :
    (∑ k, F k) * Ideal.ofBits .f32 0x3A800000#32 = ∑ k, F k * Ideal.ofBits .f32 0x3A800000#32 := by
  have e : (Ideal.ofBits .f32 0x3A800000#32 : EReal) = ((1 / 1024 : ℝ) : EReal) := by simp [Ideal.ofBits, Ideal.ieee, -EReal.coe_mul]; norm_num
  have h0 : (0 : EReal) ≤ ((1 / 1024 : ℝ) : EReal) := EReal.coe_nonneg.mpr (by norm_num)
  rw [e]
  refine Finset.induction_on Finset.univ (by simp) fun k s hk ih => ?_
  rw [Finset.sum_insert hk, Finset.sum_insert hk, EReal.right_distrib_of_nonneg_of_ne_top h0 (EReal.coe_ne_top _), ih]

/-- A sum over both coordinates of one row. -/
theorem both {n : ℕ} (h : (⟨2, ![1, n]⟩ : Shape).ReducesTo [0, 1] ⟨0, ![]⟩) (v : (⟨2, ![1, n]⟩ : Shape).Idx → EReal)
    (init : EReal) (j : (⟨0, ![]⟩ : Shape).Idx) : Ideal.hostReduceAdd h v init j = init + ∑ l : Fin n, v (ix2 0 l) := by
  unfold Ideal.hostReduceAdd
  refine congrArg (init + ·) ?_
  refine Finset.sum_filter_eq_sum_of_fiber _ (fun l : Fin n => ix2 (0 : Fin 1) l) (fun x y e => Fin.ext (congrArg Fin.val (congrFun e 1))) (fun a => ⟨fun _ => ?_, fun _ => ?_⟩) v
  · obtain ⟨x, y, rfl⟩ := idx a
    obtain rfl : x = 0 := Subsingleton.elim _ _
    exact ⟨y, rfl⟩
  · funext b
    exact b.elim0

section Array
variable (c : Dev nD) (i : Fin 4224) (j : Fin 1024)

/-- The difference of the rows that have targets and their targets. -/
def diff (a : M 4224 1024) (b : M 4096 1024) (k : Fin 4096) (j : Fin 1024) : EReal := a (ix2 ⟨128 + k.val, by omega⟩ j) - b (ix2 k j)

/-- A row's error: zero before the rows that have targets. -/
def err : EReal :=
  if h : 128 ≤ i.val ∧ i.val - 128 < 4096 then
    diff (m ((c : Thread nD τ).loc main_arg0)) (m ((c : Thread nD τ).loc main_arg1)) ⟨i.val - 128, h.2⟩ j
  else 0

/-- A block's errors. -/
theorem err_block (t : Fin cfg0.N) (k : Fin 128) (e : i.val = 128 * t.val + k.val) :
    k0_pay2 (grid0.coords t) (iblk m c 0 t) (iblk m c 1 t) (ix2 k j) = err m c i j := by
  have hN : cfg0.N = 33 := rfl
  unfold err
  by_cases h : t.val = 0
  · rw [dif_neg (by omega)]
    exact err_zero t _ _ k j h
  · rw [dif_pos (by omega)]
    unfold diff
    refine (err_apply t _ _ k j h).trans (congrArg₂ _ ?_ ?_)
    · blk_ext [iblk, index t]
    · have hw := (index t).2.1 (by omega)
      blk_ext [iblk, hw]

/-- The gradient's array. -/
theorem rows_arr : (dats m 0 c).arrAt 2 cfg0.N (ix2 i j) = err m c i j * Ideal.ofBits .f32 0x3A800000#32 := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks2 m c t (flush0_2 t)).trans ((flushed2 m c t).trans (congrArg _ (rows_step m c t)))) (ix2 k j)
  blk_simp at e
  refine Eq.trans ?_ (e.trans ((grad_apply t _ _ k j).trans (congrArg (· * _) (err_block m c i j t k (by omega)))))
  blk_ext [index t]

/-- The sums after every point: the rows so far. -/
theorem sums : ∀ (n : ℕ) (h : n < cfg0.N), (outsAt0 m c n h).2 (ix2 0 j)
    = ∑ k ∈ Finset.range (128 * (n + 1)), ext (fun i => err m c i j * err m c i j) k
  | 0, h => by
    rw [sum_first m c ⟨0, h⟩ rfl, more _ _ (by decide), add_apply, zero_apply]
    refine congrArg _ (Finset.sum_congr rfl fun k _ => ?_)
    rw [err_block m c ⟨128 * 0 + k.val, by omega⟩ j ⟨0, h⟩ k rfl]
  | n + 1, h => by
    have hN : cfg0.N = 33 := rfl
    rw [sum_next m c ⟨n + 1, h⟩ (by dsimp only; omega), more _ _ (by omega), ← sums n (by omega), add_apply]
    refine congrArg _ (Finset.sum_congr rfl fun k _ => ?_)
    rw [err_block m c ⟨128 * (n + 1) + k.val, by omega⟩ j ⟨n + 1, h⟩ k rfl]

/-- The squared error of a row that has a target. -/
def sq (k : Fin 4096) : EReal :=
  diff (m ((c : Thread nD τ).loc main_arg0)) (m ((c : Thread nD τ).loc main_arg1)) k j
    * diff (m ((c : Thread nD τ).loc main_arg0)) (m ((c : Thread nD τ).loc main_arg1)) k j

/-- All rows: those that have targets. -/
theorem sum_all : ∑ k ∈ Finset.range (128 * (32 + 1)), ext (fun i => err m c i j * err m c i j) k = ∑ k : Fin 4096, sq m c j k := by
  rw [show 128 * (32 + 1) = 128 + 4096 from rfl, Finset.sum_range_add, Finset.sum_eq_zero, zero_add, Finset.sum_range]
  · refine Finset.sum_congr rfl fun k _ => (dif_pos (by omega)).trans ?_
    have h : err m c ⟨128 + k.val, by omega⟩ j = diff (m ((c : Thread nD τ).loc main_arg0)) (m ((c : Thread nD τ).loc main_arg1)) k j := by
      unfold err
      rw [dif_pos (by dsimp only; omega)]
      congr 1
      exact Fin.ext (Nat.add_sub_cancel_left ..)
    unfold sq
    rw [← h]
  · intro k hk
    have := Finset.mem_range.mp hk
    unfold ext
    rw [dif_pos (by omega)]
    have : err m c ⟨k, by omega⟩ j = 0 := dif_neg (by dsimp only; omega)
    dsimp only
    rw [this, zero_mul]

/-- The last point writes the one block that is the sums' array. -/
theorem last (R : Vec Ideal S1x1024 .f32) (hR : ∀ t : Fin cfg0.N, t.val = 32 → (outsAt0 m c t.val t.isLt).2 = R) :
    (dats m 0 c).arrAt 3 cfg0.N = R := by
  have hN : cfg0.N = 33 := rfl
  have hz' (t : Fin cfg0.N) : (fun a => win0_3.index t a * main_v0_1.ty.shape.size a) = fun _ => 0 := by
    rw [(index t).2.2.2]; funext a; fin_cases a <;> rfl
  refine (dats m 0 c).arrAt_eq_of_cover 3 R (fun t h => ?_) fun i => ?_
  · rw [flushed3, hR t (by have := (flush0_3 t).mp h; have := t.isLt; omega)]
    exact (Memref.read_access_unit_zero (Elt Ideal) main_v0_1 (hz' t) (fun a => by rw [congrFun (hz' t) a]; simp) R).symm
  · obtain ⟨t, ht⟩ : ∃ t : Fin cfg0.N, t.val = 32 := ⟨⟨32, by omega⟩, rfl⟩
    refine ⟨t, (flush0_3 t).mpr (by omega), ?_⟩
    show i ∈ ((View.whole main_v0_1).slice (win0_3.rect t)).set
    rw [View.set_slice_whole, Rect.mem_set_unit]
    intro a
    show win0_3.index t a * main_v0_1.ty.shape.size a ≤ (i a : Nat)
      ∧ (i a : Nat) < win0_3.index t a * main_v0_1.ty.shape.size a + main_v0_1.ty.shape.size a
    rw [congrFun (hz' t) a, Nat.zero_add]
    exact ⟨Nat.zero_le _, (i a).isLt⟩

/-- The sums' array. -/
theorem sums_arr : (dats m 0 c).arrAt 3 cfg0.N (ix2 0 j) = ∑ k : Fin 4096, sq m c j k := by
  have hN : cfg0.N = 33 := rfl
  obtain ⟨t, ht⟩ : ∃ t : Fin cfg0.N, t.val = 32 := ⟨⟨32, by omega⟩, rfl⟩
  rw [last m c _ fun s hs => by rw [show s = t from Fin.ext (hs.trans ht.symm)], sums, ht]
  exact sum_all m c j

end Array

/-- What the host's lines after the call make of the sums. -/
def loss (s : FVec Ideal S1x1024 .f32) : FVec Ideal S_ .f32 :=
  mulf (mulf (constant S_ .f32 0x3F000000#32) (Host.reduceAdd s (constant S_ .f32 0x00000000#32) reducesTo_S1x1024_S_d0_1 h_S_))
    (constant S_ .f32 0x3A800000#32)

/-- The host's lines after the call: the loss, from the sums. -/
theorem tail (c : Dev nD) : Pipeline.afterTail₀ cfgs (dats m) 0 (V0 m) [hostOps1] c main_v3 = loss ((dats m 0 c).arrAt 3 cfg0.N) := by
  unfold Pipeline.afterTail₀ loss
  show StableHlo.after hostOps1 _ _ = _
  after_results
  erw [Pipeline.withArrays_arr spec0 launch0.win.arr_inj c _ _ 3]

/-- The loss, from the sums. -/
theorem loss_apply (s : FVec Ideal S1x1024 .f32) (i : S_.Idx) : loss s i
    = Ideal.ofBits .f32 0x3F000000#32 * (∑ j : Fin 1024, s (ix2 0 j)) * Ideal.ofBits .f32 0x3A800000#32 := by
  unfold loss
  pointwise [both]

/-- The loss, row by row. -/
theorem loss_rows (F : Fin 1024 → Fin 4096 → EReal) (s : FVec Ideal S1x1024 .f32) (hs : ∀ j, s (ix2 0 j) = ∑ k, F j k) (i : S_.Idx) :
    loss s i = Ideal.ofBits .f32 0x3F000000#32 * (∑ k, (∑ j, F j k) * Ideal.ofBits .f32 0x3A800000#32) := by
  rw [loss_apply, ← share_sum, Finset.sum_comm, mul_assoc]
  simp only [hs]

/-- The run, with every result named. -/
theorem run (ρ : Dev nD → PrngReg) : θ_run defs (onTc (τ := τ) (main (F := Ideal))) ⟨m, fun _ => 0, ρ⟩ fun r => ∀ c : Dev nD,
      r.2.mem ((c : Thread nD τ).loc main_v3) = loss ((dats m 0 c).arrAt 3 cfg0.N)
      ∧ r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 rfl (by decide))).trans (tail m c), (h c).1 2, (h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The call and the lines after it leave the loss, the gradient and the summed errors. -/
theorem algebraic : Cert.algebraic_Kernel19Ideal_Reference19Ideal := by
  intro m ρ m' ρ' _ hin
  refine ⟨fun c => loss ((dats m 0 c).arrAt 3 cfg0.N), fun c => (dats m 0 c).arrAt 2 cfg0.N, fun c => (dats m 0 c).arrAt 3 cfg0.N, run m ρ, ?_⟩
  refine (θ_run _ _ _).mono (fun r h c => ?_) (Cert.Reference19Ideal.Value.run m' ρ')
  obtain ⟨e0, e1⟩ := hin c
  obtain ⟨hl, hd, hs, a⟩ := h c
  rw [e0, e1] at hl hd hs
  refine ⟨hl.trans ?_, hd.trans ?_, hs.trans ?_, a⟩ <;> clear hl hd hs <;> funext i
  · refine Eq.trans ?_ (loss_rows (sq m c) _ (sums_arr m c) i).symm
    unfold sq diff
    pointwise
    simp only [div_eq]
  · obtain ⟨x, y, rfl⟩ := idx i
    refine Eq.trans ?_ (rows_arr m c x y).symm
    unfold err diff
    rw [← share_eq]
    pointwise
    split
    · rw [div_eq]
      ac_rfl
    · exact (zero_mul _).symm
  · obtain ⟨x, y, rfl⟩ := idx i
    obtain rfl : x = 0 := Subsingleton.elim _ _
    refine Eq.trans ?_ (sums_arr m c y).symm
    unfold sq diff
    pointwise

/-- The reference's frame. -/
theorem frame_ref : Cert.quiescent_Reference19Ideal := fun m ρ _ =>
  (θ_run _ _ _).mono (fun r h => ⟨fun c => (h c).2.2.2, sem_eq_zero_of_no_sems (by decide) r.2⟩) (Cert.Reference19Ideal.Value.run m ρ)

end Cert.LossHead

end
-- ==== Proof.Adam.lean ====
/- AdamW at one weight: the gradient summed over the devices' pieces, the two moments, the step. -/
module

public import proofs.«01_k».proof.Proof.Mat

@[expose] public section

noncomputable section

namespace Cert.Adam

open Idealize.ShloMosaic

/-- The devices' pieces of a gradient. -/
abbrev Pieces (r c : ℕ) := (⟨3, ![8, r, c]⟩ : Shape).Idx → EReal

/-- The gradient: the sum of the eight pieces. -/
def grad {r c : ℕ} (p : Pieces r c) (i : Fin r) (j : Fin c) : EReal := ∑ d : Fin 8, p (ix3 d i j)

/-- The sum spelt out, in the devices' order. -/
theorem grad_eq {r c : ℕ} (p : Pieces r c) (i : Fin r) (j : Fin c) :
    grad p i j = p (ix3 0 i j) + p (ix3 1 i j) + p (ix3 2 i j) + p (ix3 3 i j) + p (ix3 4 i j) + p (ix3 5 i j) + p (ix3 6 i j)
      + p (ix3 7 i j) :=
  Fin.sum_univ_eight _

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's change. -/
def step (g w m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- Four blocks hold the gradient, the step and the two moments of a weights' block. -/
def Updated {r c : ℕ} (p : Pieces r c) (w f s : Mat.M r c) (o : Mat.M r c × Mat.M r c × Mat.M r c × Mat.M r c) : Prop :=
  ∀ i j, o.1 (ix2 i j) = grad p i j ∧ o.2.1 (ix2 i j) = step (grad p i j) (w (ix2 i j)) (f (ix2 i j)) (s (ix2 i j))
    ∧ o.2.2.1 (ix2 i j) = first (grad p i j) (f (ix2 i j)) ∧ o.2.2.2 (ix2 i j) = second (grad p i j) (s (ix2 i j))

end Cert.Adam

end
-- ==== Proof.AdamMeta.lean ====
/- The update of the meta tokens. -/
module

public import proofs.«01_k».proof.Defs
public import proofs.«01_k».proof.Proof.Gen.Kernel20Ideal.Value
public import proofs.«01_k».proof.Proof.Gen.Reference20Ideal.Run
public import proofs.«01_k».proof.Proof.Adam

@[expose] public section

set_option maxRecDepth 16384

noncomputable section

namespace Cert.AdamMeta

open Cert.Mat Cert.Adam Cert.Kernel20Ideal Cert.Kernel20Ideal.Gen Cert.Kernel20Ideal.Value Idealize.ShloMosaic Idealize.ShloMosaic.TcCoe Idealize.SL.Sem

variable (m : (ℓ : Loc nD τ sig) → Buf (Elt Ideal) ℓ)

/-- The blocks of the windows at every grid point: one block. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x16x128 .f32) (w f s : Vec Ideal S16x128 .f32) (i : Fin 16) (j : Fin 128)

/-- The gradient that a grid point forms. -/
theorem pay_apply : k0_pay5 p w f s (ix2 i j) = grad p i j := by
  rw [grad_eq]
  unfold k0_pay5 k0_pay3
  pointwise

/-- The first moment that a grid point forms. -/
theorem pay_first : k0_pay6 p w f s (ix2 i j) = first (grad p i j) (f (ix2 i j)) := by
  unfold first
  rw [grad_eq]
  unfold k0_pay6 k0_pay4 k0_pay3
  simp only [View.ld_unit_zero (S := S16x128) hz]
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  unfold step
  rw [View.canon_unit_zero hz, ← pay_first p w f s, ← pay_apply p w f s]
  unfold k0_pay2 k0_pay1
  simp only [View.ld_unit_zero (S := S16x128) hz]
  pointwise [second]

/-- What a grid point leaves of the first moment. -/
theorem first_apply : out0_6 p w f s (ix2 i j) = first (grad p i j) (f (ix2 i j)) := by
  unfold out0_6
  rw [View.canon_unit_zero hz]
  exact pay_first p w f s i j

/-- What a grid point leaves of the second moment. -/
theorem second_apply : out0_7 p w f s (ix2 i j) = second (grad p i j) (s (ix2 i j)) := by
  unfold out0_7
  rw [View.canon_unit_zero hz, ← pay_apply p w f s]
  unfold k0_pay1
  simp only [View.ld_unit_zero (S := S16x128) hz]
  pointwise [second]

end Point

section Array
variable (c : Dev nD) (i : Fin 16) (j : Fin 128)

/-- The gradient at an index. -/
def g : EReal := grad (m ((c : Thread nD τ).loc main_arg0) : Pieces 16 128) i j

/-- The grid point that works on a row. -/
theorem point : ∃ t : Fin cfg0.N, t.val = i.val / 16 := ⟨⟨i.val / 16, by have : cfg0.N = 1 := rfl; omega⟩, rfl⟩

/-- The gradient of a block. -/
theorem block (t : Fin cfg0.N) (ht : t.val = i.val / 16) :
    grad (iblk m c 0 t : Pieces 16 128) ⟨i.val % 16, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 16, by omega⟩ j)
  blk_simp at e
  refine Eq.trans ?_ (e.trans ((grad_apply _ _ _ _ ⟨i.val % 16, by omega⟩ j).trans (block m c i j t ht)))
  blk_ext [index t]

/-- The step's array. -/
theorem step_arr : (dats m 0 c).arrAt 5 cfg0.N (ix2 i j)
    = step (g m c i j) ((m ((c : Thread nD τ).loc main_arg1) : M 16 128) (ix2 i j))
        ((m ((c : Thread nD τ).loc main_arg2) : M 16 128) (ix2 i j)) ((m ((c : Thread nD τ).loc main_arg3) : M 16 128) (ix2 i j)) := by
  obtain ⟨t, ht⟩ := point i
  have e := congrFun ((blocks5 m c t (flush0_5 t)).trans (flushed5 m c t)) (ix2 ⟨i.val % 16, by omega⟩ j)
  blk_simp at e
  refine Eq.trans ?_ (e.trans ((step_apply _ _ _ _ ⟨i.val % 16, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 16 128) (ix2 i j)) := by
  obtain ⟨t, ht⟩ := point i
  have e := congrFun ((blocks6 m c t (flush0_6 t)).trans (flushed6 m c t)) (ix2 ⟨i.val % 16, by omega⟩ j)
  blk_simp at e
  refine Eq.trans ?_ (e.trans ((first_apply _ _ _ _ ⟨i.val % 16, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 16 128) (ix2 i j)) := by
  obtain ⟨t, ht⟩ := point i
  have e := congrFun ((blocks7 m c t (flush0_7 t)).trans (flushed7 m c t)) (ix2 ⟨i.val % 16, by omega⟩ j)
  blk_simp at e
  refine Eq.trans ?_ (e.trans ((second_apply _ _ _ _ ⟨i.val % 16, by omega⟩ j).trans ?_))
  · blk_ext [index t]
  · rw [block m c i j t ht]
    congr 1; blk_ext [iblk, index t]

end Array

/-- The call leaves the gradient, the step and the two moments. -/
theorem algebraic : Cert.algebraic_Kernel20Ideal_Reference20Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference20Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference20Ideal := fun m ρ _ =>
  (θ_run _ _ _).mono (fun r h => ⟨fun c => (h c).2.2.2.2, sem_eq_zero_of_no_sems (by decide) r.2⟩) (Cert.Reference20Ideal.Value.run m ρ)

end Cert.AdamMeta

end
-- ==== Proof.AdamGateUp.lean ====
/- The update of the gated unit's joint input weights. -/
module

public import proofs.«01_k».proof.Defs
public import proofs.«01_k».proof.Proof.Gen.Kernel21Ideal.Value
public import proofs.«01_k».proof.Proof.Gen.Reference21Ideal.Run
public import proofs.«01_k».proof.Proof.Adam

@[expose] public section

set_option maxRecDepth 16384

noncomputable section

namespace Cert.AdamGateUp

open Cert.Mat Cert.Adam Cert.Kernel21Ideal Cert.Kernel21Ideal.Gen Cert.Kernel21Ideal.Value Idealize.ShloMosaic Idealize.ShloMosaic.TcCoe Idealize.SL.Sem

variable (m : (ℓ : Loc nD τ sig) → Buf (Elt Ideal) ℓ)

/-- The blocks of the windows at every grid point: four blocks of rows for every layer; a layer's pieces are read at its own points. -/
theorem index : ∀ t : Fin cfg0.N,
    (t.val < 4 → win0_0.index t = ![0, t.val, 0]) ∧ (4 ≤ t.val → t.val < 8 → win0_1.index t = ![0, t.val - 4, 0])
      ∧ (8 ≤ t.val → t.val < 12 → win0_2.index t = ![0, t.val - 8, 0]) ∧ (12 ≤ t.val → win0_3.index t = ![0, t.val - 12, 0])
      ∧ win0_4.index t = ![t.val, 0] ∧ win0_5.index t = ![t.val, 0] ∧ win0_6.index t = ![t.val, 0] ∧ win0_7.index t = ![t.val, 0]
      ∧ win0_8.index t = ![t.val, 0] ∧ win0_9.index t = ![t.val, 0] ∧ win0_10.index t = ![t.val, 0] := by
  decide +kernel

section Step
variable (c : Dev nD) (t : Fin cfg0.N)

set_option maxHeartbeats 1600000 in
/-- The first layer's points. -/
theorem layer0 (h0 : t.val < 4) (h1 : ¬t.val / 4 % 4 = 1) (h2 : ¬t.val / 4 % 4 = 2) (h3 : ¬12 ≤ t.val) :
    Updated (r := 256) (c := 704) (iblk m c 0 t) (iblk m c 4 t) (iblk m c 5 t) (iblk m c 6 t) (outsAt0 m c t.val t.isLt) := by
  intro i j
  rw [outsAt0_A m c t h0 h1 h2 h3]
  dsimp only
  unfold out0_A_7 out0_A_8 out0_A_9 out0_A_10
  rw [View.read_writes_eq_canon _ _ _ (fun _ => cover0_A_7 ..), View.read_writes_eq_canon _ _ _ (fun _ => cover0_A_8 ..),
    View.read_writes_eq_canon _ _ _ (fun _ => cover0_A_9 ..), View.read_writes_eq_canon _ _ _ (fun _ => cover0_A_10 ..)]
  unfold kernelRun0_A
  dsimp only
  rw [View.canon_unit_zero hz, View.canon_unit_zero hz, View.canon_unit_zero hz, View.canon_unit_zero hz]
  sl_unfold_words
  simp only [View.readAt_eq_ld, (hs0_0 t).read_unread, (hs0_4 t).read_unread, (hs0_5 t).read_unread, (hs0_6 t).read_unread,
    View.ld_unit_zero (S := S256x704) hz]
  generalize e : k0_pay13 (F := Ideal) _ _ _ _ _ _ _ _ = g
  have h : grad (r := 256) (c := 704) (iblk m c 0 t) i j = g (ix2 i j) := by
    rw [← e, grad_eq]
    unfold k0_pay13
    pointwise
  rw [h]
  refine ⟨rfl, ?_, ?_, ?_⟩
  · unfold k0_pay3 k0_pay2 k0_pay1 k0_pay14
    pointwise [step, first, second]
  · unfold k0_pay1 k0_pay14
    pointwise [first]
  · unfold k0_pay2
    pointwise [second]

set_option maxHeartbeats 1600000 in
/-- The second layer's points. -/
theorem layer1 (h0 : ¬t.val < 4) (h1 : t.val / 4 % 4 = 1) (h2 : ¬t.val / 4 % 4 = 2) (h3 : ¬12 ≤ t.val) :
    Updated (r := 256) (c := 704) (iblk m c 1 t) (iblk m c 4 t) (iblk m c 5 t) (iblk m c 6 t) (outsAt0 m c t.val t.isLt) := by
  intro i j
  rw [outsAt0_B m c t h0 h1 h2 h3]
  dsimp only
  unfold out0_B_7 out0_B_8 out0_B_9 out0_B_10
  rw [View.read_writes_eq_canon _ _ _ (fun _ => cover0_B_7 ..), View.read_writes_eq_canon _ _ _ (fun _ => cover0_B_8 ..),
    View.read_writes_eq_canon _ _ _ (fun _ => cover0_B_9 ..), View.read_writes_eq_canon _ _ _ (fun _ => cover0_B_10 ..)]
  unfold kernelRun0_B
  dsimp only
  rw [View.canon_unit_zero hz, View.canon_unit_zero hz, View.canon_unit_zero hz, View.canon_unit_zero hz]
  sl_unfold_words
  simp only [View.readAt_eq_ld, (hs0_1 t).read_unread, (hs0_4 t).read_unread, (hs0_5 t).read_unread, (hs0_6 t).read_unread,
    View.ld_unit_zero (S := S256x704) hz]
  generalize e : k0_pay15 (F := Ideal) _ _ _ _ _ _ _ _ = g
  have h : grad (r := 256) (c := 704) (iblk m c 1 t) i j = g (ix2 i j) := by
    rw [← e, grad_eq]
    unfold k0_pay15
    pointwise
  rw [h]
  refine ⟨rfl, ?_, ?_, ?_⟩
  · unfold k0_pay6 k0_pay5 k0_pay4 k0_pay16
    pointwise [step, first, second]
  · unfold k0_pay4 k0_pay16
    pointwise [first]
  · unfold k0_pay5
    pointwise [second]

set_option maxHeartbeats 1600000 in
/-- The third layer's points. -/
theorem layer2 (h0 : ¬t.val < 4) (h1 : ¬t.val / 4 % 4 = 1) (h2 : t.val / 4 % 4 = 2) (h3 : ¬12 ≤ t.val) :
    Updated (r := 256) (c := 704) (iblk m c 2 t) (iblk m c 4 t) (iblk m c 5 t) (iblk m c 6 t) (outsAt0 m c t.val t.isLt) := by
  intro i j
  rw [outsAt0_C m c t h0 h1 h2 h3]
  dsimp only
  unfold out0_C_7 out0_C_8 out0_C_9 out0_C_10
  rw [View.read_writes_eq_canon _ _ _ (fun _ => cover0_C_7 ..), View.read_writes_eq_canon _ _ _ (fun _ => cover0_C_8 ..),
    View.read_writes_eq_canon _ _ _ (fun _ => cover0_C_9 ..), View.read_writes_eq_canon _ _ _ (fun _ => cover0_C_10 ..)]
  unfold kernelRun0_C
  dsimp only
  rw [View.canon_unit_zero hz, View.canon_unit_zero hz, View.canon_unit_zero hz, View.canon_unit_zero hz]
  sl_unfold_words
  simp only [View.readAt_eq_ld, (hs0_2 t).read_unread, (hs0_4 t).read_unread, (hs0_5 t).read_unread, (hs0_6 t).read_unread,
    View.ld_unit_zero (S := S256x704) hz]
  generalize e : k0_pay17 (F := Ideal) _ _ _ _ _ _ _ _ = g
  have h : grad (r := 256) (c := 704) (iblk m c 2 t) i j = g (ix2 i j) := by
    rw [← e, grad_eq]
    unfold k0_pay17
    pointwise
  rw [h]
  refine ⟨rfl, ?_, ?_, ?_⟩
  · unfold k0_pay9 k0_pay8 k0_pay7 k0_pay18
    pointwise [step, first, second]
  · unfold k0_pay7 k0_pay18
    pointwise [first]
  · unfold k0_pay8
    pointwise [second]

set_option maxHeartbeats 1600000 in
/-- The fourth layer's points. -/
theorem layer3 (h0 : ¬t.val < 4) (h1 : ¬t.val / 4 % 4 = 1) (h2 : ¬t.val / 4 % 4 = 2) (h3 : 12 ≤ t.val) :
    Updated (r := 256) (c := 704) (iblk m c 3 t) (iblk m c 4 t) (iblk m c 5 t) (iblk m c 6 t) (outsAt0 m c t.val t.isLt) := by
  intro i j
  rw [outsAt0_D m c t h0 h1 h2 h3]
  dsimp only
  unfold out0_D_7 out0_D_8 out0_D_9 out0_D_10
  rw [View.read_writes_eq_canon _ _ _ (fun _ => cover0_D_7 ..), View.read_writes_eq_canon _ _ _ (fun _ => cover0_D_8 ..),
    View.read_writes_eq_canon _ _ _ (fun _ => cover0_D_9 ..), View.read_writes_eq_canon _ _ _ (fun _ => cover0_D_10 ..)]
  unfold kernelRun0_D
  dsimp only
  rw [View.canon_unit_zero hz, View.canon_unit_zero hz, View.canon_unit_zero hz, View.canon_unit_zero hz]
  sl_unfold_words
  simp only [View.readAt_eq_ld, (hs0_3 t).read_unread, (hs0_4 t).read_unread, (hs0_5 t).read_unread, (hs0_6 t).read_unread,
    View.ld_unit_zero (S := S256x704) hz]
  generalize e : k0_pay19 (F := Ideal) _ _ _ _ _ _ _ _ = g
  have h : grad (r := 256) (c := 704) (iblk m c 3 t) i j = g (ix2 i j) := by
    rw [← e, grad_eq]
    unfold k0_pay19
    pointwise
  rw [h]
  refine ⟨rfl, ?_, ?_, ?_⟩
  · unfold k0_pay12 k0_pay11 k0_pay10 k0_pay20
    pointwise [step, first, second]
  · unfold k0_pay10 k0_pay20
    pointwise [first]
  · unfold k0_pay11
    pointwise [second]

end Step

section Array
variable (c : Dev nD) (i : Fin 4096) (j : Fin 704)

/-- The gradient at an index: the layers' rows in their order. -/
def g : EReal :=
  if h : i.val < 1024 then grad (m ((c : Thread nD τ).loc main_arg0) : Pieces 1024 704) ⟨i.val, by omega⟩ j
  else if h : i.val - 1024 < 1024 then grad (m ((c : Thread nD τ).loc main_arg1) : Pieces 1024 704) ⟨i.val - 1024, by omega⟩ j
  else if h : i.val - 1024 - 1024 < 1024 then grad (m ((c : Thread nD τ).loc main_arg2) : Pieces 1024 704) ⟨i.val - 1024 - 1024, by omega⟩ j
  else grad (m ((c : Thread nD τ).loc main_arg3) : Pieces 1024 704) ⟨i.val - 1024 - 1024 - 1024, by omega⟩ j

/-- What the grid point of a row leaves. -/
theorem point : ∃ t : Fin cfg0.N, t.val = i.val / 256
    ∧ ∃ p : Pieces 256 704, Updated p (iblk m c 4 t) (iblk m c 5 t) (iblk m c 6 t) (outsAt0 m c t.val t.isLt)
      ∧ grad p ⟨i.val % 256, by omega⟩ j = g m c i j := by
  obtain ⟨t, ht⟩ : ∃ t : Fin cfg0.N, t.val = i.val / 256 := ⟨⟨i.val / 256, by have : cfg0.N = 16 := rfl; omega⟩, rfl⟩
  refine ⟨t, ht, ?_⟩
  unfold g
  by_cases h0 : i.val < 1024
  · refine ⟨_, layer0 m c t (by omega) (by omega) (by omega) (by omega), ?_⟩
    rw [dif_pos h0]
    unfold grad
    refine Finset.sum_congr rfl fun s _ => ?_
    have hw := (index t).1 (by omega)
    blk_ext [iblk, hw]
  by_cases h1 : i.val - 1024 < 1024
  · refine ⟨_, layer1 m c t (by omega) (by omega) (by omega) (by omega), ?_⟩
    rw [dif_neg h0, dif_pos h1]
    unfold grad
    refine Finset.sum_congr rfl fun s _ => ?_
    have hw := (index t).2.1 (by omega) (by omega)
    blk_ext [iblk, hw]
  by_cases h2 : i.val - 1024 - 1024 < 1024
  · refine ⟨_, layer2 m c t (by omega) (by omega) (by omega) (by omega), ?_⟩
    rw [dif_neg h0, dif_neg h1, dif_pos h2]
    unfold grad
    refine Finset.sum_congr rfl fun s _ => ?_
    have hw := (index t).2.2.1 (by omega) (by omega)
    blk_ext [iblk, hw]
  refine ⟨_, layer3 m c t (by omega) (by omega) (by omega) (by omega), ?_⟩
  rw [dif_neg h0, dif_neg h1, dif_neg h2]
  unfold grad
  refine Finset.sum_congr rfl fun s _ => ?_
  have hw := (index t).2.2.2.1 (by omega)
  blk_ext [iblk, hw]

/-- The gradient's array. -/
theorem grad_arr : (dats m 0 c).arrAt 7 cfg0.N (ix2 i j) = g m c i j := by
  obtain ⟨t, ht, p, hu, hp⟩ := point m c i j
  have e := congrFun ((blocks7 m c t (flush0_7 t)).trans (flushed7 m c t)) (ix2 ⟨i.val % 256, by omega⟩ j)
  blk_simp at e
  refine Eq.trans ?_ (e.trans ((hu _ j).1.trans hp))
  blk_ext [(index t).2.2.2.2]

/-- The step's array. -/
theorem step_arr : (dats m 0 c).arrAt 8 cfg0.N (ix2 i j)
    = step (g m c i j) ((m ((c : Thread nD τ).loc main_arg4) : M 4096 704) (ix2 i j))
        ((m ((c : Thread nD τ).loc main_arg5) : M 4096 704) (ix2 i j)) ((m ((c : Thread nD τ).loc main_arg6) : M 4096 704) (ix2 i j)) := by
  obtain ⟨t, ht, p, hu, hp⟩ := point m c i j
  have e := congrFun ((blocks8 m c t (flush0_8 t)).trans (flushed8 m c t)) (ix2 ⟨i.val % 256, by omega⟩ j)
  blk_simp at e
  refine Eq.trans ?_ (e.trans ((hu _ j).2.1.trans ?_))
  · blk_ext [(index t).2.2.2.2]
  · rw [hp]
    congr 1 <;> blk_ext [iblk, (index t).2.2.2.2]

/-- The first moment's array. -/
theorem first_arr : (dats m 0 c).arrAt 9 cfg0.N (ix2 i j)
    = first (g m c i j) ((m ((c : Thread nD τ).loc main_arg5) : M 4096 704) (ix2 i j)) := by
  obtain ⟨t, ht, p, hu, hp⟩ := point m c i j
  have e := congrFun ((blocks9 m c t (flush0_9 t)).trans (flushed9 m c t)) (ix2 ⟨i.val % 256, by omega⟩ j)
  blk_simp at e
  refine Eq.trans ?_ (e.trans ((hu _ j).2.2.1.trans ?_))
  · blk_ext [(index t).2.2.2.2]
  · rw [hp]
    congr 1; blk_ext [iblk, (index t).2.2.2.2]

/-- The second moment's array. -/
theorem second_arr : (dats m 0 c).arrAt 10 cfg0.N (ix2 i j)
    = second (g m c i j) ((m ((c : Thread nD τ).loc main_arg6) : M 4096 704) (ix2 i j)) := by
  obtain ⟨t, ht, p, hu, hp⟩ := point m c i j
  have e := congrFun ((blocks10 m c t (flush0_10 t)).trans (flushed10 m c t)) (ix2 ⟨i.val % 256, by omega⟩ j)
  blk_simp at e
  refine Eq.trans ?_ (e.trans ((hu _ j).2.2.2.trans ?_))
  · blk_ext [(index t).2.2.2.2]
  · rw [hp]
    congr 1; blk_ext [iblk, (index t).2.2.2.2]

end Array

/-- The call leaves the gradient, the step and the two moments. -/
theorem algebraic : Cert.algebraic_Kernel21Ideal_Reference21Ideal := by
  intro m ρ m' ρ' _ hin
  refine ⟨fun c => (dats m 0 c).arrAt 7 cfg0.N, fun c => (dats m 0 c).arrAt 8 cfg0.N, fun c => (dats m 0 c).arrAt 9 cfg0.N,
    fun c => (dats m 0 c).arrAt 10 cfg0.N, run_blocks m ρ, ?_⟩
  refine (θ_run _ _ _).mono (fun r h c => ?_) (Cert.Reference21Ideal.Value.run m' ρ')
  obtain ⟨e0, e1, e2, e3, e4, e5, e6⟩ := hin c
  obtain ⟨hg, hd, hf, hs, a⟩ := h c
  unfold Cert.Reference21Ideal.Value.res_main_v32 at hd
  rw [e0, e1, e2, e3] at hg hd hf hs
  rw [e4] at hd
  rw [e5] at hd hf
  rw [e6] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference21Ideal := fun m ρ _ =>
  (θ_run _ _ _).mono (fun r h => ⟨fun c => (h c).2.2.2.2, sem_eq_zero_of_no_sems (by decide) r.2⟩) (Cert.Reference21Ideal.Value.run m ρ)

end Cert.AdamGateUp

end
-- ==== Proof.AdamDown.lean ====
/- The update of the gated unit's output weights. -/
module

public import proofs.«01_k».proof.Defs
public import proofs.«01_k».proof.Proof.Gen.Kernel22Ideal.Value
public import proofs.«01_k».proof.Proof.Gen.Reference22Ideal.Run
public import proofs.«01_k».proof.Proof.Adam

@[expose] public section

set_option maxRecDepth 16384

noncomputable section

namespace Cert.AdamDown

open Cert.Mat Cert.Adam Cert.Kernel22Ideal Cert.Kernel22Ideal.Gen Cert.Kernel22Ideal.Value Idealize.ShloMosaic Idealize.ShloMosaic.TcCoe Idealize.SL.Sem

variable (m : (ℓ : Loc nD τ sig) → Buf (Elt Ideal) ℓ)

/-- The blocks of the windows at every grid point: eleven blocks of rows for every layer; a layer's pieces are read at its own points. -/
theorem index : ∀ t : Fin cfg0.N,
    (t.val < 11 → win0_0.index t = ![0, t.val, 0]) ∧ (11 ≤ t.val → t.val < 22 → win0_1.index t = ![0, t.val - 11, 0])
      ∧ (22 ≤ t.val → t.val < 33 → win0_2.index t = ![0, t.val - 22, 0]) ∧ (33 ≤ t.val → win0_3.index t = ![0, t.val - 33, 0])
      ∧ win0_4.index t = ![t.val, 0] ∧ win0_5.index t = ![t.val, 0] ∧ win0_6.index t = ![t.val, 0] ∧ win0_7.index t = ![t.val, 0]
      ∧ win0_8.index t = ![t.val, 0] ∧ win0_9.index t = ![t.val, 0] ∧ win0_10.index t = ![t.val, 0] := by
  decide +kernel

section Step
variable (c : Dev nD) (t : Fin cfg0.N)

set_option maxHeartbeats 1600000 in
/-- The first layer's points. -/
theorem layer0 (h0 : t.val < 11) (h1 : ¬t.val / 11 % 4 = 1) (h2 : ¬t.val / 11 % 4 = 2) (h3 : ¬33 ≤ t.val) :
    Updated (r := 32) (c := 1024) (iblk m c 0 t) (iblk m c 4 t) (iblk m c 5 t) (iblk m c 6 t) (outsAt0 m c t.val t.isLt) := by
  intro i j
  rw [outsAt0_A m c t h0 h1 h2 h3]
  dsimp only
  unfold out0_A_7 out0_A_8 out0_A_9 out0_A_10
  rw [View.read_writes_eq_canon _ _ _ (fun _ => cover0_A_7 ..), View.read_writes_eq_canon _ _ _ (fun _ => cover0_A_8 ..),
    View.read_writes_eq_canon _ _ _ (fun _ => cover0_A_9 ..), View.read_writes_eq_canon _ _ _ (fun _ => cover0_A_10 ..)]
  unfold kernelRun0_A
  dsimp only
  rw [View.canon_unit_zero hz, View.canon_unit_zero hz, View.canon_unit_zero hz, View.canon_unit_zero hz]
  sl_unfold_words
  simp only [View.readAt_eq_ld, (hs0_0 t).read_unread, (hs0_4 t).read_unread, (hs0_5 t).read_unread, (hs0_6 t).read_unread,
    View.ld_unit_zero (S := S32x1024) hz]
  generalize e : k0_pay13 (F := Ideal) _ _ _ _ _ _ _ _ = g
  have h : grad (r := 32) (c := 1024) (iblk m c 0 t) i j = g (ix2 i j) := by
    rw [← e, grad_eq]
    unfold k0_pay13
    pointwise
  rw [h]
  refine ⟨rfl, ?_, ?_, ?_⟩
  · unfold k0_pay3 k0_pay2 k0_pay1 k0_pay14
    pointwise [step, first, second]
  · unfold k0_pay1 k0_pay14
    pointwise [first]
  · unfold k0_pay2
    pointwise [second]

set_option maxHeartbeats 1600000 in
/-- The second layer's points. -/
theorem layer1 (h0 : ¬t.val < 11) (h1 : t.val / 11 % 4 = 1) (h2 : ¬t.val / 11 % 4 = 2) (h3 : ¬33 ≤ t.val) :
    Updated (r := 32) (c := 1024) (iblk m c 1 t) (iblk m c 4 t) (iblk m c 5 t) (iblk m c 6 t) (outsAt0 m c t.val t.isLt) := by
  intro i j
  rw [outsAt0_B m c t h0 h1 h2 h3]
  dsimp only
  unfold out0_B_7 out0_B_8 out0_B_9 out0_B_10
  rw [View.read_writes_eq_canon _ _ _ (fun _ => cover0_B_7 ..), View.read_writes_eq_canon _ _ _ (fun _ => cover0_B_8 ..),
    View.read_writes_eq_canon _ _ _ (fun _ => cover0_B_9 ..), View.read_writes_eq_canon _ _ _ (fun _ => cover0_B_10 ..)]
  unfold kernelRun0_B
  dsimp only
  rw [View.canon_unit_zero hz, View.canon_unit_zero hz, View.canon_unit_zero hz, View.canon_unit_zero hz]
  sl_unfold_words
  simp only [View.readAt_eq_ld, (hs0_1 t).read_unread, (hs0_4 t).read_unread, (hs0_5 t).read_unread, (hs0_6 t).read_unread,
    View.ld_unit_zero (S := S32x1024) hz]
  generalize e : k0_pay15 (F := Ideal) _ _ _ _ _ _ _ _ = g
  have h : grad (r := 32) (c := 1024) (iblk m c 1 t) i j = g (ix2 i j) := by
    rw [← e, grad_eq]
    unfold k0_pay15
    pointwise
  rw [h]
  refine ⟨rfl, ?_, ?_, ?_⟩
  · unfold k0_pay6 k0_pay5 k0_pay4 k0_pay16
    pointwise [step, first, second]
  · unfold k0_pay4 k0_pay16
    pointwise [first]
  · unfold k0_pay5
    pointwise [second]

set_option maxHeartbeats 1600000 in
/-- The third layer's points. -/
theorem layer2 (h0 : ¬t.val < 11) (h1 : ¬t.val / 11 % 4 = 1) (h2 : t.val / 11 % 4 = 2) (h3 : ¬33 ≤ t.val) :
    Updated (r := 32) (c := 1024) (iblk m c 2 t) (iblk m c 4 t) (iblk m c 5 t) (iblk m c 6 t) (outsAt0 m c t.val t.isLt) := by
  intro i j
  rw [outsAt0_C m c t h0 h1 h2 h3]
  dsimp only
  unfold out0_C_7 out0_C_8 out0_C_9 out0_C_10
  rw [View.read_writes_eq_canon _ _ _ (fun _ => cover0_C_7 ..), View.read_writes_eq_canon _ _ _ (fun _ => cover0_C_8 ..),
    View.read_writes_eq_canon _ _ _ (fun _ => cover0_C_9 ..), View.read_writes_eq_canon _ _ _ (fun _ => cover0_C_10 ..)]
  unfold kernelRun0_C
  dsimp only
  rw [View.canon_unit_zero hz, View.canon_unit_zero hz, View.canon_unit_zero hz, View.canon_unit_zero hz]
  sl_unfold_words
  simp only [View.readAt_eq_ld, (hs0_2 t).read_unread, (hs0_4 t).read_unread, (hs0_5 t).read_unread, (hs0_6 t).read_unread,
    View.ld_unit_zero (S := S32x1024) hz]
  generalize e : k0_pay17 (F := Ideal) _ _ _ _ _ _ _ _ = g
  have h : grad (r := 32) (c := 1024) (iblk m c 2 t) i j = g (ix2 i j) := by
    rw [← e, grad_eq]
    unfold k0_pay17
    pointwise
  rw [h]
  refine ⟨rfl, ?_, ?_, ?_⟩
  · unfold k0_pay9 k0_pay8 k0_pay7 k0_pay18
    pointwise [step, first, second]
  · unfold k0_pay7 k0_pay18
    pointwise [first]
  · unfold k0_pay8
    pointwise [second]

set_option maxHeartbeats 1600000 in
/-- The fourth layer's points. -/
theorem layer3 (h0 : ¬t.val < 11) (h1 : ¬t.val / 11 % 4 = 1) (h2 : ¬t.val / 11 % 4 = 2) (h3 : 33 ≤ t.val) :
    Updated (r := 32) (c := 1024) (iblk m c 3 t) (iblk m c 4 t) (iblk m c 5 t) (iblk m c 6 t) (outsAt0 m c t.val t.isLt) := by
  intro i j
  rw [outsAt0_D m c t h0 h1 h2 h3]
  dsimp only
  unfold out0_D_7 out0_D_8 out0_D_9 out0_D_10
  rw [View.read_writes_eq_canon _ _ _ (fun _ => cover0_D_7 ..), View.read_writes_eq_canon _ _ _ (fun _ => cover0_D_8 ..),
    View.read_writes_eq_canon _ _ _ (fun _ => cover0_D_9 ..), View.read_writes_eq_canon _ _ _ (fun _ => cover0_D_10 ..)]
  unfold kernelRun0_D
  dsimp only
  rw [View.canon_unit_zero hz, View.canon_unit_zero hz, View.canon_unit_zero hz, View.canon_unit_zero hz]
  sl_unfold_words
  simp only [View.readAt_eq_ld, (hs0_3 t).read_unread, (hs0_4 t).read_unread, (hs0_5 t).read_unread, (hs0_6 t).read_unread,
    View.ld_unit_zero (S := S32x1024) hz]
  generalize e : k0_pay19 (F := Ideal) _ _ _ _ _ _ _ _ = g
  have h : grad (r := 32) (c := 1024) (iblk m c 3 t) i j = g (ix2 i j) := by
    rw [← e, grad_eq]
    unfold k0_pay19
    pointwise
  rw [h]
  refine ⟨rfl, ?_, ?_, ?_⟩
  · unfold k0_pay12 k0_pay11 k0_pay10 k0_pay20
    pointwise [step, first, second]
  · unfold k0_pay10 k0_pay20
    pointwise [first]
  · unfold k0_pay11
    pointwise [second]

end Step

section Array
variable (c : Dev nD) (i : Fin 1408) (j : Fin 1024)

/-- The gradient at an index: the layers' rows in their order. -/
def g : EReal :=
  if h : i.val < 352 then grad (m ((c : Thread nD τ).loc main_arg0) : Pieces 352 1024) ⟨i.val, by omega⟩ j
  else if h : i.val - 352 < 352 then grad (m ((c : Thread nD τ).loc main_arg1) : Pieces 352 1024) ⟨i.val - 352, by omega⟩ j
  else if h : i.val - 352 - 352 < 352 then grad (m ((c : Thread nD τ).loc main_arg2) : Pieces 352 1024) ⟨i.val - 352 - 352, by omega⟩ j
  else grad (m ((c : Thread nD τ).loc main_arg3) : Pieces 352 1024) ⟨i.val - 352 - 352 - 352, by omega⟩ j

/-- What the grid point of a row leaves. -/
theorem point : ∃ t : Fin cfg0.N, t.val = i.val / 32
    ∧ ∃ p : Pieces 32 1024, Updated p (iblk m c 4 t) (iblk m c 5 t) (iblk m c 6 t) (outsAt0 m c t.val t.isLt)
      ∧ grad p ⟨i.val % 32, by omega⟩ j = g m c i j := by
  obtain ⟨t, ht⟩ : ∃ t : Fin cfg0.N, t.val = i.val / 32 := ⟨⟨i.val / 32, by have : cfg0.N = 44 := rfl; omega⟩, rfl⟩
  refine ⟨t, ht, ?_⟩
  unfold g
  by_cases h0 : i.val < 352
  · refine ⟨_, layer0 m c t (by omega) (by omega) (by omega) (by omega), ?_⟩
    rw [dif_pos h0]
    unfold grad
    refine Finset.sum_congr rfl fun s _ => ?_
    have hw := (index t).1 (by omega)
    blk_ext [iblk, hw]
  by_cases h1 : i.val - 352 < 352
  · refine ⟨_, layer1 m c t (by omega) (by omega) (by omega) (by omega), ?_⟩
    rw [dif_neg h0, dif_pos h1]
    unfold grad
    refine Finset.sum_congr rfl fun s _ => ?_
    have hw := (index t).2.1 (by omega) (by omega)
    blk_ext [iblk, hw]
  by_cases h2 : i.val - 352 - 352 < 352
  · refine ⟨_, layer2 m c t (by omega) (by omega) (by omega) (by omega), ?_⟩
    rw [dif_neg h0, dif_neg h1, dif_pos h2]
    unfold grad
    refine Finset.sum_congr rfl fun s _ => ?_
    have hw := (index t).2.2.1 (by omega) (by omega)
    blk_ext [iblk, hw]
  refine ⟨_, layer3 m c t (by omega) (by omega) (by omega) (by omega), ?_⟩
  rw [dif_neg h0, dif_neg h1, dif_neg h2]
  unfold grad
  refine Finset.sum_congr rfl fun s _ => ?_
  have hw := (index t).2.2.2.1 (by omega)
  blk_ext [iblk, hw]

/-- The gradient's array. -/
theorem grad_arr : (dats m 0 c).arrAt 7 cfg0.N (ix2 i j) = g m c i j := by
  obtain ⟨t, ht, p, hu, hp⟩ := point m c i j
  have e := congrFun ((blocks7 m c t (flush0_7 t)).trans (flushed7 m c t)) (ix2 ⟨i.val % 32, by omega⟩ j)
  blk_simp at e
  refine Eq.trans ?_ (e.trans ((hu _ j).1.trans hp))
  blk_ext [(index t).2.2.2.2]

/-- The step's array. -/
theorem step_arr : (dats m 0 c).arrAt 8 cfg0.N (ix2 i j)
    = step (g m c i j) ((m ((c : Thread nD τ).loc main_arg4) : M 1408 1024) (ix2 i j))
        ((m ((c : Thread nD τ).loc main_arg5) : M 1408 1024) (ix2 i j)) ((m ((c : Thread nD τ).loc main_arg6) : M 1408 1024) (ix2 i j)) := by
  obtain ⟨t, ht, p, hu, hp⟩ := point m c i j
  have e := congrFun ((blocks8 m c t (flush0_8 t)).trans (flushed8 m c t)) (ix2 ⟨i.val % 32, by omega⟩ j)
  blk_simp at e
  refine Eq.trans ?_ (e.trans ((hu _ j).2.1.trans ?_))
  · blk_ext [(index t).2.2.2.2]
  · rw [hp]
    congr 1 <;> blk_ext [iblk, (index t).2.2.2.2]

/-- The first moment's array. -/
theorem first_arr : (dats m 0 c).arrAt 9 cfg0.N (ix2 i j)
    = first (g m c i j) ((m ((c : Thread nD τ).loc main_arg5) : M 1408 1024) (ix2 i j)) := by
  obtain ⟨t, ht, p, hu, hp⟩ := point m c i j
  have e := congrFun ((blocks9 m c t (flush0_9 t)).trans (flushed9 m c t)) (ix2 ⟨i.val % 32, by omega⟩ j)
  blk_simp at e
  refine Eq.trans ?_ (e.trans ((hu _ j).2.2.1.trans ?_))
  · blk_ext [(index t).2.2.2.2]
  · rw [hp]
    congr 1; blk_ext [iblk, (index t).2.2.2.2]

/-- The second moment's array. -/
theorem second_arr : (dats m 0 c).arrAt 10 cfg0.N (ix2 i j)
    = second (g m c i j) ((m ((c : Thread nD τ).loc main_arg6) : M 1408 1024) (ix2 i j)) := by
  obtain ⟨t, ht, p, hu, hp⟩ := point m c i j
  have e := congrFun ((blocks10 m c t (flush0_10 t)).trans (flushed10 m c t)) (ix2 ⟨i.val % 32, by omega⟩ j)
  blk_simp at e
  refine Eq.trans ?_ (e.trans ((hu _ j).2.2.2.trans ?_))
  · blk_ext [(index t).2.2.2.2]
  · rw [hp]
    congr 1; blk_ext [iblk, (index t).2.2.2.2]

end Array

/-- The call leaves the gradient, the step and the two moments. -/
theorem algebraic : Cert.algebraic_Kernel22Ideal_Reference22Ideal := by
  intro m ρ m' ρ' _ hin
  refine ⟨fun c => (dats m 0 c).arrAt 7 cfg0.N, fun c => (dats m 0 c).arrAt 8 cfg0.N, fun c => (dats m 0 c).arrAt 9 cfg0.N,
    fun c => (dats m 0 c).arrAt 10 cfg0.N, run_blocks m ρ, ?_⟩
  refine (θ_run _ _ _).mono (fun r h c => ?_) (Cert.Reference22Ideal.Value.run m' ρ')
  obtain ⟨e0, e1, e2, e3, e4, e5, e6⟩ := hin c
  obtain ⟨hg, hd, hf, hs, a⟩ := h c
  unfold Cert.Reference22Ideal.Value.res_main_v32 at hd
  rw [e0, e1, e2, e3] at hg hd hf hs
  rw [e4] at hd
  rw [e5] at hd hf
  rw [e6] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference22Ideal := fun m ρ _ =>
  (θ_run _ _ _).mono (fun r h => ⟨fun c => (h c).2.2.2.2, sem_eq_zero_of_no_sems (by decide) r.2⟩) (Cert.Reference22Ideal.Value.run m ρ)

end Cert.AdamDown

end
-- ==== Proof.AdamFoxIn.lean ====
/- The update of the softmax attention's input weights. -/
module

public import proofs.«01_k».proof.Defs
public import proofs.«01_k».proof.Proof.Gen.Kernel23Ideal.Value
public import proofs.«01_k».proof.Proof.Gen.Reference23Ideal.Run
public import proofs.«01_k».proof.Proof.Adam

@[expose] public section

set_option maxRecDepth 16384

noncomputable section

namespace Cert.AdamFoxIn

open Cert.Mat Cert.Adam Cert.Kernel23Ideal Cert.Kernel23Ideal.Gen Cert.Kernel23Ideal.Value Idealize.ShloMosaic Idealize.ShloMosaic.TcCoe Idealize.SL.Sem

variable (m : (ℓ : Loc nD τ sig) → Buf (Elt Ideal) ℓ)

/-- The blocks of the windows at every grid point: four blocks of rows for every layer; a layer's pieces are read at its own points. -/
theorem index : ∀ t : Fin cfg0.N,
    (t.val < 4 → win0_0.index t = ![0, t.val, 0]) ∧ (4 ≤ t.val → win0_1.index t = ![0, t.val - 4, 0])
      ∧ win0_2.index t = ![t.val, 0] ∧ win0_3.index t = ![t.val, 0] ∧ win0_4.index t = ![t.val, 0]
      ∧ win0_5.index t = ![t.val, 0] ∧ win0_6.index t = ![t.val, 0] ∧ win0_7.index t = ![t.val, 0] ∧ win0_8.index t = ![t.val, 0] := by
  decide +kernel

section Step
variable (c : Dev nD) (t : Fin cfg0.N)

set_option maxHeartbeats 1600000 in
/-- The first layer's points. -/
theorem layer0 (h0 : t.val < 4) (h1 : ¬4 ≤ t.val) :
    Updated (r := 256) (c := 514) (iblk m c 0 t) (iblk m c 2 t) (iblk m c 3 t) (iblk m c 4 t) (outsAt0 m c t.val t.isLt) := by
  intro i j
  rw [outsAt0_A m c t h0 h1]
  dsimp only
  unfold out0_A_5 out0_A_6 out0_A_7 out0_A_8
  rw [View.read_writes_eq_canon _ _ _ (fun _ => cover0_A_5 ..), View.read_writes_eq_canon _ _ _ (fun _ => cover0_A_6 ..),
    View.read_writes_eq_canon _ _ _ (fun _ => cover0_A_7 ..), View.read_writes_eq_canon _ _ _ (fun _ => cover0_A_8 ..)]
  unfold kernelRun0_A
  dsimp only
  rw [View.canon_unit_zero hz, View.canon_unit_zero hz, View.canon_unit_zero hz, View.canon_unit_zero hz]
  sl_unfold_words
  simp only [View.readAt_eq_ld, (hs0_0 t).read_unread, (hs0_2 t).read_unread, (hs0_3 t).read_unread, (hs0_4 t).read_unread,
    View.ld_unit_zero (S := S256x514) hz]
  generalize e : k0_pay7 (F := Ideal) _ _ _ _ _ _ _ _ = g
  have h : grad (r := 256) (c := 514) (iblk m c 0 t) i j = g (ix2 i j) := by
    rw [← e, grad_eq]
    unfold k0_pay7
    pointwise
  rw [h]
  refine ⟨rfl, ?_, ?_, ?_⟩
  · unfold k0_pay3 k0_pay2 k0_pay1 k0_pay8
    pointwise [step, first, second]
  · unfold k0_pay1 k0_pay8
    pointwise [first]
  · unfold k0_pay2
    pointwise [second]

set_option maxHeartbeats 1600000 in
/-- The second layer's points. -/
theorem layer1 (h0 : ¬t.val < 4) (h1 : 4 ≤ t.val) :
    Updated (r := 256) (c := 514) (iblk m c 1 t) (iblk m c 2 t) (iblk m c 3 t) (iblk m c 4 t) (outsAt0 m c t.val t.isLt) := by
  intro i j
  rw [outsAt0_B m c t h0 h1]
  dsimp only
  unfold out0_B_5 out0_B_6 out0_B_7 out0_B_8
  rw [View.read_writes_eq_canon _ _ _ (fun _ => cover0_B_5 ..), View.read_writes_eq_canon _ _ _ (fun _ => cover0_B_6 ..),
    View.read_writes_eq_canon _ _ _ (fun _ => cover0_B_7 ..), View.read_writes_eq_canon _ _ _ (fun _ => cover0_B_8 ..)]
  unfold kernelRun0_B
  dsimp only
  rw [View.canon_unit_zero hz, View.canon_unit_zero hz, View.canon_unit_zero hz, View.canon_unit_zero hz]
  sl_unfold_words
  simp only [View.readAt_eq_ld, (hs0_1 t).read_unread, (hs0_2 t).read_unread, (hs0_3 t).read_unread, (hs0_4 t).read_unread,
    View.ld_unit_zero (S := S256x514) hz]
  generalize e : k0_pay9 (F := Ideal) _ _ _ _ _ _ _ _ = g
  have h : grad (r := 256) (c := 514) (iblk m c 1 t) i j = g (ix2 i j) := by
    rw [← e, grad_eq]
    unfold k0_pay9
    pointwise
  rw [h]
  refine ⟨rfl, ?_, ?_, ?_⟩
  · unfold k0_pay6 k0_pay5 k0_pay4 k0_pay10
    pointwise [step, first, second]
  · unfold k0_pay4 k0_pay10
    pointwise [first]
  · unfold k0_pay5
    pointwise [second]

end Step

section Array
variable (c : Dev nD) (i : Fin 2048) (j : Fin 514)

/-- The gradient at an index: the first layer's rows, then the second's. -/
def g : EReal := if h : i.val < 1024 then grad (m ((c : Thread nD τ).loc main_arg0) : Pieces 1024 514) ⟨i.val, h⟩ j
  else grad (m ((c : Thread nD τ).loc main_arg1) : Pieces 1024 514) ⟨i.val - 1024, by omega⟩ j

/-- What the grid point of a row leaves. -/
theorem point : ∃ t : Fin cfg0.N, t.val = i.val / 256
    ∧ ∃ p : Pieces 256 514, Updated p (iblk m c 2 t) (iblk m c 3 t) (iblk m c 4 t) (outsAt0 m c t.val t.isLt)
      ∧ grad p ⟨i.val % 256, by omega⟩ j = g m c i j := by
  obtain ⟨t, ht⟩ : ∃ t : Fin cfg0.N, t.val = i.val / 256 := ⟨⟨i.val / 256, by have : cfg0.N = 8 := rfl; omega⟩, rfl⟩
  refine ⟨t, ht, ?_⟩
  unfold g
  by_cases h : i.val < 1024
  · refine ⟨_, layer0 m c t (by omega) (by omega), ?_⟩
    rw [dif_pos h]
    unfold grad
    refine Finset.sum_congr rfl fun s _ => ?_
    have hw := (index t).1 (by omega)
    blk_ext [iblk, hw]
  · refine ⟨_, layer1 m c t (by omega) (by omega), ?_⟩
    rw [dif_neg h]
    unfold grad
    refine Finset.sum_congr rfl fun s _ => ?_
    have hw := (index t).2.1 (by omega)
    blk_ext [iblk, hw]

/-- The gradient's array. -/
theorem grad_arr : (dats m 0 c).arrAt 5 cfg0.N (ix2 i j) = g m c i j := by
  obtain ⟨t, ht, p, hu, hp⟩ := point m c i j
  have e := congrFun ((blocks5 m c t (flush0_5 t)).trans (flushed5 m c t)) (ix2 ⟨i.val % 256, by omega⟩ j)
  blk_simp at e
  refine Eq.trans ?_ (e.trans ((hu _ j).1.trans hp))
  blk_ext [(index t).2.2]

/-- The step's array. -/
theorem step_arr : (dats m 0 c).arrAt 6 cfg0.N (ix2 i j)
    = step (g m c i j) ((m ((c : Thread nD τ).loc main_arg2) : M 2048 514) (ix2 i j))
        ((m ((c : Thread nD τ).loc main_arg3) : M 2048 514) (ix2 i j)) ((m ((c : Thread nD τ).loc main_arg4) : M 2048 514) (ix2 i j)) := by
  obtain ⟨t, ht, p, hu, hp⟩ := point m c i j
  have e := congrFun ((blocks6 m c t (flush0_6 t)).trans (flushed6 m c t)) (ix2 ⟨i.val % 256, by omega⟩ j)
  blk_simp at e
  refine Eq.trans ?_ (e.trans ((hu _ j).2.1.trans ?_))
  · blk_ext [(index t).2.2]
  · rw [hp]
    congr 1 <;> blk_ext [iblk, (index t).2.2]

/-- The first moment's array. -/
theorem first_arr : (dats m 0 c).arrAt 7 cfg0.N (ix2 i j)
    = first (g m c i j) ((m ((c : Thread nD τ).loc main_arg3) : M 2048 514) (ix2 i j)) := by
  obtain ⟨t, ht, p, hu, hp⟩ := point m c i j
  have e := congrFun ((blocks7 m c t (flush0_7 t)).trans (flushed7 m c t)) (ix2 ⟨i.val % 256, by omega⟩ j)
  blk_simp at e
  refine Eq.trans ?_ (e.trans ((hu _ j).2.2.1.trans ?_))
  · blk_ext [(index t).2.2]
  · rw [hp]
    congr 1; blk_ext [iblk, (index t).2.2]

/-- The second moment's array. -/
theorem second_arr : (dats m 0 c).arrAt 8 cfg0.N (ix2 i j)
    = second (g m c i j) ((m ((c : Thread nD τ).loc main_arg4) : M 2048 514) (ix2 i j)) := by
  obtain ⟨t, ht, p, hu, hp⟩ := point m c i j
  have e := congrFun ((blocks8 m c t (flush0_8 t)).trans (flushed8 m c t)) (ix2 ⟨i.val % 256, by omega⟩ j)
  blk_simp at e
  refine Eq.trans ?_ (e.trans ((hu _ j).2.2.2.trans ?_))
  · blk_ext [(index t).2.2]
  · rw [hp]
    congr 1; blk_ext [iblk, (index t).2.2]

end Array

/-- The call leaves the gradient, the step and the two moments. -/
theorem algebraic : Cert.algebraic_Kernel23Ideal_Reference23Ideal := by
  intro m ρ m' ρ' _ hin
  refine ⟨fun c => (dats m 0 c).arrAt 5 cfg0.N, fun c => (dats m 0 c).arrAt 6 cfg0.N, fun c => (dats m 0 c).arrAt 7 cfg0.N,
    fun c => (dats m 0 c).arrAt 8 cfg0.N, run_blocks m ρ, ?_⟩
  refine (θ_run _ _ _).mono (fun r h c => ?_) (Cert.Reference23Ideal.Value.run m' ρ')
  obtain ⟨e0, e1, e2, e3, e4⟩ := hin c
  obtain ⟨hg, hd, hf, hs, a⟩ := h c
  rw [e0, e1] at hg hd hf hs
  rw [e2] at hd
  rw [e3] at hd hf
  rw [e4] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference23Ideal := fun m ρ _ =>
  (θ_run _ _ _).mono (fun r h => ⟨fun c => (h c).2.2.2.2, sem_eq_zero_of_no_sems (by decide) r.2⟩) (Cert.Reference23Ideal.Value.run m ρ)

end Cert.AdamFoxIn

end
-- ==== Proof.AdamFoxOut.lean ====
/- The update of the softmax attention's output weights. -/
module

public import proofs.«01_k».proof.Defs
public import proofs.«01_k».proof.Proof.Gen.Kernel24Ideal.Value
public import proofs.«01_k».proof.Proof.Gen.Reference24Ideal.Run
public import proofs.«01_k».proof.Proof.Adam

@[expose] public section

set_option maxRecDepth 16384

noncomputable section

namespace Cert.AdamFoxOut

open Cert.Mat Cert.Adam Cert.Kernel24Ideal Cert.Kernel24Ideal.Gen Cert.Kernel24Ideal.Value Idealize.ShloMosaic Idealize.ShloMosaic.TcCoe Idealize.SL.Sem

variable (m : (ℓ : Loc nD τ sig) → Buf (Elt Ideal) ℓ)

/-- The blocks of the windows at every grid point: one block of rows for every layer; a layer's pieces are read at its own points. -/
theorem index : ∀ t : Fin cfg0.N,
    (t.val < 1 → win0_0.index t = ![0, t.val, 0]) ∧ (1 ≤ t.val → win0_1.index t = ![0, t.val - 1, 0]) ∧ win0_2.index t = ![t.val, 0]
      ∧ win0_3.index t = ![t.val, 0] ∧ win0_4.index t = ![t.val, 0] ∧ win0_5.index t = ![t.val, 0] ∧ win0_6.index t = ![t.val, 0]
      ∧ win0_7.index t = ![t.val, 0] ∧ win0_8.index t = ![t.val, 0] := by
  decide +kernel

section Step
variable (c : Dev nD) (t : Fin cfg0.N)

set_option maxHeartbeats 1600000 in
/-- The first layer's points. -/
theorem layer0 (h0 : t.val % 2 = 0) (h1 : ¬t.val % 2 = 1) :
    Updated (r := 128) (c := 1024) (iblk m c 0 t) (iblk m c 2 t) (iblk m c 3 t) (iblk m c 4 t) (outsAt0 m c t.val t.isLt) := by
  intro i j
  rw [outsAt0_A m c t h0 h1]
  dsimp only
  unfold out0_A_5 out0_A_6 out0_A_7 out0_A_8
  rw [View.read_writes_eq_canon _ _ _ (fun _ => cover0_A_5 ..), View.read_writes_eq_canon _ _ _ (fun _ => cover0_A_6 ..),
    View.read_writes_eq_canon _ _ _ (fun _ => cover0_A_7 ..), View.read_writes_eq_canon _ _ _ (fun _ => cover0_A_8 ..)]
  unfold kernelRun0_A
  dsimp only
  rw [View.canon_unit_zero hz, View.canon_unit_zero hz, View.canon_unit_zero hz, View.canon_unit_zero hz]
  sl_unfold_words
  simp only [View.readAt_eq_ld, (hs0_0 t).read_unread, (hs0_2 t).read_unread, (hs0_3 t).read_unread, (hs0_4 t).read_unread,
    View.ld_unit_zero (S := S128x1024) hz]
  generalize e : k0_pay7 (F := Ideal) _ _ _ _ _ _ _ _ = g
  have h : grad (r := 128) (c := 1024) (iblk m c 0 t) i j = g (ix2 i j) := by
    rw [← e, grad_eq]
    unfold k0_pay7
    pointwise
  rw [h]
  refine ⟨rfl, ?_, ?_, ?_⟩
  · unfold k0_pay3 k0_pay2 k0_pay1 k0_pay8
    pointwise [step, first, second]
  · unfold k0_pay1 k0_pay8
    pointwise [first]
  · unfold k0_pay2
    pointwise [second]

set_option maxHeartbeats 1600000 in
/-- The second layer's points. -/
theorem layer1 (h0 : ¬t.val % 2 = 0) (h1 : t.val % 2 = 1) :
    Updated (r := 128) (c := 1024) (iblk m c 1 t) (iblk m c 2 t) (iblk m c 3 t) (iblk m c 4 t) (outsAt0 m c t.val t.isLt) := by
  intro i j
  rw [outsAt0_B m c t h0 h1]
  dsimp only
  unfold out0_B_5 out0_B_6 out0_B_7 out0_B_8
  rw [View.read_writes_eq_canon _ _ _ (fun _ => cover0_B_5 ..), View.read_writes_eq_canon _ _ _ (fun _ => cover0_B_6 ..),
    View.read_writes_eq_canon _ _ _ (fun _ => cover0_B_7 ..), View.read_writes_eq_canon _ _ _ (fun _ => cover0_B_8 ..)]
  unfold kernelRun0_B
  dsimp only
  rw [View.canon_unit_zero hz, View.canon_unit_zero hz, View.canon_unit_zero hz, View.canon_unit_zero hz]
  sl_unfold_words
  simp only [View.readAt_eq_ld, (hs0_1 t).read_unread, (hs0_2 t).read_unread, (hs0_3 t).read_unread, (hs0_4 t).read_unread,
    View.ld_unit_zero (S := S128x1024) hz]
  generalize e : k0_pay9 (F := Ideal) _ _ _ _ _ _ _ _ = g
  have h : grad (r := 128) (c := 1024) (iblk m c 1 t) i j = g (ix2 i j) := by
    rw [← e, grad_eq]
    unfold k0_pay9
    pointwise
  rw [h]
  refine ⟨rfl, ?_, ?_, ?_⟩
  · unfold k0_pay6 k0_pay5 k0_pay4 k0_pay10
    pointwise [step, first, second]
  · unfold k0_pay4 k0_pay10
    pointwise [first]
  · unfold k0_pay5
    pointwise [second]

end Step

section Array
variable (c : Dev nD) (i : Fin 256) (j : Fin 1024)

/-- The gradient at an index: the layers' rows in their order. -/
def g : EReal :=
  if h : i.val < 128 then grad (m ((c : Thread nD τ).loc main_arg0) : Pieces 128 1024) ⟨i.val, by omega⟩ j
  else grad (m ((c : Thread nD τ).loc main_arg1) : Pieces 128 1024) ⟨i.val - 128, by omega⟩ j

/-- What the grid point of a row leaves. -/
theorem point : ∃ t : Fin cfg0.N, t.val = i.val / 128
    ∧ ∃ p : Pieces 128 1024, Updated p (iblk m c 2 t) (iblk m c 3 t) (iblk m c 4 t) (outsAt0 m c t.val t.isLt)
      ∧ grad p ⟨i.val % 128, by omega⟩ j = g m c i j := by
  obtain ⟨t, ht⟩ : ∃ t : Fin cfg0.N, t.val = i.val / 128 := ⟨⟨i.val / 128, by have : cfg0.N = 2 := rfl; omega⟩, rfl⟩
  refine ⟨t, ht, ?_⟩
  unfold g
  by_cases h0 : i.val < 128
  · refine ⟨_, layer0 m c t (by omega) (by omega), ?_⟩
    rw [dif_pos h0]
    unfold grad
    refine Finset.sum_congr rfl fun s _ => ?_
    have hw := (index t).1 (by omega)
    blk_ext [iblk, hw]
  refine ⟨_, layer1 m c t (by omega) (by omega), ?_⟩
  rw [dif_neg h0]
  unfold grad
  refine Finset.sum_congr rfl fun s _ => ?_
  have hw := (index t).2.1 (by omega)
  blk_ext [iblk, hw]

/-- The gradient's array. -/
theorem grad_arr : (dats m 0 c).arrAt 5 cfg0.N (ix2 i j) = g m c i j := by
  obtain ⟨t, ht, p, hu, hp⟩ := point m c i j
  have e := congrFun ((blocks5 m c t (flush0_5 t)).trans (flushed5 m c t)) (ix2 ⟨i.val % 128, by omega⟩ j)
  blk_simp at e
  refine Eq.trans ?_ (e.trans ((hu _ j).1.trans hp))
  blk_ext [(index t).2.2]

/-- The step's array. -/
theorem step_arr : (dats m 0 c).arrAt 6 cfg0.N (ix2 i j)
    = step (g m c i j) ((m ((c : Thread nD τ).loc main_arg2) : M 256 1024) (ix2 i j))
        ((m ((c : Thread nD τ).loc main_arg3) : M 256 1024) (ix2 i j)) ((m ((c : Thread nD τ).loc main_arg4) : M 256 1024) (ix2 i j)) := by
  obtain ⟨t, ht, p, hu, hp⟩ := point m c i j
  have e := congrFun ((blocks6 m c t (flush0_6 t)).trans (flushed6 m c t)) (ix2 ⟨i.val % 128, by omega⟩ j)
  blk_simp at e
  refine Eq.trans ?_ (e.trans ((hu _ j).2.1.trans ?_))
  · blk_ext [(index t).2.2]
  · rw [hp]
    congr 1 <;> blk_ext [iblk, (index t).2.2]

/-- The first moment's array. -/
theorem first_arr : (dats m 0 c).arrAt 7 cfg0.N (ix2 i j)
    = first (g m c i j) ((m ((c : Thread nD τ).loc main_arg3) : M 256 1024) (ix2 i j)) := by
  obtain ⟨t, ht, p, hu, hp⟩ := point m c i j
  have e := congrFun ((blocks7 m c t (flush0_7 t)).trans (flushed7 m c t)) (ix2 ⟨i.val % 128, by omega⟩ j)
  blk_simp at e
  refine Eq.trans ?_ (e.trans ((hu _ j).2.2.1.trans ?_))
  · blk_ext [(index t).2.2]
  · rw [hp]
    congr 1; blk_ext [iblk, (index t).2.2]

/-- The second moment's array. -/
theorem second_arr : (dats m 0 c).arrAt 8 cfg0.N (ix2 i j)
    = second (g m c i j) ((m ((c : Thread nD τ).loc main_arg4) : M 256 1024) (ix2 i j)) := by
  obtain ⟨t, ht, p, hu, hp⟩ := point m c i j
  have e := congrFun ((blocks8 m c t (flush0_8 t)).trans (flushed8 m c t)) (ix2 ⟨i.val % 128, by omega⟩ j)
  blk_simp at e
  refine Eq.trans ?_ (e.trans ((hu _ j).2.2.2.trans ?_))
  · blk_ext [(index t).2.2]
  · rw [hp]
    congr 1; blk_ext [iblk, (index t).2.2]

end Array

/-- The call leaves the gradient, the step and the two moments. -/
theorem algebraic : Cert.algebraic_Kernel24Ideal_Reference24Ideal := by
  intro m ρ m' ρ' _ hin
  refine ⟨fun c => (dats m 0 c).arrAt 5 cfg0.N, fun c => (dats m 0 c).arrAt 6 cfg0.N, fun c => (dats m 0 c).arrAt 7 cfg0.N,
    fun c => (dats m 0 c).arrAt 8 cfg0.N, run_blocks m ρ, ?_⟩
  refine (θ_run _ _ _).mono (fun r h c => ?_) (Cert.Reference24Ideal.Value.run m' ρ')
  obtain ⟨e0, e1, e2, e3, e4⟩ := hin c
  obtain ⟨hg, hd, hf, hs, a⟩ := h c
  rw [e0, e1] at hg hd hf hs
  rw [e2] at hd
  rw [e3] at hd hf
  rw [e4] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference24Ideal := fun m ρ _ =>
  (θ_run _ _ _).mono (fun r h => ⟨fun c => (h c).2.2.2.2, sem_eq_zero_of_no_sems (by decide) r.2⟩) (Cert.Reference24Ideal.Value.run m ρ)

end Cert.AdamFoxOut

end
-- ==== Proof.AdamGlaIn.lean ====
/- The update of the gated linear attention's input weights. -/
module

public import proofs.«01_k».proof.Defs
public import proofs.«01_k».proof.Proof.Gen.Kernel25Ideal.Value
public import proofs.«01_k».proof.Proof.Gen.Reference25Ideal.Run
public import proofs.«01_k».proof.Proof.Adam

@[expose] public section

set_option maxRecDepth 16384

noncomputable section

namespace Cert.AdamGlaIn

open Cert.Mat Cert.Adam Cert.Kernel25Ideal Cert.Kernel25Ideal.Gen Cert.Kernel25Ideal.Value Idealize.ShloMosaic Idealize.ShloMosaic.TcCoe Idealize.SL.Sem

variable (m : (ℓ : Loc nD τ sig) → Buf (Elt Ideal) ℓ)

/-- The blocks of the windows at every grid point: four blocks of rows. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x256x386 .bf16) (w f s : Vec Ideal S256x386 .f32) (i : Fin 256) (j : Fin 386)

/-- The gradient that a grid point forms. -/
theorem pay_apply : k0_pay5 p w f s (ix2 i j) = grad p i j := by
  rw [grad_eq]
  unfold k0_pay5 k0_pay4
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  rw [View.canon_unit_zero hz, ← pay_apply p w f s]
  unfold k0_pay3 k0_pay2 k0_pay1
  simp only [View.ld_unit_zero (S := S256x386) hz]
  pointwise [step, first, second]

/-- What a grid point leaves of the first moment. -/
theorem first_apply : out0_6 p w f s (ix2 i j) = first (grad p i j) (f (ix2 i j)) := by
  unfold out0_6
  rw [View.canon_unit_zero hz, ← pay_apply p w f s]
  unfold k0_pay1
  simp only [View.ld_unit_zero (S := S256x386) hz]
  pointwise [first]

/-- What a grid point leaves of the second moment. -/
theorem second_apply : out0_7 p w f s (ix2 i j) = second (grad p i j) (s (ix2 i j)) := by
  unfold out0_7
  rw [View.canon_unit_zero hz, ← pay_apply p w f s]
  unfold k0_pay2
  simp only [View.ld_unit_zero (S := S256x386) hz]
  pointwise [second]

end Point

section Array
variable (c : Dev nD) (i : Fin 1024) (j : Fin 386)

/-- The gradient at an index. -/
def g : EReal := grad (m ((c : Thread nD τ).loc main_arg0) : Pieces 1024 386) i j

/-- The grid point that works on a row. -/
theorem point : ∃ t : Fin cfg0.N, t.val = i.val / 256 := ⟨⟨i.val / 256, by have : cfg0.N = 4 := rfl; omega⟩, rfl⟩

/-- The gradient of a block. -/
theorem block (t : Fin cfg0.N) (ht : t.val = i.val / 256) :
    grad (iblk m c 0 t : Pieces 256 386) ⟨i.val % 256, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 256, by omega⟩ j)
  blk_simp at e
  refine Eq.trans ?_ (e.trans ((grad_apply _ _ _ _ ⟨i.val % 256, by omega⟩ j).trans (block m c i j t ht)))
  blk_ext [index t]

/-- The step's array. -/
theorem step_arr : (dats m 0 c).arrAt 5 cfg0.N (ix2 i j)
    = step (g m c i j) ((m ((c : Thread nD τ).loc main_arg1) : M 1024 386) (ix2 i j))
        ((m ((c : Thread nD τ).loc main_arg2) : M 1024 386) (ix2 i j)) ((m ((c : Thread nD τ).loc main_arg3) : M 1024 386) (ix2 i j)) := by
  obtain ⟨t, ht⟩ := point i
  have e := congrFun ((blocks5 m c t (flush0_5 t)).trans (flushed5 m c t)) (ix2 ⟨i.val % 256, by omega⟩ j)
  blk_simp at e
  refine Eq.trans ?_ (e.trans ((step_apply _ _ _ _ ⟨i.val % 256, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 1024 386) (ix2 i j)) := by
  obtain ⟨t, ht⟩ := point i
  have e := congrFun ((blocks6 m c t (flush0_6 t)).trans (flushed6 m c t)) (ix2 ⟨i.val % 256, by omega⟩ j)
  blk_simp at e
  refine Eq.trans ?_ (e.trans ((first_apply _ _ _ _ ⟨i.val % 256, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 1024 386) (ix2 i j)) := by
  obtain ⟨t, ht⟩ := point i
  have e := congrFun ((blocks7 m c t (flush0_7 t)).trans (flushed7 m c t)) (ix2 ⟨i.val % 256, by omega⟩ j)
  blk_simp at e
  refine Eq.trans ?_ (e.trans ((second_apply _ _ _ _ ⟨i.val % 256, by omega⟩ j).trans ?_))
  · blk_ext [index t]
  · rw [block m c i j t ht]
    congr 1; blk_ext [iblk, index t]

end Array

/-- The call leaves the gradient, the step and the two moments. -/
theorem algebraic : Cert.algebraic_Kernel25Ideal_Reference25Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference25Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference25Ideal := fun m ρ _ =>
  (θ_run _ _ _).mono (fun r h => ⟨fun c => (h c).2.2.2.2, sem_eq_zero_of_no_sems (by decide) r.2⟩) (Cert.Reference25Ideal.Value.run m ρ)

end Cert.AdamGlaIn

end
-- ==== Proof.AdamGlaAlpha.lean ====
/- The update of the gated linear attention's decay weights. -/
module

public import proofs.«01_k».proof.Defs
public import proofs.«01_k».proof.Proof.Gen.Kernel26Ideal.Value
public import proofs.«01_k».proof.Proof.Gen.Reference26Ideal.Run
public import proofs.«01_k».proof.Proof.Adam

@[expose] public section

set_option maxRecDepth 16384

noncomputable section

namespace Cert.AdamGlaAlpha

open Cert.Mat Cert.Adam Cert.Kernel26Ideal Cert.Kernel26Ideal.Gen Cert.Kernel26Ideal.Value Idealize.ShloMosaic Idealize.ShloMosaic.TcCoe Idealize.SL.Sem

variable (m : (ℓ : Loc nD τ sig) → Buf (Elt Ideal) ℓ)

/-- The blocks of the windows at every grid point: one block. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x16x64 .f32) (w f s : Vec Ideal S16x64 .f32) (i : Fin 16) (j : Fin 64)

/-- The gradient that a grid point forms. -/
theorem pay_apply : k0_pay5 p w f s (ix2 i j) = grad p i j := by
  rw [grad_eq]
  unfold k0_pay5 k0_pay3
  pointwise

/-- The first moment that a grid point forms. -/
theorem pay_first : k0_pay6 p w f s (ix2 i j) = first (grad p i j) (f (ix2 i j)) := by
  unfold first
  rw [grad_eq]
  unfold k0_pay6 k0_pay4 k0_pay3
  simp only [View.ld_unit_zero (S := S16x64) hz]
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  unfold step
  rw [View.canon_unit_zero hz, ← pay_first p w f s, ← pay_apply p w f s]
  unfold k0_pay2 k0_pay1
  simp only [View.ld_unit_zero (S := S16x64) hz]
  pointwise [second]

/-- What a grid point leaves of the first moment. -/
theorem first_apply : out0_6 p w f s (ix2 i j) = first (grad p i j) (f (ix2 i j)) := by
  unfold out0_6
  rw [View.canon_unit_zero hz]
  exact pay_first p w f s i j

/-- What a grid point leaves of the second moment. -/
theorem second_apply : out0_7 p w f s (ix2 i j) = second (grad p i j) (s (ix2 i j)) := by
  unfold out0_7
  rw [View.canon_unit_zero hz, ← pay_apply p w f s]
  unfold k0_pay1
  simp only [View.ld_unit_zero (S := S16x64) hz]
  pointwise [second]

end Point

section Array
variable (c : Dev nD) (i : Fin 16) (j : Fin 64)

/-- The gradient at an index. -/
def g : EReal := grad (m ((c : Thread nD τ).loc main_arg0) : Pieces 16 64) i j

/-- The grid point that works on a row. -/
theorem point : ∃ t : Fin cfg0.N, t.val = i.val / 16 := ⟨⟨i.val / 16, by have : cfg0.N = 1 := rfl; omega⟩, rfl⟩

/-- The gradient of a block. -/
theorem block (t : Fin cfg0.N) (ht : t.val = i.val / 16) :
    grad (iblk m c 0 t : Pieces 16 64) ⟨i.val % 16, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 16, by omega⟩ j)
  blk_simp at e
  refine Eq.trans ?_ (e.trans ((grad_apply _ _ _ _ ⟨i.val % 16, by omega⟩ j).trans (block m c i j t ht)))
  blk_ext [index t]

/-- The step's array. -/
theorem step_arr : (dats m 0 c).arrAt 5 cfg0.N (ix2 i j)
    = step (g m c i j) ((m ((c : Thread nD τ).loc main_arg1) : M 16 64) (ix2 i j))
        ((m ((c : Thread nD τ).loc main_arg2) : M 16 64) (ix2 i j)) ((m ((c : Thread nD τ).loc main_arg3) : M 16 64) (ix2 i j)) := by
  obtain ⟨t, ht⟩ := point i
  have e := congrFun ((blocks5 m c t (flush0_5 t)).trans (flushed5 m c t)) (ix2 ⟨i.val % 16, by omega⟩ j)
  blk_simp at e
  refine Eq.trans ?_ (e.trans ((step_apply _ _ _ _ ⟨i.val % 16, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 16 64) (ix2 i j)) := by
  obtain ⟨t, ht⟩ := point i
  have e := congrFun ((blocks6 m c t (flush0_6 t)).trans (flushed6 m c t)) (ix2 ⟨i.val % 16, by omega⟩ j)
  blk_simp at e
  refine Eq.trans ?_ (e.trans ((first_apply _ _ _ _ ⟨i.val % 16, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 16 64) (ix2 i j)) := by
  obtain ⟨t, ht⟩ := point i
  have e := congrFun ((blocks7 m c t (flush0_7 t)).trans (flushed7 m c t)) (ix2 ⟨i.val % 16, by omega⟩ j)
  blk_simp at e
  refine Eq.trans ?_ (e.trans ((second_apply _ _ _ _ ⟨i.val % 16, by omega⟩ j).trans ?_))
  · blk_ext [index t]
  · rw [block m c i j t ht]
    congr 1; blk_ext [iblk, index t]

end Array

/-- The call leaves the gradient, the step and the two moments. -/
theorem algebraic : Cert.algebraic_Kernel26Ideal_Reference26Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference26Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference26Ideal := fun m ρ _ =>
  (θ_run _ _ _).mono (fun r h => ⟨fun c => (h c).2.2.2.2, sem_eq_zero_of_no_sems (by decide) r.2⟩) (Cert.Reference26Ideal.Value.run m ρ)

end Cert.AdamGlaAlpha

end
-- ==== Proof.AdamGlaOut.lean ====
/- The update of the gated linear attention's output weights. -/
module

public import proofs.«01_k».proof.Defs
public import proofs.«01_k».proof.Proof.Gen.Kernel27Ideal.Value
public import proofs.«01_k».proof.Proof.Gen.Reference27Ideal.Run
public import proofs.«01_k».proof.Proof.Adam

@[expose] public section

set_option maxRecDepth 16384

noncomputable section

namespace Cert.AdamGlaOut

open Cert.Mat Cert.Adam Cert.Kernel27Ideal Cert.Kernel27Ideal.Gen Cert.Kernel27Ideal.Value Idealize.ShloMosaic Idealize.ShloMosaic.TcCoe Idealize.SL.Sem

variable (m : (ℓ : Loc nD τ sig) → Buf (Elt Ideal) ℓ)

/-- The blocks of the windows at every grid point: one block. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x128x1024 .bf16) (w f s : Vec Ideal S128x1024 .f32) (i : Fin 128) (j : Fin 1024)

/-- The gradient that a grid point forms. -/
theorem pay_apply : k0_pay5 p w f s (ix2 i j) = grad p i j := by
  rw [grad_eq]
  unfold k0_pay5 k0_pay4
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  rw [View.canon_unit_zero hz, ← pay_apply p w f s]
  unfold k0_pay3 k0_pay2 k0_pay1
  simp only [View.ld_unit_zero (S := S128x1024) hz]
  pointwise [step, first, second]

/-- What a grid point leaves of the first moment. -/
theorem first_apply : out0_6 p w f s (ix2 i j) = first (grad p i j) (f (ix2 i j)) := by
  unfold out0_6
  rw [View.canon_unit_zero hz, ← pay_apply p w f s]
  unfold k0_pay1
  simp only [View.ld_unit_zero (S := S128x1024) hz]
  pointwise [first]

/-- What a grid point leaves of the second moment. -/
theorem second_apply : out0_7 p w f s (ix2 i j) = second (grad p i j) (s (ix2 i j)) := by
  unfold out0_7
  rw [View.canon_unit_zero hz, ← pay_apply p w f s]
  unfold k0_pay2
  simp only [View.ld_unit_zero (S := S128x1024) hz]
  pointwise [second]

end Point

section Array
variable (c : Dev nD) (i : Fin 128) (j : Fin 1024)

/-- The gradient at an index. -/
def g : EReal := grad (m ((c : Thread nD τ).loc main_arg0) : Pieces 128 1024) i j

/-- The grid point that works on a row. -/
theorem point : ∃ t : Fin cfg0.N, t.val = i.val / 128 := ⟨⟨i.val / 128, by have : cfg0.N = 1 := rfl; omega⟩, rfl⟩

/-- The gradient of a block. -/
theorem block (t : Fin cfg0.N) (ht : t.val = i.val / 128) :
    grad (iblk m c 0 t : Pieces 128 1024) ⟨i.val % 128, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 128, by omega⟩ j)
  blk_simp at e
  refine Eq.trans ?_ (e.trans ((grad_apply _ _ _ _ ⟨i.val % 128, by omega⟩ j).trans (block m c i j t ht)))
  blk_ext [index t]

/-- The step's array. -/
theorem step_arr : (dats m 0 c).arrAt 5 cfg0.N (ix2 i j)
    = step (g m c i j) ((m ((c : Thread nD τ).loc main_arg1) : M 128 1024) (ix2 i j))
        ((m ((c : Thread nD τ).loc main_arg2) : M 128 1024) (ix2 i j)) ((m ((c : Thread nD τ).loc main_arg3) : M 128 1024) (ix2 i j)) := by
  obtain ⟨t, ht⟩ := point i
  have e := congrFun ((blocks5 m c t (flush0_5 t)).trans (flushed5 m c t)) (ix2 ⟨i.val % 128, by omega⟩ j)
  blk_simp at e
  refine Eq.trans ?_ (e.trans ((step_apply _ _ _ _ ⟨i.val % 128, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 128 1024) (ix2 i j)) := by
  obtain ⟨t, ht⟩ := point i
  have e := congrFun ((blocks6 m c t (flush0_6 t)).trans (flushed6 m c t)) (ix2 ⟨i.val % 128, by omega⟩ j)
  blk_simp at e
  refine Eq.trans ?_ (e.trans ((first_apply _ _ _ _ ⟨i.val % 128, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 128 1024) (ix2 i j)) := by
  obtain ⟨t, ht⟩ := point i
  have e := congrFun ((blocks7 m c t (flush0_7 t)).trans (flushed7 m c t)) (ix2 ⟨i.val % 128, by omega⟩ j)
  blk_simp at e
  refine Eq.trans ?_ (e.trans ((second_apply _ _ _ _ ⟨i.val % 128, by omega⟩ j).trans ?_))
  · blk_ext [index t]
  · rw [block m c i j t ht]
    congr 1; blk_ext [iblk, index t]

end Array

/-- The call leaves the gradient, the step and the two moments. -/
theorem algebraic : Cert.algebraic_Kernel27Ideal_Reference27Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference27Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference27Ideal := fun m ρ _ =>
  (θ_run _ _ _).mono (fun r h => ⟨fun c => (h c).2.2.2.2, sem_eq_zero_of_no_sems (by decide) r.2⟩) (Cert.Reference27Ideal.Value.run m ρ)

end Cert.AdamGlaOut

end
-- ==== Proof.AdamGdnIn.lean ====
/- The update of the gated delta rule's input weights. -/
module

public import proofs.«01_k».proof.Defs
public import proofs.«01_k».proof.Proof.Gen.Kernel28Ideal.Value
public import proofs.«01_k».proof.Proof.Gen.Reference28Ideal.Run
public import proofs.«01_k».proof.Proof.Adam

@[expose] public section

set_option maxRecDepth 16384

noncomputable section

namespace Cert.AdamGdnIn

open Cert.Mat Cert.Adam Cert.Kernel28Ideal Cert.Kernel28Ideal.Gen Cert.Kernel28Ideal.Value Idealize.ShloMosaic Idealize.ShloMosaic.TcCoe Idealize.SL.Sem

variable (m : (ℓ : Loc nD τ sig) → Buf (Elt Ideal) ℓ)

/-- The blocks of the windows at every grid point: four blocks of rows. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x256x514 .bf16) (w f s : Vec Ideal S256x514 .f32) (i : Fin 256) (j : Fin 514)

/-- The gradient that a grid point forms. -/
theorem pay_apply : k0_pay5 p w f s (ix2 i j) = grad p i j := by
  rw [grad_eq]
  unfold k0_pay5 k0_pay4
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  rw [View.canon_unit_zero hz, ← pay_apply p w f s]
  unfold k0_pay3 k0_pay2 k0_pay1
  simp only [View.ld_unit_zero (S := S256x514) hz]
  pointwise [step, first, second]

/-- What a grid point leaves of the first moment. -/
theorem first_apply : out0_6 p w f s (ix2 i j) = first (grad p i j) (f (ix2 i j)) := by
  unfold out0_6
  rw [View.canon_unit_zero hz, ← pay_apply p w f s]
  unfold k0_pay1
  simp only [View.ld_unit_zero (S := S256x514) hz]
  pointwise [first]

/-- What a grid point leaves of the second moment. -/
theorem second_apply : out0_7 p w f s (ix2 i j) = second (grad p i j) (s (ix2 i j)) := by
  unfold out0_7
  rw [View.canon_unit_zero hz, ← pay_apply p w f s]
  unfold k0_pay2
  simp only [View.ld_unit_zero (S := S256x514) hz]
  pointwise [second]

end Point

section Array
variable (c : Dev nD) (i : Fin 1024) (j : Fin 514)

/-- The gradient at an index. -/
def g : EReal := grad (m ((c : Thread nD τ).loc main_arg0) : Pieces 1024 514) i j

/-- The grid point that works on a row. -/
theorem point : ∃ t : Fin cfg0.N, t.val = i.val / 256 := ⟨⟨i.val / 256, by have : cfg0.N = 4 := rfl; omega⟩, rfl⟩

/-- The gradient of a block. -/
theorem block (t : Fin cfg0.N) (ht : t.val = i.val / 256) :
    grad (iblk m c 0 t : Pieces 256 514) ⟨i.val % 256, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 256, by omega⟩ j)
  blk_simp at e
  refine Eq.trans ?_ (e.trans ((grad_apply _ _ _ _ ⟨i.val % 256, by omega⟩ j).trans (block m c i j t ht)))
  blk_ext [index t]

/-- The step's array. -/
theorem step_arr : (dats m 0 c).arrAt 5 cfg0.N (ix2 i j)
    = step (g m c i j) ((m ((c : Thread nD τ).loc main_arg1) : M 1024 514) (ix2 i j))
        ((m ((c : Thread nD τ).loc main_arg2) : M 1024 514) (ix2 i j)) ((m ((c : Thread nD τ).loc main_arg3) : M 1024 514) (ix2 i j)) := by
  obtain ⟨t, ht⟩ := point i
  have e := congrFun ((blocks5 m c t (flush0_5 t)).trans (flushed5 m c t)) (ix2 ⟨i.val % 256, by omega⟩ j)
  blk_simp at e
  refine Eq.trans ?_ (e.trans ((step_apply _ _ _ _ ⟨i.val % 256, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 1024 514) (ix2 i j)) := by
  obtain ⟨t, ht⟩ := point i
  have e := congrFun ((blocks6 m c t (flush0_6 t)).trans (flushed6 m c t)) (ix2 ⟨i.val % 256, by omega⟩ j)
  blk_simp at e
  refine Eq.trans ?_ (e.trans ((first_apply _ _ _ _ ⟨i.val % 256, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 1024 514) (ix2 i j)) := by
  obtain ⟨t, ht⟩ := point i
  have e := congrFun ((blocks7 m c t (flush0_7 t)).trans (flushed7 m c t)) (ix2 ⟨i.val % 256, by omega⟩ j)
  blk_simp at e
  refine Eq.trans ?_ (e.trans ((second_apply _ _ _ _ ⟨i.val % 256, by omega⟩ j).trans ?_))
  · blk_ext [index t]
  · rw [block m c i j t ht]
    congr 1; blk_ext [iblk, index t]

end Array

/-- The call leaves the gradient, the step and the two moments. -/
theorem algebraic : Cert.algebraic_Kernel28Ideal_Reference28Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference28Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference28Ideal := fun m ρ _ =>
  (θ_run _ _ _).mono (fun r h => ⟨fun c => (h c).2.2.2.2, sem_eq_zero_of_no_sems (by decide) r.2⟩) (Cert.Reference28Ideal.Value.run m ρ)

end Cert.AdamGdnIn

end
-- ==== Proof.AdamGdnConv.lean ====
/- The update of the gated delta rule's convolution weights. -/
module

public import proofs.«01_k».proof.Defs
public import proofs.«01_k».proof.Proof.Gen.Kernel29Ideal.Value
public import proofs.«01_k».proof.Proof.Gen.Reference29Ideal.Run
public import proofs.«01_k».proof.Proof.Adam

@[expose] public section

set_option maxRecDepth 16384

noncomputable section

namespace Cert.AdamGdnConv

open Cert.Mat Cert.Adam Cert.Kernel29Ideal Cert.Kernel29Ideal.Gen Cert.Kernel29Ideal.Value Idealize.ShloMosaic Idealize.ShloMosaic.TcCoe Idealize.SL.Sem

variable (m : (ℓ : Loc nD τ sig) → Buf (Elt Ideal) ℓ)

/-- The blocks of the windows at every grid point: one block. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x4x384 .f32) (w f s : Vec Ideal S4x384 .f32) (i : Fin 4) (j : Fin 384)

/-- The gradient that a grid point forms. -/
theorem pay_apply : k0_pay5 p w f s (ix2 i j) = grad p i j := by
  rw [grad_eq]
  unfold k0_pay5 k0_pay3
  pointwise

/-- The first moment that a grid point forms. -/
theorem pay_first : k0_pay6 p w f s (ix2 i j) = first (grad p i j) (f (ix2 i j)) := by
  unfold first
  rw [grad_eq]
  unfold k0_pay6 k0_pay4 k0_pay3
  simp only [View.ld_unit_zero (S := S4x384) hz]
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  unfold step
  rw [View.canon_unit_zero hz, ← pay_first p w f s, ← pay_apply p w f s]
  unfold k0_pay2 k0_pay1
  simp only [View.ld_unit_zero (S := S4x384) hz]
  pointwise [second]

/-- What a grid point leaves of the first moment. -/
theorem first_apply : out0_6 p w f s (ix2 i j) = first (grad p i j) (f (ix2 i j)) := by
  unfold out0_6
  rw [View.canon_unit_zero hz]
  exact pay_first p w f s i j

/-- What a grid point leaves of the second moment. -/
theorem second_apply : out0_7 p w f s (ix2 i j) = second (grad p i j) (s (ix2 i j)) := by
  unfold out0_7
  rw [View.canon_unit_zero hz, ← pay_apply p w f s]
  unfold k0_pay1
  simp only [View.ld_unit_zero (S := S4x384) hz]
  pointwise [second]

end Point

section Array
variable (c : Dev nD) (i : Fin 4) (j : Fin 384)

/-- The gradient at an index. -/
def g : EReal := grad (m ((c : Thread nD τ).loc main_arg0) : Pieces 4 384) i j

/-- The grid point that works on a row. -/
theorem point : ∃ t : Fin cfg0.N, t.val = i.val / 4 := ⟨⟨i.val / 4, by have : cfg0.N = 1 := rfl; omega⟩, rfl⟩

/-- The gradient of a block. -/
theorem block (t : Fin cfg0.N) (ht : t.val = i.val / 4) :
    grad (iblk m c 0 t : Pieces 4 384) ⟨i.val % 4, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 4, by omega⟩ j)
  blk_simp at e
  refine Eq.trans ?_ (e.trans ((grad_apply _ _ _ _ ⟨i.val % 4, by omega⟩ j).trans (block m c i j t ht)))
  blk_ext [index t]

/-- The step's array. -/
theorem step_arr : (dats m 0 c).arrAt 5 cfg0.N (ix2 i j)
    = step (g m c i j) ((m ((c : Thread nD τ).loc main_arg1) : M 4 384) (ix2 i j))
        ((m ((c : Thread nD τ).loc main_arg2) : M 4 384) (ix2 i j)) ((m ((c : Thread nD τ).loc main_arg3) : M 4 384) (ix2 i j)) := by
  obtain ⟨t, ht⟩ := point i
  have e := congrFun ((blocks5 m c t (flush0_5 t)).trans (flushed5 m c t)) (ix2 ⟨i.val % 4, by omega⟩ j)
  blk_simp at e
  refine Eq.trans ?_ (e.trans ((step_apply _ _ _ _ ⟨i.val % 4, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 4 384) (ix2 i j)) := by
  obtain ⟨t, ht⟩ := point i
  have e := congrFun ((blocks6 m c t (flush0_6 t)).trans (flushed6 m c t)) (ix2 ⟨i.val % 4, by omega⟩ j)
  blk_simp at e
  refine Eq.trans ?_ (e.trans ((first_apply _ _ _ _ ⟨i.val % 4, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 4 384) (ix2 i j)) := by
  obtain ⟨t, ht⟩ := point i
  have e := congrFun ((blocks7 m c t (flush0_7 t)).trans (flushed7 m c t)) (ix2 ⟨i.val % 4, by omega⟩ j)
  blk_simp at e
  refine Eq.trans ?_ (e.trans ((second_apply _ _ _ _ ⟨i.val % 4, by omega⟩ j).trans ?_))
  · blk_ext [index t]
  · rw [block m c i j t ht]
    congr 1; blk_ext [iblk, index t]

end Array

/-- The call leaves the gradient, the step and the two moments. -/
theorem algebraic : Cert.algebraic_Kernel29Ideal_Reference29Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference29Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference29Ideal := fun m ρ _ =>
  (θ_run _ _ _).mono (fun r h => ⟨fun c => (h c).2.2.2.2, sem_eq_zero_of_no_sems (by decide) r.2⟩) (Cert.Reference29Ideal.Value.run m ρ)

end Cert.AdamGdnConv

end
-- ==== Proof.AdamReplicated.lean ====
/- The update of the small weights that every device holds whole, packed into one array. -/
module

public import proofs.«01_k».proof.Defs
public import proofs.«01_k».proof.Proof.Gen.Kernel30Ideal.Value
public import proofs.«01_k».proof.Proof.Gen.Reference30Ideal.Run
public import proofs.«01_k».proof.Proof.Adam

@[expose] public section

set_option maxRecDepth 16384

noncomputable section

namespace Cert.AdamReplicated

open Cert.Mat Cert.Adam Cert.Kernel30Ideal Cert.Kernel30Ideal.Gen Cert.Kernel30Ideal.Value Idealize.ShloMosaic Idealize.ShloMosaic.TcCoe Idealize.SL.Sem

variable (m : (ℓ : Loc nD τ sig) → Buf (Elt Ideal) ℓ)

/-- The blocks of the windows at every grid point: one block. -/
theorem index : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

section Point
variable (p : Vec Ideal S8x16x1024 .f32) (w f s : Vec Ideal S16x1024 .f32) (i : Fin 16) (j : Fin 1024)

/-- The gradient that a grid point forms. -/
theorem pay_apply : k0_pay5 p w f s (ix2 i j) = grad p i j := by
  rw [grad_eq]
  unfold k0_pay5 k0_pay3
  pointwise

/-- The first moment that a grid point forms. -/
theorem pay_first : k0_pay6 p w f s (ix2 i j) = first (grad p i j) (f (ix2 i j)) := by
  unfold first
  rw [grad_eq]
  unfold k0_pay6 k0_pay4 k0_pay3
  simp only [View.ld_unit_zero (S := S16x1024) hz]
  pointwise

/-- What a grid point leaves of the gradient. -/
theorem grad_apply : out0_4 p w f s (ix2 i j) = grad p i j := by
  unfold out0_4
  rw [View.canon_unit_zero hz]
  exact pay_apply p w f s i j

/-- What a grid point leaves of the step. -/
theorem step_apply : out0_5 p w f s (ix2 i j) = step (grad p i j) (w (ix2 i j)) (f (ix2 i j)) (s (ix2 i j)) := by
  unfold out0_5
  unfold step
  rw [View.canon_unit_zero hz, ← pay_first p w f s, ← pay_apply p w f s]
  unfold k0_pay2 k0_pay1
  simp only [View.ld_unit_zero (S := S16x1024) hz]
  pointwise [second]

/-- What a grid point leaves of the first moment. -/
theorem first_apply : out0_6 p w f s (ix2 i j) = first (grad p i j) (f (ix2 i j)) := by
  unfold out0_6
  rw [View.canon_unit_zero hz]
  exact pay_first p w f s i j

/-- What a grid point leaves of the second moment. -/
theorem second_apply : out0_7 p w f s (ix2 i j) = second (grad p i j) (s (ix2 i j)) := by
  unfold out0_7
  rw [View.canon_unit_zero hz, ← pay_apply p w f s]
  unfold k0_pay1
  simp only [View.ld_unit_zero (S := S16x1024) hz]
  pointwise [second]

end Point

section Array
variable (c : Dev nD) (i : Fin 16) (j : Fin 1024)

/-- The gradient at an index. -/
def g : EReal := grad (m ((c : Thread nD τ).loc main_arg0) : Pieces 16 1024) i j

/-- The grid point that works on a row. -/
theorem point : ∃ t : Fin cfg0.N, t.val = i.val / 16 := ⟨⟨i.val / 16, by have : cfg0.N = 1 := rfl; omega⟩, rfl⟩

/-- The gradient of a block. -/
theorem block (t : Fin cfg0.N) (ht : t.val = i.val / 16) :
    grad (iblk m c 0 t : Pieces 16 1024) ⟨i.val % 16, by omega⟩ j = g m c i j := by
  unfold g grad
  refine Finset.sum_congr rfl fun s _ => ?_
  blk_ext [iblk, index t]

/-- The gradient's array. -/
theorem grad_arr : (dats m 0 c).arrAt 4 cfg0.N (ix2 i j) = g m c i j := by
  obtain ⟨t, ht⟩ := point i
  have e := congrFun ((blocks4 m c t (flush0_4 t)).trans (flushed4 m c t)) (ix2 ⟨i.val % 16, by omega⟩ j)
  blk_simp at e
  refine Eq.trans ?_ (e.trans ((grad_apply _ _ _ _ ⟨i.val % 16, by omega⟩ j).trans (block m c i j t ht)))
  blk_ext [index t]

/-- The step's array. -/
theorem step_arr : (dats m 0 c).arrAt 5 cfg0.N (ix2 i j)
    = step (g m c i j) ((m ((c : Thread nD τ).loc main_arg1) : M 16 1024) (ix2 i j))
        ((m ((c : Thread nD τ).loc main_arg2) : M 16 1024) (ix2 i j)) ((m ((c : Thread nD τ).loc main_arg3) : M 16 1024) (ix2 i j)) := by
  obtain ⟨t, ht⟩ := point i
  have e := congrFun ((blocks5 m c t (flush0_5 t)).trans (flushed5 m c t)) (ix2 ⟨i.val % 16, by omega⟩ j)
  blk_simp at e
  refine Eq.trans ?_ (e.trans ((step_apply _ _ _ _ ⟨i.val % 16, by omega⟩ j).trans ?_))
  · blk_ext [index t]
  · rw [block m c i j t ht]
    congr 1 <;> blk_ext [iblk, index t]

/-- The first moment's array. -/
theorem first_arr : (dats m 0 c).arrAt 6 cfg0.N (ix2 i j)
    = first (g m c i j) ((m ((c : Thread nD τ).loc main_arg2) : M 16 1024) (ix2 i j)) := by
  obtain ⟨t, ht⟩ := point i
  have e := congrFun ((blocks6 m c t (flush0_6 t)).trans (flushed6 m c t)) (ix2 ⟨i.val % 16, by omega⟩ j)
  blk_simp at e
  refine Eq.trans ?_ (e.trans ((first_apply _ _ _ _ ⟨i.val % 16, by omega⟩ j).trans ?_))
  · blk_ext [index t]
  · rw [block m c i j t ht]
    congr 1; blk_ext [iblk, index t]

/-- The second moment's array. -/
theorem second_arr : (dats m 0 c).arrAt 7 cfg0.N (ix2 i j)
    = second (g m c i j) ((m ((c : Thread nD τ).loc main_arg3) : M 16 1024) (ix2 i j)) := by
  obtain ⟨t, ht⟩ := point i
  have e := congrFun ((blocks7 m c t (flush0_7 t)).trans (flushed7 m c t)) (ix2 ⟨i.val % 16, by omega⟩ j)
  blk_simp at e
  refine Eq.trans ?_ (e.trans ((second_apply _ _ _ _ ⟨i.val % 16, by omega⟩ j).trans ?_))
  · blk_ext [index t]
  · rw [block m c i j t ht]
    congr 1; blk_ext [iblk, index t]

end Array

/-- The call leaves the gradient, the step and the two moments. -/
theorem algebraic : Cert.algebraic_Kernel30Ideal_Reference30Ideal := by
  intro m ρ m' ρ' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run _ _ _).mono (fun r h c => ?_) (Cert.Reference30Ideal.Value.run m' ρ')
  obtain ⟨e0, e1, e2, e3⟩ := hin c
  obtain ⟨hg, hd, hf, hs, a⟩ := h c
  rw [e0] at hg hd hf hs
  rw [e1] at hd
  rw [e2] at hd hf
  rw [e3] at hd hs
  refine ⟨hg.trans ?_, hd.trans ?_, hf.trans ?_, hs.trans ?_, a⟩ <;> funext i <;> obtain ⟨x, y, rfl⟩ := idx i
  · refine Eq.trans ?_ (grad_arr m c x y).symm
    pointwise [g, grad]
  · refine Eq.trans ?_ (step_arr m c x y).symm
    pointwise [g, grad, step, first, second]
  · refine Eq.trans ?_ (first_arr m c x y).symm
    pointwise [g, grad, first]
  · refine Eq.trans ?_ (second_arr m c x y).symm
    pointwise [g, grad, second]

/-- The reference's frame. -/
theorem frame_ref : Cert.quiescent_Reference30Ideal := fun m ρ _ =>
  (θ_run _ _ _).mono (fun r h => ⟨fun c => (h c).2.2.2.2, sem_eq_zero_of_no_sems (by decide) r.2⟩) (Cert.Reference30Ideal.Value.run m ρ)

end Cert.AdamReplicated

end
-- ==== Proof.GatedNorm.lean ====
/- A mixer's output normalised head by head and gated: every block holds whole rows, and the rows before the first are zeros. -/
module

public import proofs.«01_k».proof.Defs
public import proofs.«01_k».proof.Proof.Gen.Kernel31Ideal.Value
public import proofs.«01_k».proof.Proof.Gen.Reference31Ideal.Run
public import proofs.«01_k».proof.Proof.Mat

@[expose] public section

set_option maxRecDepth 16384

noncomputable section

namespace Cert.GatedNorm

open Cert.Mat Cert.Kernel31Ideal Cert.Kernel31Ideal.Gen Cert.Kernel31Ideal.Value Idealize.ShloMosaic Idealize.ShloMosaic.TcCoe Idealize.SL.Sem

variable (m : (ℓ : Loc nD τ sig) → Buf (Elt Ideal) ℓ)

/-- One over the root of a head's mean square: the head of 256 columns that column `j` lies in. -/
def headRms (f : Fin 1024 → EReal) (j : Fin 1024) : EReal :=
  Ideal.rsqrt (Ideal.div (∑ l : Fin 256, f ⟨256 * (j.val / 256) + l.val, by omega⟩ * f ⟨256 * (j.val / 256) + l.val, by omega⟩) (Ideal.ofBits .f32 0x43800000#32)
    + Ideal.ofBits .f32 0x358637BD#32)

/-- The gate at an index: the last columns of the projection that belong to a head. -/
def gate (p : M 4224 3200) (i : Fin 4224) (j : Fin 1024) : EReal := p (ix2 i ⟨2048 + j.val, by omega⟩)

/-- The normalised and gated output at an index. -/
def val (o : M 4224 1024) (p : M 4224 3200) (g : M 1 256) (i : Fin 4224) (j : Fin 1024) : EReal :=
  o (ix2 i j) * headRms (fun l => o (ix2 i l)) j * g (ix2 0 ⟨j.val % 256, Nat.mod_lt _ (by decide)⟩) * (gate p i j * Ideal.logistic (gate p i j))

/-- The blocks of the windows at every grid point: thirty-three blocks of rows, the gate's columns the third of the projection's blocks. -/
theorem index : ∀ t : Fin cfg0.N,
    win0_0.index t = ![t.val, 0] ∧ win0_1.index t = ![t.val, 2] ∧ win0_2.index t = ![0, 0] ∧ win0_3.index t = ![t.val, 0] := by
  decide +kernel

/-- The first coordinate of a grid point. -/
theorem coord : ∀ t : Fin cfg0.N, (grid0.coords t 0).val = t.val := by decide +kernel

/-- The rows that count, as a word. -/
theorem maskBits : ∀ (t : Fin 33) (k : Fin 128),
    BitVec.setWidth 32 (IntOp.cmpi CmpIPredicate.sge (IntOp.addi (Scalar.muli (BitVec.ofNat 32 t.val) 128#32) (BitVec.ofNat 32 k.val)) 112#32)
      = if 112 ≤ 128 * t.val + k.val then 1#32 else 0#32 := by
  decide +kernel

/-- The rows that count, as a number. -/
theorem mask_apply (t : Fin cfg0.N) (k : Fin 128) :
    (k0_pay2 (F := Ideal) (grid0.coords t)) (ix2 k 0) = if 112 ≤ 128 * t.val + k.val then 1 else 0 := by
  unfold k0_pay2
  pointwise
  rw [coord t, maskBits (⟨t.val, t.isLt⟩ : Fin 33) k]
  split_ifs
  · show ((((1#32 : BitVec 32).toInt : ℝ) : EReal)) = 1
    norm_num
  · show ((((0#32 : BitVec 32).toInt : ℝ) : EReal)) = 0
    norm_num

section Point
variable (x r : Vec Ideal S128x1024 .f32) (g : Vec Ideal S1x256 .f32) (q : FVec Ideal S128x1 .f32) (i : Fin 128) (j : Fin 1024)

/-- What a grid point leaves. -/
theorem out_apply : k0_pay1 x r g q (k0_pay3 x g) (k0_pay4 x g) (k0_pay5 x) (k0_pay6 x) k0_pay7 (ix2 i j)
    = x (ix2 i j) * headRms (fun l => x (ix2 i l)) j * g (ix2 0 ⟨j.val % 256, Nat.mod_lt _ (by decide)⟩) * (r (ix2 i j) * Ideal.logistic (r (ix2 i j))) * q (ix2 i 0) := by
  unfold headRms k0_pay1 k0_pay3 k0_pay4 k0_pay5 k0_pay6 k0_pay7
  pointwise [k0_pay5]
  congr 2
  split_ifs <;> congr! 4
  all_goals first
    | omega
    | (refine Fin.ext ?_; dsimp only; omega)
    | (refine congrArg (fun s => Ideal.div s _) (Finset.sum_congr rfl fun l _ => ?_)
       congr! 4 <;> omega)

end Point

section Array
variable (c : Dev nD) (i : Fin 4224) (j : Fin 1024)

/-- What a grid point leaves, from its blocks. -/
theorem step (t : Fin cfg0.N) : outsAt0 m c t
    = k0_pay1 (iblk m c 0 t) (X0_1 m c t) (iblk m c 2 t) (k0_pay2 (grid0.coords t)) (k0_pay3 (iblk m c 0 t) (iblk m c 2 t))
        (k0_pay4 (iblk m c 0 t) (iblk m c 2 t)) (k0_pay5 (iblk m c 0 t)) (k0_pay6 (iblk m c 0 t)) k0_pay7 := by
  unfold outsAt0
  unfold out0_A_3
  rw [View.read_writes_eq_canon _ _ _ (fun _ => cover0_A_3 ..)]
  unfold kernelRun0_A
  dsimp only
  rw [View.canon_unit_zero hz]
  sl_unfold_words
  simp only [View.readAt_eq_ld, (hs0_0 t).read_unread, (hs0_1 t).read_unread, (hs0_2 t).read_unread,
    View.ld_unit_zero (S := S128x1024) hz, View.ld_unit_zero (S := S1x256) hz]

/-- The array: zeros, then the rows that count. -/
theorem arr : (dats m 0 c).arrAt 3 cfg0.N (ix2 i j) = (if 112 ≤ i.val then val (m ((c : Thread nD τ).loc main_arg0)) (m ((c : Thread nD τ).loc main_arg1)) (m ((c : Thread nD τ).loc main_arg2)) i j else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks3 m c t (flush0_3 t)).trans ((flushed3 m c t).trans (congrArg _ (step m c t)))) (ix2 k j)
  blk_simp at e
  refine Eq.trans ?_ (e.trans ((out_apply _ _ _ _ k j).trans ?_))
  · blk_ext [index t]
  · rw [mask_apply t k, show 128 * t.val + k.val = i.val by omega]
    have hr : X0_1 m c t (ix2 k j) = gate (m ((c : Thread nD τ).loc main_arg1)) i j := by
      unfold gate X0_1 Pipeline.Window.fill
      rw [dif_pos (moved0_1 t _)]
      blk_ext [iblk, index t]
    have hx (l : Fin 1024) : iblk m c 0 t (ix2 k l) = (m ((c : Thread nD τ).loc main_arg0) : M 4224 1024) (ix2 i l) := by
      blk_ext [iblk, index t]
    have hg (l : Fin 256) : iblk m c 2 t (ix2 0 l) = (m ((c : Thread nD τ).loc main_arg2) : M 1 256) (ix2 0 l) := by
      blk_ext [iblk, index t]
    rw [hr, hx, funext hx, hg]
    unfold val
    split_ifs <;> simp

end Array

/-- The call leaves the normalised and gated output. -/
theorem algebraic : Cert.algebraic_Kernel31Ideal_Reference31Ideal := by
  intro m ρ m' ρ' _ hin
  refine ⟨fun c => (dats m 0 c).arrAt 3 cfg0.N, run_blocks m ρ, ?_⟩
  refine (θ_run _ _ _).mono (fun r h c => ?_) (Cert.Reference31Ideal.Value.run m' ρ')
  obtain ⟨e0, e1, e2⟩ := hin c
  obtain ⟨ho, a⟩ := h c
  rw [e0, e1, e2] at ho
  refine ⟨ho.trans ?_, a⟩
  funext i
  obtain ⟨x, y, rfl⟩ := idx i
  refine Eq.trans ?_ (arr m c x y).symm
  unfold val headRms gate Ideal.logistic
  pointwise
  by_cases hx : x.val < 112
  · exact (dif_pos hx).trans (if_neg (Nat.not_le.mpr hx)).symm
  · refine (dif_neg hx).trans (Eq.trans ?_ (if_pos (Nat.not_lt.mp hx)).symm)
    have e : (⟨112 + (x.val - 112), by omega⟩ : Fin 4224) = x := Fin.ext (by dsimp only; omega)
    simp only [e, Nat.mul_comm 256]

/-- The reference's frame. -/
theorem frame_ref : Cert.quiescent_Reference31Ideal := fun m ρ _ =>
  (θ_run _ _ _).mono (fun r h => ⟨fun c => (h c).2, sem_eq_zero_of_no_sems (by decide) r.2⟩) (Cert.Reference31Ideal.Value.run m ρ)

end Cert.GatedNorm

end
-- ==== Proof.GatedNormBack.lean ====
/- The backward pass of a mixer's normalised and gated output: every block holds whole rows, and the scale's gradient is summed over the grid. -/
module

public import proofs.«01_k».proof.Defs
public import proofs.«01_k».proof.Proof.Gen.Kernel32Ideal.Value
public import proofs.«01_k».proof.Proof.Gen.Reference32Ideal.Run
public import proofs.«01_k».proof.Proof.GatedNorm
public import proofs.«01_k».proof.Proof.NormBack

@[expose] public section

set_option maxRecDepth 16384

noncomputable section

namespace Cert.GatedNormBack

open Cert.Mat Cert.NormBack Cert.GatedNorm Cert.Kernel32Ideal Cert.Kernel32Ideal.Gen Cert.Kernel32Ideal.Value Idealize.ShloMosaic Idealize.ShloMosaic.TcCoe Idealize.SL.Sem

/-- A row's entries in the head that column `j` lies in. -/
def hd (f : Fin 1024 → EReal) (j : Fin 1024) (l : Fin 256) : EReal := f ⟨256 * (j.val / 256) + l.val, by omega⟩

/-- A head's mean square with the small constant added. -/
def headMs (f : Fin 1024 → EReal) (j : Fin 1024) : EReal :=
  Ideal.div (∑ l, hd f j l * hd f j l) (Ideal.ofBits .f32 0x43800000#32) + Ideal.ofBits .f32 0x358637BD#32

/-- What comes back to the normalised head, from the gradient and the gate. -/
def through (r d : Fin 1024 → EReal) (j : Fin 1024) : EReal := d j * (r j * Ideal.logistic (r j))

/-- The share of every entry of a head in its mean square's gradient. -/
def headShare (f e : Fin 1024 → EReal) (g : Fin 256 → EReal) (j : Fin 1024) : EReal :=
  Ideal.div ((∑ l, hd f j l * (hd e j l * g l)) * (Ideal.ofBits .f32 0xBF000000#32 * Ideal.div (Ideal.rsqrt (headMs f j)) (headMs f j)))
    (Ideal.ofBits .f32 0x43800000#32)

/-- The gradient of a row before the normalisation. -/
def headBack (f e : Fin 1024 → EReal) (g : Fin 256 → EReal) (j : Fin 1024) : EReal :=
  e j * g ⟨j.val % 256, Nat.mod_lt _ (by decide)⟩ * Ideal.rsqrt (headMs f j) + f j * headShare f e g j + headShare f e g j * f j

/-- The gradient of a row of the gate. -/
def gateBack (f r d : Fin 1024 → EReal) (g : Fin 256 → EReal) (j : Fin 1024) : EReal :=
  (f j * Ideal.rsqrt (headMs f j) * g ⟨j.val % 256, Nat.mod_lt _ (by decide)⟩ * d j) * Ideal.logistic (r j)
    + r j * (f j * Ideal.rsqrt (headMs f j) * g ⟨j.val % 256, Nat.mod_lt _ (by decide)⟩ * d j)
        * (Ideal.logistic (r j) * (1 - Ideal.logistic (r j)))

variable (m : (ℓ : Loc nD τ sig) → Buf (Elt Ideal) ℓ)

/-- The blocks of the windows at every grid point: thirty-three blocks of rows, one scale. -/
theorem index : ∀ t : Fin cfg0.N,
    win0_0.index t = ![t.val, 0] ∧ win0_1.index t = ![t.val, 2] ∧ win0_2.index t = ![0, 0] ∧ win0_3.index t = ![t.val, 0]
      ∧ win0_4.index t = ![t.val, 0] ∧ win0_5.index t = ![t.val, 0] ∧ win0_6.index t = ![0, 0] := by
  decide +kernel

/-- The first coordinate of a grid point. -/
theorem coord : ∀ t : Fin cfg0.N, (grid0.coords t 0).val = t.val := by decide +kernel

/-- The rows that count, as a number. -/
theorem mask_apply (t : Fin cfg0.N) (k : Fin 128) :
    (k0_pay5 (F := Ideal) (grid0.coords t)) (ix2 k 0) = if 112 ≤ 128 * t.val + k.val then 1 else 0 := by
  unfold k0_pay5
  pointwise
  rw [coord t, maskBits (⟨t.val, t.isLt⟩ : Fin 33) k]
  split_ifs
  · show ((((1#32 : BitVec 32).toInt : ℝ) : EReal)) = 1
    norm_num
  · show ((((0#32 : BitVec 32).toInt : ℝ) : EReal)) = 0
    norm_num

/-- The gradient of a block's rows. -/
def rowsB (x r : Vec Ideal S128x1024 .f32) (g : Vec Ideal S1x256 .f32) (d : Vec Ideal S128x1024 .f32) (q : FVec Ideal S128x1 .f32) : FVec Ideal S128x1024 .f32 :=
  k0_pay1
    (k0_pay39 g (k0_pay12 x) (k0_pay14 x) (k0_pay15 x) (k0_pay33 (k0_pay30 r q d))
      (k0_pay36 g (k0_pay23 x) (k0_pay25 x) (k0_pay26 x) (k0_pay30 r q d))
      (k0_pay38 g (k0_pay18 x) (k0_pay20 x) (k0_pay21 x) (k0_pay30 r q d)))
    (k0_pay41 g (k0_pay6 x) (k0_pay8 x) (k0_pay9 x) (k0_pay32 r q d))

/-- The gradient of a block of the gate. -/
def gateB (x r : Vec Ideal S128x1024 .f32) (g : Vec Ideal S1x256 .f32) (d : Vec Ideal S128x1024 .f32) (q : FVec Ideal S128x1 .f32) : FVec Ideal S128x1024 .bf16 :=
  k0_pay2 (k0_pay31 x r g q (k0_pay11 x g) (k0_pay16 x) (k0_pay17 g) d)

/-- A block's part of the scale's gradient. -/
def partB (x r : Vec Ideal S128x1024 .f32) (d : Vec Ideal S128x1024 .f32) (q : FVec Ideal S128x1 .f32) : FVec Ideal S1x256 .f32 :=
  k0_pay40 (k0_pay10 x) (k0_pay16 x) (k0_pay32 r q d) (k0_pay33 (k0_pay30 r q d)) (k0_pay37 (k0_pay22 x) (k0_pay27 x) (k0_pay30 r q d))

section Step
variable (c : Dev nD) (t : Fin cfg0.N)

/-- Every point leaves its rows' gradient. -/
theorem rows_step : (outsAt0 m c t.val t.isLt).1 = rowsB (iblk m c 0 t) (X0_1 m c t) (iblk m c 2 t) (iblk m c 3 t) (k0_pay5 (grid0.coords t)) := by
  by_cases h0 : t.val % 33 = 0
  · rw [outsAt0_A m c t h0]
    dsimp only
    unfold out0_A_4
    rw [View.read_writes_eq_canon _ _ _ (fun _ => cover0_A_4 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x256) hz]
    rfl
  · rw [outsAt0_B m c t h0]
    dsimp only
    unfold out0_B_4
    rw [View.read_writes_eq_canon _ _ _ (fun _ => cover0_B_4 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x256) hz]
    rfl

/-- Every point leaves its gate's gradient. -/
theorem gate_step : (outsAt0 m c t.val t.isLt).2.1 = gateB (iblk m c 0 t) (X0_1 m c t) (iblk m c 2 t) (iblk m c 3 t) (k0_pay5 (grid0.coords t)) := by
  by_cases h0 : t.val % 33 = 0
  · rw [outsAt0_A m c t h0]
    dsimp only
    unfold out0_A_5
    rw [View.read_writes_eq_canon _ _ _ (fun _ => cover0_A_5 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x256) hz]
    rfl
  · rw [outsAt0_B m c t h0]
    dsimp only
    unfold out0_B_5
    rw [View.read_writes_eq_canon _ _ _ (fun _ => cover0_B_5 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x256) hz]
    rfl

/-- The first point starts the scale's gradient from zero. -/
theorem scale_first (h0 : t.val % 33 = 0) : (outsAt0 m c t.val t.isLt).2.2
    = k0_pay4 (partB (iblk m c 0 t) (X0_1 m c t) (iblk m c 3 t) (k0_pay5 (grid0.coords t))) (k0_pay3 (F := Ideal)) := by
  rw [outsAt0_A m c t h0]
  dsimp only
  unfold out0_A_6
  rw [View.read_writes_eq_canon _ _ _ (fun _ => cover0_A_6 ..)]
  unfold kernelRun0_A
  dsimp only
  sl_unfold_words
  rw [View.canon_cons_unit_zero (S := S1x256) hz, View.readCov_unit_zero (S := S1x256) _ hz]
  simp only [View.readAt_eq_ld, (hs0_0 t).read_unread, (hs0_1 t).read_unread, (hs0_2 t).read_unread, (hs0_3 t).read_unread,
      View.ld_unit_zero (S := S128x1024) hz, View.ld_unit_zero (S := S1x256) hz]
  rfl

/-- Every later point adds its part. -/
theorem scale_next (h0 : ¬t.val % 33 = 0) : (outsAt0 m c t.val t.isLt).2.2
    = k0_pay4 (partB (iblk m c 0 t) (X0_1 m c t) (iblk m c 3 t) (k0_pay5 (grid0.coords t)))
        (outsAt0 m c (t.val - 1) (Nat.lt_of_le_of_lt (Nat.sub_le _ _) t.isLt)).2.2 := by
  rw [outsAt0_B m c t h0]
  dsimp only
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread,
      (hs0_6 t).read_unread, View.ld_unit_zero (S := S128x1024) hz, View.ld_unit_zero (S := S1x256) hz]
  rfl

end Step

section Point
variable (x r : Vec Ideal S128x1024 .f32) (g : Vec Ideal S1x256 .f32) (d : Vec Ideal S128x1024 .f32) (q : FVec Ideal S128x1 .f32)
  (i : Fin 128) (j : Fin 1024)

/-- The gradient that counts. -/
def kept : Fin 1024 → EReal := fun j => d (ix2 i j) * q (ix2 i 0)

/-- What comes back through the gate. -/
theorem through_apply : k0_pay30 r q d (ix2 i j) = through (rows r i) (kept d q i) j := by
  unfold through kept rows
  pointwise [k0_pay30, k0_pay29, k0_pay28]

/-- A column is one of a head. -/
theorem head_cases : j.val / 256 = 0 ∨ j.val / 256 = 1 ∨ j.val / 256 = 2 ∨ j.val / 256 = 3 := by omega

/-- A block's gate gradient. -/
theorem gate_apply : gateB x r g d q (ix2 i j) = gateBack (rows x i) (rows r i) (kept d q i) (rows g 0) j := by
  unfold gateB gateBack headMs hd kept rows
  pointwise [k0_pay2, k0_pay31, k0_pay29, k0_pay28, k0_pay22, k0_pay27, k0_pay11, k0_pay16, k0_pay17, k0_pay10, k0_pay6, k0_pay8, k0_pay7, k0_pay12, k0_pay13, k0_pay14, k0_pay18, k0_pay19, k0_pay20, k0_pay23, k0_pay24, k0_pay25]
  rcases head_cases j with h | h | h | h
  · have a (l : Fin 256) : (⟨256 * (j.val / 256) + l.val, by omega⟩ : Fin 1024) = ⟨l.val, by omega⟩ := Fin.ext (by dsimp only; omega)
    have b : (⟨j.val % 256, Nat.mod_lt _ (by decide)⟩ : Fin 256) = ⟨j.val, by omega⟩ := Fin.ext (by dsimp only; omega)
    simp only [a, b]
    split_ifs <;> first | omega | rfl
  · have a (l : Fin 256) : (⟨256 * (j.val / 256) + l.val, by omega⟩ : Fin 1024) = ⟨256 + l.val, by omega⟩ := Fin.ext (by dsimp only; omega)
    have b : (⟨j.val % 256, Nat.mod_lt _ (by decide)⟩ : Fin 256) = ⟨j.val - 256, by omega⟩ := Fin.ext (by dsimp only; omega)
    have c : (⟨256 + (j.val - 256), by omega⟩ : Fin 1024) = j := Fin.ext (by dsimp only; omega)
    simp only [a, b]
    split_ifs <;> first | omega | simp only [c]
  · have a (l : Fin 256) : (⟨256 * (j.val / 256) + l.val, by omega⟩ : Fin 1024) = ⟨512 + l.val, by omega⟩ := Fin.ext (by dsimp only; omega)
    have b : (⟨j.val % 256, Nat.mod_lt _ (by decide)⟩ : Fin 256) = ⟨j.val - 256 - 256, by omega⟩ := Fin.ext (by dsimp only; omega)
    have c : (⟨512 + (j.val - 256 - 256), by omega⟩ : Fin 1024) = j := Fin.ext (by dsimp only; omega)
    simp only [a, b]
    split_ifs <;> first | omega | simp only [c]
  · have a (l : Fin 256) : (⟨256 * (j.val / 256) + l.val, by omega⟩ : Fin 1024) = ⟨768 + l.val, by omega⟩ := Fin.ext (by dsimp only; omega)
    have b : (⟨j.val % 256, Nat.mod_lt _ (by decide)⟩ : Fin 256) = ⟨j.val - 256 - 256 - 256, by omega⟩ := Fin.ext (by dsimp only; omega)
    have c : (⟨768 + (j.val - 256 - 256 - 256), by omega⟩ : Fin 1024) = j := Fin.ext (by dsimp only; omega)
    simp only [a, b]
    split_ifs <;> first | omega | simp only [c]

/-- A block's rows' gradient. -/
theorem rows_apply : rowsB x r g d q (ix2 i j) = headBack (rows x i) (through (rows r i) (kept d q i)) (rows g 0) j := by
  obtain ⟨e, he⟩ : ∃ e, k0_pay30 r q d = e := ⟨_, rfl⟩
  rw [show through (rows r i) (kept d q i) = rows e i from funext fun l => by rw [← he]; exact (through_apply r d q i l).symm]
  unfold rowsB headBack headShare headMs hd rows
  pointwise [k0_pay1, k0_pay39, k0_pay36, k0_pay38, k0_pay41, k0_pay32, k0_pay33, k0_pay34, k0_pay35, k0_pay6, k0_pay8, k0_pay7, k0_pay9, k0_pay12, k0_pay13, k0_pay14, k0_pay15, k0_pay18, k0_pay19, k0_pay20, k0_pay21, k0_pay23, k0_pay24, k0_pay25, k0_pay26]
  simp only [he, Fin.sum_univ_one]
  rcases head_cases j with h | h | h | h
  · have a (l : Fin 256) : (⟨256 * (j.val / 256) + l.val, by omega⟩ : Fin 1024) = ⟨l.val, by omega⟩ := Fin.ext (by dsimp only; omega)
    have b : (⟨j.val % 256, Nat.mod_lt _ (by decide)⟩ : Fin 256) = ⟨j.val, by omega⟩ := Fin.ext (by dsimp only; omega)
    have h1 : j.val < 256 := by omega
    have h2 : j.val < 512 := by omega
    have h3 : j.val < 768 := by omega
    simp only [a, b, h1, h2, h3, ↓reduceDIte, add_zero, zero_add]
  · have a (l : Fin 256) : (⟨256 * (j.val / 256) + l.val, by omega⟩ : Fin 1024) = ⟨256 + l.val, by omega⟩ := Fin.ext (by dsimp only; omega)
    have b : (⟨j.val % 256, Nat.mod_lt _ (by decide)⟩ : Fin 256) = ⟨j.val - 256, by omega⟩ := Fin.ext (by dsimp only; omega)
    have c : (⟨256 + (j.val - 256), by omega⟩ : Fin 1024) = j := Fin.ext (by dsimp only; omega)
    have h1 : ¬j.val < 256 := by omega
    have h2 : j.val < 512 := by omega
    have h3 : j.val < 768 := by omega
    simp only [a, b, h1, h2, h3, ↓reduceDIte, c, add_zero, zero_add]
  · have a (l : Fin 256) : (⟨256 * (j.val / 256) + l.val, by omega⟩ : Fin 1024) = ⟨512 + l.val, by omega⟩ := Fin.ext (by dsimp only; omega)
    have b : (⟨j.val % 256, Nat.mod_lt _ (by decide)⟩ : Fin 256) = ⟨j.val - 512, by omega⟩ := Fin.ext (by dsimp only; omega)
    have c : (⟨512 + (j.val - 512), by omega⟩ : Fin 1024) = j := Fin.ext (by dsimp only; omega)
    have h1 : ¬j.val < 256 := by omega
    have h2 : ¬j.val < 512 := by omega
    have h3 : j.val < 768 := by omega
    simp only [a, b, h1, h2, h3, ↓reduceDIte, c, add_zero, zero_add]
  · have a (l : Fin 256) : (⟨256 * (j.val / 256) + l.val, by omega⟩ : Fin 1024) = ⟨768 + l.val, by omega⟩ := Fin.ext (by dsimp only; omega)
    have b : (⟨j.val % 256, Nat.mod_lt _ (by decide)⟩ : Fin 256) = ⟨j.val - 768, by omega⟩ := Fin.ext (by dsimp only; omega)
    have c : (⟨768 + (j.val - 768), by omega⟩ : Fin 1024) = j := Fin.ext (by dsimp only; omega)
    have h1 : ¬j.val < 256 := by omega
    have h2 : ¬j.val < 512 := by omega
    have h3 : ¬j.val < 768 := by omega
    simp only [a, b, h1, h2, h3, ↓reduceDIte, c, add_zero, zero_add]

/-- A row's part of the scale's gradient, summed over the heads. -/
def scaleRow (f e : Fin 1024 → EReal) (l : Fin 256) : EReal :=
  ∑ h : Fin 4, f ⟨256 * h.val + l.val, by omega⟩ * Ideal.rsqrt (headMs f ⟨256 * h.val + l.val, by omega⟩) * e ⟨256 * h.val + l.val, by omega⟩

/-- A block's part of the scale's gradient. -/
theorem part_apply (l : Fin 256) : partB x r d q (ix2 0 l) = ∑ k, scaleRow (rows x k) (through (rows r k) (kept d q k)) l := by
  obtain ⟨e, he⟩ : ∃ e, k0_pay30 r q d = e := ⟨_, rfl⟩
  rw [show (fun k => scaleRow (rows x k) (through (rows r k) (kept d q k)) l) = fun k => scaleRow (rows x k) (rows e k) l from
    funext fun k => congrArg (scaleRow _ · l) (funext fun l => by rw [← he]; exact (through_apply r d q k l).symm)]
  unfold partB scaleRow headMs hd rows
  pointwise [k0_pay40, k0_pay10, k0_pay16, k0_pay32, k0_pay33, k0_pay34, k0_pay35, k0_pay37, k0_pay22, k0_pay27, k0_pay6, k0_pay8, k0_pay7, k0_pay12, k0_pay13, k0_pay14, k0_pay18, k0_pay19, k0_pay20, k0_pay23, k0_pay24, k0_pay25]
  have a (h : Fin 4) : (256 * h.val + l.val) / 256 = h.val := by omega
  simp only [he, a, Fin.sum_univ_four, Finset.sum_add_distrib]
  have e (a b c d : EReal) : a + b + c + d = d + c + b + a := by ac_rfl
  refine (e _ _ _ _).trans ?_
  simp only [Fin.val_zero, mul_zero, zero_add]
  rfl

end Point

/-- All rows make the whole sum. -/
theorem sum_all (F : Fin 4224 → EReal) : ∑ k ∈ Finset.range (128 * (32 + 1)), ext F k = ∑ i, F i := by
  rw [show 128 * (32 + 1) = 4224 from rfl, Finset.sum_range]
  exact Finset.sum_congr rfl fun i _ => dif_pos i.isLt

/-- One more block of rows. -/
theorem sum_more (F : Fin 4224 → EReal) (n : ℕ) (hn : n < 33) :
    ∑ k ∈ Finset.range (128 * (n + 1)), ext F k
      = ∑ k ∈ Finset.range (128 * n), ext F k + ∑ i : Fin 128, F ⟨128 * n + i.val, by omega⟩ := by
  rw [Nat.mul_succ, Finset.sum_range_add, Finset.sum_range (n := 128)]
  exact congrArg _ (Finset.sum_congr rfl fun i _ => dif_pos _)

section Array
variable (c : Dev nD) (i : Fin 4224) (j : Fin 1024)

/-- The rows before the normalisation. -/
def H : Fin 4224 → Fin 1024 → EReal := rows (m ((c : Thread nD τ).loc main_arg0))

/-- The gate's rows. -/
def R (i : Fin 4224) (j : Fin 1024) : EReal := gate (m ((c : Thread nD τ).loc main_arg1)) i j

/-- The scale. -/
def G : Fin 256 → EReal := rows (m ((c : Thread nD τ).loc main_arg2) : M 1 256) 0

/-- The gradient of the rows that count; zero elsewhere. -/
def K (i : Fin 4224) (j : Fin 1024) : EReal :=
  rows (r := 4224) (c := 1024) (m ((c : Thread nD τ).loc main_arg3)) i j * (if 112 ≤ i.val then 1 else 0)

variable (t : Fin cfg0.N) (k : Fin 128)

/-- A block of the rows. -/
theorem rows_block (e : i.val = 128 * t.val + k.val) : rows (r := 128) (c := 1024) (iblk m c 0 t) k = H m c i := by
  funext j
  unfold H rows
  blk_ext [iblk, index t]

/-- A block of the gate's rows. -/
theorem gate_block (e : i.val = 128 * t.val + k.val) : rows (r := 128) (c := 1024) (X0_1 m c t) k = R m c i := by
  funext j
  unfold R gate rows X0_1 Pipeline.Window.fill
  rw [dif_pos (moved0_1 t _)]
  blk_ext [iblk, index t]

/-- The scale's one block. -/
theorem gain_block : rows (r := 1) (c := 256) (iblk m c 2 t) 0 = G m c := by
  funext j
  unfold G rows
  blk_ext [iblk, index t]

/-- A block of the gradient that counts. -/
theorem kept_block (e : i.val = 128 * t.val + k.val) : kept (iblk m c 3 t) (k0_pay5 (grid0.coords t)) k = K m c i := by
  funext j
  unfold K kept
  rw [mask_apply t k, ← e]
  refine congrArg (fun s : EReal => s * _) ?_
  unfold rows
  blk_ext [iblk, index t]

/-- The rows' gradient: its array. -/
theorem rows_arr : (dats m 0 c).arrAt 4 cfg0.N (ix2 i j) = headBack (H m c i) (through (R m c i) (K m c i)) (G m c) j := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks4 m c t (flush0_4 t)).trans ((flushed4 m c t).trans (congrArg _ (rows_step m c t)))) (ix2 k j)
  blk_simp at e
  refine Eq.trans ?_ (e.trans ((rows_apply _ _ _ _ _ k j).trans ?_))
  · blk_ext [index t]
  · rw [rows_block m c i t k (by omega), gate_block m c i t k (by omega), kept_block m c i t k (by omega), gain_block m c t]

/-- The gate's gradient: its array. -/
theorem gate_arr : (dats m 0 c).arrAt 5 cfg0.N (ix2 i j) = gateBack (H m c i) (R m c i) (K m c i) (G m c) j := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks5 m c t (flush0_5 t)).trans ((flushed5 m c t).trans (congrArg _ (gate_step m c t)))) (ix2 k j)
  blk_simp at e
  refine Eq.trans ?_ (e.trans ((gate_apply _ _ _ _ _ k j).trans ?_))
  · blk_ext [index t]
  · rw [rows_block m c i t k (by omega), gate_block m c i t k (by omega), kept_block m c i t k (by omega), gain_block m c t]

variable (l : Fin 256)

/-- A row's part of the scale's gradient. -/
def Q (i : Fin 4224) : EReal := scaleRow (H m c i) (through (R m c i) (K m c i)) l

/-- A point's part of the scale's gradient. -/
theorem part_block : partB (iblk m c 0 t) (X0_1 m c t) (iblk m c 3 t) (k0_pay5 (grid0.coords t)) (ix2 0 l)
    = ∑ k : Fin 128, Q m c l (⟨128 * t.val + k.val, by have := t.isLt; have : cfg0.N = 33 := rfl; omega⟩ : Fin 4224) := by
  refine (part_apply _ _ _ _ l).trans (Finset.sum_congr rfl fun k _ => ?_)
  have e : 128 * t.val + k.val < 4224 := by have := t.isLt; have : cfg0.N = 33 := rfl; omega
  unfold Q
  rw [rows_block m c ⟨_, e⟩ t k rfl, gate_block m c ⟨_, e⟩ t k rfl, kept_block m c ⟨_, e⟩ t k rfl]

/-- A part added to what there is. -/
theorem add_apply (a b : Vec Ideal S1x256 .f32) : k0_pay4 a b (ix2 0 l) = b (ix2 0 l) + a (ix2 0 l) := by
  unfold k0_pay4
  pointwise

/-- The start. -/
theorem zero_apply : k0_pay3 (F := Ideal) (ix2 0 l) = 0 := by
  unfold k0_pay3
  pointwise

/-- The scale's gradient after every point: the rows so far. -/
theorem scale_sum : ∀ (n : ℕ) (h : n < cfg0.N), (outsAt0 m c n h).2.2 (ix2 0 l)
    = ∑ k ∈ Finset.range (128 * (n + 1)), ext (Q m c l) k
  | 0, h => by
    rw [scale_first m c ⟨0, h⟩ rfl, sum_more _ _ (by decide), add_apply, zero_apply, part_block]
    rfl
  | n + 1, h => by
    have hN : cfg0.N = 33 := rfl
    rw [scale_next m c ⟨n + 1, h⟩ (by dsimp only; omega), sum_more _ _ (by omega), ← scale_sum n (by omega), add_apply, part_block]
    rfl

/-- The last point writes the one block that is the scale's array. -/
theorem last (V : Vec Ideal S1x256 .f32) (hV : ∀ t : Fin cfg0.N, t.val = 32 → (outsAt0 m c t.val t.isLt).2.2 = V) :
    (dats m 0 c).arrAt 6 cfg0.N = V := by
  have hN : cfg0.N = 33 := rfl
  have hz' (t : Fin cfg0.N) : (fun a => win0_6.index t a * main_v0_2.ty.shape.size a) = fun _ => 0 := by
    rw [(index t).2.2.2.2.2.2]; funext a; fin_cases a <;> rfl
  refine (dats m 0 c).arrAt_eq_of_cover 6 V (fun t h => ?_) fun i => ?_
  · rw [flushed6, hV t (by have := (flush0_6 t).mp h; have := t.isLt; omega)]
    exact (Memref.read_access_unit_zero (Elt Ideal) main_v0_2 (hz' t) (fun a => by rw [congrFun (hz' t) a]; simp) V).symm
  · obtain ⟨t, ht⟩ : ∃ t : Fin cfg0.N, t.val = 32 := ⟨⟨32, by omega⟩, rfl⟩
    refine ⟨t, (flush0_6 t).mpr (by omega), ?_⟩
    show i ∈ ((View.whole main_v0_2).slice (win0_6.rect t)).set
    rw [View.set_slice_whole, Rect.mem_set_unit]
    intro a
    show win0_6.index t a * main_v0_2.ty.shape.size a ≤ (i a : Nat)
      ∧ (i a : Nat) < win0_6.index t a * main_v0_2.ty.shape.size a + main_v0_2.ty.shape.size a
    rw [congrFun (hz' t) a, Nat.zero_add]
    exact ⟨Nat.zero_le _, (i a).isLt⟩

/-- The scale's gradient: its array. -/
theorem scale_arr : (dats m 0 c).arrAt 6 cfg0.N (ix2 0 l) = ∑ i, Q m c l i := by
  have hN : cfg0.N = 33 := rfl
  obtain ⟨t, ht⟩ : ∃ t : Fin cfg0.N, t.val = 32 := ⟨⟨32, by omega⟩, rfl⟩
  rw [last m c _ fun s hs => by rw [show s = t from Fin.ext (hs.trans ht.symm)], scale_sum, ht]
  exact sum_all _

/-- Beyond the rows that count nothing comes back. -/
theorem none_back (h : i.val < 112) : through (R m c i) (K m c i) = fun _ => 0 := by
  funext j
  unfold through K
  rw [if_neg (by omega), mul_zero, zero_mul]

theorem none_rows (h : i.val < 112) : headBack (H m c i) (through (R m c i) (K m c i)) (G m c) j = 0 := by
  rw [none_back m c i h]
  unfold headBack headShare hd
  have e : Ideal.div 0 (Ideal.ofBits .f32 0x43800000#32) = 0 := by
    unfold Ideal.div
    rw [if_neg, zero_mul]
    simp [Ideal.ofBits, Ideal.ieee]
  simp only [zero_mul, mul_zero, Finset.sum_const_zero, add_zero, e]

theorem none_gate (h : i.val < 112) : gateBack (H m c i) (R m c i) (K m c i) (G m c) j = 0 := by
  unfold gateBack K
  rw [if_neg (by omega)]
  simp only [zero_mul, mul_zero, add_zero]

theorem none_scale (h : i.val < 112) : Q m c l i = 0 := by
  unfold Q scaleRow
  rw [none_back m c i h]
  simp only [mul_zero, Finset.sum_const_zero]

/-- Only the rows that count make the sum. -/
theorem rest : ∑ i, Q m c l i = ∑ i : Fin 4112, Q m c l ⟨112 + i.val, by omega⟩ := by
  refine (Fin.sum_univ_add (a := 112) (b := 4112) (Q m c l)).trans ?_
  rw [Finset.sum_eq_zero fun i _ => none_scale m c _ l i.isLt, zero_add]
  rfl

end Array

/-- A sum over the first two coordinates. -/
theorem two_axes {n0 n1 n2 : Nat} (h : (⟨3, ![n0, n1, n2]⟩ : Shape).ReducesTo [0, 1] ⟨1, ![n2]⟩) (v : (⟨3, ![n0, n1, n2]⟩ : Shape).Idx → EReal)
    (init : EReal) (l : Fin n2) : Ideal.hostReduceAdd h v init (ix1 l) = init + ∑ i : Fin n0, ∑ k : Fin n1, v (ix3 i k l) := by
  unfold Ideal.hostReduceAdd
  refine congrArg (init + ·) ?_
  rw [← Fintype.sum_prod_type' (fun i k => v (ix3 i k l))]
  refine Finset.sum_filter_eq_sum_of_fiber _ (fun p : Fin n0 × Fin n1 => ix3 p.1 p.2 l)
    (fun _ _ e => Prod.ext (congrFun e 0) (congrFun e 1)) (fun a => ⟨fun e => ⟨⟨a 0, a 1⟩, ?_⟩, ?_⟩) v
  · funext b
    apply Fin.ext
    match b with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- The call leaves the rows' gradient, the gate's and the scale's. -/
theorem algebraic : Cert.algebraic_Kernel32Ideal_Reference32Ideal := by
  intro m ρ m' ρ' _ hin
  refine ⟨fun c => (dats m 0 c).arrAt 4 cfg0.N, fun c => (dats m 0 c).arrAt 5 cfg0.N, fun c => (dats m 0 c).arrAt 6 cfg0.N, run_blocks m ρ, ?_⟩
  refine (θ_run _ _ _).mono (fun r h c => ?_) (Cert.Reference32Ideal.Value.run m' ρ')
  obtain ⟨e0, e1, e2, e3⟩ := hin c
  obtain ⟨ho, hr, hs, a⟩ := h c
  clear h hin
  unfold Cert.Reference32Ideal.Value.res_main_v57 at ho
  unfold Cert.Reference32Ideal.Value.res_main_v58 at hr
  rw [e0, e1, e2, e3] at ho hr
  rw [e0, e1, e3] at hs
  refine ⟨ho.trans ?_, hr.trans ?_, hs.trans ?_, a⟩ <;> clear ho hr hs a e0 e1 e2 e3 <;> funext i <;> obtain ⟨x, y, rfl⟩ := idx i
  · refine Eq.trans ?_ (rows_arr m c x y).symm
    pointwise
    by_cases hx : x.val < 112
    · exact (dif_neg (by omega)).trans (none_rows m c x y hx).symm
    · refine (dif_pos ⟨by omega, by omega⟩).trans ?_
      have e : (⟨112 + (x.val - 112), by omega⟩ : Fin 4224) = x := Fin.ext (by dsimp only; omega)
      unfold headBack headShare headMs through hd H R K G gate rows Ideal.logistic
      simp only [e, Nat.mul_comm 256, if_pos (Nat.not_lt.mp hx), mul_one, Fin.sum_univ_one]
  · refine Eq.trans ?_ (gate_arr m c x y).symm
    pointwise
    by_cases hx : x.val < 112
    · exact (dif_neg (by omega)).trans (none_gate m c x y hx).symm
    · refine (dif_pos ⟨by omega, by omega⟩).trans ?_
      have e : (⟨112 + (x.val - 112), by omega⟩ : Fin 4224) = x := Fin.ext (by dsimp only; omega)
      unfold gateBack headMs hd H R K G gate rows Ideal.logistic
      simp only [e, Nat.mul_comm 256, if_pos (Nat.not_lt.mp hx), mul_one]
  · obtain rfl : x = 0 := Subsingleton.elim _ _
    refine Eq.trans ?_ ((scale_arr m c y).trans (rest m c y)).symm
    pointwise [two_axes]
    refine (Fin.sum_univ_one _).trans ((Fin.sum_univ_one _).trans ?_)
    refine Finset.sum_congr rfl fun i _ => ?_
    unfold Q scaleRow headMs through hd H R K gate rows Ideal.logistic
    have e (h : Fin 4) : (h.val * 256 + y.val) / 256 = h.val := by omega
    simp only [e, if_pos (Nat.le_add_right 112 i.val), mul_one, Nat.mul_comm 256]

/-- The reference's frame. -/
theorem frame_ref : Cert.quiescent_Reference32Ideal := fun m ρ _ =>
  (θ_run _ _ _).mono (fun r h => ⟨fun c => (h c).2.2.2, sem_eq_zero_of_no_sems (by decide) r.2⟩) (Cert.Reference32Ideal.Value.run m ρ)

end Cert.GatedNormBack

end
-- ==== Proof.FirstNorm.lean ====
/- The first layer norm of a step: every block holds whole rows. -/
module

public import proofs.«01_k».proof.Defs
public import proofs.«01_k».proof.Proof.Gen.Kernel33Ideal.Value
public import proofs.«01_k».proof.Proof.Gen.Reference33Ideal.Run
public import proofs.«01_k».proof.Proof.Mat

@[expose] public section

set_option maxRecDepth 16384

noncomputable section

namespace Cert.FirstNorm

open Cert.Mat Cert.Kernel33Ideal Cert.Kernel33Ideal.Gen Cert.Kernel33Ideal.Value Idealize.ShloMosaic Idealize.ShloMosaic.TcCoe Idealize.SL.Sem

variable (m : (ℓ : Loc nD τ sig) → Buf (Elt Ideal) ℓ)

/-- The blocks of the windows at every grid point: thirty-three blocks of rows, one scale. -/
theorem index : ∀ t : Fin cfg0.N,
    win0_0.index t = ![t.val, 0] ∧ win0_1.index t = ![0, 0] ∧ win0_2.index t = ![t.val, 0] := by
  decide +kernel

/-- The normalised rows at an index. -/
def val {r : Nat} (h : M r 1024) (g : M 1 1024) (i : Fin r) (j : Fin 1024) : EReal :=
  h (ix2 i j) * invRms (fun l => h (ix2 i l)) * g (ix2 0 j)

/-- What a grid point leaves: its rows normalised. -/
theorem out_apply (x : Vec Ideal S128x1024 .f32) (g : Vec Ideal S1x1024 .f32) (i : Fin 128) (j : Fin 1024) :
    out0_2 x g (ix2 i j) = val x g i j := by
  unfold out0_2 val invRms meanSq
  rw [View.canon_unit_zero hz]
  unfold k0_pay1
  simp only [View.ld_unit_zero (S := S128x1024) hz, View.ld_unit_zero (S := S1x1024) hz]
  pointwise

/-- The result's array, index by index. -/
theorem arr (c : Dev nD) (i : Fin 4224) (j : Fin 1024) :
    (dats m 0 c).arrAt 2 cfg0.N (ix2 i j) = val (m ((c : Thread nD τ).loc main_arg0) : M 4224 1024) (m ((c : Thread nD τ).loc main_arg1)) i j := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks2 m c t (flush0_2 t)).trans (flushed2 m c t)) (ix2 k j)
  blk_simp at e
  refine Eq.trans ?_ (e.trans ((out_apply _ _ k j).trans ?_))
  · blk_ext [index t]
  · have hx (l : Fin 1024) : iblk m c 0 t (ix2 k l) = (m ((c : Thread nD τ).loc main_arg0) : M 4224 1024) (ix2 i l) := by
      blk_ext [iblk, index t]
    have hg : iblk m c 1 t (ix2 0 j) = (m ((c : Thread nD τ).loc main_arg1) : M 1 1024) (ix2 0 j) := by
      blk_ext [iblk, index t]
    unfold val
    rw [hx, funext hx, hg]

/-- The call leaves the normalised rows. -/
theorem algebraic : Cert.algebraic_Kernel33Ideal_Reference33Ideal := by
  intro m ρ m' ρ' _ hin
  refine ⟨fun c => (dats m 0 c).arrAt 2 cfg0.N, run_blocks m ρ, ?_⟩
  refine (θ_run _ _ _).mono (fun r h c => ?_) (Cert.Reference33Ideal.Value.run m' ρ')
  obtain ⟨e0, e1⟩ := hin c
  obtain ⟨ho, a⟩ := h c
  rw [e0, e1] at ho
  refine ⟨ho.trans ?_, a⟩
  funext i
  obtain ⟨x, y, rfl⟩ := idx i
  refine Eq.trans ?_ (arr m c x y).symm
  pointwise [val, invRms, meanSq]

/-- The reference's frame. -/
theorem frame_ref : Cert.quiescent_Reference33Ideal := fun m ρ _ =>
  (θ_run _ _ _).mono (fun r h => ⟨fun c => (h c).2, sem_eq_zero_of_no_sems (by decide) r.2⟩) (Cert.Reference33Ideal.Value.run m ρ)

end Cert.FirstNorm

end
-- ==== Proof.OutGate.lean ====
/- The attention's output gated: every block holds whole rows, and the rows before the first are zeros. -/
module

public import proofs.«01_k».proof.Defs
public import proofs.«01_k».proof.Proof.Gen.Kernel34Ideal.Value
public import proofs.«01_k».proof.Proof.Gen.Reference34Ideal.Run
public import proofs.«01_k».proof.Proof.GatedNorm

@[expose] public section

set_option maxRecDepth 16384

noncomputable section

namespace Cert.OutGate

open Cert.Mat Cert.GatedNorm Cert.Kernel34Ideal Cert.Kernel34Ideal.Gen Cert.Kernel34Ideal.Value Idealize.ShloMosaic Idealize.ShloMosaic.TcCoe Idealize.SL.Sem

variable (m : (ℓ : Loc nD τ sig) → Buf (Elt Ideal) ℓ)

/-- The gate at an index: the last columns of the projection that hold a gate for every column. -/
def gateAt (p : M 4224 4224) (i : Fin 4224) (j : Fin 1024) : EReal := p (ix2 i ⟨3072 + j.val, by omega⟩)

/-- The gated output at an index. -/
def gated (o : M 4224 1024) (p : M 4224 4224) (i : Fin 4224) (j : Fin 1024) : EReal := o (ix2 i j) * Ideal.logistic (gateAt p i j)

/-- The blocks of the windows at every grid point: thirty-three blocks of rows, the gate's columns the fourth of the projection's blocks. -/
theorem index : ∀ t : Fin cfg0.N,
    win0_0.index t = ![t.val, 0] ∧ win0_1.index t = ![t.val, 3] ∧ win0_2.index t = ![t.val, 0] := by
  decide +kernel

/-- The first coordinate of a grid point. -/
theorem coord : ∀ t : Fin cfg0.N, (grid0.coords t 0).val = t.val := by decide +kernel

/-- The rows that count, as a number. -/
theorem mask_apply (t : Fin 33) (k : Fin 128) :
    (((BitVec.setWidth 32 (IntOp.cmpi CmpIPredicate.sge (IntOp.addi (Scalar.muli (BitVec.ofNat 32 t.val) 128#32) (BitVec.ofNat 32 k.val)) 112#32)).toInt : ℝ) : EReal)
      = if 112 ≤ 128 * t.val + k.val then 1 else 0 := by
  rw [maskBits t k]
  split_ifs
  · show ((((1#32 : BitVec 32).toInt : ℝ) : EReal)) = 1
    norm_num
  · show ((((0#32 : BitVec 32).toInt : ℝ) : EReal)) = 0
    norm_num

/-- What a grid point leaves. -/
theorem out_apply (t : Fin cfg0.N) (x r : Vec Ideal S128x1024 .f32) (k : Fin 128) (j : Fin 1024) : k0_pay1 (grid0.coords t) x r (ix2 k j)
    = x (ix2 k j) * Ideal.logistic (r (ix2 k j)) * (if 112 ≤ 128 * t.val + k.val then 1 else 0) := by
  rw [← mask_apply (⟨t.val, t.isLt⟩ : Fin 33) k]
  unfold k0_pay1
  pointwise
  rw [coord t]
  rfl

/-- What a grid point leaves, from its blocks. -/
theorem step (c : Dev nD) (t : Fin cfg0.N) : outsAt0 m c t = k0_pay1 (grid0.coords t) (iblk m c 0 t) (X0_1 m c t) := by
  unfold outsAt0
  unfold out0_A_2
  rw [View.read_writes_eq_canon _ _ _ (fun _ => cover0_A_2 ..)]
  unfold kernelRun0_A
  dsimp only
  rw [View.canon_unit_zero hz]
  sl_unfold_words
  simp only [View.readAt_eq_ld, (hs0_0 t).read_unread, (hs0_1 t).read_unread, View.ld_unit_zero (S := S128x1024) hz]

/-- The array: zeros, then the rows that count. -/
theorem arr (c : Dev nD) (i : Fin 4224) (j : Fin 1024) : (dats m 0 c).arrAt 2 cfg0.N (ix2 i j)
    = (if 112 ≤ i.val then gated (m ((c : Thread nD τ).loc main_arg0)) (m ((c : Thread nD τ).loc main_arg1)) i j else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks2 m c t (flush0_2 t)).trans ((flushed2 m c t).trans (congrArg _ (step m c t)))) (ix2 k j)
  blk_simp at e
  refine Eq.trans ?_ (e.trans ((out_apply t _ _ k j).trans ?_))
  · blk_ext [index t]
  · rw [show 128 * t.val + k.val = i.val by omega]
    have hr : X0_1 m c t (ix2 k j) = gateAt (m ((c : Thread nD τ).loc main_arg1)) i j := by
      unfold gateAt X0_1 Pipeline.Window.fill
      rw [dif_pos (moved0_1 t _)]
      blk_ext [iblk, index t]
    have hx : iblk m c 0 t (ix2 k j) = (m ((c : Thread nD τ).loc main_arg0) : M 4224 1024) (ix2 i j) := by
      blk_ext [iblk, index t]
    rw [hr, hx]
    unfold gated
    split_ifs <;> simp

/-- The call leaves the gated output. -/
theorem algebraic : Cert.algebraic_Kernel34Ideal_Reference34Ideal := by
  intro m ρ m' ρ' _ hin
  refine ⟨fun c => (dats m 0 c).arrAt 2 cfg0.N, run_blocks m ρ, ?_⟩
  refine (θ_run _ _ _).mono (fun r h c => ?_) (Cert.Reference34Ideal.Value.run m' ρ')
  obtain ⟨e0, e1⟩ := hin c
  obtain ⟨ho, a⟩ := h c
  rw [e0, e1] at ho
  refine ⟨ho.trans ?_, a⟩
  funext i
  obtain ⟨x, y, rfl⟩ := idx i
  refine Eq.trans ?_ (arr m c x y).symm
  unfold gated gateAt Ideal.logistic
  pointwise
  by_cases hx : x.val < 112
  · exact (dif_pos hx).trans (if_neg (Nat.not_le.mpr hx)).symm
  · refine (dif_neg hx).trans (Eq.trans ?_ (if_pos (Nat.not_lt.mp hx)).symm)
    have e : (⟨112 + (x.val - 112), by omega⟩ : Fin 4224) = x := Fin.ext (by dsimp only; omega)
    simp only [e]

/-- The reference's frame. -/
theorem frame_ref : Cert.quiescent_Reference34Ideal := fun m ρ _ =>
  (θ_run _ _ _).mono (fun r h => ⟨fun c => (h c).2, sem_eq_zero_of_no_sems (by decide) r.2⟩) (Cert.Reference34Ideal.Value.run m ρ)

end Cert.OutGate

end
-- ==== Proof.OutGateBack.lean ====
/- The backward pass of the attention's gated output: every block holds whole rows. -/
module

public import proofs.«01_k».proof.Defs
public import proofs.«01_k».proof.Proof.Gen.Kernel35Ideal.Value
public import proofs.«01_k».proof.Proof.Gen.Reference35Ideal.Run
public import proofs.«01_k».proof.Proof.OutGate

@[expose] public section

set_option maxRecDepth 16384

noncomputable section

namespace Cert.OutGateBack

open Cert.Mat Cert.OutGate Cert.Kernel35Ideal Cert.Kernel35Ideal.Gen Cert.Kernel35Ideal.Value Idealize.ShloMosaic Idealize.ShloMosaic.TcCoe Idealize.SL.Sem

variable (m : (ℓ : Loc nD τ sig) → Buf (Elt Ideal) ℓ)

/-- The output's gradient at an index. -/
def outBack (p : M 4224 4224) (d : M 4224 1024) (i : Fin 4224) (j : Fin 1024) : EReal := d (ix2 i j) * Ideal.logistic (gateAt p i j)

/-- The gate's gradient at an index. -/
def gateBack (o : M 4224 1024) (p : M 4224 4224) (d : M 4224 1024) (i : Fin 4224) (j : Fin 1024) : EReal :=
  o (ix2 i j) * d (ix2 i j) * (Ideal.logistic (gateAt p i j) * (1 - Ideal.logistic (gateAt p i j)))

/-- The blocks of the windows at every grid point: thirty-three blocks of rows, the gate's columns the fourth of the projection's blocks. -/
theorem index : ∀ t : Fin cfg0.N,
    win0_0.index t = ![t.val, 0] ∧ win0_1.index t = ![t.val, 3] ∧ win0_2.index t = ![t.val, 0] ∧ win0_3.index t = ![t.val, 0]
      ∧ win0_4.index t = ![t.val, 0] := by
  decide +kernel

/-- The first coordinate of a grid point. -/
theorem coord : ∀ t : Fin cfg0.N, (grid0.coords t 0).val = t.val := by decide +kernel

section Point
variable (t : Fin cfg0.N) (x r d : Vec Ideal S128x1024 .f32) (k : Fin 128) (j : Fin 1024)

/-- The output's gradient that a grid point leaves. -/
theorem out_apply : k0_pay3 (grid0.coords t) r d (ix2 k j)
    = d (ix2 k j) * (if 112 ≤ 128 * t.val + k.val then 1 else 0) * Ideal.logistic (r (ix2 k j)) := by
  rw [← mask_apply (⟨t.val, t.isLt⟩ : Fin 33) k]
  pointwise [k0_pay3, k0_pay2, k0_pay1]
  rw [coord t]
  rfl

/-- The gate's gradient that a grid point leaves. -/
theorem gate_apply : k0_pay4 (grid0.coords t) x r d (ix2 k j)
    = x (ix2 k j) * (d (ix2 k j) * (if 112 ≤ 128 * t.val + k.val then 1 else 0))
      * (Ideal.logistic (r (ix2 k j)) * (1 - Ideal.logistic (r (ix2 k j)))) := by
  rw [← mask_apply (⟨t.val, t.isLt⟩ : Fin 33) k]
  pointwise [k0_pay4, k0_pay2, k0_pay1]
  rw [coord t]
  rfl

end Point

/-- Every point leaves its gradient of the output. -/
theorem out_step (c : Dev nD) (t : Fin cfg0.N) : (outsAt0 m c t).1 = k0_pay3 (grid0.coords t) (X0_1 m c t) (iblk m c 2 t) := by
  unfold outsAt0
  dsimp only
  unfold out0_A_3
  rw [View.read_writes_eq_canon _ _ _ (fun _ => cover0_A_3 ..)]
  unfold kernelRun0_A
  dsimp only
  rw [View.canon_unit_zero hz]
  sl_unfold_words
  simp only [View.readAt_eq_ld, (hs0_0 t).read_unread, (hs0_1 t).read_unread, (hs0_2 t).read_unread, View.ld_unit_zero (S := S128x1024) hz]

/-- Every point leaves its gradient of the gate. -/
theorem gate_step (c : Dev nD) (t : Fin cfg0.N) : (outsAt0 m c t).2 = k0_pay4 (grid0.coords t) (iblk m c 0 t) (X0_1 m c t) (iblk m c 2 t) := by
  unfold outsAt0
  dsimp only
  unfold out0_A_4
  rw [View.read_writes_eq_canon _ _ _ (fun _ => cover0_A_4 ..)]
  unfold kernelRun0_A
  dsimp only
  rw [View.canon_unit_zero hz]
  sl_unfold_words
  simp only [View.readAt_eq_ld, (hs0_0 t).read_unread, (hs0_1 t).read_unread, (hs0_2 t).read_unread, View.ld_unit_zero (S := S128x1024) hz]

/-- The output's gradient: its array. -/
theorem out_arr (c : Dev nD) (i : Fin 4224) (j : Fin 1024) : (dats m 0 c).arrAt 3 cfg0.N (ix2 i j)
    = (if 112 ≤ i.val then outBack (m ((c : Thread nD τ).loc main_arg1)) (m ((c : Thread nD τ).loc main_arg2)) i j else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks3 m c t (flush0_3 t)).trans ((flushed3 m c t).trans (congrArg _ (out_step m c t)))) (ix2 k j)
  blk_simp at e
  refine Eq.trans ?_ (e.trans ((out_apply t _ _ k j).trans ?_))
  · blk_ext [index t]
  · have hr : X0_1 m c t (ix2 k j) = gateAt (m ((c : Thread nD τ).loc main_arg1)) i j := by
      unfold gateAt X0_1 Pipeline.Window.fill
      rw [dif_pos (moved0_1 t _)]
      blk_ext [iblk, index t]
    have hx : iblk m c 0 t (ix2 k j) = (m ((c : Thread nD τ).loc main_arg0) : M 4224 1024) (ix2 i j) := by
      blk_ext [iblk, index t]
    have hd : iblk m c 2 t (ix2 k j) = (m ((c : Thread nD τ).loc main_arg2) : M 4224 1024) (ix2 i j) := by
      blk_ext [iblk, index t]
    rw [show 128 * t.val + k.val = i.val by omega, hr, hd]
    unfold outBack
    split_ifs <;> simp

/-- The gate's gradient: its array. -/
theorem gate_arr (c : Dev nD) (i : Fin 4224) (j : Fin 1024) : (dats m 0 c).arrAt 4 cfg0.N (ix2 i j)
    = (if 112 ≤ i.val then gateBack (m ((c : Thread nD τ).loc main_arg0)) (m ((c : Thread nD τ).loc main_arg1)) (m ((c : Thread nD τ).loc main_arg2)) i j else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks4 m c t (flush0_4 t)).trans ((flushed4 m c t).trans (congrArg _ (gate_step m c t)))) (ix2 k j)
  blk_simp at e
  refine Eq.trans ?_ (e.trans ((gate_apply t _ _ _ k j).trans ?_))
  · blk_ext [index t]
  · have hr : X0_1 m c t (ix2 k j) = gateAt (m ((c : Thread nD τ).loc main_arg1)) i j := by
      unfold gateAt X0_1 Pipeline.Window.fill
      rw [dif_pos (moved0_1 t _)]
      blk_ext [iblk, index t]
    have hx : iblk m c 0 t (ix2 k j) = (m ((c : Thread nD τ).loc main_arg0) : M 4224 1024) (ix2 i j) := by
      blk_ext [iblk, index t]
    have hd : iblk m c 2 t (ix2 k j) = (m ((c : Thread nD τ).loc main_arg2) : M 4224 1024) (ix2 i j) := by
      blk_ext [iblk, index t]
    rw [show 128 * t.val + k.val = i.val by omega, hr, hx, hd]
    unfold gateBack
    split_ifs <;> simp

/-- The call leaves the output's gradient and the gate's. -/
theorem algebraic : Cert.algebraic_Kernel35Ideal_Reference35Ideal := by
  intro m ρ m' ρ' _ hin
  refine ⟨fun c => (dats m 0 c).arrAt 3 cfg0.N, fun c => (dats m 0 c).arrAt 4 cfg0.N, run_blocks m ρ, ?_⟩
  refine (θ_run _ _ _).mono (fun r h c => ?_) (Cert.Reference35Ideal.Value.run m' ρ')
  obtain ⟨e0, e1, e2⟩ := hin c
  obtain ⟨ho, hr, a⟩ := h c
  clear h hin
  rw [e1, e2] at ho
  rw [e0, e1, e2] at hr
  refine ⟨ho.trans ?_, hr.trans ?_, a⟩ <;> clear ho hr a e0 e1 e2 <;> funext i <;> obtain ⟨x, y, rfl⟩ := idx i
  · refine Eq.trans ?_ (out_arr m c x y).symm
    unfold outBack gateAt Ideal.logistic
    pointwise
    by_cases hx : x.val < 112
    · exact (dif_neg (by omega)).trans (if_neg (Nat.not_le.mpr hx)).symm
    · refine (dif_pos ⟨by omega, by omega⟩).trans (Eq.trans ?_ (if_pos (Nat.not_lt.mp hx)).symm)
      have e : (⟨112 + (x.val - 112), by omega⟩ : Fin 4224) = x := Fin.ext (by dsimp only; omega)
      simp only [e]
  · refine Eq.trans ?_ (gate_arr m c x y).symm
    unfold gateBack gateAt Ideal.logistic
    pointwise
    by_cases hx : x.val < 112
    · exact (dif_neg (by omega)).trans (if_neg (Nat.not_le.mpr hx)).symm
    · refine (dif_pos ⟨by omega, by omega⟩).trans (Eq.trans ?_ (if_pos (Nat.not_lt.mp hx)).symm)
      have e : (⟨112 + (x.val - 112), by omega⟩ : Fin 4224) = x := Fin.ext (by dsimp only; omega)
      simp only [e]

/-- The reference's frame. -/
theorem frame_ref : Cert.quiescent_Reference35Ideal := fun m ρ _ =>
  (θ_run _ _ _).mono (fun r h => ⟨fun c => (h c).2.2, sem_eq_zero_of_no_sems (by decide) r.2⟩) (Cert.Reference35Ideal.Value.run m ρ)

end Cert.OutGateBack

end
-- ==== Proof.DeltaNorm.lean ====
/- The gated DeltaNet's output normalised head by head and gated: every block holds whole rows, and the rows before the first are zeros. -/
module

public import proofs.«01_k».proof.Defs
public import proofs.«01_k».proof.Proof.Gen.Kernel36Ideal.Value
public import proofs.«01_k».proof.Proof.Gen.Reference36Ideal.Run
public import proofs.«01_k».proof.Proof.GatedNorm

@[expose] public section

set_option maxRecDepth 16384

noncomputable section

namespace Cert.DeltaNorm

open Cert.Mat Cert.Kernel36Ideal Cert.Kernel36Ideal.Gen Cert.Kernel36Ideal.Value Idealize.ShloMosaic Idealize.ShloMosaic.TcCoe Idealize.SL.Sem
open Cert.GatedNorm (maskBits)

variable (m : (ℓ : Loc nD τ sig) → Buf (Elt Ideal) ℓ)

/-- One over the root of a head's mean square: the head of 128 columns that column `j` lies in. -/
def headRms (f : Fin 1024 → EReal) (j : Fin 1024) : EReal :=
  Ideal.rsqrt (Ideal.div (∑ l : Fin 128, f ⟨128 * (j.val / 128) + l.val, by omega⟩ * f ⟨128 * (j.val / 128) + l.val, by omega⟩) (Ideal.ofBits .f32 0x43000000#32)
    + Ideal.ofBits .f32 0x358637BD#32)

/-- The gate at an index: the last columns of the projection that belong to a head. -/
def gate (p : M 4224 4224) (i : Fin 4224) (j : Fin 1024) : EReal := p (ix2 i ⟨3072 + j.val, by omega⟩)

/-- The normalised and gated output at an index. -/
def val (o : M 4224 1024) (p : M 4224 4224) (g : M 1 128) (i : Fin 4224) (j : Fin 1024) : EReal :=
  o (ix2 i j) * headRms (fun l => o (ix2 i l)) j * g (ix2 0 ⟨j.val % 128, Nat.mod_lt _ (by decide)⟩) * (gate p i j * Ideal.logistic (gate p i j))

/-- The blocks of the windows at every grid point: thirty-three blocks of rows, the gate's columns the fourth of the projection's blocks. -/
theorem index : ∀ t : Fin cfg0.N,
    win0_0.index t = ![t.val, 0] ∧ win0_1.index t = ![t.val, 3] ∧ win0_2.index t = ![0, 0] ∧ win0_3.index t = ![t.val, 0] := by
  decide +kernel

/-- The first coordinate of a grid point. -/
theorem coord : ∀ t : Fin cfg0.N, (grid0.coords t 0).val = t.val := by decide +kernel

/-- The rows that count, as a number. -/
theorem mask_apply (t : Fin cfg0.N) (k : Fin 128) :
    (k0_pay2 (F := Ideal) (grid0.coords t)) (ix2 k 0) = if 112 ≤ 128 * t.val + k.val then 1 else 0 := by
  unfold k0_pay2
  pointwise
  rw [coord t, maskBits (⟨t.val, t.isLt⟩ : Fin 33) k]
  split_ifs
  · show ((((1#32 : BitVec 32).toInt : ℝ) : EReal)) = 1
    norm_num
  · show ((((0#32 : BitVec 32).toInt : ℝ) : EReal)) = 0
    norm_num

section Point
variable (x r : Vec Ideal S128x1024 .f32) (g : Vec Ideal S1x128 .f32) (q : FVec Ideal S128x1 .f32) (i : Fin 128) (j : Fin 1024)

/-- What a grid point leaves. -/
theorem out_apply : k0_pay1 x r g q (k0_pay3 x g) (k0_pay4 x g) (k0_pay8 g (k0_pay5 x) (k0_pay6 x) k0_pay7) (k0_pay9 x g) (k0_pay10 x g) (k0_pay11 x g) (k0_pay12 x) (k0_pay13 x) (ix2 i j)
    = x (ix2 i j) * headRms (fun l => x (ix2 i l)) j * g (ix2 0 ⟨j.val % 128, Nat.mod_lt _ (by decide)⟩) * (r (ix2 i j) * Ideal.logistic (r (ix2 i j))) * q (ix2 i 0) := by
  unfold headRms k0_pay1 k0_pay3 k0_pay4 k0_pay13
  pointwise [k0_pay5, k0_pay6, k0_pay7, k0_pay8, k0_pay9, k0_pay10, k0_pay11, k0_pay12]
  congr 2
  split_ifs <;> congr! 4
  all_goals first
    | omega
    | (refine Fin.ext ?_; dsimp only; omega)
    | (refine congrArg (fun s => Ideal.div s _) (Finset.sum_congr rfl fun l _ => ?_)
       congr! 4 <;> omega)

end Point

section Array
variable (c : Dev nD) (i : Fin 4224) (j : Fin 1024)

/-- What a grid point leaves, from its blocks. -/
theorem step (t : Fin cfg0.N) : outsAt0 m c t
    = k0_pay1 (iblk m c 0 t) (X0_1 m c t) (iblk m c 2 t) (k0_pay2 (grid0.coords t)) (k0_pay3 (iblk m c 0 t) (iblk m c 2 t))
        (k0_pay4 (iblk m c 0 t) (iblk m c 2 t)) (k0_pay8 (iblk m c 2 t) (k0_pay5 (iblk m c 0 t)) (k0_pay6 (iblk m c 0 t)) k0_pay7) (k0_pay9 (iblk m c 0 t) (iblk m c 2 t))
        (k0_pay10 (iblk m c 0 t) (iblk m c 2 t)) (k0_pay11 (iblk m c 0 t) (iblk m c 2 t)) (k0_pay12 (iblk m c 0 t)) (k0_pay13 (iblk m c 0 t)) := by
  unfold outsAt0
  unfold out0_A_3
  rw [View.read_writes_eq_canon _ _ _ (fun _ => cover0_A_3 ..)]
  unfold kernelRun0_A
  dsimp only
  rw [View.canon_unit_zero hz]
  sl_unfold_words
  simp only [View.readAt_eq_ld, (hs0_0 t).read_unread, (hs0_1 t).read_unread, (hs0_2 t).read_unread,
    View.ld_unit_zero (S := S128x1024) hz, View.ld_unit_zero (S := S1x128) hz]

/-- The array: zeros, then the rows that count. -/
theorem arr : (dats m 0 c).arrAt 3 cfg0.N (ix2 i j) = (if 112 ≤ i.val then val (m ((c : Thread nD τ).loc main_arg0)) (m ((c : Thread nD τ).loc main_arg1)) (m ((c : Thread nD τ).loc main_arg2)) i j else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks3 m c t (flush0_3 t)).trans ((flushed3 m c t).trans (congrArg _ (step m c t)))) (ix2 k j)
  blk_simp at e
  refine Eq.trans ?_ (e.trans ((out_apply _ _ _ _ k j).trans ?_))
  · blk_ext [index t]
  · rw [mask_apply t k, show 128 * t.val + k.val = i.val by omega]
    have hr : X0_1 m c t (ix2 k j) = gate (m ((c : Thread nD τ).loc main_arg1)) i j := by
      unfold gate X0_1 Pipeline.Window.fill
      rw [dif_pos (moved0_1 t _)]
      blk_ext [iblk, index t]
    have hx (l : Fin 1024) : iblk m c 0 t (ix2 k l) = (m ((c : Thread nD τ).loc main_arg0) : M 4224 1024) (ix2 i l) := by
      blk_ext [iblk, index t]
    have hg (l : Fin 128) : iblk m c 2 t (ix2 0 l) = (m ((c : Thread nD τ).loc main_arg2) : M 1 128) (ix2 0 l) := by
      blk_ext [iblk, index t]
    rw [hr, hx, funext hx, hg]
    unfold val
    split_ifs <;> simp

end Array

/-- The call leaves the normalised and gated output. -/
theorem algebraic : Cert.algebraic_Kernel36Ideal_Reference36Ideal := by
  intro m ρ m' ρ' _ hin
  refine ⟨fun c => (dats m 0 c).arrAt 3 cfg0.N, run_blocks m ρ, ?_⟩
  refine (θ_run _ _ _).mono (fun r h c => ?_) (Cert.Reference36Ideal.Value.run m' ρ')
  obtain ⟨e0, e1, e2⟩ := hin c
  obtain ⟨ho, a⟩ := h c
  rw [e0, e1, e2] at ho
  refine ⟨ho.trans ?_, a⟩
  funext i
  obtain ⟨x, y, rfl⟩ := idx i
  refine Eq.trans ?_ (arr m c x y).symm
  unfold val headRms gate Ideal.logistic
  pointwise
  by_cases hx : x.val < 112
  · exact (dif_pos hx).trans (if_neg (Nat.not_le.mpr hx)).symm
  · refine (dif_neg hx).trans (Eq.trans ?_ (if_pos (Nat.not_lt.mp hx)).symm)
    have e : (⟨112 + (x.val - 112), by omega⟩ : Fin 4224) = x := Fin.ext (by dsimp only; omega)
    simp only [e, Nat.mul_comm 128]

/-- The reference's frame. -/
theorem frame_ref : Cert.quiescent_Reference36Ideal := fun m ρ _ =>
  (θ_run _ _ _).mono (fun r h => ⟨fun c => (h c).2, sem_eq_zero_of_no_sems (by decide) r.2⟩) (Cert.Reference36Ideal.Value.run m ρ)

end Cert.DeltaNorm

end
-- ==== Proof.DeltaNormBack.lean ====
/- The backward pass of the gated DeltaNet's normalised and gated output: every block holds whole rows, and the scale's gradient is summed over the grid. -/
module

public import proofs.«01_k».proof.Defs
public import proofs.«01_k».proof.Proof.Gen.Kernel37Ideal.Value
public import proofs.«01_k».proof.Proof.Gen.Reference37Ideal.Run
public import proofs.«01_k».proof.Proof.DeltaNorm
public import proofs.«01_k».proof.Proof.GatedNormBack

@[expose] public section

set_option maxRecDepth 16384

noncomputable section

namespace Cert.DeltaNormBack

open Cert.Mat Cert.NormBack Cert.DeltaNorm Cert.Kernel37Ideal Cert.Kernel37Ideal.Gen Cert.Kernel37Ideal.Value Idealize.ShloMosaic Idealize.ShloMosaic.TcCoe Idealize.SL.Sem
open Cert.GatedNorm (maskBits)
open Cert.GatedNormBack (through sum_all sum_more two_axes)

/-- A row's entries in the head that column `j` lies in. -/
def hd (f : Fin 1024 → EReal) (j : Fin 1024) (l : Fin 128) : EReal := f ⟨128 * (j.val / 128) + l.val, by omega⟩

/-- A head's mean square with the small constant added. -/
def headMs (f : Fin 1024 → EReal) (j : Fin 1024) : EReal :=
  Ideal.div (∑ l, hd f j l * hd f j l) (Ideal.ofBits .f32 0x43000000#32) + Ideal.ofBits .f32 0x358637BD#32

/-- The share of every entry of a head in its mean square's gradient. -/
def headShare (f e : Fin 1024 → EReal) (g : Fin 128 → EReal) (j : Fin 1024) : EReal :=
  Ideal.div ((∑ l, hd f j l * (hd e j l * g l)) * (Ideal.ofBits .f32 0xBF000000#32 * Ideal.div (Ideal.rsqrt (headMs f j)) (headMs f j)))
    (Ideal.ofBits .f32 0x43000000#32)

/-- The gradient of a row before the normalisation. -/
def headBack (f e : Fin 1024 → EReal) (g : Fin 128 → EReal) (j : Fin 1024) : EReal :=
  e j * g ⟨j.val % 128, Nat.mod_lt _ (by decide)⟩ * Ideal.rsqrt (headMs f j) + f j * headShare f e g j + headShare f e g j * f j

/-- The gradient of a row of the gate. -/
def gateBack (f r d : Fin 1024 → EReal) (g : Fin 128 → EReal) (j : Fin 1024) : EReal :=
  (f j * Ideal.rsqrt (headMs f j) * g ⟨j.val % 128, Nat.mod_lt _ (by decide)⟩ * d j) * Ideal.logistic (r j)
    + r j * (f j * Ideal.rsqrt (headMs f j) * g ⟨j.val % 128, Nat.mod_lt _ (by decide)⟩ * d j)
        * (Ideal.logistic (r j) * (1 - Ideal.logistic (r j)))

variable (m : (ℓ : Loc nD τ sig) → Buf (Elt Ideal) ℓ)

/-- The blocks of the windows at every grid point: thirty-three blocks of rows, one scale. -/
theorem index : ∀ t : Fin cfg0.N,
    win0_0.index t = ![t.val, 0] ∧ win0_1.index t = ![t.val, 3] ∧ win0_2.index t = ![0, 0] ∧ win0_3.index t = ![t.val, 0]
      ∧ win0_4.index t = ![t.val, 0] ∧ win0_5.index t = ![t.val, 0] ∧ win0_6.index t = ![0, 0] := by
  decide +kernel

/-- The first coordinate of a grid point. -/
theorem coord : ∀ t : Fin cfg0.N, (grid0.coords t 0).val = t.val := by decide +kernel

/-- The rows that count, as a number. -/
theorem mask_apply (t : Fin cfg0.N) (k : Fin 128) :
    (k0_pay1 (F := Ideal) (grid0.coords t)) (ix2 k 0) = if 112 ≤ 128 * t.val + k.val then 1 else 0 := by
  unfold k0_pay1
  pointwise
  rw [coord t, maskBits (⟨t.val, t.isLt⟩ : Fin 33) k]
  split_ifs
  · show ((((1#32 : BitVec 32).toInt : ℝ) : EReal)) = 1
    norm_num
  · show ((((0#32 : BitVec 32).toInt : ℝ) : EReal)) = 0
    norm_num

/-- The gradient of a block's rows. -/
def rowsB (x r : Vec Ideal S128x1024 .f32) (g : Vec Ideal S1x128 .f32) (d : Vec Ideal S128x1024 .f32) (q : FVec Ideal S128x1 .f32) : FVec Ideal S128x1024 .f32 :=
  k0_pay75 g (k0_pay2 x) (k0_pay4 x) (k0_pay5 x) (k0_pay56 r q d) (k0_pay74 g (k0_pay8 x) (k0_pay10 x) (k0_pay11 x) (k0_pay15 x) (k0_pay17 x)
    (k0_pay18 x) (k0_pay57 r q d) (k0_pay58 r q d) (k0_pay71 g (k0_pay21 x) (k0_pay23 x) (k0_pay24 x) (k0_pay27 x) (k0_pay29 x) (k0_pay30 x) (k0_pay59
    r q d) (k0_pay60 r q d) (k0_pay68 g (k0_pay34 x) (k0_pay36 x) (k0_pay37 x) (k0_pay40 x) (k0_pay42 x) (k0_pay43 x) (k0_pay61 r q d) (k0_pay62 r q
    d) (k0_pay64 r g q (k0_pay46 x) (k0_pay48 x) (k0_pay49 x) d) (k0_pay66 g))))

/-- The gradient of a block of the gate. -/
def gateB (x r : Vec Ideal S128x1024 .f32) (g : Vec Ideal S1x128 .f32) (d : Vec Ideal S128x1024 .f32) (q : FVec Ideal S128x1 .f32) : FVec Ideal S128x1024 .bf16 :=
  k0_pay76 (k0_pay55 r q (k0_pay7 x g) (k0_pay14 (k0_pay12 x) (k0_pay13 g)) (k0_pay20 x g) (k0_pay26 x g) (k0_pay33 (k0_pay31 x) (k0_pay32 g))
    (k0_pay39 x g) (k0_pay45 x g) (k0_pay50 x) (k0_pay51 g) d)

/-- The scale's gradient with a block's part added to it. -/
def scaleB (x r : Vec Ideal S128x1024 .f32) (d : Vec Ideal S128x1024 .f32) (q : FVec Ideal S128x1 .f32) (a : Vec Ideal S1x128 .f32) : FVec Ideal S1x128 .f32 :=
  k0_pay78 (k0_pay6 x) (k0_pay56 r q d) (k0_pay73 (k0_pay12 x) (k0_pay57 r q d) (k0_pay70 (k0_pay25 x) (k0_pay59 r q d) (k0_pay67 (k0_pay38 x)
    (k0_pay61 r q d) (k0_pay65 r q (k0_pay44 x) (k0_pay50 x) d)) (k0_pay69 (k0_pay31 x) (k0_pay60 r q d))) (k0_pay72 (k0_pay19 x) (k0_pay58 r q d))) a

section Step
variable (c : Dev nD) (t : Fin cfg0.N)

/-- Every point leaves its rows' gradient. -/
theorem rows_step : (outsAt0 m c t.val t.isLt).1 = rowsB (iblk m c 0 t) (X0_1 m c t) (iblk m c 2 t) (iblk m c 3 t) (k0_pay1 (grid0.coords t)) := by
  by_cases h0 : t.val % 33 = 0
  · rw [outsAt0_A m c t h0]
    dsimp only
    unfold out0_A_4
    rw [View.read_writes_eq_canon _ _ _ (fun _ => cover0_A_4 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x128) hz]
    rfl
  · rw [outsAt0_B m c t h0]
    dsimp only
    unfold out0_B_4
    rw [View.read_writes_eq_canon _ _ _ (fun _ => cover0_B_4 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x128) hz]
    rfl

/-- Every point leaves its gate's gradient. -/
theorem gate_step : (outsAt0 m c t.val t.isLt).2.1 = gateB (iblk m c 0 t) (X0_1 m c t) (iblk m c 2 t) (iblk m c 3 t) (k0_pay1 (grid0.coords t)) := by
  by_cases h0 : t.val % 33 = 0
  · rw [outsAt0_A m c t h0]
    dsimp only
    unfold out0_A_5
    rw [View.read_writes_eq_canon _ _ _ (fun _ => cover0_A_5 ..)]
    unfold kernelRun0_A
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x128) hz]
    rfl
  · rw [outsAt0_B m c t h0]
    dsimp only
    unfold out0_B_5
    rw [View.read_writes_eq_canon _ _ _ (fun _ => cover0_B_5 ..)]
    unfold kernelRun0_B
    dsimp only
    rw [View.canon_unit_zero hz]
    sl_unfold_words
    simp only [View.readAt_eq_ld, (hs0_0 t).read_unread, (hs0_1 t).read_unread, (hs0_2 t).read_unread, (hs0_3 t).read_unread,
      View.ld_unit_zero (S := S128x1024) hz, View.ld_unit_zero (S := S1x128) hz]
    rfl

/-- The first point starts the scale's gradient from zero. -/
theorem scale_first (h0 : t.val % 33 = 0) : (outsAt0 m c t.val t.isLt).2.2
    = scaleB (iblk m c 0 t) (X0_1 m c t) (iblk m c 3 t) (k0_pay1 (grid0.coords t)) (k0_pay77 (F := Ideal)) := by
  rw [outsAt0_A m c t h0]
  dsimp only
  unfold out0_A_6
  rw [View.read_writes_eq_canon _ _ _ (fun _ => cover0_A_6 ..)]
  unfold kernelRun0_A
  dsimp only
  sl_unfold_words
  rw [View.canon_cons_unit_zero (S := S1x128) hz, View.readCov_unit_zero (S := S1x128) _ hz]
  simp only [View.readAt_eq_ld, (hs0_0 t).read_unread, (hs0_1 t).read_unread, (hs0_2 t).read_unread, (hs0_3 t).read_unread,
      View.ld_unit_zero (S := S128x1024) hz, View.ld_unit_zero (S := S1x128) hz]
  rfl

/-- Every later point adds its part. -/
theorem scale_next (h0 : ¬t.val % 33 = 0) : (outsAt0 m c t.val t.isLt).2.2
    = scaleB (iblk m c 0 t) (X0_1 m c t) (iblk m c 3 t) (k0_pay1 (grid0.coords t))
        (outsAt0 m c (t.val - 1) (Nat.lt_of_le_of_lt (Nat.sub_le _ _) t.isLt)).2.2 := by
  rw [outsAt0_B m c t h0]
  dsimp only
  unfold out0_B_6
  rw [View.read_writes_eq_canon _ _ _ (fun _ => cover0_B_6 ..)]
  unfold kernelRun0_B
  dsimp only
  rw [View.canon_unit_zero hz]
  sl_unfold_words
  simp only [View.readAt_eq_ld, (hs0_0 t).read_unread, (hs0_1 t).read_unread, (hs0_2 t).read_unread, (hs0_3 t).read_unread,
      (hs0_6 t).read_unread, View.ld_unit_zero (S := S128x1024) hz, View.ld_unit_zero (S := S1x128) hz]
  rfl

end Step

section Point
variable (x r : Vec Ideal S128x1024 .f32) (g : Vec Ideal S1x128 .f32) (d : Vec Ideal S128x1024 .f32) (q : FVec Ideal S128x1 .f32)
  (i : Fin 128) (j : Fin 1024)

/-- The gradient that counts. -/
def kept : Fin 1024 → EReal := fun j => d (ix2 i j) * q (ix2 i 0)

/-- What comes back through the gate. -/
theorem through_apply : k0_pay54 r q d (ix2 i j) = through (rows r i) (kept d q i) j := by
  unfold through kept rows
  pointwise [k0_pay54, k0_pay53, k0_pay52]

/-- A column is one of a head. -/
theorem head_cases : j.val / 128 = 0 ∨ j.val / 128 = 1 ∨ j.val / 128 = 2 ∨ j.val / 128 = 3 ∨ j.val / 128 = 4 ∨ j.val / 128 = 5 ∨ j.val / 128 = 6 ∨ j.val / 128 = 7 := by omega

/-- A block's gate gradient. -/
theorem gate_apply : gateB x r g d q (ix2 i j) = gateBack (rows x i) (rows r i) (kept d q i) (rows g 0) j := by
  unfold gateB gateBack headMs hd kept rows
  pointwise [k0_pay76, k0_pay55, k0_pay53, k0_pay52, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
  rcases head_cases j with h | h | h | h | h | h | h | h
  · have a (l : Fin 128) : (⟨128 * (j.val / 128) + l.val, by omega⟩ : Fin 1024) = ⟨l.val, by omega⟩ := Fin.ext (by dsimp only; omega)
    have b : (⟨j.val % 128, Nat.mod_lt _ (by decide)⟩ : Fin 128) = ⟨j.val, by omega⟩ := Fin.ext (by dsimp only; omega)
    have h1 : j.val < 128 := by omega
    simp only [Nat.sub_sub, Nat.reduceAdd, a, b, h1, ↓reduceDIte]
  · have a (l : Fin 128) : (⟨128 * (j.val / 128) + l.val, by omega⟩ : Fin 1024) = ⟨128 + l.val, by omega⟩ := Fin.ext (by dsimp only; omega)
    have b : (⟨j.val % 128, Nat.mod_lt _ (by decide)⟩ : Fin 128) = ⟨j.val - 128, by omega⟩ := Fin.ext (by dsimp only; omega)
    have c : (⟨128 + (j.val - 128), by omega⟩ : Fin 1024) = j := Fin.ext (by dsimp only; omega)
    have h1 : ¬j.val < 128 := by omega
    have u1 : j.val - 128 < 128 := by omega
    simp only [Nat.sub_sub, Nat.reduceAdd, a, b, h1, u1, ↓reduceDIte, c]
  · have a (l : Fin 128) : (⟨128 * (j.val / 128) + l.val, by omega⟩ : Fin 1024) = ⟨256 + l.val, by omega⟩ := Fin.ext (by dsimp only; omega)
    have b : (⟨j.val % 128, Nat.mod_lt _ (by decide)⟩ : Fin 128) = ⟨j.val - 256, by omega⟩ := Fin.ext (by dsimp only; omega)
    have c : (⟨256 + (j.val - 256), by omega⟩ : Fin 1024) = j := Fin.ext (by dsimp only; omega)
    have h1 : ¬j.val < 128 := by omega
    have u1 : ¬j.val - 128 < 128 := by omega
    have u2 : j.val - 256 < 128 := by omega
    simp only [Nat.sub_sub, Nat.reduceAdd, a, b, h1, u1, u2, ↓reduceDIte, c]
  · have a (l : Fin 128) : (⟨128 * (j.val / 128) + l.val, by omega⟩ : Fin 1024) = ⟨384 + l.val, by omega⟩ := Fin.ext (by dsimp only; omega)
    have b : (⟨j.val % 128, Nat.mod_lt _ (by decide)⟩ : Fin 128) = ⟨j.val - 384, by omega⟩ := Fin.ext (by dsimp only; omega)
    have c : (⟨384 + (j.val - 384), by omega⟩ : Fin 1024) = j := Fin.ext (by dsimp only; omega)
    have h1 : ¬j.val < 128 := by omega
    have u1 : ¬j.val - 128 < 128 := by omega
    have u2 : ¬j.val - 256 < 128 := by omega
    have u3 : j.val - 384 < 128 := by omega
    simp only [Nat.sub_sub, Nat.reduceAdd, a, b, h1, u1, u2, u3, ↓reduceDIte, c]
  · have a (l : Fin 128) : (⟨128 * (j.val / 128) + l.val, by omega⟩ : Fin 1024) = ⟨512 + l.val, by omega⟩ := Fin.ext (by dsimp only; omega)
    have b : (⟨j.val % 128, Nat.mod_lt _ (by decide)⟩ : Fin 128) = ⟨j.val - 512, by omega⟩ := Fin.ext (by dsimp only; omega)
    have c : (⟨512 + (j.val - 512), by omega⟩ : Fin 1024) = j := Fin.ext (by dsimp only; omega)
    have h1 : ¬j.val < 128 := by omega
    have u1 : ¬j.val - 128 < 128 := by omega
    have u2 : ¬j.val - 256 < 128 := by omega
    have u3 : ¬j.val - 384 < 128 := by omega
    have u4 : j.val - 512 < 128 := by omega
    simp only [Nat.sub_sub, Nat.reduceAdd, a, b, h1, u1, u2, u3, u4, ↓reduceDIte, c]
  · have a (l : Fin 128) : (⟨128 * (j.val / 128) + l.val, by omega⟩ : Fin 1024) = ⟨640 + l.val, by omega⟩ := Fin.ext (by dsimp only; omega)
    have b : (⟨j.val % 128, Nat.mod_lt _ (by decide)⟩ : Fin 128) = ⟨j.val - 640, by omega⟩ := Fin.ext (by dsimp only; omega)
    have c : (⟨640 + (j.val - 640), by omega⟩ : Fin 1024) = j := Fin.ext (by dsimp only; omega)
    have h1 : ¬j.val < 128 := by omega
    have u1 : ¬j.val - 128 < 128 := by omega
    have u2 : ¬j.val - 256 < 128 := by omega
    have u3 : ¬j.val - 384 < 128 := by omega
    have u4 : ¬j.val - 512 < 128 := by omega
    have u5 : j.val - 640 < 128 := by omega
    simp only [Nat.sub_sub, Nat.reduceAdd, a, b, h1, u1, u2, u3, u4, u5, ↓reduceDIte, c]
  · have a (l : Fin 128) : (⟨128 * (j.val / 128) + l.val, by omega⟩ : Fin 1024) = ⟨768 + l.val, by omega⟩ := Fin.ext (by dsimp only; omega)
    have b : (⟨j.val % 128, Nat.mod_lt _ (by decide)⟩ : Fin 128) = ⟨j.val - 768, by omega⟩ := Fin.ext (by dsimp only; omega)
    have c : (⟨768 + (j.val - 768), by omega⟩ : Fin 1024) = j := Fin.ext (by dsimp only; omega)
    have h1 : ¬j.val < 128 := by omega
    have u1 : ¬j.val - 128 < 128 := by omega
    have u2 : ¬j.val - 256 < 128 := by omega
    have u3 : ¬j.val - 384 < 128 := by omega
    have u4 : ¬j.val - 512 < 128 := by omega
    have u5 : ¬j.val - 640 < 128 := by omega
    have u6 : j.val - 768 < 128 := by omega
    simp only [Nat.sub_sub, Nat.reduceAdd, a, b, h1, u1, u2, u3, u4, u5, u6, ↓reduceDIte, c]
  · have a (l : Fin 128) : (⟨128 * (j.val / 128) + l.val, by omega⟩ : Fin 1024) = ⟨896 + l.val, by omega⟩ := Fin.ext (by dsimp only; omega)
    have b : (⟨j.val % 128, Nat.mod_lt _ (by decide)⟩ : Fin 128) = ⟨j.val - 896, by omega⟩ := Fin.ext (by dsimp only; omega)
    have c : (⟨896 + (j.val - 896), by omega⟩ : Fin 1024) = j := Fin.ext (by dsimp only; omega)
    have h1 : ¬j.val < 128 := by omega
    have u1 : ¬j.val - 128 < 128 := by omega
    have u2 : ¬j.val - 256 < 128 := by omega
    have u3 : ¬j.val - 384 < 128 := by omega
    have u4 : ¬j.val - 512 < 128 := by omega
    have u5 : ¬j.val - 640 < 128 := by omega
    have u6 : ¬j.val - 768 < 128 := by omega
    simp only [Nat.sub_sub, Nat.reduceAdd, a, b, h1, u1, u2, u3, u4, u5, u6, ↓reduceDIte, c]

set_option maxHeartbeats 2000000 in
/-- A block's rows' gradient. -/
theorem rows_apply : rowsB x r g d q (ix2 i j) = headBack (rows x i) (through (rows r i) (kept d q i)) (rows g 0) j := by
  obtain ⟨e, he⟩ : ∃ e, k0_pay54 r q d = e := ⟨_, rfl⟩
  rw [show through (rows r i) (kept d q i) = rows e i from funext fun l => by rw [← he]; exact (through_apply r d q i l).symm]
  unfold rowsB headBack headShare headMs hd rows
  pointwise [k0_pay75, k0_pay74, k0_pay71, k0_pay68, k0_pay66, k0_pay64, k0_pay63, k0_pay62, k0_pay61, k0_pay60, k0_pay59, k0_pay58, k0_pay57, k0_pay56, k0_pay2, k0_pay3, k0_pay4, k0_pay5, k0_pay6, k0_pay8, k0_pay9, k0_pay10, k0_pay11, k0_pay12, k0_pay15, k0_pay16, k0_pay17, k0_pay18, k0_pay19, k0_pay21, k0_pay22, k0_pay23, k0_pay24, k0_pay25, k0_pay27, k0_pay28, k0_pay29, k0_pay30, k0_pay31, k0_pay34, k0_pay35, k0_pay36, k0_pay37, k0_pay38, k0_pay40, k0_pay41, k0_pay42, k0_pay43, k0_pay44, k0_pay46, k0_pay47, k0_pay48, k0_pay49, k0_pay50]
  simp only [he, Fin.sum_univ_one]
  rcases head_cases j with h | h | h | h | h | h | h | h
  · have a (l : Fin 128) : (⟨128 * (j.val / 128) + l.val, by omega⟩ : Fin 1024) = ⟨l.val, by omega⟩ := Fin.ext (by dsimp only; omega)
    have b : (⟨j.val % 128, Nat.mod_lt _ (by decide)⟩ : Fin 128) = ⟨j.val, by omega⟩ := Fin.ext (by dsimp only; omega)
    have h1 : j.val < 128 := by omega
    have h2 : j.val < 256 := by omega
    have h3 : j.val < 384 := by omega
    have h4 : j.val < 512 := by omega
    have h5 : j.val < 640 := by omega
    have h6 : j.val < 768 := by omega
    have h7 : j.val < 896 := by omega
    simp only [Nat.sub_sub, Nat.reduceAdd, a, b, h1, h2, h3, h4, h5, h6, h7, ↓reduceDIte, add_zero, zero_add]
  · have a (l : Fin 128) : (⟨128 * (j.val / 128) + l.val, by omega⟩ : Fin 1024) = ⟨128 + l.val, by omega⟩ := Fin.ext (by dsimp only; omega)
    have b : (⟨j.val % 128, Nat.mod_lt _ (by decide)⟩ : Fin 128) = ⟨j.val - 128, by omega⟩ := Fin.ext (by dsimp only; omega)
    have c : (⟨128 + (j.val - 128), by omega⟩ : Fin 1024) = j := Fin.ext (by dsimp only; omega)
    have h1 : ¬j.val < 128 := by omega
    have h2 : j.val < 256 := by omega
    have h3 : j.val < 384 := by omega
    have h4 : j.val < 512 := by omega
    have h5 : j.val < 640 := by omega
    have h6 : j.val < 768 := by omega
    have h7 : j.val < 896 := by omega
    simp only [Nat.sub_sub, Nat.reduceAdd, a, b, h1, h2, h3, h4, h5, h6, h7, ↓reduceDIte, c, add_zero, zero_add]
  · have a (l : Fin 128) : (⟨128 * (j.val / 128) + l.val, by omega⟩ : Fin 1024) = ⟨256 + l.val, by omega⟩ := Fin.ext (by dsimp only; omega)
    have b : (⟨j.val % 128, Nat.mod_lt _ (by decide)⟩ : Fin 128) = ⟨j.val - 256, by omega⟩ := Fin.ext (by dsimp only; omega)
    have c : (⟨256 + (j.val - 256), by omega⟩ : Fin 1024) = j := Fin.ext (by dsimp only; omega)
    have h1 : ¬j.val < 128 := by omega
    have h2 : ¬j.val < 256 := by omega
    have h3 : j.val < 384 := by omega
    have h4 : j.val < 512 := by omega
    have h5 : j.val < 640 := by omega
    have h6 : j.val < 768 := by omega
    have h7 : j.val < 896 := by omega
    simp only [Nat.sub_sub, Nat.reduceAdd, a, b, h1, h2, h3, h4, h5, h6, h7, ↓reduceDIte, c, add_zero, zero_add]
  · have a (l : Fin 128) : (⟨128 * (j.val / 128) + l.val, by omega⟩ : Fin 1024) = ⟨384 + l.val, by omega⟩ := Fin.ext (by dsimp only; omega)
    have b : (⟨j.val % 128, Nat.mod_lt _ (by decide)⟩ : Fin 128) = ⟨j.val - 384, by omega⟩ := Fin.ext (by dsimp only; omega)
    have c : (⟨384 + (j.val - 384), by omega⟩ : Fin 1024) = j := Fin.ext (by dsimp only; omega)
    have h1 : ¬j.val < 128 := by omega
    have h2 : ¬j.val < 256 := by omega
    have h3 : ¬j.val < 384 := by omega
    have h4 : j.val < 512 := by omega
    have h5 : j.val < 640 := by omega
    have h6 : j.val < 768 := by omega
    have h7 : j.val < 896 := by omega
    simp only [Nat.sub_sub, Nat.reduceAdd, a, b, h1, h2, h3, h4, h5, h6, h7, ↓reduceDIte, c, add_zero, zero_add]
  · have a (l : Fin 128) : (⟨128 * (j.val / 128) + l.val, by omega⟩ : Fin 1024) = ⟨512 + l.val, by omega⟩ := Fin.ext (by dsimp only; omega)
    have b : (⟨j.val % 128, Nat.mod_lt _ (by decide)⟩ : Fin 128) = ⟨j.val - 512, by omega⟩ := Fin.ext (by dsimp only; omega)
    have c : (⟨512 + (j.val - 512), by omega⟩ : Fin 1024) = j := Fin.ext (by dsimp only; omega)
    have h1 : ¬j.val < 128 := by omega
    have h2 : ¬j.val < 256 := by omega
    have h3 : ¬j.val < 384 := by omega
    have h4 : ¬j.val < 512 := by omega
    have h5 : j.val < 640 := by omega
    have h6 : j.val < 768 := by omega
    have h7 : j.val < 896 := by omega
    simp only [Nat.sub_sub, Nat.reduceAdd, a, b, h1, h2, h3, h4, h5, h6, h7, ↓reduceDIte, c, add_zero, zero_add]
  · have a (l : Fin 128) : (⟨128 * (j.val / 128) + l.val, by omega⟩ : Fin 1024) = ⟨640 + l.val, by omega⟩ := Fin.ext (by dsimp only; omega)
    have b : (⟨j.val % 128, Nat.mod_lt _ (by decide)⟩ : Fin 128) = ⟨j.val - 640, by omega⟩ := Fin.ext (by dsimp only; omega)
    have c : (⟨640 + (j.val - 640), by omega⟩ : Fin 1024) = j := Fin.ext (by dsimp only; omega)
    have h1 : ¬j.val < 128 := by omega
    have h2 : ¬j.val < 256 := by omega
    have h3 : ¬j.val < 384 := by omega
    have h4 : ¬j.val < 512 := by omega
    have h5 : ¬j.val < 640 := by omega
    have h6 : j.val < 768 := by omega
    have h7 : j.val < 896 := by omega
    simp only [Nat.sub_sub, Nat.reduceAdd, a, b, h1, h2, h3, h4, h5, h6, h7, ↓reduceDIte, c, add_zero, zero_add]
  · have a (l : Fin 128) : (⟨128 * (j.val / 128) + l.val, by omega⟩ : Fin 1024) = ⟨768 + l.val, by omega⟩ := Fin.ext (by dsimp only; omega)
    have b : (⟨j.val % 128, Nat.mod_lt _ (by decide)⟩ : Fin 128) = ⟨j.val - 768, by omega⟩ := Fin.ext (by dsimp only; omega)
    have c : (⟨768 + (j.val - 768), by omega⟩ : Fin 1024) = j := Fin.ext (by dsimp only; omega)
    have h1 : ¬j.val < 128 := by omega
    have h2 : ¬j.val < 256 := by omega
    have h3 : ¬j.val < 384 := by omega
    have h4 : ¬j.val < 512 := by omega
    have h5 : ¬j.val < 640 := by omega
    have h6 : ¬j.val < 768 := by omega
    have h7 : j.val < 896 := by omega
    simp only [Nat.sub_sub, Nat.reduceAdd, a, b, h1, h2, h3, h4, h5, h6, h7, ↓reduceDIte, c, add_zero, zero_add]
  · have a (l : Fin 128) : (⟨128 * (j.val / 128) + l.val, by omega⟩ : Fin 1024) = ⟨896 + l.val, by omega⟩ := Fin.ext (by dsimp only; omega)
    have b : (⟨j.val % 128, Nat.mod_lt _ (by decide)⟩ : Fin 128) = ⟨j.val - 896, by omega⟩ := Fin.ext (by dsimp only; omega)
    have c : (⟨896 + (j.val - 896), by omega⟩ : Fin 1024) = j := Fin.ext (by dsimp only; omega)
    have h1 : ¬j.val < 128 := by omega
    have h2 : ¬j.val < 256 := by omega
    have h3 : ¬j.val < 384 := by omega
    have h4 : ¬j.val < 512 := by omega
    have h5 : ¬j.val < 640 := by omega
    have h6 : ¬j.val < 768 := by omega
    have h7 : ¬j.val < 896 := by omega
    simp only [Nat.sub_sub, Nat.reduceAdd, a, b, h1, h2, h3, h4, h5, h6, h7, ↓reduceDIte, c, add_zero, zero_add]

/-- A row's part of the scale's gradient, summed over the heads. -/
def scaleRow (f e : Fin 1024 → EReal) (l : Fin 128) : EReal :=
  ∑ h : Fin 8, f ⟨128 * h.val + l.val, by omega⟩ * Ideal.rsqrt (headMs f ⟨128 * h.val + l.val, by omega⟩) * e ⟨128 * h.val + l.val, by omega⟩

/-- A block's part of the scale's gradient, added. -/
theorem scale_apply (l : Fin 128) (a : Vec Ideal S1x128 .f32) : scaleB x r d q a (ix2 0 l)
    = a (ix2 0 l) + ∑ k, scaleRow (rows x k) (through (rows r k) (kept d q k)) l := by
  obtain ⟨e, he⟩ : ∃ e, k0_pay54 r q d = e := ⟨_, rfl⟩
  rw [show (fun k => scaleRow (rows x k) (through (rows r k) (kept d q k)) l) = fun k => scaleRow (rows x k) (rows e k) l from
    funext fun k => congrArg (scaleRow _ · l) (funext fun l => by rw [← he]; exact (through_apply r d q k l).symm)]
  unfold scaleB scaleRow headMs hd rows
  pointwise [k0_pay78, k0_pay73, k0_pay72, k0_pay70, k0_pay69, k0_pay67, k0_pay65, k0_pay63, k0_pay62, k0_pay61, k0_pay60, k0_pay59, k0_pay58, k0_pay57, k0_pay56, k0_pay2, k0_pay3, k0_pay4, k0_pay5, k0_pay6, k0_pay8, k0_pay9, k0_pay10, k0_pay11, k0_pay12, k0_pay15, k0_pay16, k0_pay17, k0_pay18, k0_pay19, k0_pay21, k0_pay22, k0_pay23, k0_pay24, k0_pay25, k0_pay27, k0_pay28, k0_pay29, k0_pay30, k0_pay31, k0_pay34, k0_pay35, k0_pay36, k0_pay37, k0_pay38, k0_pay40, k0_pay41, k0_pay42, k0_pay43, k0_pay44, k0_pay46, k0_pay47, k0_pay48, k0_pay49, k0_pay50]
  have a (h : Fin 8) : (128 * h.val + l.val) / 128 = h.val := by omega
  simp only [he, a, Fin.sum_univ_eight, Finset.sum_add_distrib]
  refine congrArg _ ?_
  have e (a b c d e f g h : EReal) : a + b + c + d + e + f + g + h = h + g + f + e + d + c + b + a := by ac_rfl
  refine (e _ _ _ _ _ _ _ _).trans ?_
  simp only [Fin.val_zero, mul_zero, zero_add]
  rfl

end Point

section Array
variable (c : Dev nD) (i : Fin 4224) (j : Fin 1024)

/-- The rows before the normalisation. -/
def H : Fin 4224 → Fin 1024 → EReal := rows (m ((c : Thread nD τ).loc main_arg0))

/-- The gate's rows. -/
def R (i : Fin 4224) (j : Fin 1024) : EReal := gate (m ((c : Thread nD τ).loc main_arg1)) i j

/-- The scale. -/
def G : Fin 128 → EReal := rows (m ((c : Thread nD τ).loc main_arg2) : M 1 128) 0

/-- The gradient of the rows that count; zero elsewhere. -/
def K (i : Fin 4224) (j : Fin 1024) : EReal :=
  rows (r := 4224) (c := 1024) (m ((c : Thread nD τ).loc main_arg3)) i j * (if 112 ≤ i.val then 1 else 0)

variable (t : Fin cfg0.N) (k : Fin 128)

/-- A block of the rows. -/
theorem rows_block (e : i.val = 128 * t.val + k.val) : rows (r := 128) (c := 1024) (iblk m c 0 t) k = H m c i := by
  funext j
  unfold H rows
  blk_ext [iblk, index t]

/-- A block of the gate's rows. -/
theorem gate_block (e : i.val = 128 * t.val + k.val) : rows (r := 128) (c := 1024) (X0_1 m c t) k = R m c i := by
  funext j
  unfold R gate rows X0_1 Pipeline.Window.fill
  rw [dif_pos (moved0_1 t _)]
  blk_ext [iblk, index t]

/-- The scale's one block. -/
theorem gain_block : rows (r := 1) (c := 128) (iblk m c 2 t) 0 = G m c := by
  funext j
  unfold G rows
  blk_ext [iblk, index t]

/-- A block of the gradient that counts. -/
theorem kept_block (e : i.val = 128 * t.val + k.val) : kept (iblk m c 3 t) (k0_pay1 (grid0.coords t)) k = K m c i := by
  funext j
  unfold K kept
  rw [mask_apply t k, ← e]
  refine congrArg (fun s : EReal => s * _) ?_
  unfold rows
  blk_ext [iblk, index t]

/-- The rows' gradient: its array. -/
theorem rows_arr : (dats m 0 c).arrAt 4 cfg0.N (ix2 i j) = headBack (H m c i) (through (R m c i) (K m c i)) (G m c) j := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks4 m c t (flush0_4 t)).trans ((flushed4 m c t).trans (congrArg _ (rows_step m c t)))) (ix2 k j)
  blk_simp at e
  refine Eq.trans ?_ (e.trans ((rows_apply _ _ _ _ _ k j).trans ?_))
  · blk_ext [index t]
  · rw [rows_block m c i t k (by omega), gate_block m c i t k (by omega), kept_block m c i t k (by omega), gain_block m c t]

/-- The gate's gradient: its array. -/
theorem gate_arr : (dats m 0 c).arrAt 5 cfg0.N (ix2 i j) = gateBack (H m c i) (R m c i) (K m c i) (G m c) j := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks5 m c t (flush0_5 t)).trans ((flushed5 m c t).trans (congrArg _ (gate_step m c t)))) (ix2 k j)
  blk_simp at e
  refine Eq.trans ?_ (e.trans ((gate_apply _ _ _ _ _ k j).trans ?_))
  · blk_ext [index t]
  · rw [rows_block m c i t k (by omega), gate_block m c i t k (by omega), kept_block m c i t k (by omega), gain_block m c t]

variable (l : Fin 128)

/-- A row's part of the scale's gradient. -/
def Q (i : Fin 4224) : EReal := scaleRow (H m c i) (through (R m c i) (K m c i)) l

/-- What a point adds to the scale's gradient. -/
theorem scale_block (a : Vec Ideal S1x128 .f32) : scaleB (iblk m c 0 t) (X0_1 m c t) (iblk m c 3 t) (k0_pay1 (grid0.coords t)) a (ix2 0 l)
    = a (ix2 0 l) + ∑ k : Fin 128, Q m c l (⟨128 * t.val + k.val, by have := t.isLt; have : cfg0.N = 33 := rfl; omega⟩ : Fin 4224) := by
  refine (scale_apply _ _ _ _ l a).trans (congrArg _ (Finset.sum_congr rfl fun k _ => ?_))
  have e : 128 * t.val + k.val < 4224 := by have := t.isLt; have : cfg0.N = 33 := rfl; omega
  unfold Q
  rw [rows_block m c ⟨_, e⟩ t k rfl, gate_block m c ⟨_, e⟩ t k rfl, kept_block m c ⟨_, e⟩ t k rfl]

/-- The start. -/
theorem zero_apply : k0_pay77 (F := Ideal) (ix2 0 l) = 0 := by
  unfold k0_pay77
  pointwise

/-- The scale's gradient after every point: the rows so far. -/
theorem scale_sum : ∀ (n : ℕ) (h : n < cfg0.N), (outsAt0 m c n h).2.2 (ix2 0 l)
    = ∑ k ∈ Finset.range (128 * (n + 1)), ext (Q m c l) k
  | 0, h => by
    rw [scale_first m c ⟨0, h⟩ rfl, sum_more _ _ (by decide), scale_block, zero_apply]
    rfl
  | n + 1, h => by
    have hN : cfg0.N = 33 := rfl
    rw [scale_next m c ⟨n + 1, h⟩ (by dsimp only; omega), sum_more _ _ (by omega), ← scale_sum n (by omega), scale_block]
    rfl

/-- The last point writes the one block that is the scale's array. -/
theorem last (V : Vec Ideal S1x128 .f32) (hV : ∀ t : Fin cfg0.N, t.val = 32 → (outsAt0 m c t.val t.isLt).2.2 = V) :
    (dats m 0 c).arrAt 6 cfg0.N = V := by
  have hN : cfg0.N = 33 := rfl
  have hz' (t : Fin cfg0.N) : (fun a => win0_6.index t a * main_v0_2.ty.shape.size a) = fun _ => 0 := by
    rw [(index t).2.2.2.2.2.2]; funext a; fin_cases a <;> rfl
  refine (dats m 0 c).arrAt_eq_of_cover 6 V (fun t h => ?_) fun i => ?_
  · rw [flushed6, hV t (by have := (flush0_6 t).mp h; have := t.isLt; omega)]
    exact (Memref.read_access_unit_zero (Elt Ideal) main_v0_2 (hz' t) (fun a => by rw [congrFun (hz' t) a]; simp) V).symm
  · obtain ⟨t, ht⟩ : ∃ t : Fin cfg0.N, t.val = 32 := ⟨⟨32, by omega⟩, rfl⟩
    refine ⟨t, (flush0_6 t).mpr (by omega), ?_⟩
    show i ∈ ((View.whole main_v0_2).slice (win0_6.rect t)).set
    rw [View.set_slice_whole, Rect.mem_set_unit]
    intro a
    show win0_6.index t a * main_v0_2.ty.shape.size a ≤ (i a : Nat)
      ∧ (i a : Nat) < win0_6.index t a * main_v0_2.ty.shape.size a + main_v0_2.ty.shape.size a
    rw [congrFun (hz' t) a, Nat.zero_add]
    exact ⟨Nat.zero_le _, (i a).isLt⟩

/-- The scale's gradient: its array. -/
theorem scale_arr : (dats m 0 c).arrAt 6 cfg0.N (ix2 0 l) = ∑ i, Q m c l i := by
  have hN : cfg0.N = 33 := rfl
  obtain ⟨t, ht⟩ : ∃ t : Fin cfg0.N, t.val = 32 := ⟨⟨32, by omega⟩, rfl⟩
  rw [last m c _ fun s hs => by rw [show s = t from Fin.ext (hs.trans ht.symm)], scale_sum, ht]
  exact sum_all _

/-- Beyond the rows that count nothing comes back. -/
theorem none_back (h : i.val < 112) : through (R m c i) (K m c i) = fun _ => 0 := by
  funext j
  unfold through K
  rw [if_neg (by omega), mul_zero, zero_mul]

theorem none_rows (h : i.val < 112) : headBack (H m c i) (through (R m c i) (K m c i)) (G m c) j = 0 := by
  rw [none_back m c i h]
  unfold headBack headShare hd
  have e : Ideal.div 0 (Ideal.ofBits .f32 0x43000000#32) = 0 := by
    unfold Ideal.div
    rw [if_neg, zero_mul]
    simp [Ideal.ofBits, Ideal.ieee]
  simp only [zero_mul, mul_zero, Finset.sum_const_zero, add_zero, e]

theorem none_gate (h : i.val < 112) : gateBack (H m c i) (R m c i) (K m c i) (G m c) j = 0 := by
  unfold gateBack K
  rw [if_neg (by omega)]
  simp only [zero_mul, mul_zero, add_zero]

theorem none_scale (h : i.val < 112) : Q m c l i = 0 := by
  unfold Q scaleRow
  rw [none_back m c i h]
  simp only [mul_zero, Finset.sum_const_zero]

/-- Only the rows that count make the sum. -/
theorem rest : ∑ i, Q m c l i = ∑ i : Fin 4112, Q m c l ⟨112 + i.val, by omega⟩ := by
  refine (Fin.sum_univ_add (a := 112) (b := 4112) (Q m c l)).trans ?_
  rw [Finset.sum_eq_zero fun i _ => none_scale m c _ l i.isLt, zero_add]
  rfl

end Array

/-- The call leaves the rows' gradient, the gate's and the scale's. -/
theorem algebraic : Cert.algebraic_Kernel37Ideal_Reference37Ideal := by
  intro m ρ m' ρ' _ hin
  refine ⟨fun c => (dats m 0 c).arrAt 4 cfg0.N, fun c => (dats m 0 c).arrAt 5 cfg0.N, fun c => (dats m 0 c).arrAt 6 cfg0.N, run_blocks m ρ, ?_⟩
  refine (θ_run _ _ _).mono (fun r h c => ?_) (Cert.Reference37Ideal.Value.run m' ρ')
  obtain ⟨e0, e1, e2, e3⟩ := hin c
  obtain ⟨ho, hr, hs, a⟩ := h c
  clear h hin
  unfold Cert.Reference37Ideal.Value.res_main_v57 at ho
  unfold Cert.Reference37Ideal.Value.res_main_v58 at hr
  rw [e0, e1, e2, e3] at ho hr
  rw [e0, e1, e3] at hs
  refine ⟨ho.trans ?_, hr.trans ?_, hs.trans ?_, a⟩ <;> clear ho hr hs a e0 e1 e2 e3 <;> funext i <;> obtain ⟨x, y, rfl⟩ := idx i
  · refine Eq.trans ?_ (rows_arr m c x y).symm
    pointwise
    by_cases hx : x.val < 112
    · exact (dif_neg (by omega)).trans (none_rows m c x y hx).symm
    · refine (dif_pos ⟨by omega, by omega⟩).trans ?_
      have e : (⟨112 + (x.val - 112), by omega⟩ : Fin 4224) = x := Fin.ext (by dsimp only; omega)
      unfold headBack headShare headMs through hd H R K G gate rows Ideal.logistic
      simp only [e, Nat.mul_comm 128, if_pos (Nat.not_lt.mp hx), mul_one, Fin.sum_univ_one]
  · refine Eq.trans ?_ (gate_arr m c x y).symm
    pointwise
    by_cases hx : x.val < 112
    · exact (dif_neg (by omega)).trans (none_gate m c x y hx).symm
    · refine (dif_pos ⟨by omega, by omega⟩).trans ?_
      have e : (⟨112 + (x.val - 112), by omega⟩ : Fin 4224) = x := Fin.ext (by dsimp only; omega)
      unfold gateBack headMs hd H R K G gate rows Ideal.logistic
      simp only [e, Nat.mul_comm 128, if_pos (Nat.not_lt.mp hx), mul_one]
  · obtain rfl : x = 0 := Subsingleton.elim _ _
    refine Eq.trans ?_ ((scale_arr m c y).trans (rest m c y)).symm
    pointwise [two_axes]
    refine (Fin.sum_univ_one _).trans ((Fin.sum_univ_one _).trans ?_)
    refine Finset.sum_congr rfl fun i _ => ?_
    unfold Q scaleRow headMs through hd H R K gate rows Ideal.logistic
    have e (h : Fin 8) : (h.val * 128 + y.val) / 128 = h.val := by omega
    simp only [e, if_pos (Nat.le_add_right 112 i.val), mul_one, Nat.mul_comm 128]

/-- The reference's frame. -/
theorem frame_ref : Cert.quiescent_Reference37Ideal := fun m ρ _ =>
  (θ_run _ _ _).mono (fun r h => ⟨fun c => (h c).2.2.2, sem_eq_zero_of_no_sems (by decide) r.2⟩) (Cert.Reference37Ideal.Value.run m ρ)

end Cert.DeltaNormBack

end
-- ==== Proof.SoftPlus.lean ====
/- The smooth positive part that the gates are made of, and the rows that count. -/
module

public import proofs.«01_k».proof.Proof.Mat

@[expose] public section

noncomputable section

namespace Cert.SoftPlus

open Idealize.ShloMosaic

/-- The logarithm of one plus the exponential of minus the absolute value. -/
def soft (z : EReal) : EReal := Ideal.log (1 + Ideal.exp (0 - max z (-z)))

/-- The rows that count, as a word. -/
theorem maskBits : ∀ (t : Fin 33) (k : Fin 128),
    BitVec.setWidth 32 (IntOp.cmpi CmpIPredicate.sge (IntOp.addi (Scalar.muli (BitVec.ofNat 32 t.val) 128#32) (BitVec.ofNat 32 k.val)) 112#32)
      = if 112 ≤ 128 * t.val + k.val then 1#32 else 0#32 := by
  decide +kernel

/-- The rows that count, as a number. -/
theorem mask_apply (t : Fin 33) (k : Fin 128) :
    (((BitVec.setWidth 32 (IntOp.cmpi CmpIPredicate.sge (IntOp.addi (Scalar.muli (BitVec.ofNat 32 t.val) 128#32) (BitVec.ofNat 32 k.val)) 112#32)).toInt : ℝ) : EReal)
      = if 112 ≤ 128 * t.val + k.val then 1 else 0 := by
  rw [maskBits t k]
  split_ifs
  · show ((((1#32 : BitVec 32).toInt : ℝ) : EReal)) = 1
    norm_num
  · show ((((0#32 : BitVec 32).toInt : ℝ) : EReal)) = 0
    norm_num

/-- The logarithm is not negative. -/
theorem soft_nonneg (z : EReal) : 0 ≤ soft z := by
  have he (y : EReal) : 0 ≤ Ideal.exp y := by
    induction y using EReal.rec with
    | bot => exact le_rfl
    | coe r => exact EReal.coe_nonneg.mpr (Real.exp_pos r).le
    | top => exact le_top
  have hl (y : EReal) (h : 0 ≤ y) : 0 ≤ Ideal.log (1 + y) := by
    induction y using EReal.rec with
    | bot => exact absurd h (by simp)
    | coe r =>
      have hr : 0 ≤ r := EReal.coe_nonneg.mp h
      rw [show (1 : EReal) + (r : EReal) = ((1 + r : ℝ) : EReal) from rfl]
      show (0 : EReal) ≤ if 1 + r ≤ 0 then ⊥ else (Real.log (1 + r) : EReal)
      rw [if_neg (by linarith)]
      exact EReal.coe_nonneg.mpr (Real.log_nonneg (by linarith))
    | top => exact le_top
  exact hl _ (he _)

/-- Minus the larger of minus `z` and zero, and minus the logarithm, is the logarithm of the sigmoid. -/
theorem neg_soft (z : EReal) : -(max (-z) 0 + soft z) = min z 0 - soft z := by
  rw [EReal.neg_add (Or.inl (ne_bot_of_le_ne_bot (by simp) (le_max_right (-z) 0))) (Or.inr (ne_bot_of_le_ne_bot (by simp) (soft_nonneg z)))]
  congr 1
  rcases le_total z 0 with h | h
  · rw [min_eq_left h, max_eq_left (EReal.neg_nonneg.mpr h), neg_neg]
  · rw [min_eq_right h, max_eq_right (by simpa using EReal.neg_le_neg_iff.mpr h), neg_zero]

/-- The logarithm as the host writes it. -/
theorem soft_abs (z : EReal) : Ideal.log1p (Ideal.exp (-(max z (-z)))) = soft z := by
  unfold Ideal.log1p soft
  rw [sub_eq_add_neg, zero_add]

/-- The same logarithm of minus the argument. -/
theorem soft_neg (z : EReal) : Ideal.log1p (Ideal.exp (-(max (-z) (- -z)))) = soft z := by
  unfold Ideal.log1p soft
  rw [neg_neg, max_comm, sub_eq_add_neg, zero_add]

end Cert.SoftPlus

end
-- ==== Proof.DecayGate.lean ====
/- The log-decays of the gated linear attention: the logarithm of a sigmoid, and every block holds whole rows. -/
module

public import proofs.«01_k».proof.Defs
public import proofs.«01_k».proof.Proof.Gen.Kernel38Ideal.Value
public import proofs.«01_k».proof.Proof.Gen.Reference38Ideal.Run
public import proofs.«01_k».proof.Proof.SoftPlus
public import Idealize.ShloMosaic.Lib.KernelVsHost

@[expose] public section

set_option maxRecDepth 16384

noncomputable section

namespace Cert.DecayGate

open Cert.Mat Cert.SoftPlus Cert.Kernel38Ideal Cert.Kernel38Ideal.Gen Cert.Kernel38Ideal.Value Idealize.ShloMosaic Idealize.ShloMosaic.TcCoe Idealize.SL.Sem

variable (m : (ℓ : Loc nD τ sig) → Buf (Elt Ideal) ℓ)

/-- The logarithm of the sigmoid, over sixteen. -/
def logSig (z : EReal) : EReal := (min z 0 - soft z) * Ideal.ofBits .f32 0x3D800000#32

/-- The gate's argument at an index: the projection's last sixteen columns that count, times the weights, plus the bias. -/
def arg (p : M 4224 3200) (w : M 16 512) (b : M 1 512) (i : Fin 4224) (j : Fin 512) : EReal :=
  ∑ s : Fin 16, p (ix2 i ⟨3072 + s.val, by omega⟩) * w (ix2 s j) + b (ix2 0 j)

/-- The blocks of the windows at every grid point. -/
theorem index : ∀ t : Fin cfg0.N,
    win0_0.index t = ![t.val, 24] ∧ win0_1.index t = ![0, 0] ∧ win0_2.index t = ![0, 0] ∧ win0_3.index t = ![t.val, 0] := by
  decide +kernel

/-- The first coordinate of a grid point. -/
theorem coord : ∀ t : Fin cfg0.N, (grid0.coords t 0).val = t.val := by decide +kernel

/-- What a grid point leaves. -/
theorem out_apply (t : Fin cfg0.N) (x : Vec Ideal S128x128 .f32) (w : Vec Ideal S128x512 .f32) (b : Vec Ideal S1x512 .f32) (k : Fin 128) (j : Fin 512) :
    k0_pay1 (grid0.coords t) x w b (ix2 k j)
    = logSig (∑ s : Fin 128, x (ix2 k s) * w (ix2 s j) + b (ix2 0 j)) * (if 112 ≤ 128 * t.val + k.val then 1 else 0) := by
  rw [← mask_apply (⟨t.val, t.isLt⟩ : Fin 33) k]
  unfold k0_pay1 logSig soft
  pointwise
  rw [coord t]
  rfl

/-- What a grid point writes back. -/
theorem out_eq (i : grid0.Coords) (x : Vec Ideal S128x128 .f32) (w : Vec Ideal S128x512 .f32) (b : Vec Ideal S1x512 .f32) :
    out0_3 i x w b = k0_pay1 i x w b := by
  unfold out0_3
  rw [View.canon_unit_zero hz]
  simp only [View.ld_unit_zero (S := S128x128) hz, View.ld_unit_zero (S := S128x512) hz, View.ld_unit_zero (S := S1x512) hz]

/-- The weights that the kernel finds: zeros below the sixteen rows. -/
theorem V_weights (c : Dev nD) (s : Fin 128) (j : Fin 512) :
    (V m c main_v0 : M 128 512) (ix2 s j) = (if h : s.val < 16 then (m ((c : Thread nD τ).loc main_arg1) : M 16 512) (ix2 ⟨s.val, h⟩ j) else 0 : EReal) := by
  have e : V m c main_v0 = (pad (α := Ideal .f32) S128x512 ![0, 0] ![112, 0] ![0, 0] (m ((c : Thread nD τ).loc main_arg1)) (sitofp .f32 (constantI S_ 32 0#32)) pads_S16x512_S128x512_01120_000 h_S_ : FVec Ideal S128x512 .f32) := by
    unfold_abbrev_sides
    simp only [hostOps0, hostOps0_1, List.flatten_cons, List.flatten_nil, List.append_nil, List.cons_append, List.nil_append]
    after_results
    rfl
  rw [e]
  by_cases h : s.val < 16
  · rw [dif_pos h]
    exact pad_apply_of_inside _ _ _ _ _ _ _ _ _ (fun a => by
      match a with
      | ⟨0, _⟩ => show s.val = 0 + s.val * (0 + 1); omega
      | ⟨1, _⟩ => show j.val = 0 + j.val * (0 + 1); omega)
  · rw [dif_neg h]
    refine (pad_apply_of_not_inside _ _ _ _ _ _ _ _ (0 : Fin 2) (fun g => h ?_)).trans ?_
    · have := g.2.2
      change (s.val - 0) / (0 + 1) < 16 at this
      omega
    · show ((((0#32 : BitVec 32).toInt : ℝ) : EReal)) = 0
      norm_num

/-- The product over the padded rank is the product over the rank. -/
theorem sum_eq (x : Vec Ideal S128x128 .f32) (w : Vec Ideal S128x512 .f32) (b : Vec Ideal S1x512 .f32) (p : M 4224 3200) (v : M 16 512) (d : M 1 512)
    (i : Fin 4224) (j : Fin 512) (k : Fin 128) (hx : ∀ s : Fin 128, x (ix2 k s) = p (ix2 i ⟨3072 + s.val, by omega⟩))
    (hw : ∀ s : Fin 128, w (ix2 s j) = (if h : s.val < 16 then v (ix2 ⟨s.val, h⟩ j) else 0 : EReal)) (hb : b (ix2 0 j) = d (ix2 0 j)) :
    (∑ s : Fin 128, x (ix2 k s) * w (ix2 s j) + b (ix2 0 j) : EReal) = arg p v d i j := by
  unfold arg
  rw [hb]
  refine congrArg (fun a : EReal => a + _) ?_
  simp only [hx, hw]
  refine (Fin.sum_univ_add (a := 16) (b := 112) (fun s : Fin (16 + 112) => (p (ix2 i ⟨3072 + s.val, by omega⟩) * (if h : s.val < 16 then v (ix2 ⟨s.val, h⟩ j) else 0) : EReal))).trans ?_
  rw [Finset.sum_eq_zero (s := (Finset.univ : Finset (Fin 112))) (fun s _ => ?_), add_zero]
  · refine Finset.sum_congr rfl fun s _ => ?_
    rw [dif_pos (show (Fin.castAdd 112 s).val < 16 from s.isLt)]
    rfl
  · rw [dif_neg (show ¬ (Fin.natAdd 16 s).val < 16 by simp), mul_zero]

/-- The array: zeros, then the rows that count. -/
theorem arr (c : Dev nD) (i : Fin 4224) (j : Fin 512) : (dats m 0 c).arrAt 3 cfg0.N (ix2 i j)
    = (if 112 ≤ i.val then logSig (arg (m ((c : Thread nD τ).loc main_arg0)) (m ((c : Thread nD τ).loc main_arg1)) (m ((c : Thread nD τ).loc main_arg2)) i j) else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks3 m c t (flush0_3 t)).trans ((flushed3 m c t).trans (congrArg _ (out_eq _ _ _ _)))) (ix2 k j)
  blk_simp at e
  refine Eq.trans ?_ (e.trans ((out_apply t _ _ _ k j).trans ?_))
  · blk_ext [index t]
  · rw [show 128 * t.val + k.val = i.val by omega]
    have hx (s : Fin 128) : iblk m c 0 t (ix2 k s) = (m ((c : Thread nD τ).loc main_arg0) : M 4224 3200) (ix2 i ⟨3072 + s.val, by omega⟩) := by
      rw [← V_main_arg0 m c]
      blk_ext [iblk, index t]
    have hw (s : Fin 128) : iblk m c 1 t (ix2 s j) = (if h : s.val < 16 then (m ((c : Thread nD τ).loc main_arg1) : M 16 512) (ix2 ⟨s.val, h⟩ j) else 0 : EReal) := by
      rw [← V_weights m c]
      blk_ext [iblk, index t]
    have hb : iblk m c 2 t (ix2 0 j) = (m ((c : Thread nD τ).loc main_arg2) : M 1 512) (ix2 0 j) := by
      rw [← V_main_arg2 m c]
      blk_ext [iblk, index t]
    refine (congrArg (fun a : EReal => logSig a * _) (sum_eq _ _ _ _ _ _ i j k hx hw hb)).trans ?_
    split_ifs <;> simp

/-- A division by sixteen is a product with its inverse. -/
theorem div_eq (x : EReal) : Ideal.div x (Ideal.ofBits .f32 0x41800000#32) = x * Ideal.ofBits .f32 0x3D800000#32 := by
  have b : (Ideal.ofBits .f32 0x41800000#32 : EReal) = ((16 : ℝ) : EReal) := by simp [Ideal.ofBits, Ideal.ieee, -EReal.coe_mul]; norm_num
  have e : (Ideal.ofBits .f32 0x3D800000#32 : EReal) = ((1 / 16 : ℝ) : EReal) := by simp [Ideal.ofBits, Ideal.ieee, -EReal.coe_mul]; norm_num
  rw [b, e, Ideal.div, if_neg (by norm_num), ← EReal.coe_inv, one_div]

/-- The call leaves the log-decays. -/
theorem algebraic : Cert.algebraic_Kernel38Ideal_Reference38Ideal := by
  intro m ρ m' ρ' _ hin
  refine ⟨fun c => (dats m 0 c).arrAt 3 cfg0.N, run_blocks m ρ, ?_⟩
  refine (θ_run _ _ _).mono (fun r h c => ?_) (Cert.Reference38Ideal.Value.run m' ρ')
  obtain ⟨e0, e1, e2⟩ := hin c
  obtain ⟨ho, a⟩ := h c
  rw [e0, e1, e2] at ho
  refine ⟨ho.trans ?_, a⟩
  funext i
  obtain ⟨x, y, rfl⟩ := idx i
  refine Eq.trans ?_ (arr m c x y).symm
  unfold logSig arg
  pointwise
  by_cases hx : x.val < 112
  · exact (dif_pos hx).trans (if_neg (Nat.not_le.mpr hx)).symm
  · refine (dif_neg hx).trans (Eq.trans ?_ (if_pos (Nat.not_lt.mp hx)).symm)
    have e : (⟨112 + (x.val - 112), by omega⟩ : Fin 4224) = x := Fin.ext (by dsimp only; omega)
    simp only [e]
    rw [div_eq, if_neg (not_not.mpr rfl)]
    refine congrArg (fun a : EReal => a * _) (Eq.trans ?_ (neg_soft _))
    exact congrArg (fun a : EReal => -(_ + a)) (soft_neg _)

/-- The reference's frame. -/
theorem frame_ref : Cert.quiescent_Reference38Ideal := fun m ρ _ =>
  (θ_run _ _ _).mono (fun r h => ⟨fun c => (h c).2, sem_eq_zero_of_no_sems (by decide) r.2⟩) (Cert.Reference38Ideal.Value.run m ρ)

end Cert.DecayGate

end
-- ==== Proof.DeltaGates.lean ====
/- The gates of the gated DeltaNet, the decay and the write strength side by side: every block holds whole rows. -/
module

public import proofs.«01_k».proof.Defs
public import proofs.«01_k».proof.Proof.Gen.Kernel39Ideal.Value
public import proofs.«01_k».proof.Proof.Gen.Reference39Ideal.Run
public import proofs.«01_k».proof.Proof.SoftPlus
public import Idealize.ShloMosaic.Lib.KernelVsHost

@[expose] public section

set_option maxRecDepth 16384

noncomputable section

namespace Cert.DeltaGates

open Cert.Mat Cert.SoftPlus Cert.Kernel39Ideal Cert.Kernel39Ideal.Gen Cert.Kernel39Ideal.Value Idealize.ShloMosaic Idealize.ShloMosaic.TcCoe Idealize.SL.Sem

variable (m : (ℓ : Loc nD τ sig) → Buf (Elt Ideal) ℓ)

/-- The log-decay of a head. -/
def decay (x a d : EReal) : EReal := -Ideal.exp a * (max (x + d) 0 + soft (x + d))

/-- The gates at an index: eight columns of log-decays, eight of write strengths, and zeros. -/
def gates (p : M 4224 4224) (a d : M 1 8) (i : Fin 4224) (j : Fin 128) : EReal :=
  if h : j.val < 8 then decay (p (ix2 i ⟨4096 + j.val, by omega⟩)) (a (ix2 0 ⟨j.val, h⟩)) (d (ix2 0 ⟨j.val, h⟩))
  else if j.val < 16 then Ideal.logistic (p (ix2 i ⟨4096 + j.val, by omega⟩)) else 0

/-- The blocks of the windows at every grid point. -/
theorem index : ∀ t : Fin cfg0.N,
    win0_0.index t = ![t.val, 32] ∧ win0_1.index t = ![0, 0] ∧ win0_2.index t = ![0, 0] ∧ win0_3.index t = ![t.val, 0] := by
  decide +kernel

/-- The first coordinate of a grid point. -/
theorem coord : ∀ t : Fin cfg0.N, (grid0.coords t 0).val = t.val := by decide +kernel

/-- Whether a column lies before the eighth, as a word. -/
theorem eight : ∀ j : Fin 128, IntOp.cmpi CmpIPredicate.slt (BitVec.ofNat 32 j.val) 8#32 = if j.val < 8 then 1#1 else 0#1 := by decide +kernel
/-- Whether a column lies before the sixteenth, as a word. -/
theorem sixteen : ∀ j : Fin 128, IntOp.cmpi CmpIPredicate.slt (BitVec.ofNat 32 j.val) 16#32 = if j.val < 16 then 1#1 else 0#1 := by decide +kernel

/-- What a grid point leaves. -/
theorem out_apply (t : Fin cfg0.N) (x : Vec Ideal S128x128 .f32) (a d : Vec Ideal S1x128 .f32) (k j : Fin 128) :
    k0_pay1 (grid0.coords t) x a d (ix2 k j)
    = (if j.val < 8 then decay (x (ix2 k j)) (a (ix2 0 j)) (d (ix2 0 j)) else if j.val < 16 then Ideal.logistic (x (ix2 k j)) else 0)
      * (if 112 ≤ 128 * t.val + k.val then 1 else 0) := by
  rw [← mask_apply (⟨t.val, t.isLt⟩ : Fin 33) k]
  unfold k0_pay1 decay soft
  pointwise
  rw [coord t]
  rw [eight j, sixteen j, sub_eq_add_neg 0 (Ideal.exp _), zero_add]
  refine congrArg (fun a : EReal => a * _) ?_
  by_cases h : j.val < 8
  · rw [if_pos h, if_pos h]
    rfl
  · rw [if_neg h, if_neg h]
    by_cases g : j.val < 16
    · rw [if_pos g, if_pos g]
      rfl
    · rw [if_neg g, if_neg g]
      rfl

/-- What a grid point writes back. -/
theorem out_eq (i : grid0.Coords) (x : Vec Ideal S128x128 .f32) (a d : Vec Ideal S1x128 .f32) :
    out0_3 i x a d = k0_pay1 i x a d := by
  unfold out0_3
  rw [View.canon_unit_zero hz]
  simp only [View.ld_unit_zero (S := S128x128) hz, View.ld_unit_zero (S := S1x128) hz]

/-- A padded row before its padding. -/
theorem pad_row (x : FVec Ideal S1x8 .f32) (v : FVec Ideal S_ .f32) (j : Fin 128) (h : j.val < 8) :
    pad (α := Ideal .f32) S1x128 ![0, 0] ![0, 120] ![0, 0] x v pads_S1x8_S1x128_000_01200 h_S_ (ix2 0 j) = x (ix2 0 ⟨j.val, h⟩) :=
  pad_apply_of_inside _ _ _ _ _ _ _ _ _ (fun a => by
    match a with
    | ⟨0, _⟩ => rfl
    | ⟨1, _⟩ => show j.val = 0 + j.val * (0 + 1); omega)

/-- The padded row of the decays' logarithms that the kernel finds. -/
theorem V_decay (c : Dev nD) (j : Fin 128) (h : j.val < 8) :
    (V m c main_v0 : M 1 128) (ix2 0 j) = (m ((c : Thread nD τ).loc main_arg1) : M 1 8) (ix2 0 ⟨j.val, h⟩) := by
  have e : V m c main_v0 = (pad (α := Ideal .f32) S1x128 ![0, 0] ![0, 120] ![0, 0] (m ((c : Thread nD τ).loc main_arg1)) (sitofp .f32 (constantI S_ 32 0#32)) pads_S1x8_S1x128_000_01200 h_S_ : FVec Ideal S1x128 .f32) := by
    unfold_abbrev_sides
    simp only [hostOps0, hostOps0_1, hostOps0_2, hostOps0_3, List.flatten_cons, List.flatten_nil, List.append_nil, List.cons_append, List.nil_append]
    after_results
    rfl
  rw [e]
  exact pad_row _ _ j h

/-- The padded row of the biases that the kernel finds. -/
theorem V_bias (c : Dev nD) (j : Fin 128) (h : j.val < 8) :
    (V m c main_v1 : M 1 128) (ix2 0 j) = (m ((c : Thread nD τ).loc main_arg2) : M 1 8) (ix2 0 ⟨j.val, h⟩) := by
  have e : V m c main_v1 = (pad (α := Ideal .f32) S1x128 ![0, 0] ![0, 120] ![0, 0] (m ((c : Thread nD τ).loc main_arg2)) (sitofp .f32 (constantI S_ 32 0#32)) pads_S1x8_S1x128_000_01200 h_S_ : FVec Ideal S1x128 .f32) := by
    unfold_abbrev_sides
    simp only [hostOps0, hostOps0_1, hostOps0_2, hostOps0_3, List.flatten_cons, List.flatten_nil, List.append_nil, List.cons_append, List.nil_append]
    after_results
    rfl
  rw [e]
  exact pad_row _ _ j h

/-- The array: zeros, then the rows that count. -/
theorem arr (c : Dev nD) (i : Fin 4224) (j : Fin 128) : (dats m 0 c).arrAt 3 cfg0.N (ix2 i j)
    = (if 112 ≤ i.val then gates (m ((c : Thread nD τ).loc main_arg0)) (m ((c : Thread nD τ).loc main_arg1)) (m ((c : Thread nD τ).loc main_arg2)) i j else 0 : EReal) := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks3 m c t (flush0_3 t)).trans ((flushed3 m c t).trans (congrArg _ (out_eq _ _ _ _)))) (ix2 k j)
  blk_simp at e
  refine Eq.trans ?_ (e.trans ((out_apply t _ _ _ k j).trans ?_))
  · blk_ext [index t]
  · rw [show 128 * t.val + k.val = i.val by omega]
    have hx : iblk m c 0 t (ix2 k j) = (m ((c : Thread nD τ).loc main_arg0) : M 4224 4224) (ix2 i ⟨4096 + j.val, by omega⟩) := by
      rw [← V_main_arg0 m c]
      blk_ext [iblk, index t]
    have ha (h : j.val < 8) : iblk m c 1 t (ix2 0 j) = (m ((c : Thread nD τ).loc main_arg1) : M 1 8) (ix2 0 ⟨j.val, h⟩) := by
      rw [← V_decay m c j h]
      blk_ext [iblk, index t]
    have hd (h : j.val < 8) : iblk m c 2 t (ix2 0 j) = (m ((c : Thread nD τ).loc main_arg2) : M 1 8) (ix2 0 ⟨j.val, h⟩) := by
      rw [← V_bias m c j h]
      blk_ext [iblk, index t]
    unfold gates
    rw [hx]
    by_cases h : j.val < 8
    · rw [ha h, hd h, if_pos h, dif_pos h]
      split_ifs <;> simp
    · rw [if_neg h, dif_neg h]
      split_ifs <;> simp

/-- The call leaves the gates. -/
theorem algebraic : Cert.algebraic_Kernel39Ideal_Reference39Ideal := by
  intro m ρ m' ρ' _ hin
  refine ⟨fun c => (dats m 0 c).arrAt 3 cfg0.N, run_blocks m ρ, ?_⟩
  refine (θ_run _ _ _).mono (fun r h c => ?_) (Cert.Reference39Ideal.Value.run m' ρ')
  obtain ⟨e0, e1, e2⟩ := hin c
  obtain ⟨ho, a⟩ := h c
  rw [e0, e1, e2] at ho
  refine ⟨ho.trans ?_, a⟩
  clear ho a h hin
  funext i
  obtain ⟨x, y, rfl⟩ := idx i
  refine Eq.trans ?_ (arr m c x y).symm
  unfold gates decay Ideal.logistic
  pointwise
  by_cases hx : x.val < 112
  · exact (dif_pos hx).trans (if_neg (Nat.not_le.mpr hx)).symm
  · refine (dif_neg hx).trans (Eq.trans ?_ (if_pos (Nat.not_lt.mp hx)).symm)
    have e : (⟨112 + (x.val - 112), by omega⟩ : Fin 4224) = x := Fin.ext (by dsimp only; omega)
    simp only [e]
    by_cases h : y.val < 8
    · rw [dif_pos h, dif_pos h, if_neg (not_not.mpr rfl)]
      exact congrArg (fun a : EReal => _ * (_ + a)) (soft_abs _)
    · rw [dif_neg h, dif_neg h]
      by_cases g : y.val < 16
      · rw [dif_pos (show y.val - 8 < 8 by omega), if_pos g]
        congr! 7
        omega
      · rw [dif_neg (show ¬ y.val - 8 < 8 by omega), if_neg g]

/-- The reference's frame. -/
theorem frame_ref : Cert.quiescent_Reference39Ideal := fun m ρ _ =>
  (θ_run _ _ _).mono (fun r h => ⟨fun c => (h c).2, sem_eq_zero_of_no_sems (by decide) r.2⟩) (Cert.Reference39Ideal.Value.run m ρ)

end Cert.DeltaGates

end
-- ==== Proof.ForgetSum.lean ====
/- The forget gates' logarithms summed from the first row down: block by block, the sum of the blocks before is carried. -/
module

public import proofs.«01_k».proof.Defs
public import proofs.«01_k».proof.Proof.Gen.Kernel40Ideal.Value
public import proofs.«01_k».proof.Proof.Gen.Reference40Ideal.Run
public import proofs.«01_k».proof.Proof.Mat
public import proofs.«01_k».proof.Proof.CumSum

@[expose] public section

set_option maxRecDepth 16384

noncomputable section

namespace Cert.ForgetSum

open Cert.Mat Cert.Kernel40Ideal Cert.Kernel40Ideal.Gen Cert.Kernel40Ideal.Value Idealize.ShloMosaic Idealize.ShloMosaic.TcCoe Idealize.SL.Sem

variable (m : (ℓ : Loc nD τ sig) → Buf (Elt Ideal) ℓ)

/-- A column of an array, zero after its last row. -/
def col (x : M 4224 128) (j : Fin 128) (k : ℕ) : EReal := if h : k < 4224 then x (ix2 ⟨k, h⟩ j) else 0

/-- The sum of the rows before the given one. -/
def upTo (x : M 4224 128) (n : ℕ) (j : Fin 128) : EReal := ∑ k ∈ Finset.range n, col x j k

/-- The blocks of the windows at every grid point. -/
theorem index : ∀ t : Fin cfg0.N, win0_0.index t = ![t.val, 0] ∧ win0_1.index t = ![t.val, 0] := by decide +kernel

/-- The triangle of ones, as words. -/
theorem triBits : ∀ s k : Fin 128, BitVec.setWidth 32 (IntOp.cmpi CmpIPredicate.sle (BitVec.ofNat 32 s.val) (BitVec.ofNat 32 k.val))
    = if s ≤ k then 1#32 else 0#32 := by
  decide +kernel

/-- The triangle of ones, as numbers. -/
theorem tri_apply (s k : Fin 128) :
    (((BitVec.setWidth 32 (IntOp.cmpi CmpIPredicate.sle (BitVec.ofNat 32 s.val) (BitVec.ofNat 32 k.val))).toInt : ℝ) : EReal)
      = if s ≤ k then 1 else 0 := by
  rw [triBits s k]
  split_ifs
  · show ((((1#32 : BitVec 32).toInt : ℝ) : EReal)) = 1
    norm_num
  · show ((((0#32 : BitVec 32).toInt : ℝ) : EReal)) = 0
    norm_num

/-- The last row of a block, as a word. -/
theorem lastBits : ∀ s : Fin 128, IntOp.cmpi CmpIPredicate.eq (BitVec.ofNat 32 s.val) 127#32 = if s = 127 then 1#1 else 0#1 := by
  decide +kernel

section Point
variable (x : Vec Ideal S128x128 .f32) (r : Vec Ideal S1x128 .f32) (k j : Fin 128)

/-- What a point leaves: the sum of its rows down to each, and what was carried. -/
theorem out_apply : k0_pay2 x r (ix2 k j) = ((∑ s : Fin 128, if s ≤ k then x (ix2 s j) else 0 : EReal) + r (ix2 0 j) : EReal) := by
  have e (s : Fin 128) : (if s ≤ k then x (ix2 s j) else 0 : EReal) = (if s ≤ k then 1 else 0 : EReal) * x (ix2 s j) := by
    split_ifs
    · exact (one_mul _).symm
    · exact (zero_mul _).symm
  simp only [e, ← tri_apply]
  unfold k0_pay2
  pointwise
  rfl

/-- What a point carries on: its last row. -/
theorem carry_apply : k0_pay3 x r (ix2 0 j) = (k0_pay2 x r (ix2 127 j) : EReal) := by
  unfold k0_pay3
  pointwise
  simp only [lastBits]
  refine (Finset.sum_eq_single (127 : Fin 128) (fun s _ hs => ?_) (fun h => absurd (Finset.mem_univ _) h)).trans ?_
  · rw [if_neg hs]
    rfl
  · rw [if_pos rfl]
    rfl

/-- The start is zero. -/
theorem zero_apply : k0_pay1 (F := Ideal) (ix2 0 j) = 0 := by
  unfold k0_pay1
  pointwise

end Point

section Step
variable (c : Dev nD) (t : Fin cfg0.N)

/-- The first point sums its rows. -/
theorem out_first (h0 : t.val % 33 = 0) : (outsAt0 m c t.val t.isLt).1 = k0_pay2 (iblk m c 0 t) (k0_pay1 (F := Ideal)) := by
  rw [outsAt0_A m c t h0]
  dsimp only
  unfold out0_A_1
  rw [View.read_writes_eq_canon _ _ _ (fun _ => cover0_A_1 ..)]
  unfold kernelRun0_A
  dsimp only
  sl_unfold_words
  rw [View.canon_unit_zero hz, View.readCov_unit_zero (S := S1x128) _ hz]
  simp only [View.readAt_eq_ld, (hs0_0 t).read_unread, View.ld_unit_zero (S := S128x128) hz]

/-- The first point carries its last row. -/
theorem carry_first (h0 : t.val % 33 = 0) : (outsAt0 m c t.val t.isLt).2 = k0_pay3 (iblk m c 0 t) (k0_pay1 (F := Ideal)) := by
  rw [outsAt0_A m c t h0]
  dsimp only
  unfold sout0_A_0
  rw [View.read_writes_eq_canon _ _ _ (fun _ => scover0_A_0 ..)]
  unfold kernelRun0_A
  dsimp only
  sl_unfold_words
  rw [View.canon_cons_unit_zero (S := S1x128) hz, View.readCov_unit_zero (S := S1x128) _ hz]
  simp only [View.readAt_eq_ld, (hs0_0 t).read_unread, View.ld_unit_zero (S := S128x128) hz]

/-- Every later point adds what was carried. -/
theorem out_next (h0 : ¬t.val % 33 = 0) : (outsAt0 m c t.val t.isLt).1
    = k0_pay2 (iblk m c 0 t) (outsAt0 m c (t.val - 1) (Nat.lt_of_le_of_lt (Nat.sub_le _ _) t.isLt)).2 := by
  rw [outsAt0_B m c t h0]
  dsimp only
  unfold out0_B_1
  rw [View.read_writes_eq_canon _ _ _ (fun _ => cover0_B_1 ..)]
  unfold kernelRun0_B
  dsimp only
  rw [View.canon_unit_zero hz]
  sl_unfold_words
  simp only [View.readAt_eq_ld, (hs0_0 t).read_unread, (Memref.isWhole_whole _ : scM0_0.IsWhole).read_unread,
    View.ld_unit_zero (S := S128x128) hz, View.ld_unit_zero (S := S1x128) hz]

/-- Every later point carries its last row. -/
theorem carry_next (h0 : ¬t.val % 33 = 0) : (outsAt0 m c t.val t.isLt).2
    = k0_pay3 (iblk m c 0 t) (outsAt0 m c (t.val - 1) (Nat.lt_of_le_of_lt (Nat.sub_le _ _) t.isLt)).2 := by
  rw [outsAt0_B m c t h0]
  dsimp only
  unfold sout0_B_0
  rw [View.read_writes_eq_canon _ _ _ (fun _ => scover0_B_0 ..)]
  unfold kernelRun0_B
  dsimp only
  rw [View.canon_unit_zero hz]
  sl_unfold_words
  simp only [View.readAt_eq_ld, (hs0_0 t).read_unread, (Memref.isWhole_whole _ : scM0_0.IsWhole).read_unread,
    View.ld_unit_zero (S := S128x128) hz, View.ld_unit_zero (S := S1x128) hz]

end Step

/-- The sum down to a row of a block: the blocks before it, and the block's rows down to it. -/
theorem upTo_block (x : M 4224 128) (n : ℕ) (hn : n < 33) (k j : Fin 128) :
    ((∑ s : Fin 128, if s ≤ k then x (ix2 ⟨128 * n + s.val, by omega⟩ j) else 0 : EReal) + upTo x (128 * n) j : EReal) = upTo x (128 * n + k.val + 1) j := by
  unfold upTo
  rw [add_assoc (128 * n), Finset.sum_range_add, add_comm]
  refine congrArg (fun a : EReal => _ + a) ?_
  have e (s : Fin 128) : (if s ≤ k then x (ix2 ⟨128 * n + s.val, by omega⟩ j) else 0 : EReal)
      = (fun s : ℕ => if s < k.val + 1 then col x j (128 * n + s) else 0 : ℕ → EReal) s.val := by
    dsimp only
    unfold col
    by_cases h : s ≤ k
    · rw [if_pos h, if_pos (by have := Fin.le_def.mp h; omega), dif_pos]
    · rw [if_neg h, if_neg (by have := fun g => h (Fin.le_def.mpr g); omega)]
  rw [Finset.sum_congr rfl fun s _ => e s, ← Finset.sum_range (fun s : ℕ => if s < k.val + 1 then col x j (128 * n + s) else 0 : ℕ → EReal), ← Finset.sum_filter]
  refine Finset.sum_congr ?_ fun _ _ => rfl
  ext s
  simp only [Finset.mem_filter, Finset.mem_range]
  omega

section Array
variable (c : Dev nD)

/-- The array that the call sums. -/
abbrev src : M 4224 128 := m ((c : Thread nD τ).loc main_arg0)

/-- A point's block of it. -/
theorem blk_apply (t : Fin cfg0.N) (s j : Fin 128) : iblk m c 0 t (ix2 s j) = src m c (ix2 ⟨128 * t.val + s.val, by have : cfg0.N = 33 := rfl; omega⟩ j) := by
  unfold src
  blk_ext [iblk, index t]

/-- What is carried after a point: the sum of the rows so far. -/
theorem carried (n : ℕ) (hn : n < cfg0.N) (j : Fin 128) : (outsAt0 m c n hn).2 (ix2 0 j) = upTo (src m c) (128 * (n + 1)) j := by
  have hN : cfg0.N = 33 := rfl
  induction n with
  | zero =>
    rw [carry_first m c ⟨0, hn⟩ rfl, carry_apply, out_apply, zero_apply]
    refine Eq.trans ?_ (upTo_block (src m c) 0 (by decide) 127 j)
    refine congrArg₂ (fun a b : EReal => a + b) (Finset.sum_congr rfl fun s _ => ?_) rfl
    rw [blk_apply m c ⟨0, hn⟩ s j]
  | succ n ih =>
    rw [carry_next m c ⟨n + 1, hn⟩ (by dsimp only; omega), carry_apply, out_apply]
    refine Eq.trans ?_ (upTo_block (src m c) (n + 1) (by omega) 127 j)
    refine congrArg₂ (fun a b : EReal => a + b) (Finset.sum_congr rfl fun s _ => ?_) (ih _)
    rw [blk_apply m c ⟨n + 1, hn⟩ s j]

/-- What a point leaves: the sums down to its rows. -/
theorem left (t : Fin cfg0.N) (k j : Fin 128) : (outsAt0 m c t.val t.isLt).1 (ix2 k j) = upTo (src m c) (128 * t.val + k.val + 1) j := by
  have hN : cfg0.N = 33 := rfl
  refine Eq.trans ?_ (upTo_block (src m c) t.val (by omega) k j)
  by_cases h0 : t.val % 33 = 0
  · rw [out_first m c t h0, out_apply, zero_apply]
    refine congrArg₂ (fun a b : EReal => a + b) (Finset.sum_congr rfl fun s _ => ?_) ?_
    · rw [blk_apply m c t s j]
    · rw [show t.val = 0 by omega]
      rfl
  · rw [out_next m c t h0, out_apply]
    refine congrArg₂ (fun a b : EReal => a + b) (Finset.sum_congr rfl fun s _ => ?_) ?_
    · rw [blk_apply m c t s j]
    · rw [carried m c _ _ j, show t.val - 1 + 1 = t.val by omega]

/-- The array: the sum down to each row. -/
theorem arr (i : Fin 4224) (j : Fin 128) : (dats m 0 c).arrAt 1 cfg0.N (ix2 i j) = upTo (src m c) (i.val + 1) j := by
  obtain ⟨t, ht⟩ : ∃ t : Fin cfg0.N, t.val = i.val / 128 := ⟨⟨i.val / 128, by have : cfg0.N = 33 := rfl; omega⟩, rfl⟩
  obtain ⟨k, hk⟩ : ∃ k : Fin 128, k.val = i.val % 128 := ⟨⟨i.val % 128, by omega⟩, rfl⟩
  have e := congrFun ((blocks1 m c t (flush0_1 t)).trans (flushed1 m c t)) (ix2 k j)
  blk_simp at e
  refine Eq.trans ?_ (e.trans ((left m c t k j).trans ?_))
  · blk_ext [index t]
  · rw [show 128 * t.val + k.val + 1 = i.val + 1 by omega]

end Array

/-- The call leaves the running sums. -/
theorem algebraic : Cert.algebraic_Kernel40Ideal_Reference40Ideal := by
  intro m ρ m' ρ' _ hin
  refine ⟨fun c => (dats m 0 c).arrAt 1 cfg0.N, run_blocks m ρ, ?_⟩
  refine (θ_run _ _ _).mono (fun r h c => ?_) (Cert.Reference40Ideal.Value.run m' ρ')
  obtain ⟨ho, a⟩ := h c
  rw [hin c] at ho
  refine ⟨ho.trans ?_, a⟩
  funext i
  obtain ⟨x, y, rfl⟩ := idx i
  refine Eq.trans ?_ (arr m c x y).symm
  refine (Cert.Gla.cumsum_two (R := 4223) (C := 128) _ _ _ _ ?_ x y).trans ?_
  · pointwise
  · unfold upTo
    have e (s : Fin 4224) : (if s ≤ x then src m c (ix2 s y) else 0 : EReal)
        = (fun s : ℕ => if s < x.val + 1 then col (src m c) y s else 0 : ℕ → EReal) s.val := by
      dsimp only
      unfold col
      by_cases h : s ≤ x
      · rw [if_pos h, if_pos (by have := Fin.le_def.mp h; omega), dif_pos s.isLt]
      · rw [if_neg h, if_neg (by have := fun g => h (Fin.le_def.mpr g); omega)]
    refine (Finset.sum_congr rfl fun s _ => e s).trans ?_
    rw [← Finset.sum_range (fun s : ℕ => if s < x.val + 1 then col (src m c) y s else 0 : ℕ → EReal), ← Finset.sum_filter]
    refine Finset.sum_congr ?_ fun _ _ => rfl
    ext s
    simp only [Finset.mem_filter, Finset.mem_range]
    omega

/-- The reference's frame. -/
theorem frame_ref : Cert.quiescent_Reference40Ideal := fun m ρ _ =>
  (θ_run _ _ _).mono (fun r h => ⟨fun c => (h c).2, sem_eq_zero_of_no_sems (by decide) r.2⟩) (Cert.Reference40Ideal.Value.run m ρ)

end Cert.ForgetSum

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Pre_finite
public import proofs.«01_k».proof.Proof.Gen.Pre_finite2
public import proofs.«01_k».proof.Proof.Algebraic
public import proofs.«01_k».proof.Proof.DownDx
public import proofs.«01_k».proof.Proof.GateDw
public import proofs.«01_k».proof.Proof.DownDw
public import proofs.«01_k».proof.Proof.GateDx
public import proofs.«01_k».proof.Proof.UpDxNorm
public import proofs.«01_k».proof.Proof.GateUp
public import proofs.«01_k».proof.Proof.DownNorm
public import proofs.«01_k».proof.Proof.FoxIn
public import proofs.«01_k».proof.Proof.FoxInDw
public import proofs.«01_k».proof.Proof.InDxNorm
public import proofs.«01_k».proof.Proof.OutDx
public import proofs.«01_k».proof.Proof.OutDw
public import proofs.«01_k».proof.Proof.OutNorm
public import proofs.«01_k».proof.Proof.GlaIn
public import proofs.«01_k».proof.Proof.GlaInDw
public import proofs.«01_k».proof.Proof.GlaInDxNorm
public import proofs.«01_k».proof.Proof.LastDown
public import proofs.«01_k».proof.Proof.LossHead
public import proofs.«01_k».proof.Proof.AdamMeta
public import proofs.«01_k».proof.Proof.AdamGateUp
public import proofs.«01_k».proof.Proof.AdamDown
public import proofs.«01_k».proof.Proof.AdamFoxIn
public import proofs.«01_k».proof.Proof.AdamFoxOut
public import proofs.«01_k».proof.Proof.AdamGlaIn
public import proofs.«01_k».proof.Proof.AdamGlaAlpha
public import proofs.«01_k».proof.Proof.AdamGlaOut
public import proofs.«01_k».proof.Proof.AdamGdnIn
public import proofs.«01_k».proof.Proof.AdamGdnConv
public import proofs.«01_k».proof.Proof.AdamReplicated
public import proofs.«01_k».proof.Proof.GatedNorm
public import proofs.«01_k».proof.Proof.GatedNormBack
public import proofs.«01_k».proof.Proof.FirstNorm
public import proofs.«01_k».proof.Proof.OutGate
public import proofs.«01_k».proof.Proof.OutGateBack
public import proofs.«01_k».proof.Proof.DeltaNorm
public import proofs.«01_k».proof.Proof.DeltaNormBack
public import proofs.«01_k».proof.Proof.DecayGate
public import proofs.«01_k».proof.Proof.DeltaGates
public import proofs.«01_k».proof.Proof.ForgetSum

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  fun m ρ _ => Cert.Gla.frame_ref m ρ, fun m ρ _ => Cert.Gla.frame_ref m ρ,
  fun m ρ _ => Cert.Kernel2.Gen.frame m ρ, fun m ρ _ => Cert.Kernel2Ideal.Gen.frame m ρ, fun m ρ _ => Cert.Kernel2Ideal.Gen.frame m ρ,
  fun m ρ _ => Cert.DownDx.frame_ref m ρ trivial, fun m ρ _ => Cert.DownDx.frame_ref m ρ trivial,
  fun m ρ _ => Cert.Kernel3.Gen.frame m ρ, fun m ρ _ => Cert.Kernel3Ideal.Gen.frame m ρ, Cert.GateDw.frame_ref,
  fun m ρ _ => Cert.Kernel4.Gen.frame m ρ, fun m ρ _ => Cert.Kernel4Ideal.Gen.frame m ρ, Cert.DownDw.frame_ref,
  fun m ρ _ => Cert.Kernel5.Gen.frame m ρ, fun m ρ _ => Cert.Kernel5Ideal.Gen.frame m ρ, Cert.GateDx.frame_ref,
  fun m ρ _ => Cert.Kernel6.Gen.frame m ρ, fun m ρ _ => Cert.Kernel6Ideal.Gen.frame m ρ, Cert.UpDxNorm.frame_ref,
  fun m ρ _ => Cert.Kernel7.Gen.frame m ρ, fun m ρ _ => Cert.Kernel7Ideal.Gen.frame m ρ, Cert.GateUp.frame_ref,
  fun m ρ _ => Cert.Kernel8.Gen.frame m ρ, fun m ρ _ => Cert.Kernel8Ideal.Gen.frame m ρ, Cert.DownNorm.frame_ref,
  fun m ρ _ => Cert.Kernel9.Gen.frame m ρ, fun m ρ _ => Cert.Kernel9Ideal.Gen.frame m ρ, Cert.FoxIn.frame_ref,
  fun m ρ _ => Cert.Kernel10.Gen.frame m ρ, fun m ρ _ => Cert.Kernel10Ideal.Gen.frame m ρ, Cert.FoxInDw.frame_ref,
  fun m ρ _ => Cert.Kernel11.Gen.frame m ρ, fun m ρ _ => Cert.Kernel11Ideal.Gen.frame m ρ, Cert.InDxNorm.frame_ref,
  fun m ρ _ => Cert.Kernel12.Gen.frame m ρ, fun m ρ _ => Cert.Kernel12Ideal.Gen.frame m ρ, Cert.OutDx.frame_ref,
  fun m ρ _ => Cert.Kernel13.Gen.frame m ρ, fun m ρ _ => Cert.Kernel13Ideal.Gen.frame m ρ, Cert.OutDw.frame_ref,
  fun m ρ _ => Cert.Kernel14.Gen.frame m ρ, fun m ρ _ => Cert.Kernel14Ideal.Gen.frame m ρ, Cert.OutNorm.frame_ref,
  fun m ρ _ => Cert.Kernel15.Gen.frame m ρ, fun m ρ _ => Cert.Kernel15Ideal.Gen.frame m ρ, Cert.GlaIn.frame_ref,
  fun m ρ _ => Cert.Kernel16.Gen.frame m ρ, fun m ρ _ => Cert.Kernel16Ideal.Gen.frame m ρ, Cert.GlaInDw.frame_ref,
  fun m ρ _ => Cert.Kernel17.Gen.frame m ρ, fun m ρ _ => Cert.Kernel17Ideal.Gen.frame m ρ, Cert.GlaInDxNorm.frame_ref,
  fun m ρ _ => Cert.Kernel18.Gen.frame m ρ, fun m ρ _ => Cert.Kernel18Ideal.Gen.frame m ρ, Cert.LastDown.frame_ref,
  fun m ρ _ => Cert.Kernel19.Gen.frame m ρ, fun m ρ _ => Cert.Kernel19Ideal.Gen.frame m ρ, Cert.LossHead.frame_ref,
  fun m ρ _ => Cert.Kernel20.Gen.frame m ρ, fun m ρ _ => Cert.Kernel20Ideal.Gen.frame m ρ, Cert.AdamMeta.frame_ref,
  fun m ρ _ => Cert.Kernel21.Gen.frame m ρ, fun m ρ _ => Cert.Kernel21Ideal.Gen.frame m ρ, Cert.AdamGateUp.frame_ref,
  fun m ρ _ => Cert.Kernel22.Gen.frame m ρ, fun m ρ _ => Cert.Kernel22Ideal.Gen.frame m ρ, Cert.AdamDown.frame_ref,
  fun m ρ _ => Cert.Kernel23.Gen.frame m ρ, fun m ρ _ => Cert.Kernel23Ideal.Gen.frame m ρ, Cert.AdamFoxIn.frame_ref,
  fun m ρ _ => Cert.Kernel24.Gen.frame m ρ, fun m ρ _ => Cert.Kernel24Ideal.Gen.frame m ρ, Cert.AdamFoxOut.frame_ref,
  fun m ρ _ => Cert.Kernel25.Gen.frame m ρ, fun m ρ _ => Cert.Kernel25Ideal.Gen.frame m ρ, Cert.AdamGlaIn.frame_ref,
  fun m ρ _ => Cert.Kernel26.Gen.frame m ρ, fun m ρ _ => Cert.Kernel26Ideal.Gen.frame m ρ, Cert.AdamGlaAlpha.frame_ref,
  fun m ρ _ => Cert.Kernel27.Gen.frame m ρ, fun m ρ _ => Cert.Kernel27Ideal.Gen.frame m ρ, Cert.AdamGlaOut.frame_ref,
  fun m ρ _ => Cert.Kernel28.Gen.frame m ρ, fun m ρ _ => Cert.Kernel28Ideal.Gen.frame m ρ, Cert.AdamGdnIn.frame_ref,
  fun m ρ _ => Cert.Kernel29.Gen.frame m ρ, fun m ρ _ => Cert.Kernel29Ideal.Gen.frame m ρ, Cert.AdamGdnConv.frame_ref,
  fun m ρ _ => Cert.Kernel30.Gen.frame m ρ, fun m ρ _ => Cert.Kernel30Ideal.Gen.frame m ρ, Cert.AdamReplicated.frame_ref,
  fun m ρ _ => Cert.Kernel31.Gen.frame m ρ, fun m ρ _ => Cert.Kernel31Ideal.Gen.frame m ρ, Cert.GatedNorm.frame_ref,
  fun m ρ _ => Cert.Kernel32.Gen.frame m ρ, fun m ρ _ => Cert.Kernel32Ideal.Gen.frame m ρ, Cert.GatedNormBack.frame_ref,
  fun m ρ _ => Cert.Kernel33.Gen.frame m ρ, fun m ρ _ => Cert.Kernel33Ideal.Gen.frame m ρ, Cert.FirstNorm.frame_ref,
  fun m ρ _ => Cert.Kernel34.Gen.frame m ρ, fun m ρ _ => Cert.Kernel34Ideal.Gen.frame m ρ, Cert.OutGate.frame_ref,
  fun m ρ _ => Cert.Kernel35.Gen.frame m ρ, fun m ρ _ => Cert.Kernel35Ideal.Gen.frame m ρ, Cert.OutGateBack.frame_ref,
  fun m ρ _ => Cert.Kernel36.Gen.frame m ρ, fun m ρ _ => Cert.Kernel36Ideal.Gen.frame m ρ, Cert.DeltaNorm.frame_ref,
  fun m ρ _ => Cert.Kernel37.Gen.frame m ρ, fun m ρ _ => Cert.Kernel37Ideal.Gen.frame m ρ, Cert.DeltaNormBack.frame_ref,
  fun m ρ _ => Cert.Kernel38.Gen.frame m ρ, fun m ρ _ => Cert.Kernel38Ideal.Gen.frame m ρ, Cert.DecayGate.frame_ref,
  fun m ρ _ => Cert.Kernel39.Gen.frame m ρ, fun m ρ _ => Cert.Kernel39Ideal.Gen.frame m ρ, Cert.DeltaGates.frame_ref,
  fun m ρ _ => Cert.Kernel40.Gen.frame m ρ, fun m ρ _ => Cert.Kernel40Ideal.Gen.frame m ρ, Cert.ForgetSum.frame_ref,
  trivial, Cert.Gla.algebraic,
  trivial, Cert.DownDx.algebraic,
  trivial, Cert.GateDw.algebraic,
  trivial, Cert.DownDw.algebraic,
  trivial, Cert.GateDx.algebraic,
  trivial, Cert.UpDxNorm.algebraic,
  trivial, Cert.GateUp.algebraic,
  trivial, Cert.DownNorm.algebraic,
  trivial, Cert.FoxIn.algebraic,
  trivial, Cert.FoxInDw.algebraic,
  trivial, Cert.InDxNorm.algebraic,
  trivial, Cert.OutDx.algebraic,
  trivial, Cert.OutDw.algebraic,
  trivial, Cert.OutNorm.algebraic,
  trivial, Cert.GlaIn.algebraic,
  trivial, Cert.GlaInDw.algebraic,
  trivial, Cert.GlaInDxNorm.algebraic,
  trivial, Cert.LastDown.algebraic,
  trivial, Cert.LossHead.algebraic,
  trivial, Cert.AdamMeta.algebraic,
  trivial, Cert.AdamGateUp.algebraic,
  trivial, Cert.AdamDown.algebraic,
  trivial, Cert.AdamFoxIn.algebraic,
  trivial, Cert.AdamFoxOut.algebraic,
  trivial, Cert.AdamGlaIn.algebraic,
  trivial, Cert.AdamGlaAlpha.algebraic,
  trivial, Cert.AdamGlaOut.algebraic,
  trivial, Cert.AdamGdnIn.algebraic,
  trivial, Cert.AdamGdnConv.algebraic,
  trivial, Cert.AdamReplicated.algebraic,
  trivial, Cert.GatedNorm.algebraic,
  trivial, Cert.GatedNormBack.algebraic,
  trivial, Cert.FirstNorm.algebraic,
  trivial, Cert.OutGate.algebraic,
  trivial, Cert.OutGateBack.algebraic,
  trivial, Cert.DeltaNorm.algebraic,
  trivial, Cert.DeltaNormBack.algebraic,
  trivial, Cert.DecayGate.algebraic,
  trivial, Cert.DeltaGates.algebraic,
  trivial, Cert.ForgetSum.algebraic⟩

end Cert.Proof

end
